-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_pool [hPre_finite_pool : Cert.Pre_finite_pool.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_pool.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_pool [hPre_finite_pool : Cert.Pre_finite_pool.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_pool.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ffn_a [hPre_finite_ffn_a : Cert.Pre_finite_ffn_a.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ffn_a.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ffn_a [hPre_finite_ffn_a : Cert.Pre_finite_ffn_a.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ffn_a.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_inproj [hPre_finite_inproj : Cert.Pre_finite_inproj.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_inproj.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_inproj [hPre_finite_inproj : Cert.Pre_finite_inproj.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_inproj.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_ffn_b [hPre_finite_ffn_b : Cert.Pre_finite_ffn_b.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_ffn_b.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_ffn_b [hPre_finite_ffn_b : Cert.Pre_finite_ffn_b.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_ffn_b.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_ffn_fwd [hPre_finite_ffn_fwd : Cert.Pre_finite_ffn_fwd.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_ffn_fwd.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_ffn_fwd [hPre_finite_ffn_fwd : Cert.Pre_finite_ffn_fwd.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_ffn_fwd.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_pool_fwd [hPre_finite_pool_fwd : Cert.Pre_finite_pool_fwd.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_pool_fwd.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_pool_fwd [hPre_finite_pool_fwd : Cert.Pre_finite_pool_fwd.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_pool_fwd.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_pool [hKernel2Ideal : Cert.Kernel2Ideal.Facts] [hPre_finite_pool : Cert.Pre_finite_pool.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_pool m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_pool [hReference2Ideal : Cert.Reference2Ideal.Facts] [hPre_finite_pool : Cert.Pre_finite_pool.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_pool m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_ffn_a [hKernel3Ideal : Cert.Kernel3Ideal.Facts] [hPre_finite_ffn_a : Cert.Pre_finite_ffn_a.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ffn_a m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_ffn_a [hReference3Ideal : Cert.Reference3Ideal.Facts] [hPre_finite_ffn_a : Cert.Pre_finite_ffn_a.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ffn_a m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_inproj [hKernel4Ideal : Cert.Kernel4Ideal.Facts] [hPre_finite_inproj : Cert.Pre_finite_inproj.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_inproj m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_inproj [hReference4Ideal : Cert.Reference4Ideal.Facts] [hPre_finite_inproj : Cert.Pre_finite_inproj.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_inproj m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_ffn_b [hKernel5Ideal : Cert.Kernel5Ideal.Facts] [hPre_finite_ffn_b : Cert.Pre_finite_ffn_b.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_ffn_b m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_ffn_b [hReference5Ideal : Cert.Reference5Ideal.Facts] [hPre_finite_ffn_b : Cert.Pre_finite_ffn_b.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_ffn_b m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite_ffn_fwd [hKernel6Ideal : Cert.Kernel6Ideal.Facts] [hPre_finite_ffn_fwd : Cert.Pre_finite_ffn_fwd.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_ffn_fwd m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite_ffn_fwd [hReference6Ideal : Cert.Reference6Ideal.Facts] [hPre_finite_ffn_fwd : Cert.Pre_finite_ffn_fwd.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_ffn_fwd m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite_pool_fwd [hKernel9Ideal : Cert.Kernel9Ideal.Facts] [hPre_finite_pool_fwd : Cert.Pre_finite_pool_fwd.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_pool_fwd m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite_pool_fwd [hReference9Ideal : Cert.Reference9Ideal.Facts] [hPre_finite_pool_fwd : Cert.Pre_finite_pool_fwd.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_pool_fwd m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)) (v3 : (c : Dev Cert.KernelIdeal.nD) → Buf (Elt Ideal) ((c.tc : Thread Cert.KernelIdeal.nD Cert.KernelIdeal.τ).loc Cert.KernelIdeal.main_v31_3)) (v4 : (c : Dev Cert.KernelIdeal.nD) → Buf (Elt Ideal) ((c.tc : Thread Cert.KernelIdeal.nD Cert.KernelIdeal.τ).loc Cert.KernelIdeal.main_v31_4)) (v5 : (c : Dev Cert.KernelIdeal.nD) → Buf (Elt Ideal) ((c.tc : Thread Cert.KernelIdeal.nD Cert.KernelIdeal.τ).loc Cert.KernelIdeal.main_v31_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_v31_3) = v3 c
          ∧ r.2.mem ((c.tc : Thread Cert.KernelIdeal.nD Cert.KernelIdeal.τ).loc Cert.KernelIdeal.main_v31_4) = v4 c
          ∧ r.2.mem ((c.tc : Thread Cert.KernelIdeal.nD Cert.KernelIdeal.τ).loc Cert.KernelIdeal.main_v31_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v47) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_pool [hKernel2Ideal : Cert.Kernel2Ideal.Facts] [hReference2Ideal : Cert.Reference2Ideal.Facts] [hPre_finite_pool : Cert.Pre_finite_pool.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_pool m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v143) = v0 c
          ∧ r.2.mem ((c.tc : Thread Cert.Reference2Ideal.nD Cert.Reference2Ideal.τ).loc Cert.Reference2Ideal.main_v144) = v1 c
          ∧ r.2.mem ((c.tc : Thread Cert.Reference2Ideal.nD Cert.Reference2Ideal.τ).loc Cert.Reference2Ideal.main_v79) = v2 c
          ∧ r.2.mem ((c.tc : Thread Cert.Reference2Ideal.nD Cert.Reference2Ideal.τ).loc Cert.Reference2Ideal.main_v145) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_ffn_a [hKernel3Ideal : Cert.Kernel3Ideal.Facts] [hReference3Ideal : Cert.Reference3Ideal.Facts] [hPre_finite_ffn_a : Cert.Pre_finite_ffn_a.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ffn_a m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v46)) (v1 : (c : Dev Cert.Kernel3Ideal.nD) → Buf (Elt Ideal) ((c.tc : Thread Cert.Kernel3Ideal.nD Cert.Kernel3Ideal.τ).loc Cert.Kernel3Ideal.main_v49)) (v2 : (c : Dev Cert.Kernel3Ideal.nD) → Buf (Elt Ideal) ((c.tc : Thread Cert.Kernel3Ideal.nD Cert.Kernel3Ideal.τ).loc Cert.Kernel3Ideal.main_v43_2)) (v3 : (c : Dev Cert.Kernel3Ideal.nD) → Buf (Elt Ideal) ((c.tc : Thread Cert.Kernel3Ideal.nD Cert.Kernel3Ideal.τ).loc Cert.Kernel3Ideal.main_v43_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v46) = v0 c
          ∧ r.2.mem ((c.tc : Thread Cert.Kernel3Ideal.nD Cert.Kernel3Ideal.τ).loc Cert.Kernel3Ideal.main_v49) = v1 c
          ∧ r.2.mem ((c.tc : Thread Cert.Kernel3Ideal.nD Cert.Kernel3Ideal.τ).loc Cert.Kernel3Ideal.main_v43_2) = v2 c
          ∧ r.2.mem ((c.tc : Thread Cert.Kernel3Ideal.nD Cert.Kernel3Ideal.τ).loc Cert.Kernel3Ideal.main_v43_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_v84) = v1 c
          ∧ r.2.mem ((c.tc : Thread Cert.Reference3Ideal.nD Cert.Reference3Ideal.τ).loc Cert.Reference3Ideal.main_v85) = v2 c
          ∧ r.2.mem ((c.tc : Thread Cert.Reference3Ideal.nD Cert.Reference3Ideal.τ).loc Cert.Reference3Ideal.main_v79) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_inproj [hKernel4Ideal : Cert.Kernel4Ideal.Facts] [hReference4Ideal : Cert.Reference4Ideal.Facts] [hPre_finite_inproj : Cert.Pre_finite_inproj.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_inproj m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_ffn_b [hKernel5Ideal : Cert.Kernel5Ideal.Facts] [hReference5Ideal : Cert.Reference5Ideal.Facts] [hPre_finite_ffn_b : Cert.Pre_finite_ffn_b.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_ffn_b m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_v45) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_ffn_fwd [hKernel6Ideal : Cert.Kernel6Ideal.Facts] [hReference6Ideal : Cert.Reference6Ideal.Facts] [hPre_finite_ffn_fwd : Cert.Pre_finite_ffn_fwd.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_ffn_fwd m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v25)) (v1 : (c : Dev Cert.Kernel6Ideal.nD) → Buf (Elt Ideal) ((c.tc : Thread Cert.Kernel6Ideal.nD Cert.Kernel6Ideal.τ).loc Cert.Kernel6Ideal.main_v28)) (v2 : (c : Dev Cert.Kernel6Ideal.nD) → Buf (Elt Ideal) ((c.tc : Thread Cert.Kernel6Ideal.nD Cert.Kernel6Ideal.τ).loc Cert.Kernel6Ideal.main_v31)) (v3 : (c : Dev Cert.Kernel6Ideal.nD) → Buf (Elt Ideal) ((c.tc : Thread Cert.Kernel6Ideal.nD Cert.Kernel6Ideal.τ).loc Cert.Kernel6Ideal.main_v22_3)) (v4 : (c : Dev Cert.Kernel6Ideal.nD) → Buf (Elt Ideal) ((c.tc : Thread Cert.Kernel6Ideal.nD Cert.Kernel6Ideal.τ).loc Cert.Kernel6Ideal.main_v34)) (v5 : (c : Dev Cert.Kernel6Ideal.nD) → Buf (Elt Ideal) ((c.tc : Thread Cert.Kernel6Ideal.nD Cert.Kernel6Ideal.τ).loc Cert.Kernel6Ideal.main_v36)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25) = v0 c
          ∧ r.2.mem ((c.tc : Thread Cert.Kernel6Ideal.nD Cert.Kernel6Ideal.τ).loc Cert.Kernel6Ideal.main_v28) = v1 c
          ∧ r.2.mem ((c.tc : Thread Cert.Kernel6Ideal.nD Cert.Kernel6Ideal.τ).loc Cert.Kernel6Ideal.main_v31) = v2 c
          ∧ r.2.mem ((c.tc : Thread Cert.Kernel6Ideal.nD Cert.Kernel6Ideal.τ).loc Cert.Kernel6Ideal.main_v22_3) = v3 c
          ∧ r.2.mem ((c.tc : Thread Cert.Kernel6Ideal.nD Cert.Kernel6Ideal.τ).loc Cert.Kernel6Ideal.main_v34) = v4 c
          ∧ r.2.mem ((c.tc : Thread Cert.Kernel6Ideal.nD Cert.Kernel6Ideal.τ).loc Cert.Kernel6Ideal.main_v36) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_v67) = v1 c
          ∧ r.2.mem ((c.tc : Thread Cert.Reference6Ideal.nD Cert.Reference6Ideal.τ).loc Cert.Reference6Ideal.main_v68) = v2 c
          ∧ r.2.mem ((c.tc : Thread Cert.Reference6Ideal.nD Cert.Reference6Ideal.τ).loc Cert.Reference6Ideal.main_v69) = v3 c
          ∧ r.2.mem ((c.tc : Thread Cert.Reference6Ideal.nD Cert.Reference6Ideal.τ).loc Cert.Reference6Ideal.main_v71) = v4 c
          ∧ r.2.mem ((c.tc : Thread Cert.Reference6Ideal.nD Cert.Reference6Ideal.τ).loc Cert.Reference6Ideal.main_v58) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)) (v4 : (c : Dev Cert.Kernel8Ideal.nD) → Buf (Elt Ideal) ((c.tc : Thread Cert.Kernel8Ideal.nD Cert.Kernel8Ideal.τ).loc Cert.Kernel8Ideal.main_v4_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_v4_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_v32) = v2 c
          ∧ r.2.mem ((c.tc : Thread Cert.Reference8Ideal.nD Cert.Reference8Ideal.τ).loc Cert.Reference8Ideal.main_v34) = v3 c
          ∧ r.2.mem ((c.tc : Thread Cert.Reference8Ideal.nD Cert.Reference8Ideal.τ).loc Cert.Reference8Ideal.main_v35) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_finite_pool_fwd [hKernel9Ideal : Cert.Kernel9Ideal.Facts] [hReference9Ideal : Cert.Reference9Ideal.Facts] [hPre_finite_pool_fwd : Cert.Pre_finite_pool_fwd.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_pool_fwd m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v70) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  IdealRules.named_const.Statement Cert.Kernel10Ideal.κ "mask" .f32 0xF149F2CA#32 ⊥

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v7) = v2 c
          ∧ r.2.mem ((c.tc : Thread Cert.Reference12Ideal.nD Cert.Reference12Ideal.τ).loc Cert.Reference12Ideal.main_v13) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v16_0)) (v1 : (c : Dev Cert.Kernel13Ideal.nD) → Buf (Elt Ideal) ((c.tc : Thread Cert.Kernel13Ideal.nD Cert.Kernel13Ideal.τ).loc Cert.Kernel13Ideal.main_v16_1)) (v2 : (c : Dev Cert.Kernel13Ideal.nD) → Buf (Elt Ideal) ((c.tc : Thread Cert.Kernel13Ideal.nD Cert.Kernel13Ideal.τ).loc Cert.Kernel13Ideal.main_v16_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v16_0) = v0 c
          ∧ r.2.mem ((c.tc : Thread Cert.Kernel13Ideal.nD Cert.Kernel13Ideal.τ).loc Cert.Kernel13Ideal.main_v16_1) = v1 c
          ∧ r.2.mem ((c.tc : Thread Cert.Kernel13Ideal.nD Cert.Kernel13Ideal.τ).loc Cert.Kernel13Ideal.main_v16_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v29) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_pool : Cert.Pre_finite_pool.Facts) (hPre_finite_ffn_a : Cert.Pre_finite_ffn_a.Facts) (hPre_finite_inproj : Cert.Pre_finite_inproj.Facts) (hPre_finite_ffn_b : Cert.Pre_finite_ffn_b.Facts) (hPre_finite_ffn_fwd : Cert.Pre_finite_ffn_fwd.Facts) (hPre_finite_pool_fwd : Cert.Pre_finite_pool_fwd.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_pool (hKernel2Ideal := hKernel2Ideal) (hPre_finite_pool := hPre_finite_pool)
    ∧ quiescent_Reference2Ideal (hReference2Ideal := hReference2Ideal)
    ∧ quiescent_Reference2Ideal_pre_finite_pool (hReference2Ideal := hReference2Ideal) (hPre_finite_pool := hPre_finite_pool)
    ∧ quiescent_Kernel3 (hKernel3 := hKernel3)
    ∧ quiescent_Kernel3Ideal (hKernel3Ideal := hKernel3Ideal)
    ∧ quiescent_Kernel3Ideal_pre_finite_ffn_a (hKernel3Ideal := hKernel3Ideal) (hPre_finite_ffn_a := hPre_finite_ffn_a)
    ∧ quiescent_Reference3Ideal (hReference3Ideal := hReference3Ideal)
    ∧ quiescent_Reference3Ideal_pre_finite_ffn_a (hReference3Ideal := hReference3Ideal) (hPre_finite_ffn_a := hPre_finite_ffn_a)
    ∧ quiescent_Kernel4 (hKernel4 := hKernel4)
    ∧ quiescent_Kernel4Ideal (hKernel4Ideal := hKernel4Ideal)
    ∧ quiescent_Kernel4Ideal_pre_finite_inproj (hKernel4Ideal := hKernel4Ideal) (hPre_finite_inproj := hPre_finite_inproj)
    ∧ quiescent_Reference4Ideal (hReference4Ideal := hReference4Ideal)
    ∧ quiescent_Reference4Ideal_pre_finite_inproj (hReference4Ideal := hReference4Ideal) (hPre_finite_inproj := hPre_finite_inproj)
    ∧ quiescent_Kernel5 (hKernel5 := hKernel5)
    ∧ quiescent_Kernel5Ideal (hKernel5Ideal := hKernel5Ideal)
    ∧ quiescent_Kernel5Ideal_pre_finite_ffn_b (hKernel5Ideal := hKernel5Ideal) (hPre_finite_ffn_b := hPre_finite_ffn_b)
    ∧ quiescent_Reference5Ideal (hReference5Ideal := hReference5Ideal)
    ∧ quiescent_Reference5Ideal_pre_finite_ffn_b (hReference5Ideal := hReference5Ideal) (hPre_finite_ffn_b := hPre_finite_ffn_b)
    ∧ quiescent_Kernel6 (hKernel6 := hKernel6)
    ∧ quiescent_Kernel6Ideal (hKernel6Ideal := hKernel6Ideal)
    ∧ quiescent_Kernel6Ideal_pre_finite_ffn_fwd (hKernel6Ideal := hKernel6Ideal) (hPre_finite_ffn_fwd := hPre_finite_ffn_fwd)
    ∧ quiescent_Reference6Ideal (hReference6Ideal := hReference6Ideal)
    ∧ quiescent_Reference6Ideal_pre_finite_ffn_fwd (hReference6Ideal := hReference6Ideal) (hPre_finite_ffn_fwd := hPre_finite_ffn_fwd)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_pool_fwd (hKernel9Ideal := hKernel9Ideal) (hPre_finite_pool_fwd := hPre_finite_pool_fwd)
    ∧ quiescent_Reference9Ideal (hReference9Ideal := hReference9Ideal)
    ∧ quiescent_Reference9Ideal_pre_finite_pool_fwd (hReference9Ideal := hReference9Ideal) (hPre_finite_pool_fwd := hPre_finite_pool_fwd)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_pool (hKernel2Ideal := hKernel2Ideal) (hReference2Ideal := hReference2Ideal) (hPre_finite_pool := hPre_finite_pool)
    ∧ preserves_Kernel3_Kernel3Ideal
    ∧ algebraic_Kernel3Ideal_Reference3Ideal_pre_finite_ffn_a (hKernel3Ideal := hKernel3Ideal) (hReference3Ideal := hReference3Ideal) (hPre_finite_ffn_a := hPre_finite_ffn_a)
    ∧ preserves_Kernel4_Kernel4Ideal
    ∧ algebraic_Kernel4Ideal_Reference4Ideal_pre_finite_inproj (hKernel4Ideal := hKernel4Ideal) (hReference4Ideal := hReference4Ideal) (hPre_finite_inproj := hPre_finite_inproj)
    ∧ preserves_Kernel5_Kernel5Ideal
    ∧ algebraic_Kernel5Ideal_Reference5Ideal_pre_finite_ffn_b (hKernel5Ideal := hKernel5Ideal) (hReference5Ideal := hReference5Ideal) (hPre_finite_ffn_b := hPre_finite_ffn_b)
    ∧ preserves_Kernel6_Kernel6Ideal
    ∧ algebraic_Kernel6Ideal_Reference6Ideal_pre_finite_ffn_fwd (hKernel6Ideal := hKernel6Ideal) (hReference6Ideal := hReference6Ideal) (hPre_finite_ffn_fwd := hPre_finite_ffn_fwd)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_pool_fwd (hKernel9Ideal := hKernel9Ideal) (hReference9Ideal := hReference9Ideal) (hPre_finite_pool_fwd := hPre_finite_pool_fwd)
    ∧ preserves_Kernel10_Kernel10Ideal
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_ffn_a.lean ====
abbrev S1x4096x5632 : Shape := ⟨3, ![1, 4096, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x4096x1024 : Shape := ⟨3, ![1, 4096, 1024]⟩
abbrev S_ : Shape := ⟨0, ![]⟩

class Facts : Prop where
  bcast_S_S1x4096x5632 : S_.BroadcastsInDim S1x4096x5632 (![] : Fin 0 → Fin S1x4096x5632.rank)
  reducesTo_S1x4096x5632_S_d0_1_2 : S1x4096x5632.ReducesTo [0, 1, 2] S_
  h_S_ : 0 < S_.numel
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg4 : FVec F S1x4096x1024 .f32) (main_v13 : IVec S_ 1) (main_v16 : IVec S1x2816x1024 1) : IVec S_ 1 :=
  let main_c_5 : IVec S_ 1 := constantI S_ 1 1#1
  let main_v17 : IVec S_ 1 := (fun x v => Host.reduce IntOp.andi x v reducesTo_S1x2816x1024_S_d0_1_2 h_S_) main_v16 main_c_5
  let main_v18 : IVec S_ 1 := andi main_v13 main_v17
  let main_v19 : FVec F S1x4096x1024 .f32 := Host.absf main_arg4
  let main_cst_6 : FVec F S_ .f32 := constant S_ .f32 0x7F800000#32
  let main_v20 : FVec F S1x4096x1024 .f32 := broadcastInDim S1x4096x1024 ![] bcast_S_S1x4096x1024 main_cst_6
  let main_v21 : IVec S1x4096x1024 1 := cmpf .olt main_v19 main_v20
  let main_c_7 : IVec S_ 1 := constantI S_ 1 1#1
  let main_v22 : IVec S_ 1 := (fun x v => Host.reduce IntOp.andi x v reducesTo_S1x4096x1024_S_d0_1_2 h_S_) main_v21 main_c_7
  let main_v23 : IVec S_ 1 := andi main_v18 main_v22
  main_v23

def fn {F : FTy → Type} [FloatOps F] (main_arg0 : FVec F S1x4096x5632 .f32) (main_arg1 : FVec F S1x3x5632 .f32) (main_arg2 : FVec F S1x5632 .f32) (main_arg3 : FVec F S1x2816x1024 .f32) (main_arg4 : FVec F S1x4096x1024 .f32) : IVec S_ 1 :=
  let main_v0 : FVec F S1x4096x5632 .f32 := Host.absf main_arg0
  let main_cst : FVec F S_ .f32 := constant S_ .f32 0x7F800000#32
  let main_v1 : FVec F S1x4096x5632 .f32 := broadcastInDim S1x4096x5632 ![] bcast_S_S1x4096x5632 main_cst
  let main_v2 : IVec S1x4096x5632 1 := cmpf .olt main_v0 main_v1
  let main_c : IVec S_ 1 := constantI S_ 1 1#1
  let main_v3 : IVec S_ 1 := (fun x v => Host.reduce IntOp.andi x v reducesTo_S1x4096x5632_S_d0_1_2 h_S_) main_v2 main_c
  let main_v4 : FVec F S1x3x5632 .f32 := Host.absf main_arg1
  let main_cst_0 : FVec F S_ .f32 := constant S_ .f32 0x7F800000#32
  let main_v5 : FVec F S1x3x5632 .f32 := broadcastInDim S1x3x5632 ![] bcast_S_S1x3x5632 main_cst_0
  let main_v6 : IVec S1x3x5632 1 := cmpf .olt main_v4 main_v5
  let main_c_1 : IVec S_ 1 := constantI S_ 1 1#1
  let main_v7 : IVec S_ 1 := (fun x v => Host.reduce IntOp.andi x v reducesTo_S1x3x5632_S_d0_1_2 h_S_) main_v6 main_c_1
  let main_v8 : IVec S_ 1 := andi main_v3 main_v7
  let main_v9 : FVec F S1x5632 .f32 := Host.absf main_arg2
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_c_3 : IVec S_ 1 := constantI S_ 1 1#1
  let main_v12 : IVec S_ 1 := (fun x v => Host.reduce IntOp.andi x v reducesTo_S1x5632_S_d0_1 h_S_) main_v11 main_c_3
  let main_v13 : IVec S_ 1 := andi main_v8 main_v12
  let main_v14 : FVec F S1x2816x1024 .f32 := Host.absf main_arg3
  let main_cst_4 : FVec F S_ .f32 := constant S_ .f32 0x7F800000#32
  let main_v15 : FVec F S1x2816x1024 .f32 := broadcastInDim S1x2816x1024 ![] bcast_S_S1x2816x1024 main_cst_4
  let main_v16 : IVec S1x2816x1024 1 := cmpf .olt main_v14 main_v15
  fn_part1 (F := F) main_arg4 main_v13 main_v16
-- ==== Pre_finite_ffn_b.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x4096x5632 : Shape := ⟨3, ![1, 4096, 5632]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x4096x5632 : S_.BroadcastsInDim S1x4096x5632 (![] : Fin 0 → Fin S1x4096x5632.rank)
  reducesTo_S1x4096x5632_S_d0_1_2 : S1x4096x5632.ReducesTo [0, 1, 2] S_

variable [Facts]

def fn_part1 {F : FTy → Type} [FloatOps F] (main_v13 : IVec S_ 1) (main_v16 : IVec S1x4096x5632 1) : IVec S_ 1 :=
  let main_c_5 : IVec S_ 1 := constantI S_ 1 1#1
  let main_v17 : IVec S_ 1 := (fun x v => Host.reduce IntOp.andi x v reducesTo_S1x4096x5632_S_d0_1_2 h_S_) main_v16 main_c_5
  let main_v18 : IVec S_ 1 := andi main_v13 main_v17
  main_v18

def fn {F : FTy → Type} [FloatOps F] (main_arg0 : FVec F S1x4096x1024 .f32) (main_arg1 : FVec F S1x1024 .f32) (main_arg2 : FVec F S1x1024x5632 .f32) (main_arg3 : FVec F S1x4096x5632 .f32) (main_arg4 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x4096x5632 .f32 := Host.absf main_arg3
  let main_cst_4 : FVec F S_ .f32 := constant S_ .f32 0x7F800000#32
  let main_v15 : FVec F S1x4096x5632 .f32 := broadcastInDim S1x4096x5632 ![] bcast_S_S1x4096x5632 main_cst_4
  let main_v16 : IVec S1x4096x5632 1 := cmpf .olt main_v14 main_v15
  fn_part1 (F := F) main_v13 main_v16
-- ==== Pre_finite_ffn_fwd.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg5 : FVec F S1x2816x1024 .f32) (main_v13 : IVec S_ 1) (main_v16 : IVec S1x5632 1) : IVec S_ 1 :=
  let main_c_5 : IVec S_ 1 := constantI S_ 1 1#1
  let main_v17 : IVec S_ 1 := (fun x v => Host.reduce IntOp.andi x v reducesTo_S1x5632_S_d0_1 h_S_) main_v16 main_c_5
  let main_v18 : IVec S_ 1 := andi main_v13 main_v17
  let main_v19 : FVec F S1x2816x1024 .f32 := Host.absf main_arg5
  let main_cst_6 : FVec F S_ .f32 := constant S_ .f32 0x7F800000#32
  let main_v20 : FVec F S1x2816x1024 .f32 := broadcastInDim S1x2816x1024 ![] bcast_S_S1x2816x1024 main_cst_6
  let main_v21 : IVec S1x2816x1024 1 := cmpf .olt main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  main_v23

def fn {F : FTy → Type} [FloatOps F] (main_arg0 : FVec F S1x4096x1024 .f32) (main_arg1 : FVec F S1x1024 .f32) (main_arg2 : FVec F S1x1024x5632 .f32) (main_arg3 : FVec F S1x3x5632 .f32) (main_arg4 : FVec F S1x5632 .f32) (main_arg5 : FVec F S1x2816x1024 .f32) (main_arg6 : FVec F S1x4096x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x5632 .f32 := Host.absf main_arg2
  let main_cst_0 : FVec F S_ .f32 := constant S_ .f32 0x7F800000#32
  let main_v5 : FVec F S1x1024x5632 .f32 := broadcastInDim S1x1024x5632 ![] bcast_S_S1x1024x5632 main_cst_0
  let main_v6 : IVec S1x1024x5632 1 := cmpf .olt main_v4 main_v5
  let main_c_1 : IVec S_ 1 := constantI S_ 1 1#1
  let main_v7 : IVec S_ 1 := (fun x v => Host.reduce IntOp.andi x v reducesTo_S1x1024x5632_S_d0_1_2 h_S_) main_v6 main_c_1
  let main_v8 : IVec S_ 1 := andi main_v3 main_v7
  let main_v9 : FVec F S1x3x5632 .f32 := Host.absf main_arg3
  let main_cst_2 : FVec F S_ .f32 := constant S_ .f32 0x7F800000#32
  let main_v10 : FVec F S1x3x5632 .f32 := broadcastInDim S1x3x5632 ![] bcast_S_S1x3x5632 main_cst_2
  let main_v11 : IVec S1x3x5632 1 := cmpf .olt main_v9 main_v10
  let main_c_3 : IVec S_ 1 := constantI S_ 1 1#1
  let main_v12 : IVec S_ 1 := (fun x v => Host.reduce IntOp.andi x v reducesTo_S1x3x5632_S_d0_1_2 h_S_) main_v11 main_c_3
  let main_v13 : IVec S_ 1 := andi main_v8 main_v12
  let main_v14 : FVec F S1x5632 .f32 := Host.absf main_arg4
  let main_cst_4 : FVec F S_ .f32 := constant S_ .f32 0x7F800000#32
  let main_v15 : FVec F S1x5632 .f32 := broadcastInDim S1x5632 ![] bcast_S_S1x5632 main_cst_4
  let main_v16 : IVec S1x5632 1 := cmpf .olt main_v14 main_v15
  fn_part1 (F := F) main_arg5 main_v13 main_v16
-- ==== Pre_finite_inproj.lean ====
abbrev S1x4096x1024 : Shape := ⟨3, ![1, 4096, 1024]⟩
abbrev S1x1024 : Shape := ⟨2, ![1, 1024]⟩
abbrev S1x1024x4352 : Shape := ⟨3, ![1, 1024, 4352]⟩
abbrev S1x4096x4352 : Shape := ⟨3, ![1, 4096, 4352]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4352 : S_.BroadcastsInDim S1x1024x4352 (![] : Fin 0 → Fin S1x1024x4352.rank)
  reducesTo_S1x1024x4352_S_d0_1_2 : S1x1024x4352.ReducesTo [0, 1, 2] S_
  bcast_S_S1x4096x4352 : S_.BroadcastsInDim S1x4096x4352 (![] : Fin 0 → Fin S1x4096x4352.rank)
  reducesTo_S1x4096x4352_S_d0_1_2 : S1x4096x4352.ReducesTo [0, 1, 2] S_

variable [Facts]

def fn_part1 {F : FTy → Type} [FloatOps F] (main_v13 : IVec S_ 1) (main_v16 : IVec S1x4096x4352 1) : IVec S_ 1 :=
  let main_c_5 : IVec S_ 1 := constantI S_ 1 1#1
  let main_v17 : IVec S_ 1 := (fun x v => Host.reduce IntOp.andi x v reducesTo_S1x4096x4352_S_d0_1_2 h_S_) main_v16 main_c_5
  let main_v18 : IVec S_ 1 := andi main_v13 main_v17
  main_v18

def fn {F : FTy → Type} [FloatOps F] (main_arg0 : FVec F S1x4096x1024 .f32) (main_arg1 : FVec F S1x1024 .f32) (main_arg2 : FVec F S1x1024x4352 .f32) (main_arg3 : FVec F S1x4096x4352 .f32) (main_arg4 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x4352 .f32 := Host.absf main_arg2
  let main_cst_2 : FVec F S_ .f32 := constant S_ .f32 0x7F800000#32
  let main_v10 : FVec F S1x1024x4352 .f32 := broadcastInDim S1x1024x4352 ![] bcast_S_S1x1024x4352 main_cst_2
  let main_v11 : IVec S1x1024x4352 1 := cmpf .olt main_v9 main_v10
  let main_c_3 : IVec S_ 1 := constantI S_ 1 1#1
  let main_v12 : IVec S_ 1 := (fun x v => Host.reduce IntOp.andi x v reducesTo_S1x1024x4352_S_d0_1_2 h_S_) main_v11 main_c_3
  let main_v13 : IVec S_ 1 := andi main_v8 main_v12
  let main_v14 : FVec F S1x4096x4352 .f32 := Host.absf main_arg3
  let main_cst_4 : FVec F S_ .f32 := constant S_ .f32 0x7F800000#32
  let main_v15 : FVec F S1x4096x4352 .f32 := broadcastInDim S1x4096x4352 ![] bcast_S_S1x4096x4352 main_cst_4
  let main_v16 : IVec S1x4096x4352 1 := cmpf .olt main_v14 main_v15
  fn_part1 (F := F) main_v13 main_v16
-- ==== Pre_finite_pool.lean ====
abbrev S1x4096x1024 : Shape := ⟨3, ![1, 4096, 1024]⟩
abbrev S1x4x256x256 : Shape := ⟨4, ![1, 4, 256, 256]⟩
abbrev S1x1024 : Shape := ⟨2, ![1, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x4096x1024 1) : IVec S_ 1 :=
  let main_c_5 : IVec S_ 1 := constantI S_ 1 1#1
  let main_v17 : IVec S_ 1 := (fun x v => Host.reduce IntOp.andi x v reducesTo_S1x4096x1024_S_d0_1_2 h_S_) main_v16 main_c_5
  let main_v18 : IVec S_ 1 := andi main_v13 main_v17
  main_v18

def fn {F : FTy → Type} [FloatOps F] (main_arg0 : FVec F S1x4096x1024 .f32) (main_arg1 : FVec F S1x4096x1024 .f32) (main_arg2 : FVec F S1x4x256x256 .f32) (main_arg3 : FVec F S1x1024 .f32) (main_arg4 : FVec F S1x4096x1024 .f32) : IVec S_ 1 :=
  let main_v0 : FVec F S1x4096x1024 .f32 := Host.absf main_arg1
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4x256x256 .f32 := Host.absf main_arg2
  let main_cst_0 : FVec F S_ .f32 := constant S_ .f32 0x7F800000#32
  let main_v5 : FVec F S1x4x256x256 .f32 := broadcastInDim S1x4x256x256 ![] bcast_S_S1x4x256x256 main_cst_0
  let main_v6 : IVec S1x4x256x256 1 := cmpf .olt main_v4 main_v5
  let main_c_1 : IVec S_ 1 := constantI S_ 1 1#1
  let main_v7 : IVec S_ 1 := (fun x v => Host.reduce IntOp.andi x v reducesTo_S1x4x256x256_S_d0_1_2_3 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x4096x1024 .f32 := Host.absf main_arg4
  let main_cst_4 : FVec F S_ .f32 := constant S_ .f32 0x7F800000#32
  let main_v15 : FVec F S1x4096x1024 .f32 := broadcastInDim S1x4096x1024 ![] bcast_S_S1x4096x1024 main_cst_4
  let main_v16 : IVec S1x4096x1024 1 := cmpf .olt main_v14 main_v15
  fn_part1 (F := F) main_v13 main_v16
-- ==== Pre_finite_pool_fwd.lean ====
abbrev S1x4096x1024 : Shape := ⟨3, ![1, 4096, 1024]⟩
abbrev S1x4x256x256 : Shape := ⟨4, ![1, 4, 256, 256]⟩
abbrev S1x1024 : Shape := ⟨2, ![1, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel

variable [Facts]

def fn {F : FTy → Type} [FloatOps F] (main_arg0 : FVec F S1x4096x1024 .f32) (main_arg1 : FVec F S1x4x256x256 .f32) (main_arg2 : FVec F S1x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  main_v3
-- ==== Kernel.lean ====
abbrev S1x4096x1024 : Shape := ⟨3, ![1, 4096, 1024]⟩
abbrev S1x1024x4352 : Shape := ⟨3, ![1, 1024, 4352]⟩
abbrev S1x2048 : Shape := ⟨2, ![1, 2048]⟩
abbrev S1x1024x1024 : Shape := ⟨3, ![1, 1024, 1024]⟩
abbrev S1x1024x2048 : Shape := ⟨3, ![1, 1024, 2048]⟩
abbrev S1024x2048 : Shape := ⟨2, ![1024, 2048]⟩
abbrev S1x4096x2048 : Shape := ⟨3, ![1, 4096, 2048]⟩
abbrev S2048 : Shape := ⟨1, ![2048]⟩
abbrev S1x1x2048 : Shape := ⟨3, ![1, 1, 2048]⟩
abbrev S_ : Shape := ⟨0, ![]⟩
abbrev S4096x1024 : Shape := ⟨2, ![4096, 1024]⟩
abbrev S1024x1024 : Shape := ⟨2, ![1024, 1024]⟩
abbrev S4096x2048 : Shape := ⟨2, ![4096, 2048]⟩
abbrev S2048x1024 : Shape := ⟨2, ![2048, 1024]⟩
abbrev S256x1024 : Shape := ⟨2, ![256, 1024]⟩
abbrev S256x2048 : Shape := ⟨2, ![256, 2048]⟩
abbrev S1x1024 : Shape := ⟨2, ![1, 1024]⟩
abbrev S1024 : Shape := ⟨1, ![1024]⟩

abbrev nBuf : Space → Nat
  | .hbm => 46
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1x1024x4352, .f32⟩
  | .hbm, ⟨2, _⟩ => ⟨S1x2048, .f32⟩
  | .hbm, ⟨3, _⟩ => ⟨S1x4096x1024, .f32⟩
  | .hbm, ⟨4, _⟩ => ⟨S1x4096x1024, .f32⟩
  | .hbm, ⟨5, _⟩ => ⟨S1x1024x1024, .f32⟩
  | .hbm, ⟨6, _⟩ => ⟨S1x4096x1024, .f32⟩
  | .hbm, ⟨7, _⟩ => ⟨S1x1024x2048, .f32⟩
  | .hbm, ⟨8, _⟩ => ⟨S1024x2048, .f32⟩
  | .hbm, ⟨9, _⟩ => ⟨S1x4096x2048, .f32⟩
  | .hbm, ⟨10, _⟩ => ⟨S2048, .f32⟩
  | .hbm, ⟨11, _⟩ => ⟨S1x1x2048, .f32⟩
  | .hbm, ⟨12, _⟩ => ⟨S1x4096x2048, .f32⟩
  | .hbm, ⟨13, _⟩ => ⟨S1x4096x2048, .f32⟩
  | .hbm, ⟨14, _⟩ => ⟨S1x4096x2048, .f32⟩
  | .hbm, ⟨15, _⟩ => ⟨S1x4096x2048, .f32⟩
  | .hbm, ⟨16, _⟩ => ⟨S_, .f32⟩
  | .hbm, ⟨17, _⟩ => ⟨S1x4096x2048, .f32⟩
  | .hbm, ⟨18, _⟩ => ⟨S1x4096x2048, .f32⟩
  | .hbm, ⟨19, _⟩ => ⟨S_, .f32⟩
  | .hbm, ⟨20, _⟩ => ⟨S1x4096x2048, .f32⟩
  | .hbm, ⟨21, _⟩ => ⟨S1x4096x2048, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S4096x1024, .f32⟩
  | .hbm, ⟨28, _⟩ => ⟨S4096x1024, .bf16⟩
  | .hbm, ⟨29, _⟩ => ⟨S1024x1024, .f32⟩
  | .hbm, ⟨30, _⟩ => ⟨S1024x1024, .bf16⟩
  | .hbm, ⟨31, _⟩ => ⟨S4096x2048, .f32⟩
  | .hbm, ⟨32, _⟩ => ⟨S4096x1024, .f32⟩
  | .hbm, ⟨33, _⟩ => ⟨S4096x1024, .bf16⟩
  | .hbm, ⟨34, _⟩ => ⟨S4096x1024, .f32⟩
  | .hbm, ⟨35, _⟩ => ⟨S4096x1024, .bf16⟩
  | .hbm, ⟨36, _⟩ => ⟨S4096x1024, .f32⟩
  | .hbm, ⟨37, _⟩ => ⟨S4096x1024, .bf16⟩
  | .hbm, ⟨38, _⟩ => ⟨S4096x1024, .f32⟩
  | .hbm, ⟨39, _⟩ => ⟨S4096x1024, .bf16⟩
  | .hbm, ⟨40, _⟩ => ⟨S4096x1024, .f32⟩
  | .hbm, ⟨41, _⟩ => ⟨S4096x1024, .bf16⟩
  | .hbm, ⟨42, _⟩ => ⟨S4096x2048, .bf16⟩
  | .hbm, ⟨43, _⟩ => ⟨S1x2048, .f32⟩
  | .hbm, ⟨44, _⟩ => ⟨S1024x1024, .f32⟩
  | .hbm, ⟨45, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x2048, .f32⟩
  | .local _ .vmem, ⟨4, _⟩ => ⟨S256x2048, .f32⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x2048, .bf16⟩
  | .local _ .vmem, ⟨18, _⟩ => ⟨S256x2048, .bf16⟩
  | .local _ .vmem, ⟨19, _⟩ => ⟨S1x2048, .f32⟩
  | .local _ .vmem, ⟨20, _⟩ => ⟨S1024x1024, .f32⟩
  | .local _ .vmem, ⟨21, _⟩ => ⟨S2048x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev main_v31_3 : Ref sig .tc := ⟨.hbm, 43, rfl⟩
abbrev main_v31_4 : Ref sig .tc := ⟨.hbm, 44, rfl⟩
abbrev main_v31_5 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S1x4096x1024 : Shape := ⟨3, ![1, 4096, 1024]⟩
abbrev S1x1024x4352 : Shape := ⟨3, ![1, 1024, 4352]⟩
abbrev S1x2048 : Shape := ⟨2, ![1, 2048]⟩
abbrev S1x1024x1024 : Shape := ⟨3, ![1, 1024, 1024]⟩
abbrev S1x1024x2048 : Shape := ⟨3, ![1, 1024, 2048]⟩
abbrev S1024x2048 : Shape := ⟨2, ![1024, 2048]⟩
abbrev S1x4096x2048 : Shape := ⟨3, ![1, 4096, 2048]⟩
abbrev S2048 : Shape := ⟨1, ![2048]⟩
abbrev S1x1x2048 : Shape := ⟨3, ![1, 1, 2048]⟩
abbrev S_ : Shape := ⟨0, ![]⟩
abbrev S1024x1024 : Shape := ⟨2, ![1024, 1024]⟩
abbrev S2048x1024 : Shape := ⟨2, ![2048, 1024]⟩
abbrev S4096x1024 : Shape := ⟨2, ![4096, 1024]⟩
abbrev S4096x2048 : Shape := ⟨2, ![4096, 2048]⟩

abbrev nBuf : Space → Nat
  | .hbm => 62
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x4352, .f32⟩
  | .hbm, ⟨2, _⟩ => ⟨S1x2048, .f32⟩
  | .hbm, ⟨3, _⟩ => ⟨S1x4096x1024, .f32⟩
  | .hbm, ⟨4, _⟩ => ⟨S1x4096x1024, .f32⟩
  | .hbm, ⟨5, _⟩ => ⟨S1x1024x1024, .f32⟩
  | .hbm, ⟨6, _⟩ => ⟨S1x4096x1024, .f32⟩
  | .hbm, ⟨7, _⟩ => ⟨S1x1024x2048, .f32⟩
  | .hbm, ⟨8, _⟩ => ⟨S1024x2048, .f32⟩
  | .hbm, ⟨9, _⟩ => ⟨S1x4096x2048, .f32⟩
  | .hbm, ⟨10, _⟩ => ⟨S2048, .f32⟩
  | .hbm, ⟨11, _⟩ => ⟨S1x1x2048, .f32⟩
  | .hbm, ⟨12, _⟩ => ⟨S1x4096x2048, .f32⟩
  | .hbm, ⟨13, _⟩ => ⟨S1x4096x2048, .f32⟩
  | .hbm, ⟨14, _⟩ => ⟨S1x4096x2048, .f32⟩
  | .hbm, ⟨15, _⟩ => ⟨S1x4096x2048, .f32⟩
  | .hbm, ⟨16, _⟩ => ⟨S_, .f32⟩
  | .hbm, ⟨17, _⟩ => ⟨S1x4096x2048, .f32⟩
  | .hbm, ⟨18, _⟩ => ⟨S1x4096x2048, .f32⟩
  | .hbm, ⟨19, _⟩ => ⟨S_, .f32⟩
  | .hbm, ⟨20, _⟩ => ⟨S1x4096x2048, .f32⟩
  | .hbm, ⟨21, _⟩ => ⟨S1x4096x2048, .f32⟩
  | .hbm, ⟨22, _⟩ => ⟨S_, .f32⟩
  | .hbm, ⟨23, _⟩ => ⟨S1x4096x2048, .f32⟩
  | .hbm, ⟨24, _⟩ => ⟨S1x4096x2048, .f32⟩
  | .hbm, ⟨25, _⟩ => ⟨S1x4096x2048, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1024x1024, .f32⟩
  | .hbm, ⟨32, _⟩ => ⟨S1x4096x1024, .f32⟩
  | .hbm, ⟨33, _⟩ => ⟨S1024x1024, .f32⟩
  | .hbm, ⟨34, _⟩ => ⟨S1024x1024, .f32⟩
  | .hbm, ⟨35, _⟩ => ⟨S1x4096x1024, .f32⟩
  | .hbm, ⟨36, _⟩ => ⟨S1x1024x1024, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S_, .f32⟩
  | .hbm, ⟨42, _⟩ => ⟨S1x4096x2048, .f32⟩
  | .hbm, ⟨43, _⟩ => ⟨S_, .f32⟩
  | .hbm, ⟨44, _⟩ => ⟨S1x4096x2048, .f32⟩
  | .hbm, ⟨45, _⟩ => ⟨S1x4096x2048, .f32⟩
  | .hbm, ⟨46, _⟩ => ⟨S1x4096x2048, .f32⟩
  | .hbm, ⟨47, _⟩ => ⟨S_, .f32⟩
  | .hbm, ⟨48, _⟩ => ⟨S1x2048, .f32⟩
  | .hbm, ⟨49, _⟩ => ⟨S1x1x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2048x1024, .f32⟩
  | .hbm, ⟨54, _⟩ => ⟨S1024x2048, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S4096x2048, .f32⟩
  | .hbm, ⟨59, _⟩ => ⟨S4096x2048, .bf16⟩
  | .hbm, ⟨60, _⟩ => ⟨S1024x1024, .f32⟩
  | .hbm, ⟨61, _⟩ => ⟨S2048x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel2.lean ====
abbrev S1x4096x1024 : Shape := ⟨3, ![1, 4096, 1024]⟩
abbrev S1x4x256x256 : Shape := ⟨4, ![1, 4, 256, 256]⟩
abbrev S1x1024 : Shape := ⟨2, ![1, 1024]⟩
abbrev S4096x1024 : Shape := ⟨2, ![4096, 1024]⟩
abbrev S4x256x256 : Shape := ⟨3, ![4, 256, 256]⟩
abbrev S1024x1024 : Shape := ⟨2, ![1024, 1024]⟩
abbrev S512x1024 : Shape := ⟨2, ![512, 1024]⟩
abbrev S32x1024 : Shape := ⟨2, ![32, 1024]⟩
abbrev S544x1024 : Shape := ⟨2, ![544, 1024]⟩
abbrev S544x256 : Shape := ⟨2, ![544, 256]⟩
abbrev S512x1 : Shape := ⟨2, ![512, 1]⟩
abbrev S512x256 : Shape := ⟨2, ![512, 256]⟩
abbrev S536x256 : Shape := ⟨2, ![536, 256]⟩
abbrev S528x256 : Shape := ⟨2, ![528, 256]⟩
abbrev S520x256 : Shape := ⟨2, ![520, 256]⟩
abbrev S544x1 : Shape := ⟨2, ![544, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S32x256 : Shape := ⟨2, ![32, 256]⟩
abbrev S32x1 : Shape := ⟨2, ![32, 1]⟩
abbrev S256x1024 : Shape := ⟨2, ![256, 1024]⟩

abbrev nBuf : Space → Nat
  | .hbm => 15
  | .vmem => 21
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4x256x256, .f32⟩
  | .hbm, ⟨3, _⟩ => ⟨S1x1024, .f32⟩
  | .hbm, ⟨4, _⟩ => ⟨S1x4096x1024, .f32⟩
  | .hbm, ⟨5, _⟩ => ⟨S4096x1024, .f32⟩
  | .hbm, ⟨6, _⟩ => ⟨S4096x1024, .f32⟩
  | .hbm, ⟨7, _⟩ => ⟨S4x256x256, .f32⟩
  | .hbm, ⟨8, _⟩ => ⟨S4x256x256, .bf16⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4x256x256, .f32⟩
  | .hbm, ⟨13, _⟩ => ⟨S1x1024, .f32⟩
  | .hbm, ⟨14, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x1024, .f32⟩
  | .local _ .vmem, ⟨5, _⟩ => ⟨S512x1024, .f32⟩
  | .local _ .vmem, ⟨6, _⟩ => ⟨S32x1024, .f32⟩
  | .local _ .vmem, ⟨7, _⟩ => ⟨S32x1024, .f32⟩
  | .local _ .vmem, ⟨8, _⟩ => ⟨S4x256x256, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S4x256x256, .f32⟩
  | .local _ .vmem, ⟨15, _⟩ => ⟨S1x1024, .f32⟩
  | .local _ .vmem, ⟨16, _⟩ => ⟨S1024x1024, .f32⟩
  | .local _ .vmem, ⟨17, _⟩ => ⟨S544x1024, .f32⟩
  | .local _ .vmem, ⟨18, _⟩ => ⟨S544x1024, .f32⟩
  | .local _ .vmem, ⟨19, _⟩ => ⟨S544x256, .f32⟩
  | .local _ .vmem, ⟨20, _⟩ => ⟨S544x256, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S1x4096x1024 : Shape := ⟨3, ![1, 4096, 1024]⟩
abbrev S1x4x256x256 : Shape := ⟨4, ![1, 4, 256, 256]⟩
abbrev S1x1024 : Shape := ⟨2, ![1, 1024]⟩
abbrev S1x4096x4x256 : Shape := ⟨4, ![1, 4096, 4, 256]⟩
abbrev S_ : Shape := ⟨0, ![]⟩
abbrev S4096 : Shape := ⟨1, ![4096]⟩
abbrev S1x4096x1x256 : Shape := ⟨4, ![1, 4096, 1, 256]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4096x1 : Shape := ⟨3, ![1, 4096, 1]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S4x256x256 : Shape := ⟨3, ![4, 256, 256]⟩
abbrev S4x256x1x4096 : Shape := ⟨4, ![4, 256, 1, 4096]⟩
abbrev S1024 : Shape := ⟨1, ![1024]⟩
abbrev S1x1x1024 : Shape := ⟨3, ![1, 1, 1024]⟩
abbrev S4x1x4096x256 : Shape := ⟨4, ![4, 1, 4096, 256]⟩
abbrev S1024x1024 : Shape := ⟨2, ![1024, 1024]⟩
abbrev S4096x1024 : Shape := ⟨2, ![4096, 1024]⟩

abbrev nBuf : Space → Nat
  | .hbm => 182
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x4x256x256, .f32⟩
  | 3 => ⟨S1x1024, .f32⟩
  | 4 => ⟨S1x4096x1024, .f32⟩
  | 5 => ⟨S1x4096x4x256, .f32⟩
  | 6 => ⟨S_, .f32⟩
  | 7 => ⟨S_, .f32⟩
  | 8 => ⟨S1x4096x4x256, .f32⟩
  | 9 => ⟨S4096, .f32⟩
  | 10 => ⟨S1x4096x1x256, .f32⟩
  | 11 => ⟨S1x4096x256, .f32⟩
  | 12 => ⟨S_, .f32⟩
  | 13 => ⟨S1x2x256, .f32⟩
  | 14 => ⟨S1x4094x256, .f32⟩
  | 15 => ⟨S1x4096x256, .f32⟩
  | 16 => ⟨S_, .f32⟩
  | 17 => ⟨S1x2x256, .f32⟩
  | 18 => ⟨S_, .f32⟩
  | 19 => ⟨S4096, .f32⟩
  | 20 => ⟨S4096, .f32⟩
  | 21 => ⟨S_, .f32⟩
  | 22 => ⟨S4096, .f32⟩
  | 23 => ⟨S4096, .f32⟩
  | 24 => ⟨S1x4096x1, .f32⟩
  | 25 => ⟨S1x4096x256, .f32⟩
  | 26 => ⟨S1x4096x256, .f32⟩
  | 27 => ⟨S1x4096x256, .f32⟩
  | 28 => ⟨S1x4096x1x256, .f32⟩
  | 29 => ⟨S1x4096x256, .f32⟩
  | 30 => ⟨S_, .f32⟩
  | 31 => ⟨S1x4x256, .f32⟩
  | 32 => ⟨S1x4092x256, .f32⟩
  | 33 => ⟨S1x4096x256, .f32⟩
  | 34 => ⟨S_, .f32⟩
  | 35 => ⟨S1x4x256, .f32⟩
  | 36 => ⟨S_, .f32⟩
  | 37 => ⟨S4096, .f32⟩
  | 38 => ⟨S4096, .f32⟩
  | 39 => ⟨S_, .f32⟩
  | 40 => ⟨S4096, .f32⟩
  | 41 => ⟨S4096, .f32⟩
  | 42 => ⟨S1x4096x1, .f32⟩
  | 43 => ⟨S1x4096x256, .f32⟩
  | 44 => ⟨S1x4096x256, .f32⟩
  | 45 => ⟨S1x4096x256, .f32⟩
  | 46 => ⟨S1x4096x1x256, .f32⟩
  | 47 => ⟨S1x4096x256, .f32⟩
  | 48 => ⟨S_, .f32⟩
  | 49 => ⟨S1x8x256, .f32⟩
  | 50 => ⟨S1x4088x256, .f32⟩
  | 51 => ⟨S1x4096x256, .f32⟩
  | 52 => ⟨S_, .f32⟩
  | 53 => ⟨S1x8x256, .f32⟩
  | 54 => ⟨S_, .f32⟩
  | 55 => ⟨S4096, .f32⟩
  | 56 => ⟨S4096, .f32⟩
  | 57 => ⟨S_, .f32⟩
  | 58 => ⟨S4096, .f32⟩
  | 59 => ⟨S4096, .f32⟩
  | 60 => ⟨S1x4096x1, .f32⟩
  | 61 => ⟨S1x4096x256, .f32⟩
  | 62 => ⟨S1x4096x256, .f32⟩
  | 63 => ⟨S1x4096x256, .f32⟩
  | 64 => ⟨S1x4096x1x256, .f32⟩
  | 65 => ⟨S1x4096x256, .f32⟩
  | 66 => ⟨S_, .f32⟩
  | 67 => ⟨S1x16x256, .f32⟩
  | 68 => ⟨S1x4080x256, .f32⟩
  | 69 => ⟨S1x4096x256, .f32⟩
  | 70 => ⟨S_, .f32⟩
  | 71 => ⟨S1x16x256, .f32⟩
  | 72 => ⟨S_, .f32⟩
  | 73 => ⟨S4096, .f32⟩
  | 74 => ⟨S4096, .f32⟩
  | 75 => ⟨S_, .f32⟩
  | 76 => ⟨S4096, .f32⟩
  | 77 => ⟨S4096, .f32⟩
  | 78 => ⟨S1x4096x1, .f32⟩
  | 79 => ⟨S1x4096x256, .f32⟩
  | 80 => ⟨S1x4096x256, .f32⟩
  | 81 => ⟨S1x4096x256, .f32⟩
  | 82 => ⟨S1x4096x1x256, .f32⟩
  | 83 => ⟨S1x4096x1x256, .f32⟩
  | 84 => ⟨S1x4096x1x256, .f32⟩
  | 85 => ⟨S1x4096x1x256, .f32⟩
  | 86 => ⟨S1x4096x4x256, .f32⟩
  | 87 => ⟨S1x4096x4x256, .f32⟩
  | 88 => ⟨S4x256x256, .f32⟩
  | 89 => ⟨S4x256x1x4096, .f32⟩
  | 90 => ⟨S1x4096x4x256, .f32⟩
  | 91 => ⟨S1x4096x1024, .f32⟩
  | 92 => ⟨S1024, .f32⟩
  | 93 => ⟨S1x1x1024, .f32⟩
  | 94 => ⟨S1x4096x1024, .f32⟩
  | 95 => ⟨S1x4096x1024, .f32⟩
  | 96 => ⟨S1x4096x1024, .f32⟩
  | 97 => ⟨S_, .f32⟩
  | 98 => ⟨S1x1024, .f32⟩
  | 99 => ⟨S1x1x1024, .f32⟩
  | 100 => ⟨S1x4096x1024, .f32⟩
  | 101 => ⟨S1x4096x1024, .f32⟩
  | 102 => ⟨S_, .f32⟩
  | 103 => ⟨S1024, .f32⟩
  | 104 => ⟨S1x1024, .f32⟩
  | 105 => ⟨S1x4096x4x256, .f32⟩
  | 106 => ⟨S4x256x1x4096, .f32⟩
  | 107 => ⟨S4x1x4096x256, .f32⟩
  | 108 => ⟨S1x4096x4x256, .f32⟩
  | 109 => ⟨S4x256x256, .f32⟩
  | 110 => ⟨S4x256x256, .f32⟩
  | 111 => ⟨S1x4x256x256, .f32⟩
  | 112 => ⟨S1x4096x4x256, .f32⟩
  | 113 => ⟨S1x4096x1x256, .f32⟩
  | 114 => ⟨S1x4096x256, .f32⟩
  | 115 => ⟨S1x4096x1x256, .f32⟩
  | 116 => ⟨S1x4096x256, .f32⟩
  | 117 => ⟨S1x4096x1x256, .f32⟩
  | 118 => ⟨S1x4096x256, .f32⟩
  | 119 => ⟨S1x4096x1x256, .f32⟩
  | 120 => ⟨S1x4096x256, .f32⟩
  | 121 => ⟨S1x4096x256, .f32⟩
  | 122 => ⟨S1x4096x256, .f32⟩
  | 123 => ⟨S1x4096x256, .f32⟩
  | 124 => ⟨S1x16x256, .f32⟩
  | 125 => ⟨S1x4080x256, .f32⟩
  | 126 => ⟨S_, .f32⟩
  | 127 => ⟨S1x4096x256, .f32⟩
  | _ => ⟨S1x4096x1024, .f32⟩

abbrev hbmTy0_1 (i : Nat) : BufTy := match i % 128 with
  | 0 => ⟨S1x4096x256, .f32⟩
  | 1 => ⟨S1x4096x1x256, .f32⟩
  | 2 => ⟨S_, .f32⟩
  | 3 => ⟨S1x4096x4x256, .f32⟩
  | 4 => ⟨S1x4096x256, .f32⟩
  | 5 => ⟨S1x4096x256, .f32⟩
  | 6 => ⟨S1x4096x256, .f32⟩
  | 7 => ⟨S1x8x256, .f32⟩
  | 8 => ⟨S1x4088x256, .f32⟩
  | 9 => ⟨S_, .f32⟩
  | 10 => ⟨S1x4096x256, .f32⟩
  | 11 => ⟨S1x4096x256, .f32⟩
  | 12 => ⟨S1x4096x1x256, .f32⟩
  | 13 => ⟨S_, .f32⟩
  | 14 => ⟨S1x4096x4x256, .f32⟩
  | 15 => ⟨S1x4096x4x256, .f32⟩
  | 16 => ⟨S1x4096x256, .f32⟩
  | 17 => ⟨S1x4096x256, .f32⟩
  | 18 => ⟨S1x4096x256, .f32⟩
  | 19 => ⟨S1x4x256, .f32⟩
  | 20 => ⟨S1x4092x256, .f32⟩
  | 21 => ⟨S_, .f32⟩
  | 22 => ⟨S1x4096x256, .f32⟩
  | 23 => ⟨S1x4096x256, .f32⟩
  | 24 => ⟨S1x4096x1x256, .f32⟩
  | 25 => ⟨S_, .f32⟩
  | 26 => ⟨S1x4096x4x256, .f32⟩
  | 27 => ⟨S1x4096x4x256, .f32⟩
  | 28 => ⟨S1x4096x256, .f32⟩
  | 29 => ⟨S1x4096x256, .f32⟩
  | 30 => ⟨S1x4096x256, .f32⟩
  | 31 => ⟨S1x2x256, .f32⟩
  | 32 => ⟨S1x4094x256, .f32⟩
  | 33 => ⟨S_, .f32⟩
  | 34 => ⟨S1x4096x256, .f32⟩
  | 35 => ⟨S1x4096x256, .f32⟩
  | 36 => ⟨S1x4096x1x256, .f32⟩
  | 37 => ⟨S_, .f32⟩
  | 38 => ⟨S1x4096x4x256, .f32⟩
  | 39 => ⟨S1x4096x4x256, .f32⟩
  | 40 => ⟨S_, .f32⟩
  | 41 => ⟨S_, .f32⟩
  | 42 => ⟨S1x4096x4x256, .f32⟩
  | 43 => ⟨S1x4096x4x256, .f32⟩
  | 44 => ⟨S1x4096x1024, .f32⟩
  | 45 => ⟨S_, .f32⟩
  | 46 => ⟨S1024x1024, .f32⟩
  | 47 => ⟨S1x4096x1024, .f32⟩
  | 48 => ⟨S1024x1024, .f32⟩
  | 49 => ⟨S1024x1024, .f32⟩
  | 50 => ⟨S4096x1024, .f32⟩
  | 51 => ⟨S4096x1024, .bf16⟩
  | 52 => ⟨S4x256x256, .f32⟩
  | 53 => ⟨S1024x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_17 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_18 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_19 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_20 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_21 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_22 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_23 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_24 : Ref sig .tc := ⟨.hbm, 165, rfl⟩
abbrev main_v133 : Ref sig .tc := ⟨.hbm, 166, rfl⟩
abbrev main_v134 : Ref sig .tc := ⟨.hbm, 167, rfl⟩
abbrev main_call1_call0_cst : Ref sig .tc := ⟨.hbm, 168, rfl⟩
abbrev main_call1_call0_v0 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_25 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩

abbrev nD : Nat := 1
abbrev τ : Topo := Topo.v7x

variable {F : FTy → Type} [FloatOps F]
-- ==== Kernel3.lean ====
abbrev S1x4096x5632 : Shape := ⟨3, ![1, 4096, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x4096x1024 : Shape := ⟨3, ![1, 4096, 1024]⟩
abbrev S3x5632 : Shape := ⟨2, ![3, 5632]⟩
abbrev S5632 : Shape := ⟨1, ![5632]⟩
abbrev S_ : Shape := ⟨0, ![]⟩
abbrev S1x2x5632 : Shape := ⟨3, ![1, 2, 5632]⟩
abbrev S1x4098x5632 : Shape := ⟨3, ![1, 4098, 5632]⟩
abbrev S1x1x5632 : Shape := ⟨3, ![1, 1, 5632]⟩
abbrev S4096x1024 : Shape := ⟨2, ![4096, 1024]⟩
abbrev S16x8x32x1024 : Shape := ⟨4, ![16, 8, 32, 1024]⟩
abbrev S16x32x8x1024 : Shape := ⟨4, ![16, 32, 8, 1024]⟩
abbrev S4096x5632 : Shape := ⟨2, ![4096, 5632]⟩
abbrev S16x8x32x5632 : Shape := ⟨4, ![16, 8, 32, 5632]⟩
abbrev S16x32x8x5632 : Shape := ⟨4, ![16, 32, 8, 5632]⟩
abbrev S2816x1024 : Shape := ⟨2, ![2816, 1024]⟩
abbrev S4096x2816 : Shape := ⟨2, ![4096, 2816]⟩
abbrev S256x1024 : Shape := ⟨2, ![256, 1024]⟩
abbrev S256x5632 : Shape := ⟨2, ![256, 5632]⟩
abbrev S16x5632 : Shape := ⟨2, ![16, 5632]⟩
abbrev S256x2816 : Shape := ⟨2, ![256, 2816]⟩
abbrev S272x5632 : Shape := ⟨2, ![272, 5632]⟩
abbrev S16x1408 : Shape := ⟨2, ![16, 1408]⟩
abbrev S8x1408 : Shape := ⟨2, ![8, 1408]⟩
abbrev S1x1408 : Shape := ⟨2, ![1, 1408]⟩
abbrev S256x1408 : Shape := ⟨2, ![256, 1408]⟩
abbrev S1408x1024 : Shape := ⟨2, ![1408, 1024]⟩
abbrev S1408 : Shape := ⟨1, ![1408]⟩
abbrev S16x32x8x2816 : Shape := ⟨4, ![16, 32, 8, 2816]⟩
abbrev S16x8x32x2816 : Shape := ⟨4, ![16, 8, 32, 2816]⟩

abbrev nBuf : Space → Nat
  | .hbm => 59
  | .vmem => 19
  | .smem => 0
  | _ => 0

abbrev bufTy : (tb : Table) → Fin (tcTables nBuf tb) → BufTy
  | .hbm, ⟨0, _⟩ => ⟨S1x4096x5632, .f32⟩
  | .hbm, ⟨1, _⟩ => ⟨S1x3x5632, .f32⟩
  | .hbm, ⟨2, _⟩ => ⟨S1x5632, .f32⟩
  | .hbm, ⟨3, _⟩ => ⟨S1x2816x1024, .f32⟩
  | .hbm, ⟨4, _⟩ => ⟨S1x4096x1024, .f32⟩
  | .hbm, ⟨5, _⟩ => ⟨S3x5632, .f32⟩
  | .hbm, ⟨6, _⟩ => ⟨S5632, .f32⟩
  | .hbm, ⟨7, _⟩ => ⟨S_, .f32⟩
  | .hbm, ⟨8, _⟩ => ⟨S1x2x5632, .f32⟩
  | .hbm, ⟨9, _⟩ => ⟨S1x4098x5632, .f32⟩
  | .hbm, ⟨10, _⟩ => ⟨S1x5632, .f32⟩
  | .hbm, ⟨11, _⟩ => ⟨S5632, .f32⟩
  | .hbm, ⟨12, _⟩ => ⟨S1x4096x5632, .f32⟩
  | .hbm, ⟨13, _⟩ => ⟨S1x1x5632, .f32⟩
  | .hbm, ⟨14, _⟩ => ⟨S1x4096x5632, .f32⟩
  | .hbm, ⟨15, _⟩ => ⟨S1x4096x5632, .f32⟩
  | .hbm, ⟨16, _⟩ => ⟨S1x1x5632, .f32⟩
  | .hbm, ⟨17, _⟩ => ⟨S1x4096x5632, .f32⟩
  | .hbm, ⟨18, _⟩ => ⟨S1x4096x5632, .f32⟩
  | .hbm, ⟨19, _⟩ => ⟨S1x5632, .f32⟩
  | .hbm, ⟨20, _⟩ => ⟨S5632, .f32⟩
  | .hbm, ⟨21, _⟩ => ⟨S1x4096x5632, .f32⟩
  | .hbm, ⟨22, _⟩ => ⟨S1x1x5632, .f32⟩
  | .hbm, ⟨23, _⟩ => ⟨S1x4096x5632, .f32⟩
  | .hbm, ⟨24, _⟩ => ⟨S1x4096x5632, .f32⟩
  | .hbm, ⟨25, _⟩ => ⟨S1x4096x5632, .f32⟩
  | .hbm, ⟨26, _⟩ => ⟨S1x5632, .f32⟩
  | .hbm, ⟨27, _⟩ => ⟨S5632, .f32⟩
  | .hbm, ⟨28, _⟩ => ⟨S1x4096x5632, .f32⟩
  | .hbm, ⟨29, _⟩ => ⟨S1x1x5632, .f32⟩
  | .hbm, ⟨30, _⟩ => ⟨S1x4096x5632, .f32⟩
  | .hbm, ⟨31, _⟩ => ⟨S1x4096x5632, .f32⟩
  | .hbm, ⟨32, _⟩ => ⟨S1x4096x5632, .f32⟩
  | .hbm, ⟨33, _⟩ => ⟨S4096x1024, .f32⟩
  | .hbm, ⟨34, _⟩ => ⟨S16x8x32x1024, .f32⟩
  | .hbm, ⟨35, _⟩ => ⟨S16x32x8x1024, .f32⟩
  | .hbm, ⟨36, _⟩ => ⟨S4096x1024, .f32⟩
  | .hbm, ⟨37, _⟩ => ⟨S4096x1024, .bf16⟩
  | .hbm, ⟨38, _⟩ => ⟨S4096x5632, .f32⟩
  | .hbm, ⟨39, _⟩ => ⟨S16x8x32x5632, .f32⟩
  | .hbm, ⟨40, _⟩ => ⟨S16x32x8x5632, .f32⟩
  | .hbm, ⟨41, _⟩ => ⟨S4096x5632, .f32⟩
  | .hbm, ⟨42, _⟩ => ⟨S4096x5632, .f32⟩
  | .hbm, ⟨43, _⟩ => ⟨S16x8x32x5632, .f32⟩
  | .hbm, ⟨44, _⟩ => ⟨S16x32x8x5632, .f32⟩
  | .hbm, ⟨45, _⟩ => ⟨S4096x5632, .f32⟩
  | .hbm, ⟨46, _⟩ => ⟨S3x5632, .f32⟩
  | .hbm, ⟨47, _⟩ => ⟨S2816x1024, .f32⟩
  | .hbm, ⟨48, _⟩ => ⟨S2816x1024, .bf16⟩
  | .hbm, ⟨49, _⟩ => ⟨S4096x5632, .bf16⟩
  | .hbm, ⟨50, _⟩ => ⟨S4096x2816, .bf16⟩
  | .hbm, ⟨51, _⟩ => ⟨S3x5632, .f32⟩
  | .hbm, ⟨52, _⟩ => ⟨S1x5632, .f32⟩
  | .hbm, ⟨53, _⟩ => ⟨S16x32x8x5632, .bf16⟩
  | .hbm, ⟨54, _⟩ => ⟨S16x8x32x5632, .bf16⟩
  | .hbm, ⟨55, _⟩ => ⟨S4096x5632, .bf16⟩
  | .hbm, ⟨56, _⟩ => ⟨S16x32x8x2816, .bf16⟩
  | .hbm, ⟨57, _⟩ => ⟨S16x8x32x2816, .bf16⟩
  | .hbm, ⟨58, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S256x5632, .f32⟩
  | .local _ .vmem, ⟨3, _⟩ => ⟨S256x5632, .f32⟩
  | .local _ .vmem, ⟨4, _⟩ => ⟨S16x5632, .f32⟩
  | .local _ .vmem, ⟨5, _⟩ => ⟨S16x5632, .f32⟩
  | .local _ .vmem, ⟨6, _⟩ => ⟨S256x5632, .f32⟩
  | .local _ .vmem, ⟨7, _⟩ => ⟨S256x5632, .f32⟩
  | .local _ .vmem, ⟨8, _⟩ => ⟨S3x5632, .f32⟩
  | .local _ .vmem, ⟨9, _⟩ => ⟨S2816x1024, .bf16⟩
  | .local _ .vmem, ⟨10, _⟩ => ⟨S256x5632, .bf16⟩
  | .local _ .vmem, ⟨11, _⟩ => ⟨S256x5632, .bf16⟩
  | .local _ .vmem, ⟨12, _⟩ => ⟨S256x2816, .bf16⟩
  | .local _ .vmem, ⟨13, _⟩ => ⟨S256x2816, .bf16⟩
  | .local _ .vmem, ⟨14, _⟩ => ⟨S3x5632, .f32⟩
  | .local _ .vmem, ⟨15, _⟩ => ⟨S1x5632, .f32⟩
  | .local _ .vmem, ⟨16, _⟩ => ⟨S272x5632, .f32⟩
  | .local _ .vmem, ⟨17, _⟩ => ⟨S272x5632, .f32⟩
  | .local _ .vmem, ⟨18, _⟩ => ⟨S16x5632, .f32⟩
  | _, _ => ⟨S1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43_0 : Ref sig .tc := ⟨.hbm, 49, rfl⟩
abbrev main_v43_1 : Ref sig .tc := ⟨.hbm, 50, rfl⟩
abbrev main_v43_2 : Ref sig .tc := ⟨.hbm, 51, rfl⟩
abbrev main_v43_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S1x4096x5632 : Shape := ⟨3, ![1, 4096, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x4096x1024 : Shape := ⟨3, ![1, 4096, 1024]⟩
abbrev S3x5632 : Shape := ⟨2, ![3, 5632]⟩
abbrev S5632 : Shape := ⟨1, ![5632]⟩
abbrev S_ : Shape := ⟨0, ![]⟩
abbrev S1x2x5632 : Shape := ⟨3, ![1, 2, 5632]⟩
abbrev S1x4098x5632 : Shape := ⟨3, ![1, 4098, 5632]⟩
abbrev S1x1x5632 : Shape := ⟨3, ![1, 1, 5632]⟩
abbrev S1x4096x2816 : Shape := ⟨3, ![1, 4096, 2816]⟩
abbrev S2816x1024 : Shape := ⟨2, ![2816, 1024]⟩
abbrev S4096x5632 : Shape := ⟨2, ![4096, 5632]⟩
abbrev S4096x2816 : Shape := ⟨2, ![4096, 2816]⟩

abbrev nBuf : Space → Nat
  | .hbm => 125
  | .vmem => 0
  | .smem => 0
  | _ => 0

abbrev bufTy : (tb : Table) → Fin (tcTables nBuf tb) → BufTy
  | .hbm, ⟨0, _⟩ => ⟨S1x4096x5632, .f32⟩
  | .hbm, ⟨1, _⟩ => ⟨S1x3x5632, .f32⟩
  | .hbm, ⟨2, _⟩ => ⟨S1x5632, .f32⟩
  | .hbm, ⟨3, _⟩ => ⟨S1x2816x1024, .f32⟩
  | .hbm, ⟨4, _⟩ => ⟨S1x4096x1024, .f32⟩
  | .hbm, ⟨5, _⟩ => ⟨S3x5632, .f32⟩
  | .hbm, ⟨6, _⟩ => ⟨S5632, .f32⟩
  | .hbm, ⟨7, _⟩ => ⟨S_, .f32⟩
  | .hbm, ⟨8, _⟩ => ⟨S1x2x5632, .f32⟩
  | .hbm, ⟨9, _⟩ => ⟨S1x4098x5632, .f32⟩
  | .hbm, ⟨10, _⟩ => ⟨S_, .f32⟩
  | .hbm, ⟨11, _⟩ => ⟨S1x2x5632, .f32⟩
  | .hbm, ⟨12, _⟩ => ⟨S1x5632, .f32⟩
  | .hbm, ⟨13, _⟩ => ⟨S5632, .f32⟩
  | .hbm, ⟨14, _⟩ => ⟨S1x4096x5632, .f32⟩
  | .hbm, ⟨15, _⟩ => ⟨S1x1x5632, .f32⟩
  | .hbm, ⟨16, _⟩ => ⟨S1x4096x5632, .f32⟩
  | .hbm, ⟨17, _⟩ => ⟨S1x4096x5632, .f32⟩
  | .hbm, ⟨18, _⟩ => ⟨S1x1x5632, .f32⟩
  | .hbm, ⟨19, _⟩ => ⟨S1x4096x5632, .f32⟩
  | .hbm, ⟨20, _⟩ => ⟨S1x4096x5632, .f32⟩
  | .hbm, ⟨21, _⟩ => ⟨S1x5632, .f32⟩
  | .hbm, ⟨22, _⟩ => ⟨S5632, .f32⟩
  | .hbm, ⟨23, _⟩ => ⟨S1x4096x5632, .f32⟩
  | .hbm, ⟨24, _⟩ => ⟨S1x1x5632, .f32⟩
  | .hbm, ⟨25, _⟩ => ⟨S1x4096x5632, .f32⟩
  | .hbm, ⟨26, _⟩ => ⟨S1x4096x5632, .f32⟩
  | .hbm, ⟨27, _⟩ => ⟨S1x4096x5632, .f32⟩
  | .hbm, ⟨28, _⟩ => ⟨S1x5632, .f32⟩
  | .hbm, ⟨29, _⟩ => ⟨S5632, .f32⟩
  | .hbm, ⟨30, _⟩ => ⟨S1x4096x5632, .f32⟩
  | .hbm, ⟨31, _⟩ => ⟨S1x1x5632, .f32⟩
  | .hbm, ⟨32, _⟩ => ⟨S1x4096x5632, .f32⟩
  | .hbm, ⟨33, _⟩ => ⟨S1x4096x5632, .f32⟩
  | .hbm, ⟨34, _⟩ => ⟨S1x4096x5632, .f32⟩
  | .hbm, ⟨35, _⟩ => ⟨S1x4096x2816, .f32⟩
  | .hbm, ⟨36, _⟩ => ⟨S1x4096x2816, .f32⟩
  | .hbm, ⟨37, _⟩ => ⟨S1x4096x2816, .f32⟩
  | .hbm, ⟨38, _⟩ => ⟨S1x4096x2816, .f32⟩
  | .hbm, ⟨39, _⟩ => ⟨S_, .f32⟩
  | .hbm, ⟨40, _⟩ => ⟨S1x4096x2816, .f32⟩
  | .hbm, ⟨41, _⟩ => ⟨S1x4096x2816, .f32⟩
  | .hbm, ⟨42, _⟩ => ⟨S_, .f32⟩
  | .hbm, ⟨43, _⟩ => ⟨S1x4096x2816, .f32⟩
  | .hbm, ⟨44, _⟩ => ⟨S1x4096x2816, .f32⟩
  | .hbm, ⟨45, _⟩ => ⟨S_, .f32⟩
  | .hbm, ⟨46, _⟩ => ⟨S1x4096x2816, .f32⟩
  | .hbm, ⟨47, _⟩ => ⟨S1x4096x2816, .f32⟩
  | .hbm, ⟨48, _⟩ => ⟨S1x4096x2816, .f32⟩
  | .hbm, ⟨49, _⟩ => ⟨S1x4096x2816, .f32⟩
  | .hbm, ⟨50, _⟩ => ⟨S1x4096x2816, .f32⟩
  | .hbm, ⟨51, _⟩ => ⟨S2816x1024, .f32⟩
  | .hbm, ⟨52, _⟩ => ⟨S1x4096x1024, .f32⟩
  | .hbm, ⟨53, _⟩ => ⟨S_, .f32⟩
  | .hbm, ⟨54, _⟩ => ⟨S1x4096x2816, .f32⟩
  | .hbm, ⟨55, _⟩ => ⟨S1x4096x2816, .f32⟩
  | .hbm, ⟨56, _⟩ => ⟨S1x4096x2816, .f32⟩
  | .hbm, ⟨57, _⟩ => ⟨S1x4096x2816, .f32⟩
  | .hbm, ⟨58, _⟩ => ⟨S1x4096x2816, .f32⟩
  | .hbm, ⟨59, _⟩ => ⟨S1x4096x2816, .f32⟩
  | .hbm, ⟨60, _⟩ => ⟨S1x4096x2816, .f32⟩
  | .hbm, ⟨61, _⟩ => ⟨S1x4096x2816, .f32⟩
  | .hbm, ⟨62, _⟩ => ⟨S1x4096x2816, .f32⟩
  | .hbm, ⟨63, _⟩ => ⟨S_, .f32⟩
  | .hbm, ⟨64, _⟩ => ⟨S1x4096x5632, .f32⟩
  | .hbm, ⟨65, _⟩ => ⟨S_, .f32⟩
  | .hbm, ⟨66, _⟩ => ⟨S1x4096x5632, .f32⟩
  | .hbm, ⟨67, _⟩ => ⟨S1x4096x5632, .f32⟩
  | .hbm, ⟨68, _⟩ => ⟨S1x4096x5632, .f32⟩
  | .hbm, ⟨69, _⟩ => ⟨S1x4096x5632, .f32⟩
  | .hbm, ⟨70, _⟩ => ⟨S1x4096x5632, .f32⟩
  | .hbm, ⟨71, _⟩ => ⟨S_, .f32⟩
  | .hbm, ⟨72, _⟩ => ⟨S1x5632, .f32⟩
  | .hbm, ⟨73, _⟩ => ⟨S1x1x5632, .f32⟩
  | .hbm, ⟨74, _⟩ => ⟨S_, .f32⟩
  | .hbm, ⟨75, _⟩ => ⟨S5632, .f32⟩
  | .hbm, ⟨76, _⟩ => ⟨S_, .f32⟩
  | .hbm, ⟨77, _⟩ => ⟨S1x4098x5632, .f32⟩
  | .hbm, ⟨78, _⟩ => ⟨S1x5632, .f32⟩
  | .hbm, ⟨79, _⟩ => ⟨S_, .f32⟩
  | .hbm, ⟨80, _⟩ => ⟨S3x5632, .f32⟩
  | .hbm, ⟨81, _⟩ => ⟨S1x4096x5632, .f32⟩
  | .hbm, ⟨82, _⟩ => ⟨S1x4096x5632, .f32⟩
  | .hbm, ⟨83, _⟩ => ⟨S1x4096x5632, .f32⟩
  | .hbm, ⟨84, _⟩ => ⟨S_, .f32⟩
  | .hbm, ⟨85, _⟩ => ⟨S1x5632, .f32⟩
  | .hbm, ⟨86, _⟩ => ⟨S1x1x5632, .f32⟩
  | .hbm, ⟨87, _⟩ => ⟨S_, .f32⟩
  | .hbm, ⟨88, _⟩ => ⟨S5632, .f32⟩
  | .hbm, ⟨89, _⟩ => ⟨S_, .f32⟩
  | .hbm, ⟨90, _⟩ => ⟨S1x4098x5632, .f32⟩
  | .hbm, ⟨91, _⟩ => ⟨S1x4098x5632, .f32⟩
  | .hbm, ⟨92, _⟩ => ⟨S1x5632, .f32⟩
  | .hbm, ⟨93, _⟩ => ⟨S_, .f32⟩
  | .hbm, ⟨94, _⟩ => ⟨S3x5632, .f32⟩
  | .hbm, ⟨95, _⟩ => ⟨S3x5632, .f32⟩
  | .hbm, ⟨96, _⟩ => ⟨S_, .f32⟩
  | .hbm, ⟨97, _⟩ => ⟨S1x5632, .f32⟩
  | .hbm, ⟨98, _⟩ => ⟨S1x1x5632, .f32⟩
  | .hbm, ⟨99, _⟩ => ⟨S_, .f32⟩
  | .hbm, ⟨100, _⟩ => ⟨S5632, .f32⟩
  | .hbm, ⟨101, _⟩ => ⟨S1x4096x5632, .f32⟩
  | .hbm, ⟨102, _⟩ => ⟨S1x4096x5632, .f32⟩
  | .hbm, ⟨103, _⟩ => ⟨S1x4096x5632, .f32⟩
  | .hbm, ⟨104, _⟩ => ⟨S_, .f32⟩
  | .hbm, ⟨105, _⟩ => ⟨S1x5632, .f32⟩
  | .hbm, ⟨106, _⟩ => ⟨S1x1x5632, .f32⟩
  | .hbm, ⟨107, _⟩ => ⟨S_, .f32⟩
  | .hbm, ⟨108, _⟩ => ⟨S5632, .f32⟩
  | .hbm, ⟨109, _⟩ => ⟨S_, .f32⟩
  | .hbm, ⟨110, _⟩ => ⟨S1x4098x5632, .f32⟩
  | .hbm, ⟨111, _⟩ => ⟨S1x4098x5632, .f32⟩
  | .hbm, ⟨112, _⟩ => ⟨S1x5632, .f32⟩
  | .hbm, ⟨113, _⟩ => ⟨S_, .f32⟩
  | .hbm, ⟨114, _⟩ => ⟨S3x5632, .f32⟩
  | .hbm, ⟨115, _⟩ => ⟨S3x5632, .f32⟩
  | .hbm, ⟨116, _⟩ => ⟨S1x2x5632, .f32⟩
  | .hbm, ⟨117, _⟩ => ⟨S1x4096x5632, .f32⟩
  | .hbm, ⟨118, _⟩ => ⟨S1x5632, .f32⟩
  | .hbm, ⟨119, _⟩ => ⟨S1x3x5632, .f32⟩
  | .hbm, ⟨120, _⟩ => ⟨S4096x5632, .f32⟩
  | .hbm, ⟨121, _⟩ => ⟨S4096x5632, .bf16⟩
  | .hbm, ⟨122, _⟩ => ⟨S4096x2816, .f32⟩
  | .hbm, ⟨123, _⟩ => ⟨S4096x2816, .bf16⟩
  | .hbm, ⟨124, _⟩ => ⟨S3x5632, .f32⟩
  | _, _ => ⟨S1x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_1 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_cst_15 : Ref sig .tc := ⟨.hbm, 107, rfl⟩
abbrev main_v71 : Ref sig .tc := ⟨.hbm, 108, rfl⟩
abbrev main_cst_16 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_17 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩

abbrev nD : Nat := 1
abbrev τ : Topo := Topo.v7x

variable {F : FTy → Type} [FloatOps F]
-- ==== Kernel4.lean ====
abbrev S1x4096x1024 : Shape := ⟨3, ![1, 4096, 1024]⟩
abbrev S1x1024 : Shape := ⟨2, ![1, 1024]⟩
abbrev S1x1024x4352 : Shape := ⟨3, ![1, 1024, 4352]⟩
abbrev S1x4096x4352 : Shape := ⟨3, ![1, 4096, 4352]⟩
abbrev S4096x1024 : Shape := ⟨2, ![4096, 1024]⟩
abbrev S1x4096x256 : Shape := ⟨3, ![1, 4096, 256]⟩
abbrev S4096x256 : Shape := ⟨2, ![4096, 256]⟩
abbrev S1x4096x2048 : Shape := ⟨3, ![1, 4096, 2048]⟩
abbrev S4096x2048 : Shape := ⟨2, ![4096, 2048]⟩
abbrev S1024x4352 : Shape := ⟨2, ![1024, 4352]⟩
abbrev S4352x1024 : Shape := ⟨2, ![4352, 1024]⟩
abbrev S512x1024 : Shape := ⟨2, ![512, 1024]⟩
abbrev S512x256 : Shape := ⟨2, ![512, 256]⟩
abbrev S512x2048 : Shape := ⟨2, ![512, 2048]⟩
abbrev S1024x1024 : Shape := ⟨2, ![1024, 1024]⟩
abbrev S256x1024 : Shape := ⟨2, ![256, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 24
  | .vmem => 17
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4352, .f32⟩
  | .hbm, ⟨3, _⟩ => ⟨S1x4096x4352, .f32⟩
  | .hbm, ⟨4, _⟩ => ⟨S1x4096x1024, .f32⟩
  | .hbm, ⟨5, _⟩ => ⟨S1x4096x1024, .f32⟩
  | .hbm, ⟨6, _⟩ => ⟨S4096x1024, .f32⟩
  | .hbm, ⟨7, _⟩ => ⟨S4096x1024, .bf16⟩
  | .hbm, ⟨8, _⟩ => ⟨S1x4096x1024, .f32⟩
  | .hbm, ⟨9, _⟩ => ⟨S4096x1024, .f32⟩
  | .hbm, ⟨10, _⟩ => ⟨S4096x1024, .bf16⟩
  | .hbm, ⟨11, _⟩ => ⟨S1x4096x256, .f32⟩
  | .hbm, ⟨12, _⟩ => ⟨S4096x256, .f32⟩
  | .hbm, ⟨13, _⟩ => ⟨S4096x256, .bf16⟩
  | .hbm, ⟨14, _⟩ => ⟨S1x4096x2048, .f32⟩
  | .hbm, ⟨15, _⟩ => ⟨S4096x2048, .f32⟩
  | .hbm, ⟨16, _⟩ => ⟨S4096x2048, .bf16⟩
  | .hbm, ⟨17, _⟩ => ⟨S1024x4352, .f32⟩
  | .hbm, ⟨18, _⟩ => ⟨S4352x1024, .f32⟩
  | .hbm, ⟨19, _⟩ => ⟨S4352x1024, .bf16⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S512x2048, .bf16⟩
  | .local _ .vmem, ⟨7, _⟩ => ⟨S512x2048, .bf16⟩
  | .local _ .vmem, ⟨8, _⟩ => ⟨S4352x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S1x4096x1024 : Shape := ⟨3, ![1, 4096, 1024]⟩
abbrev S1x1024 : Shape := ⟨2, ![1, 1024]⟩
abbrev S1x1024x4352 : Shape := ⟨3, ![1, 1024, 4352]⟩
abbrev S1x4096x4352 : Shape := ⟨3, ![1, 4096, 4352]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4352 : Shape := ⟨2, ![1024, 4352]⟩
abbrev S4096 : Shape := ⟨1, ![4096]⟩
abbrev S4096x1024 : Shape := ⟨2, ![4096, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4352, .f32⟩
  | .hbm, ⟨3, _⟩ => ⟨S1x4096x4352, .f32⟩
  | .hbm, ⟨4, _⟩ => ⟨S1x4096x1024, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1024x4352, .f32⟩
  | .hbm, ⟨27, _⟩ => ⟨S1x4096x4352, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x1024, .f32⟩
  | .hbm, ⟨57, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel5.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x4096x5632 : Shape := ⟨3, ![1, 4096, 5632]⟩
abbrev S4096x5632 : Shape := ⟨2, ![4096, 5632]⟩
abbrev S16x8x32x5632 : Shape := ⟨4, ![16, 8, 32, 5632]⟩
abbrev S16x32x8x5632 : Shape := ⟨4, ![16, 32, 8, 5632]⟩
abbrev S1024x5632 : Shape := ⟨2, ![1024, 5632]⟩
abbrev S5632x1024 : Shape := ⟨2, ![5632, 1024]⟩
abbrev S4096x1024 : Shape := ⟨2, ![4096, 1024]⟩
abbrev S256 : Shape := ⟨1, ![256]⟩
abbrev S1x256 : Shape := ⟨2, ![1, 256]⟩
abbrev S_ : Shape := ⟨0, ![]⟩
abbrev S256x1 : Shape := ⟨2, ![256, 1]⟩
abbrev S256x256 : Shape := ⟨2, ![256, 256]⟩
abbrev S256x5632 : Shape := ⟨2, ![256, 5632]⟩
abbrev S256x1024 : Shape := ⟨2, ![256, 1024]⟩
abbrev S1024 : Shape := ⟨1, ![1024]⟩

abbrev nBuf : Space → Nat
  | .hbm => 71
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x4096x5632, .f32⟩
  | .hbm, ⟨4, _⟩ => ⟨S1x4096x1024, .f32⟩
  | .hbm, ⟨5, _⟩ => ⟨S4096x5632, .f32⟩
  | .hbm, ⟨6, _⟩ => ⟨S16x8x32x5632, .f32⟩
  | .hbm, ⟨7, _⟩ => ⟨S16x32x8x5632, .f32⟩
  | .hbm, ⟨8, _⟩ => ⟨S4096x5632, .f32⟩
  | .hbm, ⟨9, _⟩ => ⟨S4096x5632, .bf16⟩
  | .hbm, ⟨10, _⟩ => ⟨S1024x5632, .f32⟩
  | .hbm, ⟨11, _⟩ => ⟨S5632x1024, .f32⟩
  | .hbm, ⟨12, _⟩ => ⟨S5632x1024, .bf16⟩
  | .hbm, ⟨13, _⟩ => ⟨S4096x1024, .f32⟩
  | .hbm, ⟨14, _⟩ => ⟨S4096x1024, .f32⟩
  | .hbm, ⟨15, _⟩ => ⟨S256, .i32⟩
  | .hbm, ⟨16, _⟩ => ⟨S1x256, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S_, .i32⟩
  | .hbm, ⟨32, _⟩ => ⟨S_, .i1⟩
  | .hbm, ⟨33, _⟩ => ⟨S256, .i1⟩
  | .hbm, ⟨34, _⟩ => ⟨S256, .i1⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S_, .i32⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S256, .i32⟩
  | .hbm, ⟨51, _⟩ => ⟨S256, .i32⟩
  | .hbm, ⟨52, _⟩ => ⟨S_, .i32⟩
  | .hbm, ⟨53, _⟩ => ⟨S256, .i32⟩
  | .hbm, ⟨54, _⟩ => ⟨S256, .i1⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S256, .i32⟩
  | .hbm, ⟨61, _⟩ => ⟨S256x1, .i32⟩
  | .hbm, ⟨62, _⟩ => ⟨S256x256, .i32⟩
  | .hbm, ⟨63, _⟩ => ⟨S256x256, .i32⟩
  | .hbm, ⟨64, _⟩ => ⟨S256x256, .i1⟩
  | .hbm, ⟨65, _⟩ => ⟨S256x256, .bf16⟩
  | .hbm, ⟨66, _⟩ => ⟨S256x256, .i1⟩
  | .hbm, ⟨67, _⟩ => ⟨S256x256, .bf16⟩
  | .hbm, ⟨68, _⟩ => ⟨S4096x1024, .f32⟩
  | .hbm, ⟨69, _⟩ => ⟨S4096x1024, .bf16⟩
  | .hbm, ⟨70, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x256, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v12 : Ref sig .tc := ⟨.hbm, 38, rfl⟩
abbrev main_c_0 : Ref sig .tc := ⟨.hbm, 39, rfl⟩
abbrev main_v13 : Ref sig .tc := ⟨.hbm, 40, rfl⟩
abbrev main_v14 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24_0 : Ref sig .tc := ⟨.hbm, 68, rfl⟩
abbrev main_v24_1 : Ref sig .tc := ⟨.hbm, 69, rfl⟩
abbrev main_v24_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x4096x5632 : Shape := ⟨3, ![1, 4096, 5632]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x5632 : Shape := ⟨2, ![1024, 5632]⟩
abbrev S4096 : Shape := ⟨1, ![4096]⟩
abbrev S4096x1024 : Shape := ⟨2, ![4096, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x4096x5632, .f32⟩
  | .hbm, ⟨4, _⟩ => ⟨S1x4096x1024, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1024x5632, .f32⟩
  | .hbm, ⟨27, _⟩ => ⟨S1x4096x5632, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel6.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S4096x1024 : Shape := ⟨2, ![4096, 1024]⟩
abbrev S1024x5632 : Shape := ⟨2, ![1024, 5632]⟩
abbrev S5632x1024 : Shape := ⟨2, ![5632, 1024]⟩
abbrev S3x5632 : Shape := ⟨2, ![3, 5632]⟩
abbrev S2816x1024 : Shape := ⟨2, ![2816, 1024]⟩
abbrev S256 : Shape := ⟨1, ![256]⟩
abbrev S1x256 : Shape := ⟨2, ![1, 256]⟩
abbrev S_ : Shape := ⟨0, ![]⟩
abbrev S256x1 : Shape := ⟨2, ![256, 1]⟩
abbrev S256x256 : Shape := ⟨2, ![256, 256]⟩
abbrev S4096x5632 : Shape := ⟨2, ![4096, 5632]⟩
abbrev S8x128 : Shape := ⟨2, ![8, 128]⟩
abbrev S256x1024 : Shape := ⟨2, ![256, 1024]⟩
abbrev S256x5632 : Shape := ⟨2, ![256, 5632]⟩
abbrev S16x5632 : Shape := ⟨2, ![16, 5632]⟩
abbrev S1408x1024 : Shape := ⟨2, ![1408, 1024]⟩
abbrev S256x1408 : Shape := ⟨2, ![256, 1408]⟩
abbrev S16x1408 : Shape := ⟨2, ![16, 1408]⟩
abbrev S3x1408 : Shape := ⟨2, ![3, 1408]⟩
abbrev S1x1408 : Shape := ⟨2, ![1, 1408]⟩
abbrev S8x1408 : Shape := ⟨2, ![8, 1408]⟩
abbrev S240x1408 : Shape := ⟨2, ![240, 1408]⟩
abbrev S1x256x1024 : Shape := ⟨3, ![1, 256, 1024]⟩
abbrev S1 : Shape := ⟨1, ![1]⟩
abbrev S1x1x1 : Shape := ⟨3, ![1, 1, 1]⟩
abbrev S16x32x8x1024 : Shape := ⟨4, ![16, 32, 8, 1024]⟩
abbrev S16x8x32x1024 : Shape := ⟨4, ![16, 8, 32, 1024]⟩
abbrev S16x32x8x5632 : Shape := ⟨4, ![16, 32, 8, 5632]⟩
abbrev S16x8x32x5632 : Shape := ⟨4, ![16, 8, 32, 5632]⟩
abbrev S1x1 : Shape := ⟨2, ![1, 1]⟩

abbrev nBuf : Space → Nat
  | .hbm => 88
  | .vmem => 23
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x4096x1024, .f32⟩
  | .hbm, ⟨7, _⟩ => ⟨S4096x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | .hbm, ⟨11, _⟩ => ⟨S3x5632, .f32⟩
  | .hbm, ⟨12, _⟩ => ⟨S2816x1024, .f32⟩
  | .hbm, ⟨13, _⟩ => ⟨S2816x1024, .bf16⟩
  | .hbm, ⟨14, _⟩ => ⟨S4096x1024, .f32⟩
  | .hbm, ⟨15, _⟩ => ⟨S256, .i32⟩
  | .hbm, ⟨16, _⟩ => ⟨S1x256, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S_, .i32⟩
  | .hbm, ⟨32, _⟩ => ⟨S_, .i1⟩
  | .hbm, ⟨33, _⟩ => ⟨S256, .i1⟩
  | .hbm, ⟨34, _⟩ => ⟨S256, .i1⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S_, .i32⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S256, .i32⟩
  | .hbm, ⟨51, _⟩ => ⟨S256, .i32⟩
  | .hbm, ⟨52, _⟩ => ⟨S_, .i32⟩
  | .hbm, ⟨53, _⟩ => ⟨S256, .i32⟩
  | .hbm, ⟨54, _⟩ => ⟨S256, .i1⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S256, .i32⟩
  | .hbm, ⟨61, _⟩ => ⟨S256x1, .i32⟩
  | .hbm, ⟨62, _⟩ => ⟨S256x256, .i32⟩
  | .hbm, ⟨63, _⟩ => ⟨S256x256, .i32⟩
  | .hbm, ⟨64, _⟩ => ⟨S256x256, .i1⟩
  | .hbm, ⟨65, _⟩ => ⟨S256x256, .bf16⟩
  | .hbm, ⟨66, _⟩ => ⟨S256x256, .i1⟩
  | .hbm, ⟨67, _⟩ => ⟨S256x256, .bf16⟩
  | .hbm, ⟨68, _⟩ => ⟨S4096x1024, .bf16⟩
  | .hbm, ⟨69, _⟩ => ⟨S4096x5632, .f32⟩
  | .hbm, ⟨70, _⟩ => ⟨S4096x5632, .f32⟩
  | .hbm, ⟨71, _⟩ => ⟨S4096x1024, .f32⟩
  | .hbm, ⟨72, _⟩ => ⟨S4096x1024, .bf16⟩
  | .hbm, ⟨73, _⟩ => ⟨S8x128, .f32⟩
  | .hbm, ⟨74, _⟩ => ⟨S16x32x8x1024, .bf16⟩
  | .hbm, ⟨75, _⟩ => ⟨S16x8x32x1024, .bf16⟩
  | .hbm, ⟨76, _⟩ => ⟨S4096x1024, .bf16⟩
  | .hbm, ⟨77, _⟩ => ⟨S16x32x8x5632, .f32⟩
  | .hbm, ⟨78, _⟩ => ⟨S16x8x32x5632, .f32⟩
  | .hbm, ⟨79, _⟩ => ⟨S4096x5632, .f32⟩
  | .hbm, ⟨80, _⟩ => ⟨S16x32x8x5632, .f32⟩
  | .hbm, ⟨81, _⟩ => ⟨S16x8x32x5632, .f32⟩
  | .hbm, ⟨82, _⟩ => ⟨S4096x5632, .f32⟩
  | .hbm, ⟨83, _⟩ => ⟨S16x32x8x1024, .bf16⟩
  | .hbm, ⟨84, _⟩ => ⟨S16x8x32x1024, .bf16⟩
  | .hbm, ⟨85, _⟩ => ⟨S4096x1024, .bf16⟩
  | .hbm, ⟨86, _⟩ => ⟨S1x1, .f32⟩
  | .hbm, ⟨87, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x256, .bf16⟩
  | .local _ .vmem, ⟨10, _⟩ => ⟨S256x256, .bf16⟩
  | .local _ .vmem, ⟨11, _⟩ => ⟨S256x1024, .bf16⟩
  | .local _ .vmem, ⟨12, _⟩ => ⟨S256x1024, .bf16⟩
  | .local _ .vmem, ⟨13, _⟩ => ⟨S256x5632, .f32⟩
  | .local _ .vmem, ⟨14, _⟩ => ⟨S256x5632, .f32⟩
  | .local _ .vmem, ⟨15, _⟩ => ⟨S256x5632, .f32⟩
  | .local _ .vmem, ⟨16, _⟩ => ⟨S256x5632, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S8x128, .f32⟩
  | .local _ .vmem, ⟨22, _⟩ => ⟨S16x5632, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v10 : Ref sig .tc := ⟨.hbm, 38, rfl⟩
abbrev main_c_0 : Ref sig .tc := ⟨.hbm, 39, rfl⟩
abbrev main_v11 : Ref sig .tc := ⟨.hbm, 40, rfl⟩
abbrev main_v12 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22_0 : Ref sig .tc := ⟨.hbm, 68, rfl⟩
abbrev main_v22_1 : Ref sig .tc := ⟨.hbm, 69, rfl⟩
abbrev main_v22_2 : Ref sig .tc := ⟨.hbm, 70, rfl⟩
abbrev main_v22_3 : Ref sig .tc := ⟨.hbm, 71, rfl⟩
abbrev main_v22_4 : Ref sig .tc := ⟨.hbm, 72, rfl⟩
abbrev main_v22_5 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference6Ideal.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x5632 : Shape := ⟨2, ![1024, 5632]⟩
abbrev S1x4096x5632 : Shape := ⟨3, ![1, 4096, 5632]⟩
abbrev S3x5632 : Shape := ⟨2, ![3, 5632]⟩
abbrev S5632 : Shape := ⟨1, ![5632]⟩
abbrev S1x2x5632 : Shape := ⟨3, ![1, 2, 5632]⟩
abbrev S1x4098x5632 : Shape := ⟨3, ![1, 4098, 5632]⟩
abbrev S1x1x5632 : Shape := ⟨3, ![1, 1, 5632]⟩
abbrev S1x4096x2816 : Shape := ⟨3, ![1, 4096, 2816]⟩
abbrev S2816x1024 : Shape := ⟨2, ![2816, 1024]⟩
abbrev S4096x1024 : Shape := ⟨2, ![4096, 1024]⟩
abbrev S4096x5632 : Shape := ⟨2, ![4096, 5632]⟩

abbrev nBuf : Space → Nat
  | .hbm => 99
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x4096x1024, .f32⟩
  | .hbm, ⟨7, _⟩ => ⟨S1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1024x5632, .f32⟩
  | .hbm, ⟨25, _⟩ => ⟨S1x4096x5632, .f32⟩
  | .hbm, ⟨26, _⟩ => ⟨S3x5632, .f32⟩
  | .hbm, ⟨27, _⟩ => ⟨S5632, .f32⟩
  | .hbm, ⟨28, _⟩ => ⟨S_, .f32⟩
  | .hbm, ⟨29, _⟩ => ⟨S1x2x5632, .f32⟩
  | .hbm, ⟨30, _⟩ => ⟨S1x4098x5632, .f32⟩
  | .hbm, ⟨31, _⟩ => ⟨S1x5632, .f32⟩
  | .hbm, ⟨32, _⟩ => ⟨S5632, .f32⟩
  | .hbm, ⟨33, _⟩ => ⟨S1x4096x5632, .f32⟩
  | .hbm, ⟨34, _⟩ => ⟨S1x1x5632, .f32⟩
  | .hbm, ⟨35, _⟩ => ⟨S1x4096x5632, .f32⟩
  | .hbm, ⟨36, _⟩ => ⟨S1x4096x5632, .f32⟩
  | .hbm, ⟨37, _⟩ => ⟨S1x1x5632, .f32⟩
  | .hbm, ⟨38, _⟩ => ⟨S1x4096x5632, .f32⟩
  | .hbm, ⟨39, _⟩ => ⟨S1x4096x5632, .f32⟩
  | .hbm, ⟨40, _⟩ => ⟨S1x5632, .f32⟩
  | .hbm, ⟨41, _⟩ => ⟨S5632, .f32⟩
  | .hbm, ⟨42, _⟩ => ⟨S1x4096x5632, .f32⟩
  | .hbm, ⟨43, _⟩ => ⟨S1x1x5632, .f32⟩
  | .hbm, ⟨44, _⟩ => ⟨S1x4096x5632, .f32⟩
  | .hbm, ⟨45, _⟩ => ⟨S1x4096x5632, .f32⟩
  | .hbm, ⟨46, _⟩ => ⟨S1x4096x5632, .f32⟩
  | .hbm, ⟨47, _⟩ => ⟨S1x5632, .f32⟩
  | .hbm, ⟨48, _⟩ => ⟨S5632, .f32⟩
  | .hbm, ⟨49, _⟩ => ⟨S1x4096x5632, .f32⟩
  | .hbm, ⟨50, _⟩ => ⟨S1x1x5632, .f32⟩
  | .hbm, ⟨51, _⟩ => ⟨S1x4096x5632, .f32⟩
  | .hbm, ⟨52, _⟩ => ⟨S1x4096x5632, .f32⟩
  | .hbm, ⟨53, _⟩ => ⟨S1x4096x5632, .f32⟩
  | .hbm, ⟨54, _⟩ => ⟨S1x4096x2816, .f32⟩
  | .hbm, ⟨55, _⟩ => ⟨S1x4096x2816, .f32⟩
  | .hbm, ⟨56, _⟩ => ⟨S1x4096x2816, .f32⟩
  | .hbm, ⟨57, _⟩ => ⟨S1x4096x2816, .f32⟩
  | .hbm, ⟨58, _⟩ => ⟨S_, .f32⟩
  | .hbm, ⟨59, _⟩ => ⟨S1x4096x2816, .f32⟩
  | .hbm, ⟨60, _⟩ => ⟨S1x4096x2816, .f32⟩
  | .hbm, ⟨61, _⟩ => ⟨S_, .f32⟩
  | .hbm, ⟨62, _⟩ => ⟨S1x4096x2816, .f32⟩
  | .hbm, ⟨63, _⟩ => ⟨S1x4096x2816, .f32⟩
  | .hbm, ⟨64, _⟩ => ⟨S1x4096x2816, .f32⟩
  | .hbm, ⟨65, _⟩ => ⟨S1x4096x2816, .f32⟩
  | .hbm, ⟨66, _⟩ => ⟨S2816x1024, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S_, .f32⟩
  | .hbm, ⟨72, _⟩ => ⟨S1x4096x1024, .f32⟩
  | .hbm, ⟨73, _⟩ => ⟨S1x4096x1024, .f32⟩
  | .hbm, ⟨74, _⟩ => ⟨S_, .f32⟩
  | .hbm, ⟨75, _⟩ => ⟨S1x4096, .f32⟩
  | .hbm, ⟨76, _⟩ => ⟨S_, .f32⟩
  | .hbm, ⟨77, _⟩ => ⟨S1x4096, .f32⟩
  | .hbm, ⟨78, _⟩ => ⟨S1x4096, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S1x4096, .f32⟩
  | .hbm, ⟨87, _⟩ => ⟨S_, .f32⟩
  | .hbm, ⟨88, _⟩ => ⟨S1x4096, .f32⟩
  | .hbm, ⟨89, _⟩ => ⟨S1x4096, .f32⟩
  | .hbm, ⟨90, _⟩ => ⟨S1x4096x1024, .f32⟩
  | .hbm, ⟨91, _⟩ => ⟨S1x4096x1024, .f32⟩
  | .hbm, ⟨92, _⟩ => ⟨S4096x1024, .f32⟩
  | .hbm, ⟨93, _⟩ => ⟨S4096x1024, .bf16⟩
  | .hbm, ⟨94, _⟩ => ⟨S4096x5632, .f32⟩
  | .hbm, ⟨95, _⟩ => ⟨S4096x5632, .f32⟩
  | .hbm, ⟨96, _⟩ => ⟨S4096x1024, .f32⟩
  | .hbm, ⟨97, _⟩ => ⟨S4096x1024, .f32⟩
  | .hbm, ⟨98, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_3 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_cst_5 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_cst_8 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== Kernel7.lean ====
abbrev S1x4096x1024 : Shape := ⟨3, ![1, 4096, 1024]⟩
abbrev S1x4096x2048 : Shape := ⟨3, ![1, 4096, 2048]⟩
abbrev S1x1024x1024 : Shape := ⟨3, ![1, 1024, 1024]⟩
abbrev S4096x1024 : Shape := ⟨2, ![4096, 1024]⟩
abbrev S4096x2048 : Shape := ⟨2, ![4096, 2048]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 15
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2048, .f32⟩
  | .hbm, ⟨2, _⟩ => ⟨S1x4096x1024, .f32⟩
  | .hbm, ⟨3, _⟩ => ⟨S1x4096x1024, .f32⟩
  | .hbm, ⟨4, _⟩ => ⟨S1x1024x1024, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S1024x1024, .f32⟩
  | .hbm, ⟨12, _⟩ => ⟨S1024x1024, .bf16⟩
  | .hbm, ⟨13, _⟩ => ⟨S4096x1024, .f32⟩
  | .hbm, ⟨14, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S1x4096x1024 : Shape := ⟨3, ![1, 4096, 1024]⟩
abbrev S1x4096x2048 : Shape := ⟨3, ![1, 4096, 2048]⟩
abbrev S1x1024x1024 : Shape := ⟨3, ![1, 1024, 1024]⟩
abbrev S1024x1024 : Shape := ⟨2, ![1024, 1024]⟩
abbrev S4096x1024 : Shape := ⟨2, ![4096, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2048, .f32⟩
  | .hbm, ⟨2, _⟩ => ⟨S1x4096x1024, .f32⟩
  | .hbm, ⟨3, _⟩ => ⟨S1x4096x1024, .f32⟩
  | .hbm, ⟨4, _⟩ => ⟨S1x1024x1024, .f32⟩
  | .hbm, ⟨5, _⟩ => ⟨S1x4096x1024, .f32⟩
  | .hbm, ⟨6, _⟩ => ⟨S1x4096x1024, .f32⟩
  | .hbm, ⟨7, _⟩ => ⟨S1x4096x1024, .f32⟩
  | .hbm, ⟨8, _⟩ => ⟨S1x4096x1024, .f32⟩
  | .hbm, ⟨9, _⟩ => ⟨S1x4096x1024, .f32⟩
  | .hbm, ⟨10, _⟩ => ⟨S1024x1024, .f32⟩
  | .hbm, ⟨11, _⟩ => ⟨S1x4096x1024, .f32⟩
  | .hbm, ⟨12, _⟩ => ⟨S1x4096x1024, .f32⟩
  | .hbm, ⟨13, _⟩ => ⟨S4096x1024, .f32⟩
  | .hbm, ⟨14, _⟩ => ⟨S4096x1024, .f32⟩
  | .hbm, ⟨15, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel8.lean ====
abbrev S1x4096x1024 : Shape := ⟨3, ![1, 4096, 1024]⟩
abbrev S1x1024 : Shape := ⟨2, ![1, 1024]⟩
abbrev S1x1024x4352 : Shape := ⟨3, ![1, 1024, 4352]⟩
abbrev S1x2048 : Shape := ⟨2, ![1, 2048]⟩
abbrev S4096x1024 : Shape := ⟨2, ![4096, 1024]⟩
abbrev S1024x4352 : Shape := ⟨2, ![1024, 4352]⟩
abbrev S4352x1024 : Shape := ⟨2, ![4352, 1024]⟩
abbrev S4096x256 : Shape := ⟨2, ![4096, 256]⟩
abbrev S4096x2048 : Shape := ⟨2, ![4096, 2048]⟩
abbrev S512x1024 : Shape := ⟨2, ![512, 1024]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩
abbrev S2048x1024 : Shape := ⟨2, ![2048, 1024]⟩

abbrev nBuf : Space → Nat
  | .hbm => 13
  | .vmem => 15
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4352, .f32⟩
  | .hbm, ⟨3, _⟩ => ⟨S1x2048, .f32⟩
  | .hbm, ⟨4, _⟩ => ⟨S4096x1024, .f32⟩
  | .hbm, ⟨5, _⟩ => ⟨S1024x4352, .f32⟩
  | .hbm, ⟨6, _⟩ => ⟨S4352x1024, .f32⟩
  | .hbm, ⟨7, _⟩ => ⟨S4352x1024, .bf16⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x256, .f32⟩
  | .hbm, ⟨12, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S1x2048, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x256, .f32⟩
  | .local _ .vmem, ⟨12, _⟩ => ⟨S512x256, .f32⟩
  | .local _ .vmem, ⟨13, _⟩ => ⟨S512x2048, .f32⟩
  | .local _ .vmem, ⟨14, _⟩ => ⟨S512x2048, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S1x4096x1024 : Shape := ⟨3, ![1, 4096, 1024]⟩
abbrev S1x1024 : Shape := ⟨2, ![1, 1024]⟩
abbrev S1x1024x4352 : Shape := ⟨3, ![1, 1024, 4352]⟩
abbrev S1x2048 : Shape := ⟨2, ![1, 2048]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4352 : Shape := ⟨2, ![1024, 4352]⟩
abbrev S1x4096x4352 : Shape := ⟨3, ![1, 4096, 4352]⟩
abbrev S1x4096x2048 : Shape := ⟨3, ![1, 4096, 2048]⟩
abbrev S2048 : Shape := ⟨1, ![2048]⟩
abbrev S1x1x2048 : Shape := ⟨3, ![1, 1, 2048]⟩
abbrev S4096x1024 : Shape := ⟨2, ![4096, 1024]⟩
abbrev S1x4096x256 : Shape := ⟨3, ![1, 4096, 256]⟩
abbrev S4096x256 : Shape := ⟨2, ![4096, 256]⟩
abbrev S4096x2048 : Shape := ⟨2, ![4096, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4352, .f32⟩
  | .hbm, ⟨3, _⟩ => ⟨S1x2048, .f32⟩
  | .hbm, ⟨4, _⟩ => ⟨S1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1024, .f32⟩
  | .hbm, ⟨17, _⟩ => ⟨S1x4096x1024, .f32⟩
  | .hbm, ⟨18, _⟩ => ⟨S1x1x1024, .f32⟩
  | .hbm, ⟨19, _⟩ => ⟨S1x4096x1024, .f32⟩
  | .hbm, ⟨20, _⟩ => ⟨S1x4096x1024, .f32⟩
  | .hbm, ⟨21, _⟩ => ⟨S1024x4352, .f32⟩
  | .hbm, ⟨22, _⟩ => ⟨S1x4096x4352, .f32⟩
  | .hbm, ⟨23, _⟩ => ⟨S1x4096x2048, .f32⟩
  | .hbm, ⟨24, _⟩ => ⟨S2048, .f32⟩
  | .hbm, ⟨25, _⟩ => ⟨S1x1x2048, .f32⟩
  | .hbm, ⟨26, _⟩ => ⟨S1x4096x2048, .f32⟩
  | .hbm, ⟨27, _⟩ => ⟨S1x4096x2048, .f32⟩
  | .hbm, ⟨28, _⟩ => ⟨S1x4096x2048, .f32⟩
  | .hbm, ⟨29, _⟩ => ⟨S1x4096x2048, .f32⟩
  | .hbm, ⟨30, _⟩ => ⟨S_, .f32⟩
  | .hbm, ⟨31, _⟩ => ⟨S1x4096x2048, .f32⟩
  | .hbm, ⟨32, _⟩ => ⟨S1x4096x2048, .f32⟩
  | .hbm, ⟨33, _⟩ => ⟨S_, .f32⟩
  | .hbm, ⟨34, _⟩ => ⟨S1x4096x2048, .f32⟩
  | .hbm, ⟨35, _⟩ => ⟨S1x4096x2048, .f32⟩
  | .hbm, ⟨36, _⟩ => ⟨S4096x1024, .f32⟩
  | .hbm, ⟨37, _⟩ => ⟨S4096x1024, .bf16⟩
  | .hbm, ⟨38, _⟩ => ⟨S1x4096x1024, .f32⟩
  | .hbm, ⟨39, _⟩ => ⟨S4096x1024, .f32⟩
  | .hbm, ⟨40, _⟩ => ⟨S1x4096x1024, .f32⟩
  | .hbm, ⟨41, _⟩ => ⟨S4096x1024, .f32⟩
  | .hbm, ⟨42, _⟩ => ⟨S1x4096x256, .f32⟩
  | .hbm, ⟨43, _⟩ => ⟨S4096x256, .f32⟩
  | .hbm, ⟨44, _⟩ => ⟨S4096x2048, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel9.lean ====
abbrev S1x4096x1024 : Shape := ⟨3, ![1, 4096, 1024]⟩
abbrev S1x4x256x256 : Shape := ⟨4, ![1, 4, 256, 256]⟩
abbrev S1x1024 : Shape := ⟨2, ![1, 1024]⟩
abbrev S4096x1024 : Shape := ⟨2, ![4096, 1024]⟩
abbrev S4x256x256 : Shape := ⟨3, ![4, 256, 256]⟩
abbrev S512x1024 : Shape := ⟨2, ![512, 1024]⟩
abbrev S32x1024 : Shape := ⟨2, ![32, 1024]⟩
abbrev S544x1024 : Shape := ⟨2, ![544, 1024]⟩
abbrev S544x256 : Shape := ⟨2, ![544, 256]⟩
abbrev S512x1 : Shape := ⟨2, ![512, 1]⟩
abbrev S512x256 : Shape := ⟨2, ![512, 256]⟩
abbrev S536x256 : Shape := ⟨2, ![536, 256]⟩
abbrev S528x256 : Shape := ⟨2, ![528, 256]⟩
abbrev S520x256 : Shape := ⟨2, ![520, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 7
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x4x256x256, .f32⟩
  | .hbm, ⟨2, _⟩ => ⟨S1x1024, .f32⟩
  | .hbm, ⟨3, _⟩ => ⟨S4096x1024, .f32⟩
  | .hbm, ⟨4, _⟩ => ⟨S4x256x256, .f32⟩
  | .hbm, ⟨5, _⟩ => ⟨S4x256x256, .bf16⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S4x256x256, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S544x1024, .f32⟩
  | .local _ .vmem, ⟨9, _⟩ => ⟨S544x256, .f32⟩
  | .local _ .vmem, ⟨10, _⟩ => ⟨S544x256, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S1x4096x1024 : Shape := ⟨3, ![1, 4096, 1024]⟩
abbrev S1x4x256x256 : Shape := ⟨4, ![1, 4, 256, 256]⟩
abbrev S1x1024 : Shape := ⟨2, ![1, 1024]⟩
abbrev S1x4096x4x256 : Shape := ⟨4, ![1, 4096, 4, 256]⟩
abbrev S_ : Shape := ⟨0, ![]⟩
abbrev S4096 : Shape := ⟨1, ![4096]⟩
abbrev S1x4096x1x256 : Shape := ⟨4, ![1, 4096, 1, 256]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4096x1 : Shape := ⟨3, ![1, 4096, 1]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S4x256x256 : Shape := ⟨3, ![4, 256, 256]⟩
abbrev S4x256x1x4096 : Shape := ⟨4, ![4, 256, 1, 4096]⟩
abbrev S1024 : Shape := ⟨1, ![1024]⟩
abbrev S1x1x1024 : Shape := ⟨3, ![1, 1, 1024]⟩
abbrev S4096x1024 : Shape := ⟨2, ![4096, 1024]⟩

abbrev nBuf : Space → Nat
  | .hbm => 88
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4x256x256, .f32⟩
  | .hbm, ⟨2, _⟩ => ⟨S1x1024, .f32⟩
  | .hbm, ⟨3, _⟩ => ⟨S1x4096x4x256, .f32⟩
  | .hbm, ⟨4, _⟩ => ⟨S_, .f32⟩
  | .hbm, ⟨5, _⟩ => ⟨S_, .f32⟩
  | .hbm, ⟨6, _⟩ => ⟨S1x4096x4x256, .f32⟩
  | .hbm, ⟨7, _⟩ => ⟨S4096, .f32⟩
  | .hbm, ⟨8, _⟩ => ⟨S1x4096x1x256, .f32⟩
  | .hbm, ⟨9, _⟩ => ⟨S1x4096x256, .f32⟩
  | .hbm, ⟨10, _⟩ => ⟨S_, .f32⟩
  | .hbm, ⟨11, _⟩ => ⟨S1x2x256, .f32⟩
  | .hbm, ⟨12, _⟩ => ⟨S1x4094x256, .f32⟩
  | .hbm, ⟨13, _⟩ => ⟨S1x4096x256, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S1x4096x1, .f32⟩
  | .hbm, ⟨21, _⟩ => ⟨S1x4096x256, .f32⟩
  | .hbm, ⟨22, _⟩ => ⟨S1x4096x256, .f32⟩
  | .hbm, ⟨23, _⟩ => ⟨S1x4096x256, .f32⟩
  | .hbm, ⟨24, _⟩ => ⟨S1x4096x1x256, .f32⟩
  | .hbm, ⟨25, _⟩ => ⟨S1x4096x256, .f32⟩
  | .hbm, ⟨26, _⟩ => ⟨S_, .f32⟩
  | .hbm, ⟨27, _⟩ => ⟨S1x4x256, .f32⟩
  | .hbm, ⟨28, _⟩ => ⟨S1x4092x256, .f32⟩
  | .hbm, ⟨29, _⟩ => ⟨S1x4096x256, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S1x4096x1, .f32⟩
  | .hbm, ⟨37, _⟩ => ⟨S1x4096x256, .f32⟩
  | .hbm, ⟨38, _⟩ => ⟨S1x4096x256, .f32⟩
  | .hbm, ⟨39, _⟩ => ⟨S1x4096x256, .f32⟩
  | .hbm, ⟨40, _⟩ => ⟨S1x4096x1x256, .f32⟩
  | .hbm, ⟨41, _⟩ => ⟨S1x4096x256, .f32⟩
  | .hbm, ⟨42, _⟩ => ⟨S_, .f32⟩
  | .hbm, ⟨43, _⟩ => ⟨S1x8x256, .f32⟩
  | .hbm, ⟨44, _⟩ => ⟨S1x4088x256, .f32⟩
  | .hbm, ⟨45, _⟩ => ⟨S1x4096x256, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S1x4096x1, .f32⟩
  | .hbm, ⟨53, _⟩ => ⟨S1x4096x256, .f32⟩
  | .hbm, ⟨54, _⟩ => ⟨S1x4096x256, .f32⟩
  | .hbm, ⟨55, _⟩ => ⟨S1x4096x256, .f32⟩
  | .hbm, ⟨56, _⟩ => ⟨S1x4096x1x256, .f32⟩
  | .hbm, ⟨57, _⟩ => ⟨S1x4096x256, .f32⟩
  | .hbm, ⟨58, _⟩ => ⟨S_, .f32⟩
  | .hbm, ⟨59, _⟩ => ⟨S1x16x256, .f32⟩
  | .hbm, ⟨60, _⟩ => ⟨S1x4080x256, .f32⟩
  | .hbm, ⟨61, _⟩ => ⟨S1x4096x256, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S1x4096x1, .f32⟩
  | .hbm, ⟨69, _⟩ => ⟨S1x4096x256, .f32⟩
  | .hbm, ⟨70, _⟩ => ⟨S1x4096x256, .f32⟩
  | .hbm, ⟨71, _⟩ => ⟨S1x4096x256, .f32⟩
  | .hbm, ⟨72, _⟩ => ⟨S1x4096x1x256, .f32⟩
  | .hbm, ⟨73, _⟩ => ⟨S1x4096x1x256, .f32⟩
  | .hbm, ⟨74, _⟩ => ⟨S1x4096x1x256, .f32⟩
  | .hbm, ⟨75, _⟩ => ⟨S1x4096x1x256, .f32⟩
  | .hbm, ⟨76, _⟩ => ⟨S1x4096x4x256, .f32⟩
  | .hbm, ⟨77, _⟩ => ⟨S1x4096x4x256, .f32⟩
  | .hbm, ⟨78, _⟩ => ⟨S4x256x256, .f32⟩
  | .hbm, ⟨79, _⟩ => ⟨S4x256x1x4096, .f32⟩
  | .hbm, ⟨80, _⟩ => ⟨S1x4096x4x256, .f32⟩
  | .hbm, ⟨81, _⟩ => ⟨S1x4096x1024, .f32⟩
  | .hbm, ⟨82, _⟩ => ⟨S1024, .f32⟩
  | .hbm, ⟨83, _⟩ => ⟨S1x1x1024, .f32⟩
  | .hbm, ⟨84, _⟩ => ⟨S1x4096x1024, .f32⟩
  | .hbm, ⟨85, _⟩ => ⟨S1x4096x1024, .f32⟩
  | .hbm, ⟨86, _⟩ => ⟨S4096x1024, .f32⟩
  | .hbm, ⟨87, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel10.lean ====
abbrev S1x4096x1024 : Shape := ⟨3, ![1, 4096, 1024]⟩
abbrev S1x4096x256 : Shape := ⟨3, ![1, 4096, 256]⟩
abbrev S1x4096 : Shape := ⟨2, ![1, 4096]⟩
abbrev S1x64 : Shape := ⟨2, ![1, 64]⟩
abbrev S1x16 : Shape := ⟨2, ![1, 16]⟩
abbrev S8 : Shape := ⟨1, ![8]⟩
abbrev S_ : Shape := ⟨0, ![]⟩
abbrev S128 : Shape := ⟨1, ![128]⟩
abbrev S1x8 : Shape := ⟨2, ![1, 8]⟩
abbrev S16x8 : Shape := ⟨2, ![16, 8]⟩
abbrev S1x128 : Shape := ⟨2, ![1, 128]⟩
abbrev S4096x1 : Shape := ⟨2, ![4096, 1]⟩
abbrev S4096x128 : Shape := ⟨2, ![4096, 128]⟩
abbrev S128x1 : Shape := ⟨2, ![128, 1]⟩
abbrev S128x128 : Shape := ⟨2, ![128, 128]⟩
abbrev S1x1x1x64 : Shape := ⟨4, ![1, 1, 1, 64]⟩
abbrev S1x1x16x64 : Shape := ⟨4, ![1, 1, 16, 64]⟩
abbrev S1x1024 : Shape := ⟨2, ![1, 1024]⟩
abbrev S1x1x2x64 : Shape := ⟨4, ![1, 1, 2, 64]⟩
abbrev S2x4x2 : Shape := ⟨3, ![2, 4, 2]⟩
abbrev S2x2x4 : Shape := ⟨3, ![2, 2, 4]⟩
abbrev S2x2x4x128 : Shape := ⟨4, ![2, 2, 4, 128]⟩
abbrev S2x2x512 : Shape := ⟨3, ![2, 2, 512]⟩
abbrev S2x2x1x512 : Shape := ⟨4, ![2, 2, 1, 512]⟩
abbrev S4096x1024 : Shape := ⟨2, ![4096, 1024]⟩
abbrev S4096x256 : Shape := ⟨2, ![4096, 256]⟩
abbrev S32x4x128x512 : Shape := ⟨4, ![32, 4, 128, 512]⟩
abbrev S32x4x1x512 : Shape := ⟨4, ![32, 4, 1, 512]⟩
abbrev S256x1024 : Shape := ⟨2, ![256, 1024]⟩
abbrev S256x256 : Shape := ⟨2, ![256, 256]⟩
abbrev S128x256 : Shape := ⟨2, ![128, 256]⟩
abbrev S256x128 : Shape := ⟨2, ![256, 128]⟩
abbrev S2x4x128x512 : Shape := ⟨4, ![2, 4, 128, 512]⟩
abbrev S2x4x1x512 : Shape := ⟨4, ![2, 4, 1, 512]⟩
abbrev S384x128 : Shape := ⟨2, ![384, 128]⟩
abbrev S128x1024 : Shape := ⟨2, ![128, 1024]⟩
abbrev S512x128 : Shape := ⟨2, ![512, 128]⟩
abbrev S128x512 : Shape := ⟨2, ![128, 512]⟩
abbrev S256x512 : Shape := ⟨2, ![256, 512]⟩
abbrev S1x1x1x512 : Shape := ⟨4, ![1, 1, 1, 512]⟩
abbrev S1x512 : Shape := ⟨2, ![1, 512]⟩
abbrev S1x1x128x512 : Shape := ⟨4, ![1, 1, 128, 512]⟩

abbrev nBuf : Space → Nat
  | .hbm => 143
  | .vmem => 28
  | .smem => 0
  | _ => 0

abbrev hbmTy0_0 (i : Nat) : BufTy := match i % 128 with
  | 0 => ⟨S1x4096x1024, .f32⟩
  | 1 => ⟨S1x4096x256, .f32⟩
  | 2 => ⟨S1x4096, .i32⟩
  | 3 => ⟨S1x64, .f32⟩
  | 4 => ⟨S1x64, .f32⟩
  | 5 => ⟨S1x16, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S128, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S128, .i32⟩
  | 28 => ⟨S128, .i32⟩
  | 29 => ⟨S_, .i32⟩
  | 30 => ⟨S128, .i32⟩
  | 31 => ⟨S128, .i1⟩
  | 32 => ⟨S_, .i32⟩
  | 33 => ⟨S128, .i32⟩
  | 34 => ⟨S128, .i1⟩
  | 35 => ⟨S_, .i32⟩
  | 36 => ⟨S_, .i1⟩
  | 37 => ⟨S128, .i1⟩
  | 38 => ⟨S128, .i1⟩
  | 39 => ⟨S128, .i1⟩
  | 40 => ⟨S128, .i32⟩
  | 41 => ⟨S128, .i32⟩
  | 42 => ⟨S128, .i32⟩
  | 43 => ⟨S_, .i32⟩
  | 44 => ⟨S128, .i32⟩
  | 45 => ⟨S128, .i1⟩
  | 46 => ⟨S1x8, .f32⟩
  | 47 => ⟨S16x8, .f32⟩
  | 48 => ⟨S128, .f32⟩
  | 49 => ⟨S_, .f32⟩
  | 50 => ⟨S_, .f32⟩
  | 51 => ⟨S128, .f32⟩
  | 52 => ⟨S128, .f32⟩
  | 53 => ⟨S1x128, .f32⟩
  | 54 => ⟨S4096x1, .i32⟩
  | 55 => ⟨S4096x1, .f32⟩
  | 56 => ⟨S4096x128, .f32⟩
  | 57 => ⟨S4096x128, .f32⟩
  | 58 => ⟨S4096x128, .f32⟩
  | 59 => ⟨S4096x128, .f32⟩
  | 60 => ⟨S4096x128, .f32⟩
  | 61 => ⟨S_, .i32⟩
  | 62 => ⟨S128, .i32⟩
  | 63 => ⟨S128, .i1⟩
  | 64 => ⟨S4096x128, .f32⟩
  | 65 => ⟨S_, .f32⟩
  | 66 => ⟨S_, .f32⟩
  | 67 => ⟨S4096x128, .i1⟩
  | 68 => ⟨S4096x128, .f32⟩
  | 69 => ⟨S4096x128, .f32⟩
  | 70 => ⟨S_, .i32⟩
  | 71 => ⟨S128, .i32⟩
  | 72 => ⟨S128, .i1⟩
  | 73 => ⟨S_, .i32⟩
  | 74 => ⟨S128, .i32⟩
  | 75 => ⟨S128, .i1⟩
  | 76 => ⟨S128, .i1⟩
  | 77 => ⟨S_, .f32⟩
  | 78 => ⟨S_, .f32⟩
  | 79 => ⟨S4096x128, .i1⟩
  | 80 => ⟨S4096x128, .f32⟩
  | 81 => ⟨S4096x128, .f32⟩
  | 82 => ⟨S128, .i32⟩
  | 83 => ⟨S128x1, .i32⟩
  | 84 => ⟨S_, .i32⟩
  | 85 => ⟨S_, .i32⟩
  | 86 => ⟨S128x1, .i32⟩
  | 87 => ⟨S128x1, .i32⟩
  | 88 => ⟨S128x1, .i32⟩
  | 89 => ⟨S_, .i32⟩
  | 90 => ⟨S128x1, .i32⟩
  | 91 => ⟨S128x1, .i1⟩
  | 92 => ⟨S128x1, .i32⟩
  | 93 => ⟨S128x1, .i32⟩
  | 94 => ⟨S_, .i32⟩
  | 95 => ⟨S128x1, .i32⟩
  | 96 => ⟨S128x1, .i1⟩
  | 97 => ⟨S128x1, .i1⟩
  | 98 => ⟨S_, .i32⟩
  | 99 => ⟨S128x1, .i32⟩
  | 100 => ⟨S128x1, .i32⟩
  | 101 => ⟨S128x1, .i32⟩
  | 102 => ⟨S128, .i32⟩
  | 103 => ⟨S1x128, .i32⟩
  | 104 => ⟨S_, .i32⟩
  | 105 => ⟨S_, .i32⟩
  | 106 => ⟨S1x128, .i32⟩
  | 107 => ⟨S1x128, .i32⟩
  | 108 => ⟨S1x128, .i32⟩
  | 109 => ⟨S_, .i32⟩
  | 110 => ⟨S1x128, .i32⟩
  | 111 => ⟨S1x128, .i1⟩
  | 112 => ⟨S1x128, .i32⟩
  | 113 => ⟨S1x128, .i32⟩
  | 114 => ⟨S_, .i32⟩
  | 115 => ⟨S1x128, .i32⟩
  | 116 => ⟨S1x128, .i1⟩
  | 117 => ⟨S1x128, .i1⟩
  | 118 => ⟨S_, .i32⟩
  | 119 => ⟨S1x128, .i32⟩
  | 120 => ⟨S1x128, .i32⟩
  | 121 => ⟨S1x128, .i32⟩
  | 122 => ⟨S128x128, .i32⟩
  | 123 => ⟨S128x128, .i32⟩
  | 124 => ⟨S128x128, .i1⟩
  | 125 => ⟨S128x128, .f32⟩
  | 126 => ⟨S128x128, .bf16⟩
  | 127 => ⟨S1x1x1x64, .f32⟩
  | _ => ⟨S1x4096x1024, .f32⟩

abbrev hbmTy0_1 (i : Nat) : BufTy := match i % 128 with
  | 0 => ⟨S1x1x16x64, .f32⟩
  | 1 => ⟨S1x1024, .f32⟩
  | 2 => ⟨S1x1x1x64, .f32⟩
  | 3 => ⟨S1x1x2x64, .f32⟩
  | 4 => ⟨S1x128, .f32⟩
  | 5 => ⟨S2x4x2, .f32⟩
  | 6 => ⟨S2x2x4, .f32⟩
  | 7 => ⟨S2x2x4x128, .f32⟩
  | 8 => ⟨S2x2x512, .f32⟩
  | 9 => ⟨S2x2x1x512, .f32⟩
  | 10 => ⟨S4096x1024, .f32⟩
  | 11 => ⟨S4096x256, .f32⟩
  | 12 => ⟨S4096x1024, .bf16⟩
  | 13 => ⟨S32x4x128x512, .bf16⟩
  | 14 => ⟨S32x4x1x512, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S128x256, .f32⟩
  | .local _ .vmem, ⟨5, _⟩ => ⟨S128x256, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x1024, .f32⟩
  | .local _ .vmem, ⟨19, _⟩ => ⟨S1x128, .f32⟩
  | .local _ .vmem, ⟨20, _⟩ => ⟨S2x2x1x512, .f32⟩
  | .local _ .vmem, ⟨21, _⟩ => ⟨S128x128, .bf16⟩
  | .local _ .vmem, ⟨22, _⟩ => ⟨S256x1024, .bf16⟩
  | .local _ .vmem, ⟨23, _⟩ => ⟨S256x1024, .bf16⟩
  | .local _ .vmem, ⟨24, _⟩ => ⟨S2x4x128x512, .bf16⟩
  | .local _ .vmem, ⟨25, _⟩ => ⟨S2x4x128x512, .bf16⟩
  | .local _ .vmem, ⟨26, _⟩ => ⟨S2x4x1x512, .f32⟩
  | .local _ .vmem, ⟨27, _⟩ => ⟨S2x4x1x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v11 : Ref sig .tc := ⟨.hbm, 42, rfl⟩
abbrev main_c_3 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_5 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_6 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v29 : Ref sig .tc := ⟨.hbm, 69, rfl⟩
abbrev main_c_7 : Ref sig .tc := ⟨.hbm, 70, rfl⟩
abbrev main_v30 : Ref sig .tc := ⟨.hbm, 71, rfl⟩
abbrev main_v31 : Ref sig .tc := ⟨.hbm, 72, rfl⟩
abbrev main_c_8 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_9 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_c_10 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_v5 : Ref sig .tc := ⟨.hbm, 90, rfl⟩
abbrev main_call4_v6 : Ref sig .tc := ⟨.hbm, 91, rfl⟩
abbrev main_call4_v7 : Ref sig .tc := ⟨.hbm, 92, rfl⟩
abbrev main_call4_v8 : Ref sig .tc := ⟨.hbm, 93, rfl⟩
abbrev main_call4_c : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_c_0 : Ref sig .tc := ⟨.hbm, 98, rfl⟩
abbrev main_call4_v12 : Ref sig .tc := ⟨.hbm, 99, rfl⟩
abbrev main_call4_v13 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_c_11 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_v6 : Ref sig .tc := ⟨.hbm, 111, rfl⟩
abbrev main_call5_v7 : Ref sig .tc := ⟨.hbm, 112, rfl⟩
abbrev main_call5_v8 : Ref sig .tc := ⟨.hbm, 113, rfl⟩
abbrev main_call5_c : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_0 : Ref sig .tc := ⟨.hbm, 118, rfl⟩
abbrev main_call5_v12 : Ref sig .tc := ⟨.hbm, 119, rfl⟩
abbrev main_call5_v13 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60_0 : Ref sig .tc := ⟨.hbm, 140, rfl⟩
abbrev main_v60_1 : Ref sig .tc := ⟨.hbm, 141, rfl⟩
abbrev main_v60_2 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x2x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x4x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x4x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel10Ideal.lean ====
variable {F : FTy → Type} [FloatOps F] [Named F]
def κ : String → Option EReal := fun
  | "mask" => some ⊥
  | _ => none
-- ==== Reference10Ideal.lean ====
abbrev S1x4096x1024 : Shape := ⟨3, ![1, 4096, 1024]⟩
abbrev S1x4096x256 : Shape := ⟨3, ![1, 4096, 256]⟩
abbrev S1x4096 : Shape := ⟨2, ![1, 4096]⟩
abbrev S1x64 : Shape := ⟨2, ![1, 64]⟩
abbrev S1x16 : Shape := ⟨2, ![1, 16]⟩
abbrev S1x4096x16x64 : Shape := ⟨4, ![1, 4096, 16, 64]⟩
abbrev S1x4096x128 : Shape := ⟨3, ![1, 4096, 128]⟩
abbrev S1x4096x2x64 : Shape := ⟨4, ![1, 4096, 2, 64]⟩
abbrev S64 : Shape := ⟨1, ![64]⟩
abbrev S_ : Shape := ⟨0, ![]⟩
abbrev S1x4096x16 : Shape := ⟨3, ![1, 4096, 16]⟩
abbrev S1x4096x16x1 : Shape := ⟨4, ![1, 4096, 16, 1]⟩
abbrev S1x1x1x64 : Shape := ⟨4, ![1, 1, 1, 64]⟩
abbrev S8 : Shape := ⟨1, ![8]⟩
abbrev S1x4096x1 : Shape := ⟨3, ![1, 4096, 1]⟩
abbrev S1x1x8 : Shape := ⟨3, ![1, 1, 8]⟩
abbrev S1x4096x8 : Shape := ⟨3, ![1, 4096, 8]⟩
abbrev S1x4096x1x8 : Shape := ⟨4, ![1, 4096, 1, 8]⟩
abbrev S1x4096x16x8 : Shape := ⟨4, ![1, 4096, 16, 8]⟩
abbrev S1x4096x16x48 : Shape := ⟨4, ![1, 4096, 16, 48]⟩
abbrev S1x4096x2 : Shape := ⟨3, ![1, 4096, 2]⟩
abbrev S1x4096x2x1 : Shape := ⟨4, ![1, 4096, 2, 1]⟩
abbrev S1x4096x2x8 : Shape := ⟨4, ![1, 4096, 2, 8]⟩
abbrev S1x4096x2x48 : Shape := ⟨4, ![1, 4096, 2, 48]⟩
abbrev S1x32x128x2x8x64 : Shape := ⟨6, ![1, 32, 128, 2, 8, 64]⟩
abbrev S1x32x128x2x64 : Shape := ⟨5, ![1, 32, 128, 2, 64]⟩
abbrev S1x1x128x2x64 : Shape := ⟨5, ![1, 1, 128, 2, 64]⟩
abbrev S1x31x128x2x64 : Shape := ⟨5, ![1, 31, 128, 2, 64]⟩
abbrev S1x32x256x2x64 : Shape := ⟨5, ![1, 32, 256, 2, 64]⟩
abbrev S1x2x32x256x128x8 : Shape := ⟨6, ![1, 2, 32, 256, 128, 8]⟩
abbrev S1x2x8x32x128x256 : Shape := ⟨6, ![1, 2, 8, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S16 : Shape := ⟨1, ![16]⟩
abbrev S1x2x8x1x1x1 : Shape := ⟨6, ![1, 2, 8, 1, 1, 1]⟩
abbrev S1x2x8x32x128 : Shape := ⟨5, ![1, 2, 8, 32, 128]⟩
abbrev S1x2x8x32x128x1 : Shape := ⟨6, ![1, 2, 8, 32, 128, 1]⟩
abbrev S1x32x2x64x8x128 : Shape := ⟨6, ![1, 32, 2, 64, 8, 128]⟩
abbrev S4096x1024 : Shape := ⟨2, ![4096, 1024]⟩

abbrev nBuf : Space → Nat
  | .hbm => 201
  | .vmem => 0
  | .smem => 0
  | _ => 0

abbrev hbmTy0_0 (i : Nat) : BufTy := match i % 128 with
  | 0 => ⟨S1x4096x1024, .f32⟩
  | 1 => ⟨S1x4096x256, .f32⟩
  | 2 => ⟨S1x4096, .i32⟩
  | 3 => ⟨S1x64, .f32⟩
  | 4 => ⟨S1x64, .f32⟩
  | 5 => ⟨S1x16, .f32⟩
  | 6 => ⟨S1x4096x16x64, .f32⟩
  | 7 => ⟨S1x4096x128, .f32⟩
  | 8 => ⟨S1x4096x2x64, .f32⟩
  | 9 => ⟨S1x4096x128, .f32⟩
  | 10 => ⟨S1x4096x2x64, .f32⟩
  | 11 => ⟨S64, .f32⟩
  | 12 => ⟨S1x4096x16x64, .f32⟩
  | 13 => ⟨S_, .f32⟩
  | 14 => ⟨S1x4096x16, .f32⟩
  | 15 => ⟨S1x4096x16x1, .f32⟩
  | 16 => ⟨S_, .f32⟩
  | 17 => ⟨S1x4096x16x1, .f32⟩
  | 18 => ⟨S1x4096x16x1, .f32⟩
  | 19 => ⟨S_, .f32⟩
  | 20 => ⟨S1x4096x16x1, .f32⟩
  | 21 => ⟨S1x4096x16x1, .f32⟩
  | 22 => ⟨S1x4096x16x1, .f32⟩
  | 23 => ⟨S1x4096x16x64, .f32⟩
  | 24 => ⟨S1x4096x16x64, .f32⟩
  | 25 => ⟨S1x1x1x64, .f32⟩
  | 26 => ⟨S1x4096x16x64, .f32⟩
  | 27 => ⟨S1x4096x16x64, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S1x4096, .f32⟩
  | 43 => ⟨S1x4096x1, .f32⟩
  | 44 => ⟨S1x1x8, .f32⟩
  | 45 => ⟨S1x4096x8, .f32⟩
  | 46 => ⟨S1x4096x8, .f32⟩
  | 47 => ⟨S1x4096x8, .f32⟩
  | 48 => ⟨S1x4096x8, .f32⟩
  | 49 => ⟨S1x4096x1x8, .f32⟩
  | 50 => ⟨S1x4096x8, .f32⟩
  | 51 => ⟨S1x4096x1x8, .f32⟩
  | 52 => ⟨S1x4096x16x8, .f32⟩
  | 53 => ⟨S1x4096x16x8, .f32⟩
  | 54 => ⟨S1x4096x16x48, .f32⟩
  | 55 => ⟨S1x4096x16x8, .f32⟩
  | 56 => ⟨S1x4096x16x8, .f32⟩
  | 57 => ⟨S1x4096x16x8, .f32⟩
  | 58 => ⟨S1x4096x16x8, .f32⟩
  | 59 => ⟨S1x4096x16x8, .f32⟩
  | 60 => ⟨S1x4096x16x8, .f32⟩
  | 61 => ⟨S1x4096x16x8, .f32⟩
  | 62 => ⟨S1x4096x16x8, .f32⟩
  | 63 => ⟨S1x4096x16x8, .f32⟩
  | 64 => ⟨S1x4096x16x8, .f32⟩
  | 65 => ⟨S1x4096x16x64, .f32⟩
  | 66 => ⟨S_, .f32⟩
  | 67 => ⟨S1x4096x16x64, .f32⟩
  | 68 => ⟨S1x4096x16x64, .f32⟩
  | 69 => ⟨S64, .f32⟩
  | 70 => ⟨S1x4096x2x64, .f32⟩
  | 71 => ⟨S_, .f32⟩
  | 72 => ⟨S1x4096x2, .f32⟩
  | 73 => ⟨S1x4096x2x1, .f32⟩
  | 74 => ⟨S_, .f32⟩
  | 75 => ⟨S1x4096x2x1, .f32⟩
  | 76 => ⟨S1x4096x2x1, .f32⟩
  | 77 => ⟨S_, .f32⟩
  | 78 => ⟨S1x4096x2x1, .f32⟩
  | 79 => ⟨S1x4096x2x1, .f32⟩
  | 80 => ⟨S1x4096x2x1, .f32⟩
  | 81 => ⟨S1x4096x2x64, .f32⟩
  | 82 => ⟨S1x4096x2x64, .f32⟩
  | 83 => ⟨S1x1x1x64, .f32⟩
  | 84 => ⟨S1x4096x2x64, .f32⟩
  | 85 => ⟨S1x4096x2x64, .f32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S1x4096, .f32⟩
  | 101 => ⟨S1x4096x1, .f32⟩
  | 102 => ⟨S1x1x8, .f32⟩
  | 103 => ⟨S1x4096x8, .f32⟩
  | 104 => ⟨S1x4096x8, .f32⟩
  | 105 => ⟨S1x4096x8, .f32⟩
  | 106 => ⟨S1x4096x8, .f32⟩
  | 107 => ⟨S1x4096x1x8, .f32⟩
  | 108 => ⟨S1x4096x8, .f32⟩
  | 109 => ⟨S1x4096x1x8, .f32⟩
  | 110 => ⟨S1x4096x2x8, .f32⟩
  | 111 => ⟨S1x4096x2x8, .f32⟩
  | 112 => ⟨S1x4096x2x48, .f32⟩
  | 113 => ⟨S1x4096x2x8, .f32⟩
  | 114 => ⟨S1x4096x2x8, .f32⟩
  | 115 => ⟨S1x4096x2x8, .f32⟩
  | 116 => ⟨S1x4096x2x8, .f32⟩
  | 117 => ⟨S1x4096x2x8, .f32⟩
  | 118 => ⟨S1x4096x2x8, .f32⟩
  | 119 => ⟨S1x4096x2x8, .f32⟩
  | 120 => ⟨S1x4096x2x8, .f32⟩
  | 121 => ⟨S1x4096x2x8, .f32⟩
  | 122 => ⟨S1x4096x2x8, .f32⟩
  | 123 => ⟨S1x4096x2x64, .f32⟩
  | 124 => ⟨S1x32x128x2x8x64, .f32⟩
  | 125 => ⟨S1x32x128x2x64, .f32⟩
  | 126 => ⟨S_, .f32⟩
  | 127 => ⟨S1x1x128x2x64, .f32⟩
  | _ => ⟨S1x4096x1024, .f32⟩

abbrev hbmTy0_1 (i : Nat) : BufTy := match i % 128 with
  | 0 => ⟨S1x31x128x2x64, .f32⟩
  | 1 => ⟨S1x32x128x2x64, .f32⟩
  | 2 => ⟨S1x32x256x2x64, .f32⟩
  | 3 => ⟨S1x32x128x2x64, .f32⟩
  | 4 => ⟨S_, .f32⟩
  | 5 => ⟨S1x1x128x2x64, .f32⟩
  | 6 => ⟨S1x31x128x2x64, .f32⟩
  | 7 => ⟨S1x32x128x2x64, .f32⟩
  | 8 => ⟨S1x32x256x2x64, .f32⟩
  | 9 => ⟨S1x2x32x256x128x8, .f32⟩
  | 10 => ⟨S1x2x8x32x128x256, .f32⟩
  | 11 => ⟨S128, .i32⟩
  | 12 => ⟨S128x1, .i32⟩
  | 13 => ⟨S_, .i32⟩
  | 14 => ⟨S128x1, .i32⟩
  | 15 => ⟨S128x1, .i32⟩
  | 16 => ⟨S256, .i32⟩
  | 17 => ⟨S1x256, .i32⟩
  | 18 => ⟨S128x256, .i32⟩
  | 19 => ⟨S128x256, .i32⟩
  | 20 => ⟨S128x256, .i1⟩
  | 21 => ⟨S128x256, .i32⟩
  | 22 => ⟨S128x256, .i32⟩
  | 23 => ⟨S128x256, .i32⟩
  | 24 => ⟨S_, .i32⟩
  | 25 => ⟨S128x256, .i32⟩
  | 26 => ⟨S128x256, .i1⟩
  | 27 => ⟨S128x256, .i1⟩
  | 28 => ⟨S32, .i32⟩
  | 29 => ⟨S32x1x1, .i32⟩
  | 30 => ⟨S_, .i32⟩
  | 31 => ⟨S32x1x1, .i32⟩
  | 32 => ⟨S32x1x1, .i1⟩
  | 33 => ⟨S1x1x256, .i32⟩
  | 34 => ⟨S_, .i32⟩
  | 35 => ⟨S1x1x256, .i32⟩
  | 36 => ⟨S1x1x256, .i1⟩
  | 37 => ⟨S32x1x256, .i1⟩
  | 38 => ⟨S32x1x256, .i1⟩
  | 39 => ⟨S32x1x256, .i1⟩
  | 40 => ⟨S1x128x256, .i1⟩
  | 41 => ⟨S32x128x256, .i1⟩
  | 42 => ⟨S32x128x256, .i1⟩
  | 43 => ⟨S32x128x256, .i1⟩
  | 44 => ⟨S_, .f32⟩
  | 45 => ⟨S_, .f32⟩
  | 46 => ⟨S1x2x8x32x128x256, .i1⟩
  | 47 => ⟨S1x2x8x32x128x256, .f32⟩
  | 48 => ⟨S1x2x8x32x128x256, .f32⟩
  | 49 => ⟨S16, .f32⟩
  | 50 => ⟨S1x2x8x1x1x1, .f32⟩
  | 51 => ⟨S_, .f32⟩
  | 52 => ⟨S1x2x8x32x128, .f32⟩
  | 53 => ⟨S1x2x8x32x128x1, .f32⟩
  | 54 => ⟨S1x2x8x32x128x1, .f32⟩
  | 55 => ⟨S1x2x8x32x128x1, .f32⟩
  | 56 => ⟨S1x2x8x32x128x256, .f32⟩
  | 57 => ⟨S1x2x8x32x128x256, .f32⟩
  | 58 => ⟨S1x2x8x32x128x256, .f32⟩
  | 59 => ⟨S_, .f32⟩
  | 60 => ⟨S1x2x8x32x128, .f32⟩
  | 61 => ⟨S1x2x8x32x128x1, .f32⟩
  | 62 => ⟨S1x2x8x32x128x1, .f32⟩
  | 63 => ⟨S1x2x8x32x128x1, .f32⟩
  | 64 => ⟨S1x2x8x32x128x1, .f32⟩
  | 65 => ⟨S1x2x8x32x128x1, .f32⟩
  | 66 => ⟨S1x2x8x32x128x256, .f32⟩
  | 67 => ⟨S1x2x8x32x128x256, .f32⟩
  | 68 => ⟨S1x32x2x64x8x128, .f32⟩
  | 69 => ⟨S1x32x128x2x8x64, .f32⟩
  | 70 => ⟨S1x4096x1024, .f32⟩
  | 71 => ⟨S4096x1024, .f32⟩
  | 72 => ⟨S4096x1024, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_cst_13 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_14 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_15 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_c : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_c_16 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_c_17 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_c_18 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_cst_19 : Ref sig .tc := ⟨.hbm, 172, rfl⟩
abbrev main_call0_v0 : Ref sig .tc := ⟨.hbm, 173, rfl⟩
abbrev main_call0_v1 : Ref sig .tc := ⟨.hbm, 174, rfl⟩
abbrev main_call0_v2 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_20 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_cst_21 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩

abbrev nD : Nat := 1
abbrev τ : Topo := Topo.v7x

variable {F : FTy → Type} [FloatOps F]
-- ==== Kernel11.lean ====
abbrev S4096x5632 : Shape := ⟨2, ![4096, 5632]⟩
abbrev S4096x1024 : Shape := ⟨2, ![4096, 1024]⟩
abbrev S5632x1024 : Shape := ⟨2, ![5632, 1024]⟩
abbrev S2048x1408 : Shape := ⟨2, ![2048, 1408]⟩
abbrev S1408x1024 : Shape := ⟨2, ![1408, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .f32⟩
  | .local _ .vmem, ⟨0, _⟩ => ⟨S2048x1408, .bf16⟩
  | .local _ .vmem, ⟨1, _⟩ => ⟨S2048x1408, .bf16⟩
  | .local _ .vmem, ⟨2, _⟩ => ⟨S4096x1024, .bf16⟩
  | .local _ .vmem, ⟨3, _⟩ => ⟨S1408x1024, .f32⟩
  | .local _ .vmem, ⟨4, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c2048_i32 : BitVec 32 := 2048#32
  let v6 : BitVec 32 := Scalar.muli arg1 c2048_i32
  v6
def k0_off1 (i : grid0.Coords) : Fin 2 → Nat :=
  let arg1 : BitVec 32 := BitVec.ofNat 32 (i 1).val
  let c2048_i32 : BitVec 32 := 2048#32
  let v6 : BitVec 32 := Scalar.muli arg1 c2048_i32
  let v7 : BitVec 32 := v6
  let v8 : Index := Scalar.indexCast v7
  let c0_4 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S4096x5632 : Shape := ⟨2, ![4096, 5632]⟩
abbrev S4096x1024 : Shape := ⟨2, ![4096, 1024]⟩
abbrev S5632x1024 : Shape := ⟨2, ![5632, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S544x1024 : Shape := ⟨2, ![544, 1024]⟩
abbrev S3x544x1024 : Shape := ⟨3, ![3, 544, 1024]⟩
abbrev S272x1024 : Shape := ⟨2, ![272, 1024]⟩
abbrev S3x272x1024 : Shape := ⟨3, ![3, 272, 1024]⟩
abbrev S1x272x1024 : Shape := ⟨3, ![1, 272, 1024]⟩

abbrev nBuf : Space → Nat
  | .hbm => 9
  | .vmem => 18
  | .smem => 0
  | _ => 0

abbrev bufTy : (tb : Table) → Fin (tcTables nBuf tb) → BufTy
  | .hbm, ⟨0, _⟩ => ⟨S544x1024, .f32⟩
  | .hbm, ⟨1, _⟩ => ⟨S3x544x1024, .bf16⟩
  | .hbm, ⟨2, _⟩ => ⟨S544x1024, .f32⟩
  | .hbm, ⟨3, _⟩ => ⟨S544x1024, .f32⟩
  | .hbm, ⟨4, _⟩ => ⟨S544x1024, .f32⟩
  | .hbm, ⟨5, _⟩ => ⟨S544x1024, .f32⟩
  | .hbm, ⟨6, _⟩ => ⟨S544x1024, .f32⟩
  | .hbm, ⟨7, _⟩ => ⟨S544x1024, .f32⟩
  | .hbm, ⟨8, _⟩ => ⟨S544x1024, .f32⟩
  | .local _ .vmem, ⟨0, _⟩ => ⟨S272x1024, .f32⟩
  | .local _ .vmem, ⟨1, _⟩ => ⟨S272x1024, .f32⟩
  | .local _ .vmem, ⟨2, _⟩ => ⟨S3x272x1024, .bf16⟩
  | .local _ .vmem, ⟨3, _⟩ => ⟨S3x272x1024, .bf16⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S272x1024, .f32⟩
  | .local _ .vmem, ⟨10, _⟩ => ⟨S272x1024, .f32⟩
  | .local _ .vmem, ⟨11, _⟩ => ⟨S272x1024, .f32⟩
  | .local _ .vmem, ⟨12, _⟩ => ⟨S272x1024, .f32⟩
  | .local _ .vmem, ⟨13, _⟩ => ⟨S272x1024, .f32⟩
  | .local _ .vmem, ⟨14, _⟩ => ⟨S272x1024, .f32⟩
  | .local _ .vmem, ⟨15, _⟩ => ⟨S272x1024, .f32⟩
  | .local _ .vmem, ⟨16, _⟩ => ⟨S272x1024, .f32⟩
  | .local _ .vmem, ⟨17, _⟩ => ⟨S272x1024, .f32⟩
  | _, _ => ⟨S544x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S544x1024 : Shape := ⟨2, ![544, 1024]⟩
abbrev S3x544x1024 : Shape := ⟨3, ![3, 544, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S544x1024, .f32⟩
  | .hbm, ⟨1, _⟩ => ⟨S3x544x1024, .bf16⟩
  | .hbm, ⟨2, _⟩ => ⟨S544x1024, .f32⟩
  | .hbm, ⟨3, _⟩ => ⟨S544x1024, .f32⟩
  | .hbm, ⟨4, _⟩ => ⟨S544x1024, .f32⟩
  | .hbm, ⟨5, _⟩ => ⟨S3x544x1024, .f32⟩
  | .hbm, ⟨6, _⟩ => ⟨S_, .f32⟩
  | .hbm, ⟨7, _⟩ => ⟨S544x1024, .f32⟩
  | .hbm, ⟨8, _⟩ => ⟨S544x1024, .f32⟩
  | .hbm, ⟨9, _⟩ => ⟨S_, .f32⟩
  | .hbm, ⟨10, _⟩ => ⟨S544x1024, .f32⟩
  | .hbm, ⟨11, _⟩ => ⟨S544x1024, .f32⟩
  | .hbm, ⟨12, _⟩ => ⟨S_, .f32⟩
  | .hbm, ⟨13, _⟩ => ⟨S544x1024, .f32⟩
  | .hbm, ⟨14, _⟩ => ⟨S544x1024, .f32⟩
  | .hbm, ⟨15, _⟩ => ⟨S544x1024, .f32⟩
  | .hbm, ⟨16, _⟩ => ⟨S_, .f32⟩
  | .hbm, ⟨17, _⟩ => ⟨S544x1024, .f32⟩
  | .hbm, ⟨18, _⟩ => ⟨S544x1024, .f32⟩
  | .hbm, ⟨19, _⟩ => ⟨S544x1024, .f32⟩
  | .hbm, ⟨20, _⟩ => ⟨S_, .f32⟩
  | .hbm, ⟨21, _⟩ => ⟨S544x1024, .f32⟩
  | .hbm, ⟨22, _⟩ => ⟨S544x1024, .f32⟩
  | .hbm, ⟨23, _⟩ => ⟨S544x1024, .f32⟩
  | .hbm, ⟨24, _⟩ => ⟨S_, .f32⟩
  | .hbm, ⟨25, _⟩ => ⟨S544x1024, .f32⟩
  | .hbm, ⟨26, _⟩ => ⟨S544x1024, .f32⟩
  | .hbm, ⟨27, _⟩ => ⟨S_, .f32⟩
  | .hbm, ⟨28, _⟩ => ⟨S544x1024, .f32⟩
  | .hbm, ⟨29, _⟩ => ⟨S544x1024, .f32⟩
  | .hbm, ⟨30, _⟩ => ⟨S544x1024, .f32⟩
  | .hbm, ⟨31, _⟩ => ⟨S_, .f32⟩
  | .hbm, ⟨32, _⟩ => ⟨S544x1024, .f32⟩
  | .hbm, ⟨33, _⟩ => ⟨S544x1024, .f32⟩
  | .hbm, ⟨34, _⟩ => ⟨S544x1024, .f32⟩
  | .hbm, ⟨35, _⟩ => ⟨S_, .f32⟩
  | .hbm, ⟨36, _⟩ => ⟨S544x1024, .f32⟩
  | .hbm, ⟨37, _⟩ => ⟨S544x1024, .f32⟩
  | .hbm, ⟨38, _⟩ => ⟨S544x1024, .f32⟩
  | .hbm, ⟨39, _⟩ => ⟨S_, .f32⟩
  | .hbm, ⟨40, _⟩ => ⟨S544x1024, .f32⟩
  | .hbm, ⟨41, _⟩ => ⟨S544x1024, .f32⟩
  | _, _ => ⟨S544x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel13.lean ====
abbrev S1x4096 : Shape := ⟨2, ![1, 4096]⟩
abbrev S8 : Shape := ⟨1, ![8]⟩
abbrev S_ : Shape := ⟨0, ![]⟩
abbrev S16 : Shape := ⟨1, ![16]⟩
abbrev S48 : Shape := ⟨1, ![48]⟩
abbrev S64 : Shape := ⟨1, ![64]⟩
abbrev S128 : Shape := ⟨1, ![128]⟩
abbrev S1x128 : Shape := ⟨2, ![1, 128]⟩
abbrev S4096x1 : Shape := ⟨2, ![4096, 1]⟩
abbrev S4096x128 : Shape := ⟨2, ![4096, 128]⟩
abbrev S1024x1 : Shape := ⟨2, ![1024, 1]⟩
abbrev S1024x128 : Shape := ⟨2, ![1024, 128]⟩

abbrev nBuf : Space → Nat
  | .hbm => 25
  | .vmem => 9
  | .smem => 0
  | _ => 0

abbrev bufTy : (tb : Table) → Fin (tcTables nBuf tb) → BufTy
  | .hbm, ⟨0, _⟩ => ⟨S1x4096, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S16, .f32⟩
  | .hbm, ⟨16, _⟩ => ⟨S_, .f32⟩
  | .hbm, ⟨17, _⟩ => ⟨S48, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S4096x1, .i32⟩
  | .hbm, ⟨22, _⟩ => ⟨S4096x128, .f32⟩
  | .hbm, ⟨23, _⟩ => ⟨S4096x128, .f32⟩
  | .hbm, ⟨24, _⟩ => ⟨S4096x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | _, _ => ⟨S1x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S1x4096 : Shape := ⟨2, ![1, 4096]⟩
abbrev S8 : Shape := ⟨1, ![8]⟩
abbrev S_ : Shape := ⟨0, ![]⟩
abbrev S1x4096x1 : Shape := ⟨3, ![1, 4096, 1]⟩
abbrev S1x1x8 : Shape := ⟨3, ![1, 1, 8]⟩
abbrev S1x4096x8 : Shape := ⟨3, ![1, 4096, 8]⟩
abbrev S4096x8 : Shape := ⟨2, ![4096, 8]⟩
abbrev S4096x48 : Shape := ⟨2, ![4096, 48]⟩
abbrev S4096x64 : Shape := ⟨2, ![4096, 64]⟩
abbrev S4096x128 : Shape := ⟨2, ![4096, 128]⟩

abbrev nBuf : Space → Nat
  | .hbm => 38
  | .vmem => 0
  | .smem => 0
  | _ => 0

abbrev bufTy : (tb : Table) → Fin (tcTables nBuf tb) → BufTy
  | .hbm, ⟨0, _⟩ => ⟨S1x4096, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S1x4096, .f32⟩
  | .hbm, ⟨16, _⟩ => ⟨S1x4096x1, .f32⟩
  | .hbm, ⟨17, _⟩ => ⟨S1x1x8, .f32⟩
  | .hbm, ⟨18, _⟩ => ⟨S1x4096x8, .f32⟩
  | .hbm, ⟨19, _⟩ => ⟨S1x4096x8, .f32⟩
  | .hbm, ⟨20, _⟩ => ⟨S1x4096x8, .f32⟩
  | .hbm, ⟨21, _⟩ => ⟨S1x4096x8, .f32⟩
  | .hbm, ⟨22, _⟩ => ⟨S4096x8, .f32⟩
  | .hbm, ⟨23, _⟩ => ⟨S1x4096x8, .f32⟩
  | .hbm, ⟨24, _⟩ => ⟨S4096x8, .f32⟩
  | .hbm, ⟨25, _⟩ => ⟨S_, .f32⟩
  | .hbm, ⟨26, _⟩ => ⟨S4096x48, .f32⟩
  | .hbm, ⟨27, _⟩ => ⟨S_, .f32⟩
  | .hbm, ⟨28, _⟩ => ⟨S4096x8, .f32⟩
  | .hbm, ⟨29, _⟩ => ⟨S_, .f32⟩
  | .hbm, ⟨30, _⟩ => ⟨S4096x48, .f32⟩
  | .hbm, ⟨31, _⟩ => ⟨S4096x64, .f32⟩
  | .hbm, ⟨32, _⟩ => ⟨S4096x8, .f32⟩
  | .hbm, ⟨33, _⟩ => ⟨S4096x64, .f32⟩
  | .hbm, ⟨34, _⟩ => ⟨S4096x64, .f32⟩
  | .hbm, ⟨35, _⟩ => ⟨S4096x128, .f32⟩
  | .hbm, ⟨36, _⟩ => ⟨S4096x128, .f32⟩
  | .hbm, ⟨37, _⟩ => ⟨S4096x128, .f32⟩
  | _, _ => ⟨S1x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proof.Frames.lean ====
/- Every program of the claim runs to its end, leaves its arguments as they were and every semaphore at zero. For the
   kernels this is the generated frame; the references have host operations only, so their run gives it, and they have no
   semaphore at all. The idealizations rewrite nothing, but for the
   attention's, which names its mask. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run

@[expose] public section

open Idealize.ShloMosaic

namespace Cert.Proof.Frames

theorem kernel : Cert.quiescent_Kernel := fun m ρ _ => Cert.Kernel.Gen.frame m ρ
theorem kernelIdeal : Cert.quiescent_KernelIdeal := fun m ρ _ => Cert.KernelIdeal.Gen.frame m ρ
theorem reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

theorem kernel2 : Cert.quiescent_Kernel2 := fun m ρ _ => Cert.Kernel2.Gen.frame m ρ
theorem kernelIdeal2 : Cert.quiescent_Kernel2Ideal := fun m ρ _ => Cert.Kernel2Ideal.Gen.frame m ρ
theorem reference2 : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

theorem kernel3 : Cert.quiescent_Kernel3 := fun m ρ _ => Cert.Kernel3.Gen.frame m ρ
theorem kernelIdeal3 : Cert.quiescent_Kernel3Ideal := fun m ρ _ => Cert.Kernel3Ideal.Gen.frame m ρ
theorem reference3 : Cert.quiescent_Reference3Ideal := fun m ρ _ =>
  (θ_run Cert.Reference3Ideal.defs _ _).mono
    (fun r h => ⟨fun c => (h c).2.2.2.2, sem_eq_zero_of_no_sems (by decide) r.2⟩)
    (Cert.Reference3Ideal.Value.run (F := Ideal) m ρ)

theorem kernel4 : Cert.quiescent_Kernel4 := fun m ρ _ => Cert.Kernel4.Gen.frame m ρ
theorem kernelIdeal4 : Cert.quiescent_Kernel4Ideal := fun m ρ _ => Cert.Kernel4Ideal.Gen.frame m ρ
theorem reference4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

theorem kernel5 : Cert.quiescent_Kernel5 := fun m ρ _ => Cert.Kernel5.Gen.frame m ρ
theorem kernelIdeal5 : Cert.quiescent_Kernel5Ideal := fun m ρ _ => Cert.Kernel5Ideal.Gen.frame m ρ
theorem reference5 : Cert.quiescent_Reference5Ideal := fun m ρ _ =>
  (θ_run Cert.Reference5Ideal.defs _ _).mono
    (fun r h => ⟨fun c => (h c).2.2.2, sem_eq_zero_of_no_sems (by decide) r.2⟩)
    (Cert.Reference5Ideal.Value.run (F := Ideal) m ρ)

theorem kernel6 : Cert.quiescent_Kernel6 := fun m ρ _ => Cert.Kernel6.Gen.frame m ρ
theorem kernelIdeal6 : Cert.quiescent_Kernel6Ideal := fun m ρ _ => Cert.Kernel6Ideal.Gen.frame m ρ
theorem reference6 : Cert.quiescent_Reference6Ideal := fun m ρ _ =>
  (θ_run Cert.Reference6Ideal.defs _ _).mono
    (fun r h => ⟨fun c => (h c).2.2.2.2.2.2, sem_eq_zero_of_no_sems (by decide) r.2⟩)
    (Cert.Reference6Ideal.Value.run (F := Ideal) m ρ)

theorem kernel7 : Cert.quiescent_Kernel7 := fun m ρ _ => Cert.Kernel7.Gen.frame m ρ
theorem kernelIdeal7 : Cert.quiescent_Kernel7Ideal := fun m ρ _ => Cert.Kernel7Ideal.Gen.frame m ρ
theorem reference7 : Cert.quiescent_Reference7Ideal := fun m ρ _ =>
  (θ_run Cert.Reference7Ideal.defs _ _).mono
    (fun r h => ⟨fun c => (h c).2.2, sem_eq_zero_of_no_sems (by decide) r.2⟩)
    (Cert.Reference7Ideal.Value.run (F := Ideal) m ρ)

theorem kernel8 : Cert.quiescent_Kernel8 := fun m ρ _ => Cert.Kernel8.Gen.frame m ρ
theorem kernelIdeal8 : Cert.quiescent_Kernel8Ideal := fun m ρ _ => Cert.Kernel8Ideal.Gen.frame m ρ
theorem reference8 : Cert.quiescent_Reference8Ideal := fun m ρ _ =>
  (θ_run Cert.Reference8Ideal.defs _ _).mono
    (fun r h => ⟨fun c => (h c).2.2.2.2.2, sem_eq_zero_of_no_sems (by decide) r.2⟩)
    (Cert.Reference8Ideal.Value.run (F := Ideal) m ρ)

theorem kernel9 : Cert.quiescent_Kernel9 := fun m ρ _ => Cert.Kernel9.Gen.frame m ρ
theorem kernelIdeal9 : Cert.quiescent_Kernel9Ideal := fun m ρ _ => Cert.Kernel9Ideal.Gen.frame m ρ
theorem reference9 : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

theorem kernel10 : Cert.quiescent_Kernel10 := fun m ρ _ => Cert.Kernel10.Gen.frame m ρ
theorem kernelIdeal10 : Cert.quiescent_Kernel10Ideal := fun m ρ _ => Cert.Kernel10Ideal.Gen.frame m ρ
theorem reference10 : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

theorem kernel11 : Cert.quiescent_Kernel11 := fun m ρ _ => Cert.Kernel11.Gen.frame m ρ
theorem kernelIdeal11 : Cert.quiescent_Kernel11Ideal := fun m ρ _ => Cert.Kernel11Ideal.Gen.frame m ρ
theorem reference11 : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

theorem kernel12 : Cert.quiescent_Kernel12 := fun m ρ _ => Cert.Kernel12.Gen.frame m ρ
theorem kernelIdeal12 : Cert.quiescent_Kernel12Ideal := fun m ρ _ => Cert.Kernel12Ideal.Gen.frame m ρ
theorem reference12 : Cert.quiescent_Reference12Ideal := fun m ρ _ =>
  (θ_run Cert.Reference12Ideal.defs _ _).mono
    (fun r h => ⟨fun c => (h c).2.2.2.2, sem_eq_zero_of_no_sems (by decide) r.2⟩)
    (Cert.Reference12Ideal.Value.run (F := Ideal) m ρ)

theorem kernel13 : Cert.quiescent_Kernel13 := fun m ρ _ => Cert.Kernel13.Gen.frame m ρ
theorem kernelIdeal13 : Cert.quiescent_Kernel13Ideal := fun m ρ _ => Cert.Kernel13Ideal.Gen.frame m ρ
theorem reference13 : Cert.quiescent_Reference13Ideal := fun m ρ _ =>
  (θ_run Cert.Reference13Ideal.defs _ _).mono
    (fun r h => ⟨fun c => (h c).2.2.2, sem_eq_zero_of_no_sems (by decide) r.2⟩)
    (Cert.Reference13Ideal.Value.run (F := Ideal) m ρ)

end Cert.Proof.Frames
-- ==== Proof.Mix.Host.lean ====
/- What the gate-gradient call reads: the arrays its host lines prepare, and the blocks of them that a grid point sees,
   as functions of the arguments. The gates and the mixed activations are the reference's own forward stages. -/
module

public import proofs.«01_k».proof.Proof.Gen.KernelIdeal.Frame
public import proofs.«01_k».proof.Proof.Gen.ReferenceIdeal.Read
public import Idealize.ShloMosaic.Lib.Pipeline.ValueKit
public import Idealize.ShloMosaic.Lib.Claim

@[expose] public section

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.ReferenceIdeal.Read (val_main_v12 val_main_v20)

variable (m : (ℓ : Loc nD τ sig) → Buf (Elt Ideal) ℓ)

/-- The arguments, by name. -/
abbrev aH (c : Dev nD) : FVec Ideal S1x4096x1024 .f32 := m ((c : Thread nD τ).loc main_arg0)
abbrev aWin (c : Dev nD) : FVec Ideal S1x1024x4352 .f32 := m ((c : Thread nD τ).loc main_arg1)
abbrev aBias (c : Dev nD) : FVec Ideal S1x2048 .f32 := m ((c : Thread nD τ).loc main_arg2)
abbrev aPool (c : Dev nD) : FVec Ideal S1x4096x1024 .f32 := m ((c : Thread nD τ).loc main_arg3)
abbrev aAttn (c : Dev nD) : FVec Ideal S1x4096x1024 .f32 := m ((c : Thread nD τ).loc main_arg4)
abbrev aWout (c : Dev nD) : FVec Ideal S1x1024x1024 .f32 := m ((c : Thread nD τ).loc main_arg5)
abbrev aDx (c : Dev nD) : FVec Ideal S1x4096x1024 .f32 := m ((c : Thread nD τ).loc main_arg6)

/-- The gates the forward lines compute. -/
abbrev gates (c : Dev nD) : FVec Ideal S1x4096x2048 .f32 := val_main_v12 (F := Ideal) (aH m c) (aWin m c) (aBias m c)
/-- The mixed activations the forward lines compute. -/
abbrev mixed (c : Dev nD) : FVec Ideal S1x4096x1024 .f32 :=
  val_main_v20 (F := Ideal) (aH m c) (aWin m c) (aBias m c) (aPool m c) (aAttn m c)

theorem V_dx (c : Dev nD) : V m c main_v19 = truncf .bf16 (shapeCast S4096x1024 (aDx m c) shapeCasts_S1x4096x1024_S4096x1024) bitsLt_bf16_f32 := by
  entry_read; rfl
theorem V_wout (c : Dev nD) : V m c main_v21 = truncf .bf16 (shapeCast S1024x1024 (aWout m c) shapeCasts_S1x1024x1024_S1024x1024) bitsLt_bf16_f32 := by
  entry_read; rfl
theorem V_gates (c : Dev nD) : V m c main_v22 = shapeCast S4096x2048 (gates m c) shapeCasts_S1x4096x2048_S4096x2048 := by
  entry_read; rfl
theorem V_pool (c : Dev nD) : V m c main_v24 = truncf .bf16 (shapeCast S4096x1024 (aPool m c) shapeCasts_S1x4096x1024_S4096x1024) bitsLt_bf16_f32 := by
  entry_read; rfl
theorem V_attn (c : Dev nD) : V m c main_v26 = truncf .bf16 (shapeCast S4096x1024 (aAttn m c) shapeCasts_S1x4096x1024_S4096x1024) bitsLt_bf16_f32 := by
  entry_read; rfl
theorem V_mixed (c : Dev nD) : V m c main_v28 = truncf .bf16 (shapeCast S4096x1024 (mixed m c) shapeCasts_S1x4096x1024_S4096x1024) bitsLt_bf16_f32 := by
  entry_read; rfl
theorem V_h (c : Dev nD) : V m c main_v30 = truncf .bf16 (shapeCast S4096x1024 (aH m c) shapeCasts_S1x4096x1024_S4096x1024) bitsLt_bf16_f32 := by
  entry_read; rfl

/-- The block index of every window at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ t.val < 16 :=
  (by decide +kernel : ∀ t : Fin grid0.N, _)

/-- Row `i` of block `t` is row `256 t + i` of the array. -/
abbrev row (t : Fin cfg0.N) (i : Fin 256) : Fin 4096 := ⟨t.val * 256 + i.val, by have := (idx t).2.2.2.2.2.2.2.2.2.2; omega⟩

theorem blk_dx (c : Dev nD) (t : Fin cfg0.N) (i : Fin 256) (j : Fin 1024) :
    (iblk m c 0 t : FVec Ideal S256x1024 .bf16) (ix2 i j) = aDx m c (ix3 0 (row t i) j) := by
  have e : (iblk m c 0 t : FVec Ideal S256x1024 .bf16) (ix2 i j) = V m c main_v19 (ix2 (row t i) j) := by blk_ext [iblk, idx t]
  rw [e, V_dx]; pointwise
theorem blk_wout (c : Dev nD) (t : Fin cfg0.N) (i j : Fin 1024) :
    (iblk m c 1 t : FVec Ideal S1024x1024 .bf16) (ix2 i j) = aWout m c (ix3 0 i j) := by
  have e : (iblk m c 1 t : FVec Ideal S1024x1024 .bf16) (ix2 i j) = V m c main_v21 (ix2 i j) := by blk_ext [iblk, idx t]
  rw [e, V_wout]; pointwise
theorem blk_gates (c : Dev nD) (t : Fin cfg0.N) (i : Fin 256) (j : Fin 2048) :
    (iblk m c 2 t : FVec Ideal S256x2048 .f32) (ix2 i j) = gates m c (ix3 0 (row t i) j) := by
  have e : (iblk m c 2 t : FVec Ideal S256x2048 .f32) (ix2 i j) = V m c main_v22 (ix2 (row t i) j) := by blk_ext [iblk, idx t]
  rw [e, V_gates]; pointwise
theorem blk_pool (c : Dev nD) (t : Fin cfg0.N) (i : Fin 256) (j : Fin 1024) :
    (iblk m c 3 t : FVec Ideal S256x1024 .bf16) (ix2 i j) = aPool m c (ix3 0 (row t i) j) := by
  have e : (iblk m c 3 t : FVec Ideal S256x1024 .bf16) (ix2 i j) = V m c main_v24 (ix2 (row t i) j) := by blk_ext [iblk, idx t]
  rw [e, V_pool]; pointwise
theorem blk_attn (c : Dev nD) (t : Fin cfg0.N) (i : Fin 256) (j : Fin 1024) :
    (iblk m c 4 t : FVec Ideal S256x1024 .bf16) (ix2 i j) = aAttn m c (ix3 0 (row t i) j) := by
  have e : (iblk m c 4 t : FVec Ideal S256x1024 .bf16) (ix2 i j) = V m c main_v26 (ix2 (row t i) j) := by blk_ext [iblk, idx t]
  rw [e, V_attn]; pointwise
theorem blk_mixed (c : Dev nD) (t : Fin cfg0.N) (i : Fin 256) (j : Fin 1024) :
    (iblk m c 5 t : FVec Ideal S256x1024 .bf16) (ix2 i j) = mixed m c (ix3 0 (row t i) j) := by
  have e : (iblk m c 5 t : FVec Ideal S256x1024 .bf16) (ix2 i j) = V m c main_v28 (ix2 (row t i) j) := by blk_ext [iblk, idx t]
  rw [e, V_mixed]; pointwise
theorem blk_h (c : Dev nD) (t : Fin cfg0.N) (i : Fin 256) (j : Fin 1024) :
    (iblk m c 6 t : FVec Ideal S256x1024 .bf16) (ix2 i j) = aH m c (ix3 0 (row t i) j) := by
  have e : (iblk m c 6 t : FVec Ideal S256x1024 .bf16) (ix2 i j) = V m c main_v30 (ix2 (row t i) j) := by blk_ext [iblk, idx t]
  rw [e, V_h]; pointwise

end Cert.KernelIdeal.Mix

end
-- ==== Proof.UnitAxes.lean ====
/- A host sum over axes of one element. -/
module

public import Idealize.ShloMosaic.Lib.Pointwise
public import Idealize.ShloMosaic.PureOps.Ideal.Laws

@[expose] public section

noncomputable section

open Idealize.ShloMosaic

namespace Cert.Proof.UnitAxes

/-- A host sum over two axes of one element each reads that one element. -/
theorem sum_front {n : Nat} (h : (⟨3, ![1, 1, n]⟩ : Shape).ReducesTo [0, 1] ⟨1, ![n]⟩) (v : (⟨3, ![1, 1, n]⟩ : Shape).Idx → EReal)
    (init : EReal) (j : Fin n) : Ideal.hostReduceAdd h v init (ix1 j) = init + v (ix3 0 0 j) := by
  unfold Ideal.hostReduceAdd
  congr 1
  refine (Finset.sum_filter_eq_sum_of_fiber _ (fun _ : Fin 1 => ix3 0 0 j) (fun _ _ _ => Subsingleton.elim _ _) (fun i => ?_) v).trans (by simp)
  constructor
  · intro e
    refine ⟨0, ?_⟩
    funext a; apply Fin.ext
    match a with
    | ⟨0, _⟩ => exact (Fin.val_eq_zero (show Fin 1 from i 0)).symm
    | ⟨1, _⟩ => exact (Fin.val_eq_zero (show Fin 1 from i 1)).symm
    | ⟨2, _⟩ => exact (congrArg Fin.val (congrFun e 0)).symm
  · rintro ⟨k, rfl⟩
    funext b
    apply Fin.ext
    match b with
    | ⟨0, _⟩ => rfl

/-- The same where the longer axis stands between the two reads that one element. -/
theorem sum_around {n : Nat} (h : (⟨3, ![1, n, 1]⟩ : Shape).ReducesTo [0, 2] ⟨1, ![n]⟩) (v : (⟨3, ![1, n, 1]⟩ : Shape).Idx → EReal)
    (init : EReal) (j : Fin n) : Ideal.hostReduceAdd h v init (ix1 j) = init + v (ix3 0 j 0) := by
  unfold Ideal.hostReduceAdd
  congr 1
  refine (Finset.sum_filter_eq_sum_of_fiber _ (fun _ : Fin 1 => ix3 0 j 0) (fun _ _ _ => Subsingleton.elim _ _) (fun i => ?_) v).trans (by simp)
  constructor
  · intro e
    refine ⟨0, ?_⟩
    funext a; apply Fin.ext
    match a with
    | ⟨0, _⟩ => exact (Fin.val_eq_zero (show Fin 1 from i 0)).symm
    | ⟨1, _⟩ => exact (congrArg Fin.val (congrFun e 0)).symm
    | ⟨2, _⟩ => exact (Fin.val_eq_zero (show Fin 1 from i 2)).symm
  · rintro ⟨k, rfl⟩
    funext b
    apply Fin.ext
    match b with
    | ⟨0, _⟩ => rfl

end Cert.Proof.UnitAxes

end
-- ==== Proof.Mix.Ref.lean ====
/- What the reference computes for the gate gradient, one element at a time, over the gates and mixed activations of its
   own forward lines. -/
module

public import proofs.«01_k».proof.Proof.Gen.ReferenceIdeal.Read
public import Idealize.ShloMosaic.Lib.Pointwise
public import proofs.«01_k».proof.Proof.UnitAxes

@[expose] public section

set_option maxRecDepth 16384

noncomputable section

namespace Cert.ReferenceIdeal.Mix

open Cert.ReferenceIdeal Cert.ReferenceIdeal.Gen Cert.ReferenceIdeal.Read Idealize.ShloMosaic Idealize.ShloMosaic.TcCoe Idealize.SL.Sem

variable (x0 : FVec Ideal S1x4096x1024 .f32) (x1 : FVec Ideal S1x1024x4352 .f32) (x2 : FVec Ideal S1x2048 .f32)
  (x3 x4 : FVec Ideal S1x4096x1024 .f32) (x5 : FVec Ideal S1x1024x1024 .f32) (x6 : FVec Ideal S1x4096x1024 .f32)

/-- The cotangent of the mixed activations: the output's cotangent through the output projection. -/
def dmix (r : Fin 4096) (j : Fin 1024) : EReal := ∑ k : Fin 1024, x6 (ix3 0 r k) * x5 (ix3 0 j k)

/-- A column of the pooled half, and of the attended half, of the gates. -/
abbrev lo (j : Fin 1024) : Fin 2048 := ⟨j.val, by omega⟩
abbrev hi (j : Fin 1024) : Fin 2048 := ⟨1024 + j.val, by omega⟩

/-- The gates of the forward lines. -/
abbrev g (r : Fin 4096) (j : Fin 2048) : EReal := val_main_v12 (F := Ideal) x0 x1 x2 (ix3 0 r j)

theorem dmix_eq (r : Fin 4096) (j : Fin 1024) : val_main_v25 (F := Ideal) x5 x6 (ix3 0 r j) = dmix x5 x6 r j := by
  unfold dmix
  pointwise [val_main_v25, val_main_v21]

theorem da_eq (r : Fin 4096) (j : Fin 1024) :
    val_main_v41 (F := Ideal) x0 x1 x2 x5 x6 (ix2 r j) = dmix x5 x6 r j * g x0 x1 x2 r (lo j) := by
  rw [← dmix_eq]
  pointwise [val_main_v41, val_main_v29, val_main_v16]
  exact mul_comm _ _

theorem db_eq (r : Fin 4096) (j : Fin 1024) :
    val_main_v43 (F := Ideal) x0 x1 x2 x5 x6 (ix2 r j) = dmix x5 x6 r j * g x0 x1 x2 r (hi j) := by
  rw [← dmix_eq]
  pointwise [val_main_v43, val_main_v42, val_main_v27, val_main_v17]
  exact mul_comm _ _

/-- The cotangent of the gates' logits, at a row and a column of the gates. -/
abbrev dz (r : Fin 4096) (j : Fin 2048) : EReal := val_main_v34 (F := Ideal) x0 x1 x2 x3 x4 x5 x6 (ix3 0 r j)

theorem dz_lo (r : Fin 4096) (j : Fin 1024) :
    dz x0 x1 x2 x3 x4 x5 x6 r (lo j)
      = dmix x5 x6 r j * x3 (ix3 0 r j) * g x0 x1 x2 r (lo j) * (1 - g x0 x1 x2 r (lo j)) := by
  rw [← dmix_eq]
  pointwise [dz, val_main_v34, val_main_v33, val_main_v31, val_main_v32, val_main_v30, val_main_v15, val_main_v14, val_main_v13,
    val_main_cst_1, val_main_cst_2]
  rw [dif_neg (fun h => h.1), zero_add, mul_assoc (_ * _)]

theorem dz_hi (r : Fin 4096) (j : Fin 1024) :
    dz x0 x1 x2 x3 x4 x5 x6 r (hi j)
      = dmix x5 x6 r j * x4 (ix3 0 r j) * g x0 x1 x2 r (hi j) * (1 - g x0 x1 x2 r (hi j)) := by
  rw [← dmix_eq]
  pointwise [dz, val_main_v34, val_main_v33, val_main_v31, val_main_v32, val_main_v28, val_main_v15, val_main_v14, val_main_v13,
    val_main_cst_1, val_main_cst_3]
  rw [mul_assoc (_ * _)]

theorem dzg_eq (r : Fin 4096) (j : Fin 2048) :
    val_main_v45 (F := Ideal) x0 x1 x2 x3 x4 x5 x6 (ix2 r j) = dz x0 x1 x2 x3 x4 x5 x6 r j := by
  pointwise [val_main_v45, val_main_v44]

theorem dbg_eq (j : Fin 2048) :
    val_main_v38 (F := Ideal) x0 x1 x2 x3 x4 x5 x6 (ix2 0 j) = ∑ r : Fin 4096, dz x0 x1 x2 x3 x4 x5 x6 r j := by
  pointwise [val_main_v38, val_main_v37, val_main_v36, val_main_cst_5]
  refine (Cert.Proof.UnitAxes.sum_front _ _ _ j).trans ?_
  pointwise [val_main_v35, val_main_cst_4]

theorem dwo_eq (i j : Fin 1024) :
    val_main_v46 (F := Ideal) x0 x1 x2 x3 x4 x6 (ix2 i j)
      = ∑ r : Fin 4096, val_main_v20 (F := Ideal) x0 x1 x2 x3 x4 (ix3 0 r i) * x6 (ix3 0 r j) := by
  pointwise [val_main_v46, val_main_v26, val_main_v24, val_main_v23]
  refine (Fintype.sum_unique _).trans (Finset.sum_congr rfl fun r _ => mul_comm _ _)

theorem dwin_eq (i : Fin 2048) (j : Fin 1024) :
    val_main_v47 (F := Ideal) x0 x1 x2 x3 x4 x5 x6 (ix2 i j)
      = ∑ r : Fin 4096, dz x0 x1 x2 x3 x4 x5 x6 r i * x0 (ix3 0 r j) := by
  pointwise [val_main_v47, val_main_v40, val_main_v39]
  exact Fintype.sum_unique _

end Cert.ReferenceIdeal.Mix

end
-- ==== Proof.Mix.Tiles.lean ====
/- The three arrays the gated mix writes tile by tile (the gradients of the two branches and of the gate's preactivation):
   what one block of 256 rows computes, at variable blocks first, and the whole arrays. -/
module

public import proofs.«01_k».proof.Proof.Mix.Host
public import proofs.«01_k».proof.Proof.Mix.Ref
public import Idealize.ShloMosaic.Lib.Pointwise

@[expose] public section

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.ReferenceIdeal.Read
open Cert.ReferenceIdeal.Mix (dmix lo hi dz da_eq db_eq dz_lo dz_hi dzg_eq dbg_eq dwo_eq dwin_eq)

variable (m : (ℓ : Loc nD τ sig) → Buf (Elt Ideal) ℓ)

/-- The cotangent of the mixed activations, and of the gates' logits, at the arguments. -/
abbrev dM (c : Dev nD) (r : Fin 4096) (j : Fin 1024) : EReal := dmix (aWout m c) (aDx m c) r j
abbrev dZ (c : Dev nD) (r : Fin 4096) (j : Fin 2048) : EReal :=
  dz (aH m c) (aWin m c) (aBias m c) (aPool m c) (aAttn m c) (aWout m c) (aDx m c) r j

abbrev refDa (c : Dev nD) : FVec Ideal S4096x1024 .f32 := val_main_v41 (F := Ideal) (aH m c) (aWin m c) (aBias m c) (aWout m c) (aDx m c)
abbrev refDb (c : Dev nD) : FVec Ideal S4096x1024 .bf16 := val_main_v43 (F := Ideal) (aH m c) (aWin m c) (aBias m c) (aWout m c) (aDx m c)
abbrev refDzg (c : Dev nD) : FVec Ideal S4096x2048 .bf16 :=
  val_main_v45 (F := Ideal) (aH m c) (aWin m c) (aBias m c) (aPool m c) (aAttn m c) (aWout m c) (aDx m c)

/-- The pooled half, and the attended half, of a block of the gates. -/
abbrev gLo (c : Dev nD) (t : Fin cfg0.N) : FVec Ideal S256x1024 .f32 :=
  View.ld (iblk m c 2 t) (Rect.unit ![0, 0] ![256, 1024] inb_S256x2048_S256x1024_0_0)
abbrev gHi (c : Dev nD) (t : Fin cfg0.N) : FVec Ideal S256x1024 .f32 :=
  View.ld (iblk m c 2 t) (Rect.unit ![0, 1024] ![256, 1024] inb_S256x2048_S256x1024_0_1024)

theorem ld_lo (B : Vec Ideal S256x2048 .f32) (i : Fin 256) (j : Fin 1024) :
    (View.ld B (Rect.unit ![0, 0] ![256, 1024] inb_S256x2048_S256x1024_0_0) : FVec Ideal S256x1024 .f32) (ix2 i j) = B (ix2 i (lo j)) := by
  pointwise
theorem ld_hi (B : Vec Ideal S256x2048 .f32) (i : Fin 256) (j : Fin 1024) :
    (View.ld B (Rect.unit ![0, 1024] ![256, 1024] inb_S256x2048_S256x1024_0_1024) : FVec Ideal S256x1024 .f32) (ix2 i j) = B (ix2 i (hi j)) := by
  pointwise

theorem gLo_apply (c : Dev nD) (t : Fin cfg0.N) (i : Fin 256) (j : Fin 1024) : gLo m c t (ix2 i j) = gates m c (ix3 0 (row t i) (lo j)) :=
  (ld_lo _ i j).trans (blk_gates m c t i (lo j))
theorem gHi_apply (c : Dev nD) (t : Fin cfg0.N) (i : Fin 256) (j : Fin 1024) : gHi m c t (ix2 i j) = gates m c (ix3 0 (row t i) (hi j)) :=
  (ld_hi _ i j).trans (blk_gates m c t i (hi j))

/-- One product per grid point gives the cotangent of the mixed activations on the block's rows. -/
theorem pay_dmix (c : Dev nD) (t : Fin cfg0.N) (i : Fin 256) (j : Fin 1024) :
    k0_pay8 (F := Ideal) (iblk m c 0 t) (iblk m c 1 t) (ix2 i j) = dM m c (row t i) j := by
  pointwise [k0_pay8, k0_pay6]
  exact Finset.sum_congr rfl fun k _ => by rw [blk_dx, blk_wout]

theorem pay_da (c : Dev nD) (t : Fin cfg0.N) (i : Fin 256) (j : Fin 1024) :
    k0_pay10 (F := Ideal) (iblk m c 0 t) (iblk m c 1 t) (gLo m c t) (ix2 i j) = refDa m c (ix2 (row t i) j) := by
  refine Eq.trans ?_ (da_eq _ _ _ _ _ _ _).symm
  pointwise [k0_pay10, k0_pay9]
  rw [pay_dmix, gLo_apply]

theorem pay_db (c : Dev nD) (t : Fin cfg0.N) (i : Fin 256) (j : Fin 1024) :
    k0_pay16 (F := Ideal) (k0_pay8 (iblk m c 0 t) (iblk m c 1 t)) (gHi m c t) (ix2 i j) = refDb m c (ix2 (row t i) j) := by
  refine Eq.trans ?_ (db_eq _ _ _ _ _ _ _).symm
  pointwise [k0_pay16, k0_pay15]
  rw [pay_dmix, gHi_apply]

theorem pay_dz_lo (c : Dev nD) (t : Fin cfg0.N) (i : Fin 256) (j : Fin 1024) :
    k0_pay11 (F := Ideal) (iblk m c 0 t) (iblk m c 1 t) (gLo m c t) (iblk m c 3 t) (ix2 i j) = dZ m c (row t i) (lo j) := by
  refine Eq.trans ?_ (dz_lo _ _ _ _ _ _ _ _ _).symm
  pointwise [k0_pay11, k0_pay9]
  rw [pay_dmix, gLo_apply, blk_pool]

theorem pay_dz_hi (c : Dev nD) (t : Fin cfg0.N) (i : Fin 256) (j : Fin 1024) :
    k0_pay17 (F := Ideal) (k0_pay8 (iblk m c 0 t) (iblk m c 1 t)) (gHi m c t) (iblk m c 4 t) (ix2 i j) = dZ m c (row t i) (hi j) := by
  refine Eq.trans ?_ (dz_hi _ _ _ _ _ _ _ _ _).symm
  pointwise [k0_pay17, k0_pay15]
  rw [pay_dmix, gHi_apply, blk_attn]

theorem pay_dz_lo' (c : Dev nD) (t : Fin cfg0.N) (i : Fin 256) (j : Fin 1024) :
    k0_pay12 (F := Ideal) (iblk m c 0 t) (iblk m c 1 t) (gLo m c t) (iblk m c 3 t) (ix2 i j) = dZ m c (row t i) (lo j) := by
  rw [← pay_dz_lo]; pointwise [k0_pay12]
theorem pay_dz_hi' (c : Dev nD) (t : Fin cfg0.N) (i : Fin 256) (j : Fin 1024) :
    k0_pay18 (F := Ideal) (k0_pay8 (iblk m c 0 t) (iblk m c 1 t)) (gHi m c t) (iblk m c 4 t) (ix2 i j) = dZ m c (row t i) (hi j) := by
  rw [← pay_dz_hi]; pointwise [k0_pay18]

theorem final7 (c : Dev nD) : (dats m 0 c).arrAt 7 cfg0.N = refDa m c := by
  refine (dats m 0 c).arrAt_eq_of_covers 7 _ (by decide +kernel) fun t _ y => ?_
  blk_simp
  rw [after0_7]
  have key : ∀ y : S256x1024.Idx, k0_pay10 (F := Ideal) (iblk m c 0 t) (iblk m c 1 t) (gLo m c t) y
      = refDa m c (((View.whole main_v31_0).slice (win0_7.rect t)).emb y) := by
    intro y
    idx_vars y
    refine (pay_da m c t _ _).trans ?_
    blk_ext [idx t]
  by_cases h : t.val % 16 = 0
  · rw [outsAt0_A m c t h]; frame_out; exact key y
  · rw [outsAt0_B m c t h]; frame_out; exact key y

theorem final8 (c : Dev nD) : (dats m 0 c).arrAt 8 cfg0.N = refDb m c := by
  refine (dats m 0 c).arrAt_eq_of_covers 8 _ (by decide +kernel) fun t _ y => ?_
  blk_simp
  rw [after0_8]
  have key : ∀ y : S256x1024.Idx, k0_pay16 (F := Ideal) (k0_pay8 (iblk m c 0 t) (iblk m c 1 t)) (gHi m c t) y
      = refDb m c (((View.whole main_v31_1).slice (win0_8.rect t)).emb y) := by
    intro y
    idx_vars y
    refine (pay_db m c t _ _).trans ?_
    blk_ext [idx t]
  by_cases h : t.val % 16 = 0
  · rw [outsAt0_A m c t h]; frame_out; exact key y
  · rw [outsAt0_B m c t h]; frame_out; exact key y

theorem final9 (c : Dev nD) : (dats m 0 c).arrAt 9 cfg0.N = refDzg m c := by
  refine (dats m 0 c).arrAt_eq_of_covers 9 _ (by decide +kernel) fun t _ y => ?_
  blk_simp
  rw [after0_9]
  by_cases h : t.val % 16 = 0
  on_goal 1 => rw [outsAt0_A m c t h]
  on_goal 2 => rw [outsAt0_B m c t h]
  all_goals
    frame_out
    clear h
    canon_tiles x h
  all_goals idx_vars x
  on_goal 1 => refine (pay_dz_hi' m c t _ _).trans ((dzg_eq _ _ _ _ _ _ _ _ _).symm.trans ?_)
  on_goal 2 => refine (pay_dz_lo' m c t _ _).trans ((dzg_eq _ _ _ _ _ _ _ _ _).symm.trans ?_)
  on_goal 3 => refine (pay_dz_hi' m c t _ _).trans ((dzg_eq _ _ _ _ _ _ _ _ _).symm.trans ?_)
  on_goal 4 => refine (pay_dz_lo' m c t _ _).trans ((dzg_eq _ _ _ _ _ _ _ _ _).symm.trans ?_)
  all_goals blk_ext [idx t]

end Cert.KernelIdeal.Mix

end
-- ==== Proof.Mix.Accum.lean ====
/- The three arrays the gated mix adds up over the blocks of rows (the gradients of the bias and of the two weights):
   one block's addend, the resident window after each point of the grid, and the sum over all rows. -/
module

public import proofs.«01_k».proof.Proof.Mix.Tiles
public import Idealize.ShloMosaic.Lib.Pipeline.ReadBack

@[expose] public section

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.ReferenceIdeal.Read
open Cert.ReferenceIdeal.Mix (dmix lo hi dz da_eq db_eq dz_lo dz_hi dzg_eq dbg_eq dwo_eq dwin_eq)

variable (m : (ℓ : Loc nD τ sig) → Buf (Elt Ideal) ℓ)

/-! The accumulating payloads, over any blocks. -/

theorem pay7_at (X : FVec Ideal S256x1024 .bf16) (P : FVec Ideal S1024x1024 .f32) (A : FVec Ideal S256x1024 .bf16) (a b : Fin 1024) :
    k0_pay7 (F := Ideal) X P A (ix2 a b) = P (ix2 a b) + ∑ i : Fin 256, A (ix2 i a) * X (ix2 i b) := by
  pointwise [k0_pay7, k0_pay6]
theorem pay13_at (X : FVec Ideal S256x1024 .bf16) (P : FVec Ideal S1024x1024 .f32) (A : FVec Ideal S256x1024 .bf16) (a b : Fin 1024) :
    k0_pay13 (F := Ideal) X P A (ix2 a b) = P (ix2 a b) + ∑ i : Fin 256, X (ix2 i a) * A (ix2 i b) := by
  pointwise [k0_pay13]
theorem pay1_at (P : FVec Ideal S1024x1024 .f32) (D G : FVec Ideal S256x1024 .f32) (X A : FVec Ideal S256x1024 .bf16) (a b : Fin 1024) :
    k0_pay1 (F := Ideal) (k0_pay19 P) (k0_pay20 D G X A) (ix2 a b)
      = P (ix2 a b) + ∑ i : Fin 256, k0_pay18 (F := Ideal) D G X (ix2 i a) * A (ix2 i b) := by
  pointwise [k0_pay1, k0_pay19, k0_pay20]
theorem pay14_at (X : FVec Ideal S256x1024 .f32) (P : FVec Ideal S1x1024 .f32) (a : Fin 1) (b : Fin 1024) :
    k0_pay14 (F := Ideal) X P (ix2 a b) = P (ix2 a b) + ∑ i : Fin 256, X (ix2 i b) := by
  pointwise [k0_pay14]
theorem pay2_at (X : FVec Ideal S256x1024 .f32) (P : FVec Ideal S1x1024 .f32) (a : Fin 1) (b : Fin 1024) :
    k0_pay2 (F := Ideal) X P (ix2 a b) = P (ix2 a b) + ∑ i : Fin 256, X (ix2 i b) := by
  pointwise [k0_pay2]

/-- Output projection's gradient: a point adds the product of its rows of the mixed activations and of the cotangent. -/
theorem pay_wo (c : Dev nD) (t : Fin cfg0.N) (P : FVec Ideal S1024x1024 .f32) (a b : Fin 1024) :
    k0_pay7 (F := Ideal) (iblk m c 0 t) P (iblk m c 5 t) (ix2 a b)
      = P (ix2 a b) + ∑ i : Fin 256, mixed m c (ix3 0 (row t i) a) * aDx m c (ix3 0 (row t i) b) :=
  (pay7_at _ P _ a b).trans (congrArg (P (ix2 a b) + ·) (Finset.sum_congr rfl fun i _ =>
    congrArg₂ (· * ·) (blk_mixed m c t i a) (blk_dx m c t i b)))

/-- Input projection's gradient, the rows of the pooled half and those of the attended half. -/
theorem pay_win_lo (c : Dev nD) (t : Fin cfg0.N) (P : FVec Ideal S1024x1024 .f32) (a b : Fin 1024) :
    k0_pay13 (F := Ideal) (k0_pay12 (iblk m c 0 t) (iblk m c 1 t) (gLo m c t) (iblk m c 3 t)) P (iblk m c 6 t) (ix2 a b)
      = P (ix2 a b) + ∑ i : Fin 256, dZ m c (row t i) (lo a) * aH m c (ix3 0 (row t i) b) :=
  (pay13_at _ P _ a b).trans (congrArg (P (ix2 a b) + ·) (Finset.sum_congr rfl fun i _ =>
    congrArg₂ (· * ·) (pay_dz_lo' m c t i a) (blk_h m c t i b)))

theorem pay_win_hi (c : Dev nD) (t : Fin cfg0.N) (P : FVec Ideal S1024x1024 .f32) (a b : Fin 1024) :
    k0_pay1 (F := Ideal) (k0_pay19 P) (k0_pay20 (k0_pay8 (iblk m c 0 t) (iblk m c 1 t)) (gHi m c t) (iblk m c 4 t) (iblk m c 6 t)) (ix2 a b)
      = P (ix2 a b) + ∑ i : Fin 256, dZ m c (row t i) (hi a) * aH m c (ix3 0 (row t i) b) :=
  (pay1_at P _ _ _ _ a b).trans (congrArg (P (ix2 a b) + ·) (Finset.sum_congr rfl fun i _ =>
    congrArg₂ (· * ·) (pay_dz_hi' m c t i a) (blk_h m c t i b)))

/-- The gates' bias gradient, the two halves. -/
theorem pay_bg_lo (c : Dev nD) (t : Fin cfg0.N) (P : FVec Ideal S1x1024 .f32) (a : Fin 1) (b : Fin 1024) :
    k0_pay14 (F := Ideal) (k0_pay11 (iblk m c 0 t) (iblk m c 1 t) (gLo m c t) (iblk m c 3 t)) P (ix2 a b)
      = P (ix2 a b) + ∑ i : Fin 256, dZ m c (row t i) (lo b) :=
  (pay14_at _ P a b).trans (congrArg (P (ix2 a b) + ·) (Finset.sum_congr rfl fun i _ => pay_dz_lo m c t i b))

theorem pay_bg_hi (c : Dev nD) (t : Fin cfg0.N) (P : FVec Ideal S1x1024 .f32) (a : Fin 1) (b : Fin 1024) :
    k0_pay2 (F := Ideal) (k0_pay17 (k0_pay8 (iblk m c 0 t) (iblk m c 1 t)) (gHi m c t) (iblk m c 4 t)) P (ix2 a b)
      = P (ix2 a b) + ∑ i : Fin 256, dZ m c (row t i) (hi b) :=
  (pay2_at _ P a b).trans (congrArg (P (ix2 a b) + ·) (Finset.sum_congr rfl fun i _ => pay_dz_hi m c t i b))

/-! Where a half's store lands. -/

theorem emb_bg_lo (a : Fin 1) (b : Fin 1024) : (Rect.unit ![0, 0] ![1, 1024] inb_S1x2048_S1x1024_0_0).emb (ix2 a b) = ix2 0 (lo b) := by blk_ext []
theorem emb_bg_hi (a : Fin 1) (b : Fin 1024) : (Rect.unit ![0, 1024] ![1, 1024] inb_S1x2048_S1x1024_0_1024).emb (ix2 a b) = ix2 0 (hi b) := by blk_ext []
theorem emb_win_lo (a b : Fin 1024) : (Rect.unit ![0, 0] ![1024, 1024] inb_S2048x1024_S1024x1024_0_0).emb (ix2 a b) = ix2 (lo a) b := by blk_ext []
theorem emb_win_hi (a b : Fin 1024) : (Rect.unit ![1024, 0] ![1024, 1024] inb_S2048x1024_S1024x1024_1024_0).emb (ix2 a b) = ix2 (hi a) b := by blk_ext []

theorem ld_bg_lo (P : Vec Ideal S1x2048 .f32) (a : Fin 1) (b : Fin 1024) :
    (View.ld P (Rect.unit ![0, 0] ![1, 1024] inb_S1x2048_S1x1024_0_0) : FVec Ideal S1x1024 .f32) (ix2 a b) = P (ix2 0 (lo b)) := by
  rw [← emb_bg_lo a b]; rfl
theorem ld_bg_hi (P : Vec Ideal S1x2048 .f32) (a : Fin 1) (b : Fin 1024) :
    (View.ld P (Rect.unit ![0, 1024] ![1, 1024] inb_S1x2048_S1x1024_0_1024) : FVec Ideal S1x1024 .f32) (ix2 a b) = P (ix2 0 (hi b)) := by
  rw [← emb_bg_hi a b]; rfl
theorem ld_win_lo (P : Vec Ideal S2048x1024 .f32) (a : Fin 1024) (b : Fin 1024) :
    (View.ld P (Rect.unit ![0, 0] ![1024, 1024] inb_S2048x1024_S1024x1024_0_0) : FVec Ideal S1024x1024 .f32) (ix2 a b) = P (ix2 (lo a) b) := by
  rw [← emb_win_lo a b]; rfl
theorem ld_win_hi (P : Vec Ideal S2048x1024 .f32) (a : Fin 1024) (b : Fin 1024) :
    (View.ld P (Rect.unit ![1024, 0] ![1024, 1024] inb_S2048x1024_S1024x1024_1024_0) : FVec Ideal S1024x1024 .f32) (ix2 a b) = P (ix2 (hi a) b) := by
  rw [← emb_win_hi a b]; rfl

theorem mem_bg_lo (y : S1x2048.Idx) (h : (y 1).val < 1024) : y ∈ (Rect.unit ![0, 0] ![1, 1024] inb_S1x2048_S1x1024_0_0).set :=
  Rect.mem_set_unit.2 fun | ⟨0, _⟩ => ⟨Nat.zero_le _, (y 0).isLt⟩ | ⟨1, _⟩ => ⟨Nat.zero_le _, h⟩
theorem mem_bg_hi (y : S1x2048.Idx) (h : ¬ (y 1).val < 1024) : y ∈ (Rect.unit ![0, 1024] ![1, 1024] inb_S1x2048_S1x1024_0_1024).set :=
  Rect.mem_set_unit.2 fun | ⟨0, _⟩ => ⟨Nat.zero_le _, (y 0).isLt⟩ | ⟨1, _⟩ => ⟨Nat.le_of_not_lt h, (y 1).isLt⟩
theorem mem_win_lo (y : S2048x1024.Idx) (h : (y 0).val < 1024) : y ∈ (Rect.unit ![0, 0] ![1024, 1024] inb_S2048x1024_S1024x1024_0_0).set :=
  Rect.mem_set_unit.2 fun | ⟨0, _⟩ => ⟨Nat.zero_le _, h⟩ | ⟨1, _⟩ => ⟨Nat.zero_le _, (y 1).isLt⟩
theorem mem_win_hi (y : S2048x1024.Idx) (h : ¬ (y 0).val < 1024) : y ∈ (Rect.unit ![1024, 0] ![1024, 1024] inb_S2048x1024_S1024x1024_1024_0).set :=
  Rect.mem_set_unit.2 fun | ⟨0, _⟩ => ⟨Nat.le_of_not_lt h, (y 0).isLt⟩ | ⟨1, _⟩ => ⟨Nat.zero_le _, (y 1).isLt⟩

/-- What a point adds to each of the three accumulated gradients. -/
def addBg (c : Dev nD) (t : Fin cfg0.N) (y : S1x2048.Idx) : EReal := ∑ i : Fin 256, dZ m c (row t i) (y 1)
def addWin (c : Dev nD) (t : Fin cfg0.N) (y : S2048x1024.Idx) : EReal :=
  ∑ i : Fin 256, dZ m c (row t i) (y 0) * aH m c (ix3 0 (row t i) (y 1))

def addWo (c : Dev nD) (t : Fin cfg0.N) (y : S1024x1024.Idx) : EReal :=
  ∑ i : Fin 256, mixed m c (ix3 0 (row t i) (y 0)) * aDx m c (ix3 0 (row t i) (y 1))

theorem addBg_at (c : Dev nD) (t : Fin cfg0.N) (a : Fin 1) (b : Fin 2048) : addBg m c t (ix2 a b) = ∑ i : Fin 256, dZ m c (row t i) b := rfl
theorem addWin_at (c : Dev nD) (t : Fin cfg0.N) (a : Fin 2048) (b : Fin 1024) :
    addWin m c t (ix2 a b) = ∑ i : Fin 256, dZ m c (row t i) a * aH m c (ix3 0 (row t i) b) := rfl
theorem addWo_at (c : Dev nD) (t : Fin cfg0.N) (a b : Fin 1024) :
    addWo m c t (ix2 a b) = ∑ i : Fin 256, mixed m c (ix3 0 (row t i) a) * aDx m c (ix3 0 (row t i) b) := rfl

theorem zero_bg (y : S1x2048.Idx) : k0_pay3 (F := Ideal) y = 0 := by idx_vars y; pointwise [k0_pay3]
theorem zero_wo (y : S1024x1024.Idx) : k0_pay4 (F := Ideal) y = 0 := by idx_vars y; pointwise [k0_pay4]
theorem zero_win (y : S2048x1024.Idx) : k0_pay5 (F := Ideal) y = 0 := by idx_vars y; pointwise [k0_pay5]

/-- The two stores of a point into the bias gradient, over whatever was stored before, leave `P` plus the point's sum. -/
theorem step_bg (c : Dev nD) (t : Fin cfg0.N) (P : Vec Ideal S1x2048 .f32) (L : List (View.Piece (Elt Ideal) S1x2048 .f32)) (y : S1x2048.Idx) :
    View.canon (⟨Rect.unit ![0, 1024] ![1, 1024] inb_S1x2048_S1x1024_0_1024,
          k0_pay2 (F := Ideal) (k0_pay17 (k0_pay8 (iblk m c 0 t) (iblk m c 1 t)) (gHi m c t) (iblk m c 4 t))
            (View.ld P (Rect.unit ![0, 1024] ![1, 1024] inb_S1x2048_S1x1024_0_1024))⟩ ::
        ⟨Rect.unit ![0, 0] ![1, 1024] inb_S1x2048_S1x1024_0_0,
          k0_pay14 (F := Ideal) (k0_pay11 (iblk m c 0 t) (iblk m c 1 t) (gLo m c t) (iblk m c 3 t))
            (View.ld P (Rect.unit ![0, 0] ![1, 1024] inb_S1x2048_S1x1024_0_0))⟩ :: L) y = P y + addBg m c t y := by
  refine View.canon_append_of_piecesOf (fun y => (P y + addBg m c t y : EReal)) L [_, _] ⟨fun x => ?_, fun x => ?_, trivial⟩ y ?_
  · idx_vars x
    refine (pay_bg_hi m c t _ _ _).trans ?_
    rw [emb_bg_hi, addBg_at, ld_bg_hi]
  · idx_vars x
    refine (pay_bg_lo m c t _ _ _).trans ?_
    rw [emb_bg_lo, addBg_at, ld_bg_lo]
  · by_cases h : (y 1).val < 1024
    · exact ⟨_, List.mem_cons_of_mem _ (List.mem_cons_self ..), mem_bg_lo y h⟩
    · exact ⟨_, List.mem_cons_self .., mem_bg_hi y h⟩

/-- The two stores of a point into the input projection's gradient, over whatever was stored before. -/
theorem step_win (c : Dev nD) (t : Fin cfg0.N) (P : Vec Ideal S2048x1024 .f32) (L : List (View.Piece (Elt Ideal) S2048x1024 .f32)) (y : S2048x1024.Idx) :
    View.canon (⟨Rect.unit ![1024, 0] ![1024, 1024] inb_S2048x1024_S1024x1024_1024_0,
          k0_pay1 (F := Ideal) (k0_pay19 (View.ld P (Rect.unit ![1024, 0] ![1024, 1024] inb_S2048x1024_S1024x1024_1024_0)))
            (k0_pay20 (k0_pay8 (iblk m c 0 t) (iblk m c 1 t)) (gHi m c t) (iblk m c 4 t) (iblk m c 6 t))⟩ ::
        ⟨Rect.unit ![0, 0] ![1024, 1024] inb_S2048x1024_S1024x1024_0_0,
          k0_pay13 (F := Ideal) (k0_pay12 (iblk m c 0 t) (iblk m c 1 t) (gLo m c t) (iblk m c 3 t))
            (View.ld P (Rect.unit ![0, 0] ![1024, 1024] inb_S2048x1024_S1024x1024_0_0)) (iblk m c 6 t)⟩ :: L) y = P y + addWin m c t y := by
  refine View.canon_append_of_piecesOf (fun y => (P y + addWin m c t y : EReal)) L [_, _] ⟨fun x => ?_, fun x => ?_, trivial⟩ y ?_
  · idx_vars x
    refine (pay_win_hi m c t _ _ _).trans ?_
    rw [emb_win_hi, addWin_at, ld_win_hi]
  · idx_vars x
    refine (pay_win_lo m c t _ _ _).trans ?_
    rw [emb_win_lo, addWin_at, ld_win_lo]
  · by_cases h : (y 0).val < 1024
    · exact ⟨_, List.mem_cons_of_mem _ (List.mem_cons_self ..), mem_win_lo y h⟩
    · exact ⟨_, List.mem_cons_self .., mem_win_hi y h⟩

/-- The grid point before `t` (the first point's is itself). -/
abbrev prev (c : Dev nD) (t : Fin cfg0.N) := outsAt0 m c (t.val - 1) (Nat.lt_of_le_of_lt (Nat.sub_le _ _) t.isLt)

theorem bg_first (c : Dev nD) (t : Fin cfg0.N) (h : t.val % 16 = 0) (y : S1x2048.Idx) :
    (outsAt0 m c t.val t.isLt).2.2.2.1 y = 0 + addBg m c t y := by
  rw [outsAt0_A m c t h]; frame_out
  simp (disch := decide) only [View.readCov_skip, View.readCov_fill]
  rw [← zero_bg y]
  exact step_bg m c t _ _ y
theorem bg_next (c : Dev nD) (t : Fin cfg0.N) (h : ¬ t.val % 16 = 0) (y : S1x2048.Idx) :
    (outsAt0 m c t.val t.isLt).2.2.2.1 y = (prev m c t).2.2.2.1 y + addBg m c t y := by
  rw [outsAt0_B m c t h]; frame_out
  exact step_bg m c t _ [] y

theorem wo_first (c : Dev nD) (t : Fin cfg0.N) (h : t.val % 16 = 0) (y : S1024x1024.Idx) :
    (outsAt0 m c t.val t.isLt).2.2.2.2.1 y = 0 + addWo m c t y := by
  rw [outsAt0_A m c t h]; frame_out
  rw [← zero_wo y]
  idx_vars y
  rw [addWo_at]
  exact pay_wo m c t _ _ _
theorem wo_next (c : Dev nD) (t : Fin cfg0.N) (h : ¬ t.val % 16 = 0) (y : S1024x1024.Idx) :
    (outsAt0 m c t.val t.isLt).2.2.2.2.1 y = (prev m c t).2.2.2.2.1 y + addWo m c t y := by
  rw [outsAt0_B m c t h]; frame_out
  idx_vars y
  rw [addWo_at]
  exact pay_wo m c t _ _ _

theorem win_first (c : Dev nD) (t : Fin cfg0.N) (h : t.val % 16 = 0) (y : S2048x1024.Idx) :
    (outsAt0 m c t.val t.isLt).2.2.2.2.2 y = 0 + addWin m c t y := by
  rw [outsAt0_A m c t h]; frame_out
  simp (disch := decide) only [View.readCov_skip, View.readCov_fill]
  rw [← zero_win y]
  exact step_win m c t _ _ y
theorem win_next (c : Dev nD) (t : Fin cfg0.N) (h : ¬ t.val % 16 = 0) (y : S2048x1024.Idx) :
    (outsAt0 m c t.val t.isLt).2.2.2.2.2 y = (prev m c t).2.2.2.2.2 y + addWin m c t y := by
  rw [outsAt0_B m c t h]; frame_out
  exact step_win m c t _ [] y

abbrev refDbg (c : Dev nD) : FVec Ideal S1x2048 .f32 :=
  val_main_v38 (F := Ideal) (aH m c) (aWin m c) (aBias m c) (aPool m c) (aAttn m c) (aWout m c) (aDx m c)
abbrev refDwo (c : Dev nD) : FVec Ideal S1024x1024 .f32 :=
  val_main_v46 (F := Ideal) (aH m c) (aWin m c) (aBias m c) (aPool m c) (aAttn m c) (aDx m c)
abbrev refDwin (c : Dev nD) : FVec Ideal S2048x1024 .f32 :=
  val_main_v47 (F := Ideal) (aH m c) (aWin m c) (aBias m c) (aPool m c) (aAttn m c) (aWout m c) (aDx m c)

/-- A sum over the points and the rows of a block is the sum over all rows. -/
theorem sum_rows (f : Fin 4096 → EReal) : ∑ t : Fin cfg0.N, ∑ i : Fin 256, f (row t i) = ∑ r : Fin 4096, f r := by
  refine Fin.sum_mul_add_congr (S := cfg0.N) (n := 256) (L := 4096) fun t i h => rfl

theorem bg_sum (c : Dev nD) (j : S1x2048.Idx) : ∑ p, addBg m c p j = refDbg m c j := by
  idx_vars j
  obtain rfl : j0 = 0 := Subsingleton.elim _ _
  simp only [addBg_at]
  refine (sum_rows (fun r => dZ m c r j1)).trans ?_
  exact (dbg_eq _ _ _ _ _ _ _ _).symm

theorem final10 (c : Dev nD) : (dats m 0 c).arrAt 10 cfg0.N = refDbg m c := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0) (addBg m c)
    (bg_first m c) (bg_next m c) (le_of_eq N_0) t0_15 rfl j, zero_add]
  exact bg_sum m c j

theorem wo_sum (c : Dev nD) (j : S1024x1024.Idx) : ∑ p, addWo m c p j = refDwo m c j := by
  idx_vars j
  simp only [addWo_at]
  refine (sum_rows (fun r => mixed m c (ix3 0 r j0) * aDx m c (ix3 0 r j1))).trans ?_
  exact (dwo_eq _ _ _ _ _ _ _ _).symm

theorem final11 (c : Dev nD) : (dats m 0 c).arrAt 11 cfg0.N = refDwo m c := by
  refine (dats m 0 c).arrAt_eq_of_after_last 11 t0_15 (by decide +kernel) _ fun j => ?_
  blk_simp
  rw [after0_11, Pipeline.eq_sum_fin_of_reset_step_apply_last (fun n h => (outsAt0 m c n h).2.2.2.2.1) 16 (fun _ => 0) (addWo m c)
    (wo_first m c) (wo_next m c) (le_of_eq N_0) t0_15 rfl j, zero_add]
  exact wo_sum m c j

theorem win_sum (c : Dev nD) (j : S2048x1024.Idx) : ∑ p, addWin m c p j = refDwin m c j := by
  idx_vars j
  simp only [addWin_at]
  refine (sum_rows (fun r => dZ m c r j0 * aH m c (ix3 0 r j1))).trans ?_
  exact (dwin_eq _ _ _ _ _ _ _ _ _).symm

theorem final12 (c : Dev nD) : (dats m 0 c).arrAt 12 cfg0.N = refDwin m c := by
  refine (dats m 0 c).arrAt_eq_of_after_last 12 t0_15 (by decide +kernel) _ fun j => ?_
  blk_simp
  rw [after0_12, Pipeline.eq_sum_fin_of_reset_step_apply_last (fun n h => (outsAt0 m c n h).2.2.2.2.2) 16 (fun _ => 0) (addWin m c)
    (win_first m c) (win_next m c) (le_of_eq N_0) t0_15 rfl j, zero_add]
  exact win_sum m c j

end Cert.KernelIdeal.Mix

end
-- ==== Proof.Mix.Claim.lean ====
/- The backward pass of the gated mix: the kernel's six arrays are the six arrays of the reference's derivative. -/
module

public import proofs.«01_k».proof.Defs
public import proofs.«01_k».proof.Proof.Gen.KernelIdeal.Value
public import proofs.«01_k».proof.Proof.Gen.ReferenceIdeal.Run
public import proofs.«01_k».proof.Proof.Mix.Tiles
public import proofs.«01_k».proof.Proof.Mix.Accum

@[expose] public section

set_option maxRecDepth 16384

open Idealize.ShloMosaic

namespace Cert.Proof.Mix

open Cert.KernelIdeal.Mix

theorem algebraic : Cert.algebraic_KernelIdeal_ReferenceIdeal := by
  pair_intro
  · run_from Cert.KernelIdeal.Value.run_blocks m g
  · run_from Cert.ReferenceIdeal.Value.run m' g'
    · exact (final7 m c).symm
    · exact (final8 m c).symm
    · exact (final9 m c).symm
    · exact (final10 m c).symm
    · exact (final11 m c).symm
    · exact (final12 m c).symm

end Cert.Proof.Mix
-- ==== Proof.Pool.Host.lean ====
/- What the pooling's gradient call reads: the arrays its host lines prepare, the blocks of 512 rows that a grid point sees,
   and the 32 rows before and after a block that the windows reach into. -/
module

public import proofs.«01_k».proof.Proof.Gen.Kernel2Ideal.Frame
public import Idealize.ShloMosaic.Lib.Pipeline.ValueKit
public import Idealize.ShloMosaic.Lib.Claim

@[expose] public section

set_option maxRecDepth 16384

noncomputable section

namespace Cert.Kernel2Ideal.Pool

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The arguments, by name. -/
abbrev aH (c : Dev nD) : FVec Ideal S1x4096x1024 .f32 := m ((c : Thread nD τ).loc main_arg0)
abbrev aU (c : Dev nD) : FVec Ideal S1x4096x1024 .f32 := m ((c : Thread nD τ).loc main_arg1)
abbrev aWpool (c : Dev nD) : FVec Ideal S1x4x256x256 .f32 := m ((c : Thread nD τ).loc main_arg2)
abbrev aScale (c : Dev nD) : FVec Ideal S1x1024 .f32 := m ((c : Thread nD τ).loc main_arg3)
abbrev aDa (c : Dev nD) : FVec Ideal S1x4096x1024 .f32 := m ((c : Thread nD τ).loc main_arg4)

theorem V_u (c : Dev nD) : V m c main_v0 = shapeCast S4096x1024 (aU m c) shapeCasts_S1x4096x1024_S4096x1024 := by
  entry_read; rfl
theorem V_da (c : Dev nD) : V m c main_v1 = shapeCast S4096x1024 (aDa m c) shapeCasts_S1x4096x1024_S4096x1024 := by
  entry_read; rfl
theorem V_w (c : Dev nD) (g : Fin 4) (k j : Fin 256) : (V m c main_v3 : FVec Ideal S4x256x256 .bf16) (ix3 g k j) = aWpool m c (ix4 0 g k j) := by
  have e : V m c main_v3 = truncf .bf16 (shapeCast S4x256x256 (aWpool m c) shapeCasts_S1x4x256x256_S4x256x256) bitsLt_bf16_f32 := by
    entry_read; rfl
  rw [e]; pointwise
theorem V_h (c : Dev nD) (r : Fin 4096) (j : Fin 1024) : (V m c main_v5 : FVec Ideal S4096x1024 .bf16) (ix2 r j) = aH m c (ix3 0 r j) := by
  have e : V m c main_v5 = truncf .bf16 (shapeCast S4096x1024 (aH m c) shapeCasts_S1x4096x1024_S4096x1024) bitsLt_bf16_f32 := by
    entry_read; rfl
  rw [e]; pointwise
theorem V_scale (c : Dev nD) : V m c main_arg3 = aScale m c := by
  entry_read; rfl

/-- The block index of every window at every grid point: the rows before a block are the 32 that end where it starts (the
    first block's are its own and are not used), the rows after it the 32 that start where it ends. -/
theorem idx : ∀ t : Fin cfg0.N, win0_0.index t = ![t.val, 0] ∧ win0_1.index t = ![t.val * 16 - 1, 0] ∧ win0_2.index t = ![t.val, 0]
    ∧ win0_3.index t = ![min (t.val * 16 + 16) 127, 0] ∧ win0_4.index t = ![0, 0, 0] ∧ win0_5.index t = ![0, 0] ∧ win0_6.index t = ![t.val, 0]
    ∧ win0_7.index t = ![t.val, 0] ∧ t.val < 8 :=
  (by decide +kernel : ∀ t : Fin grid0.N, _)

/-- Row `i` of block `t` is row `512 t + i` of the array. -/
abbrev row (t : Fin cfg0.N) (i : Fin 512) : Fin 4096 := ⟨t.val * 512 + i.val, by have := (idx t).2.2.2.2.2.2.2.2; omega⟩

theorem blk_u (c : Dev nD) (t : Fin cfg0.N) (i : Fin 512) (j : Fin 1024) :
    (iblk m c 0 t : FVec Ideal S512x1024 .f32) (ix2 i j) = aU m c (ix3 0 (row t i) j) := by
  have e : (iblk m c 0 t : FVec Ideal S512x1024 .f32) (ix2 i j) = V m c main_v0 (ix2 (row t i) j) := by blk_ext [iblk, idx t]
  rw [e, V_u]; pointwise
theorem blk_before (c : Dev nD) (t : Fin cfg0.N) (i : Fin 32) (j : Fin 1024) (h : t.val ≠ 0) :
    (iblk m c 1 t : FVec Ideal S32x1024 .f32) (ix2 i j) = aU m c (ix3 0 ⟨t.val * 512 + i.val - 32, by have := (idx t).2.2.2.2.2.2.2.2; omega⟩ j) := by
  have e : (iblk m c 1 t : FVec Ideal S32x1024 .f32) (ix2 i j)
      = V m c main_v0 (ix2 ⟨t.val * 512 + i.val - 32, by have := (idx t).2.2.2.2.2.2.2.2; omega⟩ j) := by blk_ext [iblk, idx t]
  rw [e, V_u]; pointwise
theorem blk_da (c : Dev nD) (t : Fin cfg0.N) (i : Fin 512) (j : Fin 1024) :
    (iblk m c 2 t : FVec Ideal S512x1024 .f32) (ix2 i j) = aDa m c (ix3 0 (row t i) j) := by
  have e : (iblk m c 2 t : FVec Ideal S512x1024 .f32) (ix2 i j) = V m c main_v1 (ix2 (row t i) j) := by blk_ext [iblk, idx t]
  rw [e, V_da]; pointwise
theorem blk_after (c : Dev nD) (t : Fin cfg0.N) (i : Fin 32) (j : Fin 1024) (h : t.val < 7) :
    (iblk m c 3 t : FVec Ideal S32x1024 .f32) (ix2 i j) = aDa m c (ix3 0 ⟨t.val * 512 + 512 + i.val, by omega⟩ j) := by
  have e : (iblk m c 3 t : FVec Ideal S32x1024 .f32) (ix2 i j) = V m c main_v1 (ix2 ⟨t.val * 512 + 512 + i.val, by omega⟩ j) := by
    have h3 := (idx t).2.2.2.1
    rw [show min (t.val * 16 + 16) 127 = t.val * 16 + 16 by omega] at h3
    blk_ext [iblk, h3]
  rw [e, V_da]; pointwise
theorem blk_w (c : Dev nD) (t : Fin cfg0.N) (g : Fin 4) (k j : Fin 256) :
    (iblk m c 4 t : FVec Ideal S4x256x256 .bf16) (ix3 g k j) = aWpool m c (ix4 0 g k j) := by
  have e : (iblk m c 4 t : FVec Ideal S4x256x256 .bf16) (ix3 g k j) = V m c main_v3 (ix3 g k j) := by blk_ext [iblk, idx t]
  exact e.trans (V_w m c _ _ _)
theorem blk_scale (c : Dev nD) (t : Fin cfg0.N) (i : Fin 1) (j : Fin 1024) :
    (iblk m c 5 t : FVec Ideal S1x1024 .f32) (ix2 i j) = aScale m c (ix2 0 j) := by
  have e : (iblk m c 5 t : FVec Ideal S1x1024 .f32) (ix2 i j) = V m c main_arg3 (ix2 0 j) := by blk_ext [iblk, idx t]
  rw [e, V_scale]
theorem blk_h (c : Dev nD) (t : Fin cfg0.N) (i : Fin 512) (j : Fin 1024) :
    (iblk m c 6 t : FVec Ideal S512x1024 .bf16) (ix2 i j) = aH m c (ix3 0 (row t i) j) := by
  have e : (iblk m c 6 t : FVec Ideal S512x1024 .bf16) (ix2 i j) = V m c main_v5 (ix2 (row t i) j) := by blk_ext [iblk, idx t]
  exact e.trans (V_h m c _ _)

end Cert.Kernel2Ideal.Pool

end
-- ==== Proof.Pool.Slab.lean ====
/- Blocks of one two-dimensional function: a block read out of blocks that were stored side by side is a block of the same
   function. -/
module

public import Idealize.ShloMosaic.Lib.Pipeline.ValueKit
public import Idealize.ShloMosaic.Lib.Pipeline.CanonAppend
public import Idealize.ShloMosaic.Lib.Pointwise

@[expose] public section

noncomputable section

open Idealize.ShloMosaic

namespace Cert.Proof.Slab

/-- The block of `n` rows and `k` columns of `G` that starts at row `r`, column `c`. -/
def slab {φ : FTy} (n k : Nat) (G : Nat → Nat → EReal) (r c : Nat) : FVec Ideal ⟨2, ![n, k]⟩ φ := fun j => G (r + (j 0).val) (c + (j 1).val)

theorem slab_at {φ : FTy} (n k : Nat) (G : Nat → Nat → EReal) (r c : Nat) (i : Fin n) (j : Fin k) : (slab n k G r c : FVec Ideal ⟨2, ![n, k]⟩ φ) (ix2 i j) = G (r + i.val) (c + j.val) := rfl

/-- Each entry and the one `d` rows before it. -/
def back (d : Nat) (G : Nat → Nat → EReal) : Nat → Nat → EReal := fun r c => G r c + G (r - d) c
/-- Each entry and the one `d` rows after it. -/
def fore (d : Nat) (G : Nat → Nat → EReal) : Nat → Nat → EReal := fun r c => G r c + G (r + d) c

theorem add_back {φ : FTy} (n k : Nat) (G : Nat → Nat → EReal) (r s c : Nat) (h : s < r) :
    addf (slab n k G r c : FVec Ideal ⟨2, ![n, k]⟩ φ) (slab n k G s c) = slab n k (back (r - s) G) r c := by
  funext j
  show G _ _ + G _ _ = G _ _ + G _ _
  congr 2; omega

theorem add_fore {φ : FTy} (n k : Nat) (G : Nat → Nat → EReal) (r s c : Nat) (h : r < s) :
    addf (slab n k G r c : FVec Ideal ⟨2, ![n, k]⟩ φ) (slab n k G s c) = slab n k (fore (s - r) G) r c := by
  funext j
  show G _ _ + G _ _ = G _ _ + G _ _
  congr 2; omega

/-- A block of one function is the block of another that agrees with it there. -/
theorem slab_eq {φ : FTy} (n k : Nat) (F G : Nat → Nat → EReal) (r c r' c' : Nat) (h : ∀ i j : Nat, i < n → j < k → F (r + i) (c + j) = G (r' + i) (c' + j)) :
    (slab n k F r c : FVec Ideal ⟨2, ![n, k]⟩ φ) = slab n k G r' c' := by
  funext j
  exact h _ _ (j 0).isLt (j 1).isLt

section
variable {φ : FTy} {n k : Nat} (F G : Nat → Nat → EReal) (r c r' c' : Nat) (x : EReal)

theorem trunc_slab {ψ : FTy} (h : ψ.bits < φ.bits) : truncf ψ (slab n k G r c : FVec Ideal ⟨2, ![n, k]⟩ φ) h = slab n k G r c := rfl
theorem same_slab (h : (⟨2, ![n, k]⟩ : Shape).ShapeCasts ⟨2, ![n, k]⟩) :
    shapeCast ⟨2, ![n, k]⟩ (slab n k G r c : FVec Ideal ⟨2, ![n, k]⟩ φ) h = slab n k G r c := shapeCast_self _ h
theorem mul_slab : mulf (slab n k F r c : FVec Ideal ⟨2, ![n, k]⟩ φ) (slab n k G r' c') = slab n k (fun i j => F (r + i) (c + j) * G (r' + i) (c' + j)) 0 0 := by
  funext j; simp only [slab, Nat.zero_add]; rfl
theorem sub_slab : subf (slab n k F r c : FVec Ideal ⟨2, ![n, k]⟩ φ) (slab n k G r' c') = slab n k (fun i j => F (r + i) (c + j) - G (r' + i) (c' + j)) 0 0 := by
  funext j; simp only [slab, Nat.zero_add]; rfl
theorem div_slab : divf (slab n k F r c : FVec Ideal ⟨2, ![n, k]⟩ φ) (slab n k G r' c') = slab n k (fun i j => Ideal.div (F (r + i) (c + j)) (G (r' + i) (c' + j))) 0 0 := by
  funext j; simp only [slab, Nat.zero_add]; rfl
theorem plus_slab : addf (slab n k G r c : FVec Ideal ⟨2, ![n, k]⟩ φ) (broadcast ⟨2, ![n, k]⟩ (x : Ideal φ)) = slab n k (fun i j => G i j + x) r c := rfl
theorem min_slab : minimumf (slab n k G r c : FVec Ideal ⟨2, ![n, k]⟩ φ) (broadcast ⟨2, ![n, k]⟩ (x : Ideal φ)) = slab n k (fun i j => min (G i j) x) r c := rfl
theorem cut_slab {n' k' a b : Nat} (h : (⟨2, ![n, k]⟩ : Shape).Slices ![a, b] ⟨2, ![n', k']⟩) :
    extractStridedSlice ⟨2, ![n', k']⟩ ![a, b] (slab n k G r c : FVec Ideal ⟨2, ![n, k]⟩ φ) h = slab n' k' G (r + a) (c + b) := by
  funext j
  show G (r + (a + (j 0).val)) (c + (b + (j 1).val)) = G (r + a + (j 0).val) (c + b + (j 1).val)
  rw [Nat.add_assoc, Nat.add_assoc]
theorem across_slab (hn : n ≠ 1) (h : (⟨2, ![n, 1]⟩ : Shape).Broadcasts ⟨2, ![n, k]⟩) :
    broadcastTo ⟨2, ![n, k]⟩ (slab n 1 G r c : FVec Ideal ⟨2, ![n, 1]⟩ φ) h = slab n k (fun i _ => G i c) r 0 := by
  funext j
  refine (broadcastTo_apply _ h j (ix2 (n0 := n) (n1 := 1) (j 0) 0) fun a => ?_).trans rfl
  fin_cases a
  · show (j 0).val = if n = 1 then 0 else (j 0).val
    rw [if_neg hn]
  · rfl
theorem down_slab (hk : k ≠ 1) (h : (⟨2, ![1, k]⟩ : Shape).Broadcasts ⟨2, ![n, k]⟩) :
    broadcastTo ⟨2, ![n, k]⟩ (slab 1 k G r c : FVec Ideal ⟨2, ![1, k]⟩ φ) h = slab n k (fun _ j => G r j) 0 c := by
  funext j
  refine (broadcastTo_apply _ h j (ix2 (n0 := 1) (n1 := k) 0 (j 1)) fun a => ?_).trans ?_
  · fin_cases a
    · rfl
    · show (j 1).val = if k = 1 then 0 else (j 1).val
      rw [if_neg hk]
  · show G (r + 0) (c + (j 1).val) = G r (c + (j 1).val)
    rw [Nat.add_zero]
end

variable {sig : RefSig} {κ : Kind} {sp : Space} {R C : Nat}

/-- What the buffer holds where every stored block covering the place is a block of `G`. -/
theorem canon_slab (G : Nat → Nat → EReal) (L L' : List (View.Piece (Elt Ideal) ⟨2, ![R, C]⟩ .f32))
    (hL : ∀ p ∈ L, ∀ x : p.1.shape.Idx, p.2 x = G (p.1.emb x 0).val (p.1.emb x 1).val) (y : (⟨2, ![R, C]⟩ : Shape).Idx)
    (hy : ∃ p ∈ L, y ∈ p.1.set) : View.canon (L ++ L') y = G (y 0).val (y 1).val :=
  View.canon_append_of_pieces (fun z : (⟨2, ![R, C]⟩ : Shape).Idx => (G (z 0).val (z 1).val : Elt Ideal .f32)) L' L hL y hy

theorem piece_slab {φ : FTy} (G : Nat → Nat → EReal) (a b n k : Nat)
    (i1 : ∀ x, (![a, b] : Fin 2 → Nat) x + (![n, k] : Fin 2 → Nat) x ≤ (![R, C] : Fin 2 → Nat) x)
    (x : (⟨2, ![n, k]⟩ : Shape).Idx) :
    (slab n k G a b : FVec Ideal ⟨2, ![n, k]⟩ φ) x = G ((Rect.unit (s := ⟨2, ![R, C]⟩) ![a, b] ![n, k] i1).emb x 0).val ((Rect.unit (s := ⟨2, ![R, C]⟩) ![a, b] ![n, k] i1).emb x 1).val := by
  show G (a + (x 0).val) (b + (x 1).val) = G (a + 1 * (x 0).val) (b + 1 * (x 1).val)
  rw [Nat.one_mul, Nat.one_mul]

/-- A block inside the block stored last. -/
theorem read_last (v : View sig κ sp ⟨2, ![R, C]⟩ .f32) (G : Nat → Nat → EReal) (a b n k r c n' k' : Nat)
    (i1 : ∀ x, (![a, b] : Fin 2 → Nat) x + (![n, k] : Fin 2 → Nat) x ≤ (![R, C] : Fin 2 → Nat) x)
    (i2 : ∀ x, (![r, c] : Fin 2 → Nat) x + (![n', k'] : Fin 2 → Nat) x ≤ (![R, C] : Fin 2 → Nat) x)
    (L : List (View.Piece (Elt Ideal) ⟨2, ![R, C]⟩ .f32)) (h : a ≤ r ∧ r + n' ≤ a + n ∧ b ≤ c ∧ c + k' ≤ b + k) :
    v.readCov (⟨Rect.unit (s := ⟨2, ![R, C]⟩) ![a, b] ![n, k] i1, slab (φ := .f32) n k G a b⟩ :: L) (Rect.unit (s := ⟨2, ![R, C]⟩) ![r, c] ![n', k'] i2).toLoadRect = slab (φ := .f32) n' k' G r c := by
  rw [View.readCov_eq_canon']
  funext j
  refine (canon_slab G [_] L (fun p hp x => ?_) _ ⟨_, List.mem_singleton_self _, ?_⟩).trans ?_
  · obtain rfl := List.mem_singleton.mp hp
    exact piece_slab (φ := .f32) G a b n k i1 x
  · have h0 : (j 0).val < n' := (j 0).isLt
    have h1 : (j 1).val < k' := (j 1).isLt
    rw [Rect.mem_set_unit]
    intro x
    fin_cases x
    · show a ≤ r + 1 * (j 0).val ∧ r + 1 * (j 0).val < a + n
      omega
    · show b ≤ c + 1 * (j 1).val ∧ c + 1 * (j 1).val < b + k
      omega
  · show G (r + 1 * (j 0).val) (c + 1 * (j 1).val) = G (r + (j 0).val) (c + (j 1).val)
    rw [Nat.one_mul, Nat.one_mul]

/-- A block inside the block stored last, which may be stored elsewhere than it stands in `G`. -/
theorem read_moved (v : View sig κ sp ⟨2, ![R, C]⟩ .f32) (G : Nat → Nat → EReal) (a b n k r c n' k' p q : Nat)
    (i1 : ∀ x, (![a, b] : Fin 2 → Nat) x + (![n, k] : Fin 2 → Nat) x ≤ (![R, C] : Fin 2 → Nat) x)
    (i2 : ∀ x, (![r, c] : Fin 2 → Nat) x + (![n', k'] : Fin 2 → Nat) x ≤ (![R, C] : Fin 2 → Nat) x)
    (L : List (View.Piece (Elt Ideal) ⟨2, ![R, C]⟩ .f32)) (h : a ≤ r ∧ r + n' ≤ a + n ∧ b ≤ c ∧ c + k' ≤ b + k) :
    v.readCov (⟨Rect.unit (s := ⟨2, ![R, C]⟩) ![a, b] ![n, k] i1, slab (φ := .f32) n k G p q⟩ :: L) (Rect.unit (s := ⟨2, ![R, C]⟩) ![r, c] ![n', k'] i2).toLoadRect
      = slab (φ := .f32) n' k' G (p + (r - a)) (q + (c - b)) := by
  have e : (slab n k G p q : FVec Ideal ⟨2, ![n, k]⟩ .f32) = slab n k (fun i j => G (p + (i - a)) (q + (j - b))) a b :=
    slab_eq _ _ _ _ _ _ _ _ fun i j _ _ => by rw [Nat.add_sub_cancel_left, Nat.add_sub_cancel_left]
  rw [e]
  refine (read_last v _ a b n k r c n' k' i1 i2 L h).trans (slab_eq _ _ _ _ _ _ _ _ fun i j _ _ => ?_)
  rw [show p + (r + i - a) = p + (r - a) + i by omega, show q + (c + j - b) = q + (c - b) + j by omega]

/-- A block inside the two blocks stored last, the later of which stands below the earlier. -/
theorem read_below (v : View sig κ sp ⟨2, ![R, C]⟩ .f32) (G : Nat → Nat → EReal) (a a' b n n' k r c n'' k' : Nat)
    (i1 : ∀ x, (![a, b] : Fin 2 → Nat) x + (![n, k] : Fin 2 → Nat) x ≤ (![R, C] : Fin 2 → Nat) x)
    (i1' : ∀ x, (![a', b] : Fin 2 → Nat) x + (![n', k] : Fin 2 → Nat) x ≤ (![R, C] : Fin 2 → Nat) x)
    (i2 : ∀ x, (![r, c] : Fin 2 → Nat) x + (![n'', k'] : Fin 2 → Nat) x ≤ (![R, C] : Fin 2 → Nat) x)
    (L : List (View.Piece (Elt Ideal) ⟨2, ![R, C]⟩ .f32))
    (h : a' + n' = a ∧ a' ≤ r ∧ r + n'' ≤ a + n ∧ b ≤ c ∧ c + k' ≤ b + k) :
    v.readCov (⟨Rect.unit (s := ⟨2, ![R, C]⟩) ![a, b] ![n, k] i1, slab (φ := .f32) n k G a b⟩ :: ⟨Rect.unit (s := ⟨2, ![R, C]⟩) ![a', b] ![n', k] i1', slab (φ := .f32) n' k G a' b⟩ :: L)
      (Rect.unit (s := ⟨2, ![R, C]⟩) ![r, c] ![n'', k'] i2).toLoadRect = slab (φ := .f32) n'' k' G r c := by
  rw [View.readCov_eq_canon']
  funext j
  have h0 : (j 0).val < n'' := (j 0).isLt
  have h1 : (j 1).val < k' := (j 1).isLt
  refine (canon_slab G [_, _] L (fun p hp x => ?_) _ ?_).trans ?_
  · rcases List.mem_cons.mp hp with rfl | hp
    · exact piece_slab (φ := .f32) G a b n k i1 x
    · obtain rfl := List.mem_singleton.mp hp
      exact piece_slab (φ := .f32) G a' b n' k i1' x
  · by_cases hr : a ≤ r + (j 0).val
    · refine ⟨_, List.mem_cons_self, ?_⟩
      rw [Rect.mem_set_unit]
      intro x
      fin_cases x
      · show a ≤ r + 1 * (j 0).val ∧ r + 1 * (j 0).val < a + n
        omega
      · show b ≤ c + 1 * (j 1).val ∧ c + 1 * (j 1).val < b + k
        omega
    · refine ⟨_, List.mem_cons_of_mem _ (List.mem_singleton_self _), ?_⟩
      rw [Rect.mem_set_unit]
      intro x
      fin_cases x
      · show a' ≤ r + 1 * (j 0).val ∧ r + 1 * (j 0).val < a' + n'
        omega
      · show b ≤ c + 1 * (j 1).val ∧ c + 1 * (j 1).val < b + k
        omega
  · show G (r + 1 * (j 0).val) (c + 1 * (j 1).val) = G (r + (j 0).val) (c + (j 1).val)
    rw [Nat.one_mul, Nat.one_mul]

end Cert.Proof.Slab

end
-- ==== Proof.Reals.lean ====
/- Extended reals that are real numbers: what the claims' preconditions give, closed under sums and products. -/
module

public import Idealize.ShloMosaic.Lib.Pointwise
public import Idealize.ShloMosaic.Lib.ReduceAll
public import Idealize.ShloMosaic.Lib.WordArith
public import Idealize.ShloMosaic.PureOps.Ideal.Laws

@[expose] public section

noncomputable section

open Idealize.ShloMosaic

namespace Cert.Proof.Reals

/-- Neither infinity. -/
def IsReal (x : EReal) : Prop := ∃ r : ℝ, (r : EReal) = x

theorem isReal_coe (r : ℝ) : IsReal (r : EReal) := ⟨r, rfl⟩
theorem isReal_zero : IsReal 0 := ⟨0, rfl⟩
theorem IsReal.add {x y : EReal} : IsReal x → IsReal y → IsReal (x + y) := fun ⟨a, ha⟩ ⟨b, hb⟩ => ⟨a + b, by rw [← ha, ← hb, EReal.coe_add]⟩
theorem IsReal.sub {x y : EReal} : IsReal x → IsReal y → IsReal (x - y) := fun ⟨a, ha⟩ ⟨b, hb⟩ => ⟨a - b, by rw [← ha, ← hb, EReal.coe_sub]⟩
theorem IsReal.mul {x y : EReal} : IsReal x → IsReal y → IsReal (x * y) := fun ⟨a, ha⟩ ⟨b, hb⟩ => ⟨a * b, by rw [← ha, ← hb, EReal.coe_mul]⟩
theorem IsReal.sub_self {x : EReal} : IsReal x → x - x = 0 := fun ⟨a, ha⟩ => by rw [← ha, ← EReal.coe_sub, _root_.sub_self, EReal.coe_zero]

theorem coe_sum {n : Nat} (f : Fin n → ℝ) : ((∑ i, f i : ℝ) : EReal) = ∑ i, (f i : EReal) := by
  induction n with
  | zero => simp
  | succ n ih => rw [Fin.sum_univ_castSucc, Fin.sum_univ_castSucc, EReal.coe_add, ih]

theorem isReal_sum {n : Nat} (f : Fin n → EReal) (h : ∀ i, IsReal (f i)) : IsReal (∑ i, f i) := by
  choose r hr using h
  exact ⟨∑ i, r i, by rw [coe_sum]; exact Finset.sum_congr rfl fun i _ => hr i⟩

/-- A family of real numbers, as the extended reals they are. -/
theorem isReal_fun {ι : Type} (f : ι → EReal) (h : ∀ i, IsReal (f i)) : ∃ r : ι → ℝ, f = fun i => (r i : EReal) := by
  choose r hr using h
  exact ⟨r, funext fun i => (hr i).symm⟩

/-- The elements an `all(abs(x) < inf)` answers for are real. -/
theorem isReal_of_all {s t u z : Shape} [Subsingleton t.Idx] {axes : List (Fin s.rank)} (x : FVec Ideal s .f32) (d) (hb : z.BroadcastsInDim s d)
    (init : IVec u 1) (h : s.ReducesTo axes t) (hu : 0 < u.numel) (j : t.Idx)
    (e : Host.reduce IntOp.andi (cmpf .olt (Host.absf x) (broadcastInDim s d hb (constant z .f32 0x7F800000#32))) init h hu j = 1#1) (i : s.Idx) :
    IsReal (x i) := by
  have := Host.reduce_andi_all _ init h hu j e i
  rw [show cmpf .olt (Host.absf x) (broadcastInDim s d hb (constant z .f32 0x7F800000#32)) i = FloatOps.cmpf .olt (max (x i) (-(x i))) (Ideal.ofBits .f32 0x7F800000#32) from rfl] at this
  simp [Ideal.ofBits, Ideal.ieee] at this
  have lt : max (x i) (-(x i)) < ⊤ := by
    have e : BitVec.ofBool (decide (max (x i) (-(x i)) < ⊤)) = 1#1 := this
    exact of_decide_eq_true ((WordArith.ofBool_eq_one_iff _).1 e)
  have hi : x i ≠ ⊤ := fun e => absurd lt (by rw [e]; simp)
  have lo : x i ≠ ⊥ := fun e => absurd lt (by rw [e]; simp)
  exact ⟨(x i).toReal, EReal.coe_toReal hi lo⟩

theorem and_one {p q : BitVec 1} (h : IntOp.andi p q = 1#1) : p = 1#1 ∧ q = 1#1 := by
  revert h; revert p q; decide

theorem ofBits_1024 : Ideal.ofBits .f32 0x44800000#32 = ((1024 : ℝ) : EReal) := by
  simp [Ideal.ofBits, Ideal.ieee]; rw [← EReal.coe_mul]; norm_num
theorem ofBits_neg_half : Ideal.ofBits .f32 0xBF000000#32 = ((-(1 / 2) : ℝ) : EReal) := by
  simp [Ideal.ofBits, Ideal.ieee]; rw [← EReal.coe_mul]; norm_num
/-- The norm's constant, a little under one millionth. -/
def eps : ℝ := 8796093 / 8796093022208
theorem eps_pos : 0 < eps := by norm_num [eps]
theorem ofBits_eps : Ideal.ofBits .f32 0x358637BD#32 = (eps : EReal) := by
  simp [Ideal.ofBits, Ideal.ieee]; rw [← EReal.coe_mul]; norm_num [eps]

theorem div_1024 (x : ℝ) : Ideal.div (x : EReal) (1024 : ℝ) = ((x / 1024 : ℝ) : EReal) := by
  rw [Ideal.div_coe (by norm_num : (1024 : ℝ) ≠ 0), ← EReal.coe_mul]; congr 1; ring

theorem rsqrt_pos {v : ℝ} (h : 0 < v) : Ideal.rsqrt (v : EReal) = (((Real.sqrt v)⁻¹ : ℝ) : EReal) := by
  rw [Ideal.rsqrt_coe, if_neg (not_lt.2 h.le), if_neg h.ne']

/-! The root-mean-square norm of one row `x` of 1024 real numbers, `x` times `root x` times a gain `g`. -/

/-- The mean of the squares plus the constant, and the factor that the row is normalized by. -/
def meanSq (x : Fin 1024 → EReal) : EReal := Ideal.div (∑ k, x k * x k) (Ideal.ofBits .f32 0x44800000#32) + Ideal.ofBits .f32 0x358637BD#32
def root (x : Fin 1024 → EReal) : EReal := Ideal.rsqrt (meanSq x)

theorem norm_real (x : Fin 1024 → ℝ) : ∃ v : ℝ, 0 < v ∧ meanSq (fun k => (x k : EReal)) = (v : EReal)
    ∧ root (fun k => (x k : EReal)) = (((Real.sqrt v)⁻¹ : ℝ) : EReal) := by
  have e : meanSq (fun k => (x k : EReal)) = (((∑ k, x k * x k) / 1024 + eps : ℝ) : EReal) := by
    unfold meanSq
    rw [EReal.coe_add, ofBits_eps, ofBits_1024, ← div_1024, coe_sum]
    simp only [EReal.coe_mul]
  have p : 0 < (∑ k, x k * x k) / 1024 + eps :=
    add_pos_of_nonneg_of_pos (div_nonneg (Finset.sum_nonneg fun k _ => mul_self_nonneg _) (by norm_num)) eps_pos
  exact ⟨_, p, e, by rw [root, e, rsqrt_pos p]⟩

theorem isReal_root (x : Fin 1024 → EReal) (hx : ∀ k, IsReal (x k)) : IsReal (root x) := by
  obtain ⟨x, rfl⟩ := isReal_fun x hx
  obtain ⟨v, -, -, e⟩ := norm_real x
  exact ⟨_, e.symm⟩

/-- The norm's gradient in its row: written by hand (the normalized row's part along the cotangent taken off) on the
    left; as the chain rule gives it (through the mean of the squares) on the right. -/
theorem norm_grad (x g d : Fin 1024 → EReal) (hx : ∀ k, IsReal (x k)) (hg : ∀ k, IsReal (g k)) (hd : ∀ k, IsReal (d k)) (j : Fin 1024) :
    root x * (d j * g j - x j * root x * Ideal.div (∑ k, d k * g k * (x k * root x)) (Ideal.ofBits .f32 0x44800000#32))
      = d j * g j * root x
        + x j * Ideal.div ((∑ k, x k * (d k * g k)) * (Ideal.ofBits .f32 0xBF000000#32 * Ideal.div (root x) (meanSq x))) (Ideal.ofBits .f32 0x44800000#32)
        + Ideal.div ((∑ k, x k * (d k * g k)) * (Ideal.ofBits .f32 0xBF000000#32 * Ideal.div (root x) (meanSq x))) (Ideal.ofBits .f32 0x44800000#32) * x j := by
  obtain ⟨x, rfl⟩ := isReal_fun x hx
  obtain ⟨g, rfl⟩ := isReal_fun g hg
  obtain ⟨d, rfl⟩ := isReal_fun d hd
  obtain ⟨v, hv, ev, er⟩ := norm_real x
  rw [ev, er, ofBits_1024, ofBits_neg_half, Ideal.div_coe hv.ne']
  simp only [← EReal.coe_mul, ← coe_sum, div_1024, ← EReal.coe_add, ← EReal.coe_sub]
  rw [EReal.coe_eq_coe_iff]
  have s : ∑ k, d k * g k * (x k * (Real.sqrt v)⁻¹) = (∑ k, x k * (d k * g k)) * (Real.sqrt v)⁻¹ := by
    rw [Finset.sum_mul]; exact Finset.sum_congr rfl fun k _ => by ring
  have q : (Real.sqrt v)⁻¹ * (Real.sqrt v)⁻¹ = 1 / v := by
    rw [← mul_inv, Real.mul_self_sqrt hv.le, one_div]
  rw [s]
  generalize (∑ k, x k * (d k * g k)) = S at *
  generalize (Real.sqrt v)⁻¹ = r at *
  rw [← q]
  ring

end Cert.Proof.Reals

end
-- ==== Proof.Running.lean ====
/- Running sums, as a window as long as the array sums them, and the sums of a few neighbouring terms that two of them
   leave when one is subtracted from the other. -/
module

public import proofs.«01_k».proof.Proof.Reals
public import Idealize.ShloMosaic.Lib.Pointwise
public import Idealize.ShloMosaic.PureOps.Ideal.Laws

@[expose] public section

noncomputable section

open Idealize.ShloMosaic

namespace Cert.Proof.Running

open Cert.Proof.Reals

/-- The entry at place `n` of `N` entries, zero past their end. -/
def at0 {N : Nat} (u : Fin N → EReal) (n : Nat) : EReal := if h : n < N then u ⟨n, h⟩ else 0

theorem at0_lt {N : Nat} (u : Fin N → EReal) (n : Nat) (h : n < N) : at0 u n = u ⟨n, h⟩ := dif_pos h
theorem at0_ge {N : Nat} (u : Fin N → EReal) (n : Nat) (h : N ≤ n) : at0 u n = 0 := dif_neg (Nat.not_lt.2 h)

/-- The sum of the `w` terms up to place `t`; before the start there are none. -/
def behind (w : Nat) (f : Nat → EReal) (t : Nat) : EReal := ∑ k ∈ Finset.range w, if k ≤ t then f (t - k) else 0
/-- The sum of the `w` terms from place `t` on. -/
def ahead (w : Nat) (f : Nat → EReal) (t : Nat) : EReal := ∑ k ∈ Finset.range w, f (t + k)

theorem coe_sum_range (r : Nat → ℝ) (n : Nat) : ((∑ i ∈ Finset.range n, r i : ℝ) : EReal) = ∑ i ∈ Finset.range n, (r i : EReal) := by
  induction n with
  | zero => simp
  | succ n ih => rw [Finset.sum_range_succ, Finset.sum_range_succ, EReal.coe_add, ih]

/-- The running sum at `t` less that of `w` places before is the sum of the last `w` terms. -/
theorem behind_eq (w : Nat) (f : Nat → EReal) (hf : ∀ n, IsReal (f n)) (t : Nat) :
    ∑ i ∈ Finset.range (t + 1), f i - (if w ≤ t then ∑ i ∈ Finset.range (t - w + 1), f i else 0) = behind w f t := by
  obtain ⟨r, rfl⟩ := isReal_fun f hf
  unfold behind
  split
  · next h =>
    obtain ⟨d, rfl⟩ : ∃ d, t = w + d := ⟨t - w, by omega⟩
    have e : ∑ k ∈ Finset.range w, (if k ≤ w + d then (r (w + d - k) : EReal) else 0) = ((∑ k ∈ Finset.range w, r (d + 1 + k) : ℝ) : EReal) := by
      rw [coe_sum_range, ← Finset.sum_range_reflect]
      refine Finset.sum_congr rfl fun k hk => ?_
      have := Finset.mem_range.1 hk
      rw [if_pos (by omega)]; congr 2; omega
    rw [e, Nat.add_sub_cancel_left, show w + d + 1 = d + 1 + w by omega, ← coe_sum_range, ← coe_sum_range, Finset.sum_range_add, ← EReal.coe_sub]
    congr 1; ring
  · next h =>
    obtain ⟨d, rfl⟩ : ∃ d, w = t + 1 + d := ⟨w - (t + 1), by omega⟩
    have e : ∑ k ∈ Finset.range (t + 1 + d), (if k ≤ t then (r (t - k) : EReal) else 0) = ∑ k ∈ Finset.range (t + 1), if k ≤ t then (r (t - k) : EReal) else 0 := by
      rw [Finset.sum_range_add _ (t + 1) d, Finset.sum_eq_zero (s := Finset.range d) fun i _ => if_neg (by omega), add_zero]
    rw [sub_zero, e, ← Finset.sum_range_reflect]
    refine Finset.sum_congr rfl fun k hk => ?_
    have := Finset.mem_range.1 hk
    rw [if_pos (by omega)]; congr 2

/-- The running sum from `t` on of the terms, each less the one `w` places after it, is the sum of the next `w` terms. -/
theorem ahead_eq (N w : Nat) (f : Nat → EReal) (hf : ∀ n, IsReal (f n)) (h0 : ∀ n, N ≤ n → f n = 0) (t : Nat) (ht : t ≤ N) :
    ∑ i ∈ Finset.range (N - t), (f (t + i) + -f (t + i + w)) = ahead w f t := by
  obtain ⟨r, rfl⟩ := isReal_fun f hf
  have h0 : ∀ n, N ≤ n → r n = 0 := fun n hn => EReal.coe_eq_zero.1 (h0 n hn)
  unfold ahead
  simp only [← EReal.coe_neg, ← EReal.coe_add, ← coe_sum_range]
  congr 1
  obtain ⟨d, rfl⟩ : ∃ d, N = t + d := ⟨N - t, by omega⟩
  rw [Nat.add_sub_cancel_left, Finset.sum_add_distrib, Finset.sum_neg_distrib]
  have e1 := Finset.sum_range_add (fun i => r (t + i)) d w
  have e2 := Finset.sum_range_add (fun i => r (t + i)) w d
  have e3 : ∑ i ∈ Finset.range w, r (t + (d + i)) = 0 := Finset.sum_eq_zero fun i _ => h0 _ (by omega)
  have e4 : ∑ i ∈ Finset.range d, r (t + (w + i)) = ∑ i ∈ Finset.range d, r (t + i + w) := Finset.sum_congr rfl fun i _ => by congr 1; omega
  rw [Nat.add_comm d w, e2, e3, e4] at e1
  linarith

/-- A running sum of a list's entries is its entries' sum. -/
theorem foldl_add {α : Type} (F : α → EReal) (l : List α) (r : EReal) : l.foldl (fun r n => r + F n) r = r + (l.map F).sum := by
  induction l generalizing r with
  | nil => simp
  | cons a l ih => rw [List.foldl_cons, ih, List.map_cons, List.sum_cons, add_assoc]

/-- A window that is one wide but for its second axis sums that axis. -/
theorem window_at {N G C : Nat} (lo hi : Nat) (x : (⟨4, ![1, N, G, C]⟩ : Shape).Idx → EReal)
    (h : (⟨4, ![1, N, G, C]⟩ : Shape).ReduceWindows (![1, N, 1, 1] : Fin 4 → Nat) ![1, 1, 1, 1] ![0, lo, 0, 0] ![0, hi, 0, 0] ⟨4, ![1, N, G, C]⟩)
    (a : Fin 1) (t : Fin N) (g : Fin G) (c : Fin C) :
    Ideal.hostReduceWindowAdd ![1, N, 1, 1] ![1, 1, 1, 1] ![0, lo, 0, 0] ![0, hi, 0, 0] h x 0 (ix4 a t g c)
      = ∑ n : Fin N, if hin : lo ≤ t.val + n.val ∧ t.val + n.val - lo < N then x (ix4 0 ⟨t.val + n.val - lo, hin.2⟩ g c) else 0 := by
  obtain rfl : a = 0 := Subsingleton.elim _ _
  let W : Shape := ⟨4, ![1, N, 1, 1]⟩
  let e : Fin N ≃ W.Idx :=
    { toFun := fun n => ix4 (0 : Fin 1) n (0 : Fin 1) (0 : Fin 1)
      invFun := fun i => i 1
      left_inv := fun _ => rfl
      right_inv := fun i => funext fun b => by
        match b with
        | ⟨0, _⟩ => exact Subsingleton.elim (α := Fin 1) _ _
        | ⟨1, _⟩ => rfl
        | ⟨2, _⟩ => exact Subsingleton.elim (α := Fin 1) _ _
        | ⟨3, _⟩ => exact Subsingleton.elim (α := Fin 1) _ _ }
  unfold Ideal.hostReduceWindowAdd Host.reduceWindow
  dsimp only
  rw [foldl_add, zero_add, ← List.ofFn_eq_map, List.sum_ofFn]
  refine (Fintype.sum_equiv (e.trans W.rowMajor) _ _ fun n => ?_).symm
  have hs : W.rowMajor.symm ((e.trans W.rowMajor) n) = ix4 (0 : Fin 1) n (0 : Fin 1) (0 : Fin 1) := W.rowMajor.symm_apply_apply _
  have h1 : ∀ b : Fin 4, (ix4 (0 : Fin 1) t g c (b.cast h.1.symm)).val * (![1, 1, 1, 1] : Fin 4 → Nat) b + (W.rowMajor.symm ((e.trans W.rowMajor) n) b).val
      = (![0, t.val + n.val, g.val, c.val] : Fin 4 → Nat) b := fun b => by
    rw [hs]
    match b with
    | ⟨0, _⟩ => rfl
    | ⟨1, _⟩ => show t.val * 1 + n.val = _; rw [Nat.mul_one]; rfl
    | ⟨2, _⟩ => show g.val * 1 + 0 = _; rw [Nat.mul_one]; rfl
    | ⟨3, _⟩ => show c.val * 1 + 0 = _; rw [Nat.mul_one]; rfl
  by_cases hc : lo ≤ t.val + n.val ∧ t.val + n.val - lo < N
  · rw [dif_pos hc, dif_pos]
    · refine congrArg x (funext fun b => Fin.ext ?_)
      refine Eq.trans ?_ (congrArg (· - (![0, lo, 0, 0] : Fin 4 → Nat) b) (h1 b)).symm
      match b with
      | ⟨0, _⟩ => rfl
      | ⟨1, _⟩ => rfl
      | ⟨2, _⟩ => rfl
      | ⟨3, _⟩ => rfl
    · intro b
      refine (congrArg (fun p => (![0, lo, 0, 0] : Fin 4 → Nat) b ≤ p ∧ p - (![0, lo, 0, 0] : Fin 4 → Nat) b < (![1, N, G, C] : Fin 4 → Nat) b) (h1 b)).mpr ?_
      match b with
      | ⟨0, _⟩ => exact ⟨le_refl 0, Nat.one_pos⟩
      | ⟨1, _⟩ => exact hc
      | ⟨2, _⟩ => exact ⟨Nat.zero_le _, g.isLt⟩
      | ⟨3, _⟩ => exact ⟨Nat.zero_le _, c.isLt⟩
  · rw [dif_neg hc, dif_neg]
    intro hin
    refine hc ?_
    exact (congrArg (fun p => lo ≤ p ∧ p - lo < N) (h1 1)).mp (hin 1)

/-- The window that reaches back over the whole axis: the running sum up to each place. -/
theorem window_upto {N G C : Nat} (M : Nat) (hM : M + 1 = N) (x : (⟨4, ![1, N, G, C]⟩ : Shape).Idx → EReal)
    (h : (⟨4, ![1, N, G, C]⟩ : Shape).ReduceWindows (![1, N, 1, 1] : Fin 4 → Nat) ![1, 1, 1, 1] ![0, M, 0, 0] ![0, 0, 0, 0] ⟨4, ![1, N, G, C]⟩)
    (a : Fin 1) (t : Fin N) (g : Fin G) (c : Fin C) :
    Ideal.hostReduceWindowAdd ![1, N, 1, 1] ![1, 1, 1, 1] ![0, M, 0, 0] ![0, 0, 0, 0] h x 0 (ix4 a t g c)
      = ∑ i ∈ Finset.range (t.val + 1), at0 (fun n => x (ix4 0 n g c)) i := by
  rw [window_at]
  have e : ∀ n : Fin N, (if hin : M ≤ t.val + n.val ∧ t.val + n.val - M < N then x (ix4 0 ⟨t.val + n.val - M, hin.2⟩ g c) else 0)
      = (fun n : Nat => if M ≤ t.val + n then at0 (fun n => x (ix4 0 n g c)) (t.val + n - M) else 0) n.val := fun n => by
    dsimp only
    have := t.isLt; have := n.isLt
    by_cases hc : M ≤ t.val + n.val
    · rw [dif_pos ⟨hc, by omega⟩, if_pos hc, at0_lt _ _ (by omega)]
    · rw [dif_neg fun h => hc h.1, if_neg hc]
  rw [Finset.sum_congr rfl fun n _ => e n, Fin.sum_univ_eq_sum_range (fun n : Nat => if M ≤ t.val + n then at0 (fun n => x (ix4 0 n g c)) (t.val + n - M) else 0) N]
  have ht := t.isLt
  rw [show Finset.range N = Finset.range ((M - t.val) + (t.val + 1)) from congrArg _ (by omega), Finset.sum_range_add,
    Finset.sum_eq_zero (fun i hi => if_neg (by have := Finset.mem_range.1 hi; omega)), zero_add]
  refine Finset.sum_congr rfl fun i _ => ?_
  rw [if_pos (by omega)]; congr 1; omega

/-- The window that reaches ahead over the whole axis: the running sum from each place on. -/
theorem window_from {N G C : Nat} (M : Nat) (x : (⟨4, ![1, N, G, C]⟩ : Shape).Idx → EReal)
    (h : (⟨4, ![1, N, G, C]⟩ : Shape).ReduceWindows (![1, N, 1, 1] : Fin 4 → Nat) ![1, 1, 1, 1] ![0, 0, 0, 0] ![0, M, 0, 0] ⟨4, ![1, N, G, C]⟩)
    (a : Fin 1) (t : Fin N) (g : Fin G) (c : Fin C) :
    Ideal.hostReduceWindowAdd ![1, N, 1, 1] ![1, 1, 1, 1] ![0, 0, 0, 0] ![0, M, 0, 0] h x 0 (ix4 a t g c)
      = ∑ i ∈ Finset.range (N - t.val), at0 (fun n => x (ix4 0 n g c)) (t.val + i) := by
  rw [window_at]
  have e : ∀ n : Fin N, (if hin : 0 ≤ t.val + n.val ∧ t.val + n.val - 0 < N then x (ix4 0 ⟨t.val + n.val - 0, hin.2⟩ g c) else 0)
      = (fun n : Nat => at0 (fun n => x (ix4 0 n g c)) (t.val + n)) n.val := fun n => by
    dsimp only
    by_cases hc : t.val + n.val < N
    · rw [dif_pos ⟨Nat.zero_le _, hc⟩, at0_lt _ _ hc]; rfl
    · rw [dif_neg fun h => hc h.2, at0_ge _ _ (Nat.not_lt.1 hc)]
  rw [Finset.sum_congr rfl fun n _ => e n, Fin.sum_univ_eq_sum_range (fun n : Nat => at0 (fun n => x (ix4 0 n g c)) (t.val + n)) N]
  have ht := t.isLt
  rw [show Finset.range N = Finset.range ((N - t.val) + t.val) from congrArg _ (by omega), Finset.sum_range_add,
    Finset.sum_eq_zero (s := Finset.range t.val) (fun i hi => at0_ge _ _ (by omega)), add_zero]

end Cert.Proof.Running

end
-- ==== Proof.PoolMath.lean ====
/- The pooling's gradient in plain numbers: the pooled entry, the gradient that reaches it, and what leaves it, as functions of
   a row number and a column number, with zeros outside the arrays. -/
module

public import proofs.«01_k».proof.Proof.Running
public import proofs.«01_k».proof.Proof.Reals
public import Idealize.ShloMosaic.Lib.Pointwise

@[expose] public section

noncomputable section

open Idealize.ShloMosaic
open Cert.Proof.Running

namespace Cert.Proof.PoolMath

/-- An array of rows, read at any row and column number: zero outside it. -/
def rows {N C : Nat} (u : FVec Ideal ⟨3, ![1, N, C]⟩ .f32) (n c : Nat) : EReal :=
  if h : n < N ∧ c < C then u (ix3 0 ⟨n, h.1⟩ ⟨c, h.2⟩) else 0
theorem rows_at {N C : Nat} (u : FVec Ideal ⟨3, ![1, N, C]⟩ .f32) (n : Fin N) (c : Fin C) : rows u n.val c.val = u (ix3 0 n c) :=
  dif_pos ⟨n.isLt, c.isLt⟩
theorem rows_eq {N C : Nat} (u : FVec Ideal ⟨3, ![1, N, C]⟩ .f32) (n : Fin N) (c : Fin C) (n' c' : Nat) (hn : n' = n.val) (hc : c' = c.val) :
    u (ix3 0 n c) = rows u n' c' := by
  subst hn hc; exact (rows_at u n c).symm
theorem rows_past {N C : Nat} (u : FVec Ideal ⟨3, ![1, N, C]⟩ .f32) (n c : Nat) (hn : N ≤ n) : rows u n c = 0 :=
  dif_neg fun h => absurd h.1 (by omega)

/-- One row, read at any column number. -/
def line {C : Nat} (s : FVec Ideal ⟨2, ![1, C]⟩ .f32) (c : Nat) : EReal := if h : c < C then s (ix2 0 ⟨c, h⟩) else 0
theorem line_at {C : Nat} (s : FVec Ideal ⟨2, ![1, C]⟩ .f32) (c : Fin C) : line s c.val = s (ix2 0 c) := dif_pos c.isLt
theorem line_eq {C : Nat} (s : FVec Ideal ⟨2, ![1, C]⟩ .f32) (c : Fin C) (c' : Nat) (hc : c' = c.val) : s (ix2 0 c) = line s c' := by
  subst hc; exact (line_at s c).symm

/-- The weight of group `g` from channel `k` to channel `d`. -/
def weight (w : FVec Ideal ⟨4, ![1, 4, 256, 256]⟩ .f32) (g k d : Nat) : EReal :=
  if h : g < 4 ∧ k < 256 ∧ d < 256 then w (ix4 0 ⟨g, h.1⟩ ⟨k, h.2.1⟩ ⟨d, h.2.2⟩) else 0
theorem weight_at (w : FVec Ideal ⟨4, ![1, 4, 256, 256]⟩ .f32) (g : Fin 4) (k d : Fin 256) : weight w g.val k.val d.val = w (ix4 0 g k d) :=
  dif_pos ⟨g.isLt, k.isLt, d.isLt⟩
theorem weight_eq (w : FVec Ideal ⟨4, ![1, 4, 256, 256]⟩ .f32) (g : Fin 4) (k d : Fin 256) (g' k' d' : Nat) (hg : g' = g.val) (hk : k' = k.val) (hd : d' = d.val) :
    w (ix4 0 g k d) = weight w g' k' d' := by
  subst hg hk hd; exact (weight_at w g k d).symm

/-- The row number as a real. -/
def num (n : Nat) : EReal := ((n : ℝ) : EReal)
/-- How many rows a window, whose width has the bits `b`, has at row `n`. -/
def cnt (b : BitVec 32) (n : Nat) : EReal := min (num n + Ideal.ofBits .f32 0x3F800000#32) (Ideal.ofBits .f32 b)

/-- The pooled entry of column `c`: the mean over the window of `w` rows less the entry itself. -/
def pool (b : BitVec 32) (w : Nat) (u : Nat → Nat → EReal) (n c : Nat) : EReal := Ideal.div (behind w (fun i => u i c) n) (cnt b n) - u n c
/-- What the pooled entries mix to, at channel `d` of group `g`. -/
def mixed (b : BitVec 32) (w : Nat) (u : Nat → Nat → EReal) (W : Nat → Nat → Nat → EReal) (g n d : Nat) : EReal :=
  ∑ k : Fin 256, pool b w u n (256 * g + k.val) * W g k.val d
/-- The gradient that reaches the mixed entry of column `c`. -/
def dmix (da : Nat → Nat → EReal) (s : Nat → EReal) (n c : Nat) : EReal := da n c * s c
/-- The gradient that reaches the pooled entry of channel `k` of group `g`. -/
def dpool (da : Nat → Nat → EReal) (s : Nat → EReal) (W : Nat → Nat → Nat → EReal) (g n k : Nat) : EReal :=
  ∑ d : Fin 256, dmix da s n (256 * g + d.val) * W g k d.val
/-- That gradient's share of one row of the window. -/
def share (b : BitVec 32) (da : Nat → Nat → EReal) (s : Nat → EReal) (W : Nat → Nat → Nat → EReal) (g n k : Nat) : EReal :=
  Ideal.div (dpool da s W g n k) (cnt b n)
/-- The gradient that leaves the pooling. -/
def dzu (b : BitVec 32) (w : Nat) (da : Nat → Nat → EReal) (s : Nat → EReal) (W : Nat → Nat → Nat → EReal) (g n k : Nat) : EReal :=
  ahead w (fun i => share b da s W g i k) n - dpool da s W g n k

/-! The four groups, by their number: the widths 2, 4, 8, 16 and the bits that spell them. -/

def widthOf : Nat → Nat
  | 0 => 2
  | 1 => 4
  | 2 => 8
  | _ => 16
def bitsOf : Nat → BitVec 32
  | 0 => 0x40000000#32
  | 1 => 0x40800000#32
  | 2 => 0x41000000#32
  | _ => 0x41800000#32

abbrev poolOf (u : Nat → Nat → EReal) (g n c : Nat) : EReal := pool (bitsOf g) (widthOf g) u n c
abbrev mixedOf (u : Nat → Nat → EReal) (W : Nat → Nat → Nat → EReal) (g n d : Nat) : EReal := mixed (bitsOf g) (widthOf g) u W g n d
abbrev dzuOf (da : Nat → Nat → EReal) (s : Nat → EReal) (W : Nat → Nat → Nat → EReal) (g n k : Nat) : EReal := dzu (bitsOf g) (widthOf g) da s W g n k
/-- The same by the number of the column. -/
def mixedCol (u : Nat → Nat → EReal) (W : Nat → Nat → Nat → EReal) (n c : Nat) : EReal := mixedOf u W (c / 256) n (c % 256)
def dzuCol (da : Nat → Nat → EReal) (s : Nat → EReal) (W : Nat → Nat → Nat → EReal) (n c : Nat) : EReal := dzuOf da s W (c / 256) n (c % 256)

end Cert.Proof.PoolMath

end
-- ==== Proof.Pool.Window.lean ====
/- A block of rows with the 32 rows before it: doubling sums over it are the windows' sums, and the pooled entries follow. -/
module

public import proofs.«01_k».proof.Proof.Pool.Slab
public import proofs.«01_k».proof.Proof.PoolMath

@[expose] public section

noncomputable section

open Idealize.ShloMosaic
open Cert.Proof.Slab Cert.Proof.Running

namespace Cert.Proof.PoolMath

/-- Block `t` of `u` with the 32 rows before it, zeros before the first. -/
def lead (u : Nat → Nat → EReal) (t r col : Nat) : EReal := if 32 ≤ t * 512 + r then u (t * 512 + r - 32) col else 0
/-- The row numbers of block `t`. -/
def nums (t r _col : Nat) : EReal := num (t * 512 + r)

variable (u : Nat → Nat → EReal) (t x col : Nat)

theorem lead_at (k : Nat) (hk : k ≤ 32) : lead u t (32 + x - k) col = if k ≤ t * 512 + x then u (t * 512 + x - k) col else 0 := by
  unfold lead
  by_cases h : k ≤ t * 512 + x
  · rw [if_pos h, if_pos (by omega)]; congr 1; omega
  · rw [if_neg h, if_neg (by omega)]
theorem lead_zero : lead u t (32 + x) col = u (t * 512 + x) col := by
  have h := lead_at u t x col 0 (by decide)
  rw [if_pos (Nat.zero_le _), Nat.sub_zero, Nat.sub_zero] at h
  exact h

theorem lead2 : back 1 (lead u t) (32 + x) col = behind 2 (fun i => u i col) (t * 512 + x) := by
  simp only [back, behind, Finset.sum_range_succ, Finset.sum_range_zero, zero_add, lead_zero, lead_at u t x col _ (by decide : 1 ≤ 32), Nat.zero_le, if_true, Nat.sub_zero]
theorem lead4 : back 2 (back 1 (lead u t)) (32 + x) col = behind 4 (fun i => u i col) (t * 512 + x) := by
  simp (decide := true) only [back, behind, Finset.sum_range_succ, Finset.sum_range_zero, zero_add, lead_zero, lead_at, Nat.sub_sub, Nat.reduceAdd, Nat.zero_le, if_true, Nat.sub_zero, add_assoc]
theorem lead8 : back 4 (back 2 (back 1 (lead u t))) (32 + x) col = behind 8 (fun i => u i col) (t * 512 + x) := by
  simp (decide := true) only [back, behind, Finset.sum_range_succ, Finset.sum_range_zero, zero_add, lead_zero, lead_at, Nat.sub_sub, Nat.reduceAdd, Nat.zero_le, if_true, Nat.sub_zero, add_assoc]
theorem lead16 : back 8 (back 4 (back 2 (back 1 (lead u t)))) (32 + x) col = behind 16 (fun i => u i col) (t * 512 + x) := by
  simp (decide := true) only [back, behind, Finset.sum_range_succ, Finset.sum_range_zero, zero_add, lead_zero, lead_at, Nat.sub_sub, Nat.reduceAdd, Nat.zero_le, if_true, Nat.sub_zero, add_assoc]

/-! The pooled entries, group by group: the window's sum over its number of rows, less the entry itself. -/

theorem pool2 : Ideal.div (back 1 (lead u t) (32 + x) col) (min (nums t x 0 + FloatOps.ofBits (F := Ideal) .f32 0x3F800000#32) (FloatOps.ofBits (F := Ideal) .f32 0x40000000#32))
    - lead u t (32 + x) col = poolOf u 0 (t * 512 + x) col := by
  rw [lead2, lead_zero]; rfl
theorem pool4 : Ideal.div (back 2 (back 1 (lead u t)) (32 + x) col) (min (nums t x 0 + FloatOps.ofBits (F := Ideal) .f32 0x3F800000#32) (FloatOps.ofBits (F := Ideal) .f32 0x40800000#32))
    - lead u t (32 + x) col = poolOf u 1 (t * 512 + x) col := by
  rw [lead4, lead_zero]; rfl
theorem pool8 : Ideal.div (back 4 (back 2 (back 1 (lead u t))) (32 + x) col) (min (nums t x 0 + FloatOps.ofBits (F := Ideal) .f32 0x3F800000#32) (FloatOps.ofBits (F := Ideal) .f32 0x41000000#32))
    - lead u t (32 + x) col = poolOf u 2 (t * 512 + x) col := by
  rw [lead8, lead_zero]; rfl
theorem pool16 : Ideal.div (back 8 (back 4 (back 2 (back 1 (lead u t)))) (32 + x) col) (min (nums t x 0 + FloatOps.ofBits (F := Ideal) .f32 0x3F800000#32) (FloatOps.ofBits (F := Ideal) .f32 0x41800000#32))
    - lead u t (32 + x) col = poolOf u 3 (t * 512 + x) col := by
  rw [lead16, lead_zero]; rfl

end Cert.Proof.PoolMath

end
-- ==== Proof.Pool.Blocks.lean ====
/- The blocks a grid point of the pooling's gradient reads, as blocks of functions of the row and column number. -/
module

public import proofs.«01_k».proof.Proof.Pool.Host
public import proofs.«01_k».proof.Proof.Pool.Window

@[expose] public section

set_option maxRecDepth 16384

noncomputable section

namespace Cert.Kernel2Ideal.Pool

open Cert.Kernel2Ideal Cert.Kernel2Ideal.Gen Idealize.ShloMosaic Idealize.ShloMosaic.TcCoe Idealize.SL.Sem
open Cert.Proof.Slab Cert.Proof.PoolMath Cert.Proof.Running

variable (m : (ℓ : Loc nD τ sig) → Buf (Elt Ideal) ℓ)

/-- The arguments by row and column number. -/
abbrev uN (c : Dev nD) : Nat → Nat → EReal := rows (aU m c)
abbrev daN (c : Dev nD) : Nat → Nat → EReal := rows (aDa m c)
abbrev hN (c : Dev nD) : Nat → Nat → EReal := rows (aH m c)
abbrev sN (c : Dev nD) : Nat → EReal := line (aScale m c)
abbrev wN (c : Dev nD) : Nat → Nat → Nat → EReal := weight (aWpool m c)

/-- Block `t` of `u` with the 32 rows before it, block `t` of the gradient with the 32 rows after it. -/
def uX (c : Dev nD) (t : Nat) (r col : Nat) : EReal := lead (uN m c) t r col
def dX (c : Dev nD) (t : Nat) (r col : Nat) : EReal := daN m c (t * 512 + r) col
def hX (c : Dev nD) (t : Nat) (r col : Nat) : EReal := hN m c (t * 512 + r) col
def numX (t : Nat) (r col : Nat) : EReal := nums t r col
def sX (c : Dev nD) (_r col : Nat) : EReal := sN m c col
def wX (c : Dev nD) (g k d : Nat) : EReal := wN m c g k d

theorem N8 (t : Fin cfg0.N) : t.val < 8 := (idx t).2.2.2.2.2.2.2.2
theorem coord (t : Fin cfg0.N) : ((grid0.coords t) 0).val = t.val := (by decide +kernel : ∀ t : Fin grid0.N, ((grid0.coords t) 0).val = t.val) t

theorem first_word : ∀ n : Fin 8, (Scalar.cmpi .sgt (BitVec.ofNat 32 n.val) 0#32 : BitVec 1) = if n.val = 0 then 0#1 else 1#1 := by decide
theorem last_word : ∀ n : Fin 8, (Scalar.cmpi .slt (BitVec.ofNat 32 n.val) 7#32 : BitVec 1) = if n.val < 7 then 1#1 else 0#1 := by decide

theorem word_num (t r : Nat) (ht : t < 8) (hr : r < 544) :
    (FloatOps.sitofp .f32 (IntOp.addi (Scalar.muli (BitVec.ofNat 32 t) 512#32) (BitVec.ofNat 32 r)) : Ideal .f32) = num (t * 512 + r) := by
  have e : IntOp.addi (Scalar.muli (BitVec.ofNat 32 t) 512#32) (BitVec.ofNat 32 r) = BitVec.ofNat 32 (t * 512 + r) := by
    rw [BitVec.ofNat_add, BitVec.ofNat_mul]; rfl
  rw [e]
  show (((BitVec.ofNat 32 (t * 512 + r)).toInt : ℝ) : EReal) = ((t * 512 + r : ℕ) : ℝ)
  have h : (BitVec.ofNat 32 (t * 512 + r)).toNat = t * 512 + r := by rw [BitVec.toNat_ofNat]; omega
  rw [BitVec.toInt_eq_toNat_of_lt (by rw [h]; omega), h]
  norm_cast

theorem pay6_blk (c : Dev nD) (t : Fin cfg0.N) : (k0_pay6 (iblk m c 0 t) : FVec Ideal S512x1024 .f32) = slab 512 1024 (uX m c t.val) 32 0 := by
  funext y
  idx_vars y
  have e : (k0_pay6 (iblk m c 0 t) : FVec Ideal S512x1024 .f32) (ix2 y0 y1) = (iblk m c 0 t : FVec Ideal S512x1024 .f32) (ix2 y0 y1) := by
    pointwise [k0_pay6]
  rw [e, blk_u, slab_at, uX, lead, if_pos (by omega)]
  exact rows_eq _ _ _ _ _ (by show _ = t.val * 512 + y0.val; omega) (by omega)
theorem pay5_blk (c : Dev nD) (t : Fin cfg0.N) : (k0_pay5 (grid0.coords t) (iblk m c 1 t) : FVec Ideal S32x1024 .f32) = slab 32 1024 (uX m c t.val) 0 0 := by
  funext y
  idx_vars y
  have e : (k0_pay5 (grid0.coords t) (iblk m c 1 t) : FVec Ideal S32x1024 .f32) (ix2 y0 y1)
      = if Scalar.cmpi .sgt (BitVec.ofNat 32 ((grid0.coords t) 0).val) 0#32 = 1#1 then (iblk m c 1 t : FVec Ideal S32x1024 .f32) (ix2 y0 y1) else Ideal.ofBits .f32 0#32 := by
    pointwise [k0_pay5]
    rfl
  have h8 := N8 t
  rw [e, coord, first_word ⟨t.val, h8⟩, slab_at, uX, lead]
  by_cases h : t.val = 0
  · rw [if_pos h, if_neg (by decide), if_neg (by omega)]; exact Ideal.ofBits_zero .f32
  · rw [if_neg h, if_pos rfl, blk_before m c t y0 y1 h, if_pos (by omega)]
    exact rows_eq _ _ _ _ _ (by show _ = t.val * 512 + y0.val - 32; omega) (by omega)
theorem pay7_blk (t : Fin cfg0.N) : (k0_pay7 (grid0.coords t) : FVec Ideal S512x1 .f32) = slab 512 1 (numX t.val) 0 0 := by
  funext y
  idx_vars y
  pointwise [k0_pay7]
  rw [coord, word_num _ _ (N8 t) (by omega), slab_at, numX, nums, Nat.zero_add]
theorem pay21_blk (t : Fin cfg0.N) : (k0_pay21 (BitVec.ofNat 32 ((grid0.coords t) 0).val) : FVec Ideal S544x1 .f32) = slab 544 1 (numX t.val) 0 0 := by
  funext y
  idx_vars y
  pointwise [k0_pay21]
  rw [coord, word_num _ _ (N8 t) (by omega), slab_at, numX, nums, Nat.zero_add]
theorem pay19_blk (c : Dev nD) (t : Fin cfg0.N) : (k0_pay19 (iblk m c 2 t) : FVec Ideal S512x1024 .f32) = slab 512 1024 (dX m c t.val) 0 0 := by
  funext y
  idx_vars y
  have e : (k0_pay19 (iblk m c 2 t) : FVec Ideal S512x1024 .f32) (ix2 y0 y1) = (iblk m c 2 t : FVec Ideal S512x1024 .f32) (ix2 y0 y1) := by
    pointwise [k0_pay19]
  rw [e, blk_da, slab_at, dX]
  exact rows_eq _ _ _ _ _ (by show _ = t.val * 512 + y0.val; omega) (by omega)
theorem pay20_blk (c : Dev nD) (t : Fin cfg0.N) :
    (k0_pay20 (BitVec.ofNat 32 ((grid0.coords t) 0).val) (iblk m c 3 t) : FVec Ideal S32x1024 .f32) = slab 32 1024 (dX m c t.val) 512 0 := by
  funext y
  idx_vars y
  have e : (k0_pay20 (BitVec.ofNat 32 ((grid0.coords t) 0).val) (iblk m c 3 t) : FVec Ideal S32x1024 .f32) (ix2 y0 y1)
      = if Scalar.cmpi .slt (BitVec.ofNat 32 ((grid0.coords t) 0).val) 7#32 = 1#1 then (iblk m c 3 t : FVec Ideal S32x1024 .f32) (ix2 y0 y1) else Ideal.ofBits .f32 0#32 := by
    pointwise [k0_pay20]
    rfl
  have h8 := N8 t
  rw [e, coord, last_word ⟨t.val, h8⟩, slab_at, dX]
  by_cases h : t.val < 7
  · rw [if_pos h, if_pos rfl, blk_after m c t y0 y1 h]
    exact rows_eq _ _ _ _ _ (by show _ = t.val * 512 + 512 + y0.val; omega) (by omega)
  · rw [if_neg h, if_neg (by decide)]; exact (Ideal.ofBits_zero .f32).trans (rows_past _ _ _ (by omega)).symm
theorem h_blk (c : Dev nD) (t : Fin cfg0.N) : (iblk m c 6 t : FVec Ideal S512x1024 .bf16) = slab (φ := .bf16) 512 1024 (hX m c t.val) 0 0 := by
  funext y
  idx_vars y
  rw [blk_h, slab_at, hX]
  exact rows_eq _ _ _ _ _ (by show _ = t.val * 512 + y0.val; omega) (by omega)
theorem cast_w (X : FVec Ideal S1x256x256 .bf16) (h : S1x256x256.ShapeCasts S256x256) (k d : Fin 256) :
    (shapeCast S256x256 X h : FVec Ideal S256x256 .bf16) (ix2 k d) = X (ix3 0 k d) := by pointwise
theorem ld_w (B : FVec Ideal S4x256x256 .bf16) (g : Nat) (hg : g < 4)
    (i : ∀ x, (![g, 0, 0] : Fin 3 → Nat) x + (![1, 256, 256] : Fin 3 → Nat) x ≤ S4x256x256.size x) (k d : Fin 256) :
    (View.ld (Val := Elt Ideal) (e' := .bf16) B (Rect.unit (s := S4x256x256) ![g, 0, 0] ![1, 256, 256] i) : FVec Ideal S1x256x256 .bf16) (ix3 0 k d) = B (ix3 ⟨g, hg⟩ k d) := by
  pointwise
theorem ld_s (B : FVec Ideal S1x1024 .f32) (o : Nat) (ho : o + 256 ≤ 1024)
    (i : ∀ x, (![0, o] : Fin 2 → Nat) x + (![1, 256] : Fin 2 → Nat) x ≤ S1x1024.size x) (z : Fin 1) (d : Fin 256) :
    (View.ld (Val := Elt Ideal) (e' := .f32) B (Rect.unit (s := S1x1024) ![0, o] ![1, 256] i) : FVec Ideal S1x256 .f32) (ix2 z d) = B (ix2 0 ⟨o + d.val, by omega⟩) := by
  pointwise
theorem w_blk (c : Dev nD) (t : Fin cfg0.N) (g : Nat) (hg : g < 4)
    (i : ∀ x, (![g, 0, 0] : Fin 3 → Nat) x + (![1, 256, 256] : Fin 3 → Nat) x ≤ S4x256x256.size x) (h : S1x256x256.ShapeCasts S256x256) :
    (shapeCast S256x256 (View.ld (iblk m c 4 t) (Rect.unit (s := S4x256x256) ![g, 0, 0] ![1, 256, 256] i) : FVec Ideal S1x256x256 .bf16) h : FVec Ideal S256x256 .bf16)
      = slab 256 256 (wX m c g) 0 0 := by
  funext y
  idx_vars y
  refine (cast_w _ h y0 y1).trans ((ld_w _ g hg i y0 y1).trans ?_)
  rw [blk_w, slab_at, wX]
  exact weight_eq _ _ _ _ _ _ _ rfl (Nat.zero_add _) (Nat.zero_add _)
theorem s_blk (c : Dev nD) (t : Fin cfg0.N) (o : Nat)
    (i : ∀ x, (![0, o] : Fin 2 → Nat) x + (![1, 256] : Fin 2 → Nat) x ≤ S1x1024.size x) :
    (View.ld (iblk m c 5 t) (Rect.unit (s := S1x1024) ![0, o] ![1, 256] i) : FVec Ideal S1x256 .f32) = slab (φ := .f32) 1 256 (sX m c) 0 o := by
  have ho : o + 256 ≤ 1024 := i 1
  funext y
  idx_vars y
  refine (ld_s _ o ho i y0 y1).trans ?_
  rw [blk_scale, slab_at, sX]
  exact line_eq _ _ _ rfl

end Cert.Kernel2Ideal.Pool

end
-- ==== Proof.Pool.Ops.lean ====
/- The products and sums of the pooling's gradient, on blocks of functions of the row and column number. -/
module

public import proofs.«01_k».proof.Proof.Pool.Blocks

@[expose] public section

set_option maxRecDepth 16384

noncomputable section

namespace Cert.Kernel2Ideal.Pool

open Cert.Kernel2Ideal Cert.Kernel2Ideal.Gen Idealize.ShloMosaic Idealize.ShloMosaic.TcCoe Idealize.SL.Sem
open Cert.Proof.Slab

variable (F G : Nat → Nat → EReal) (r c r' c' : Nat)

theorem mix_slab : matmul dot_S512x256_S256x256_S512x256_1_0_0_1_n_n none (slab 512 256 F r c : FVec Ideal S512x256 .bf16) (slab 256 256 G r' c' : FVec Ideal S256x256 .bf16)
    (constant S512x256 .f32 0x00000000#32) = (slab 512 256 (fun i j => ∑ d : Fin 256, F (r + i) (c + d.val) * G (r' + d.val) (c' + j)) 0 0 : FVec Ideal S512x256 .f32) := by
  funext y
  idx_vars y
  pointwise [slab]
theorem unmix_slab : matmul dot_S512x256_S256x256_S512x256_1_1_0_0_n_n none (slab 512 256 F r c : FVec Ideal S512x256 .bf16) (slab 256 256 G r' c' : FVec Ideal S256x256 .bf16)
    (constant S512x256 .f32 0x00000000#32) = (slab 512 256 (fun i j => ∑ d : Fin 256, F (r + i) (c + d.val) * G (r' + j) (c' + d.val)) 0 0 : FVec Ideal S512x256 .f32) := by
  funext y
  idx_vars y
  pointwise [slab]
theorem unmix_slab' : matmul dot_S32x256_S256x256_S32x256_1_1_0_0_n_n none (slab 32 256 F r c : FVec Ideal S32x256 .bf16) (slab 256 256 G r' c' : FVec Ideal S256x256 .bf16)
    (constant S32x256 .f32 0x00000000#32) = (slab 32 256 (fun i j => ∑ d : Fin 256, F (r + i) (c + d.val) * G (r' + j) (c' + d.val)) 0 0 : FVec Ideal S32x256 .f32) := by
  funext y
  idx_vars y
  pointwise [slab]
theorem outer_slab : matmul dot_S512x256_S512x256_S256x256_0_0_1_1_n_n none (slab 512 256 F r c : FVec Ideal S512x256 .bf16) (slab 512 256 G r' c' : FVec Ideal S512x256 .bf16)
    (constant S256x256 .f32 0x00000000#32) = (slab 256 256 (fun i j => ∑ n : Fin 512, F (r + n.val) (c + i) * G (r' + n.val) (c' + j)) 0 0 : FVec Ideal S256x256 .f32) := by
  funext y
  idx_vars y
  pointwise [slab]
theorem outer_slab' : matmul dot_S512x256_S512x1024_S256x1024_0_0_1_1_n_n none (slab 512 256 F r c : FVec Ideal S512x256 .bf16) (slab 512 1024 G r' c' : FVec Ideal S512x1024 .bf16)
    (constant S256x1024 .f32 0x00000000#32) = (slab 256 1024 (fun i j => ∑ n : Fin 512, F (r + n.val) (c + i) * G (r' + n.val) (c' + j)) 0 0 : FVec Ideal S256x1024 .f32) := by
  funext y
  idx_vars y
  pointwise [slab]
theorem sum_slab : shapeCast S1x256 (multiReduction .add [0] S256 (slab 512 256 G r c : FVec Ideal S512x256 .f32) 0x00000000#32 reduces_S512x256_S256 (.inl rfl) rfl) shapeCasts_S256_S1x256
    = (slab 1 256 (fun _ j => ∑ n : Fin 512, G (r + n.val) (c + j)) 0 0 : FVec Ideal S1x256 .f32) := by
  funext y
  idx_vars y
  pointwise [slab]

end Cert.Kernel2Ideal.Pool

end
-- ==== Proof.Pool.Groups.lean ====
/- The gradient's shares that the windows after a block sum. -/
module

public import proofs.«01_k».proof.Proof.Pool.Ops

@[expose] public section

set_option maxRecDepth 16384

noncomputable section

namespace Cert.Kernel2Ideal.Pool

open Cert.Kernel2Ideal Cert.Kernel2Ideal.Gen Idealize.ShloMosaic Idealize.ShloMosaic.TcCoe Idealize.SL.Sem
open Cert.Proof.Slab Cert.Proof.PoolMath Cert.Proof.Running

variable (m : (ℓ : Loc nD τ sig) → Buf (Elt Ideal) ℓ)

/-- The shares of group `g`, by row of block `t` and column. -/
def shX (c : Dev nD) (t : Nat) (b : BitVec 32) (g : Nat) (r col : Nat) : EReal := share b (daN m c) (sN m c) (wN m c) g (t * 512 + r) (col - 256 * g)

theorem shX_at (c : Dev nD) (t : Nat) (b : BitVec 32) (g r k o : Nat) (ho : o = 256 * g) :
    shX m c t b g r (o + k) = share b (daN m c) (sN m c) (wN m c) g (t * 512 + r) k := by
  subst ho; rw [shX, Nat.add_sub_cancel_left]

theorem fore2 (c : Dev nD) (t : Nat) (b : BitVec 32) (g x k o : Nat) (ho : o = 256 * g) :
    fore 1 (shX m c t b g) x (o + k) = ahead 2 (fun i => share b (daN m c) (sN m c) (wN m c) g i k) (t * 512 + x) := by
  simp only [fore, ahead, Finset.sum_range_succ, Finset.sum_range_zero, zero_add, shX_at m c t b g _ k o ho, add_assoc, Nat.reduceAdd, add_zero]
theorem fore4 (c : Dev nD) (t : Nat) (b : BitVec 32) (g x k o : Nat) (ho : o = 256 * g) :
    fore 2 (fore 1 (shX m c t b g)) x (o + k) = ahead 4 (fun i => share b (daN m c) (sN m c) (wN m c) g i k) (t * 512 + x) := by
  simp only [fore, ahead, Finset.sum_range_succ, Finset.sum_range_zero, zero_add, shX_at m c t b g _ k o ho, add_assoc, Nat.reduceAdd, add_zero]
theorem fore8 (c : Dev nD) (t : Nat) (b : BitVec 32) (g x k o : Nat) (ho : o = 256 * g) :
    fore 4 (fore 2 (fore 1 (shX m c t b g))) x (o + k) = ahead 8 (fun i => share b (daN m c) (sN m c) (wN m c) g i k) (t * 512 + x) := by
  simp only [fore, ahead, Finset.sum_range_succ, Finset.sum_range_zero, zero_add, shX_at m c t b g _ k o ho, add_assoc, Nat.reduceAdd, add_zero]
theorem fore16 (c : Dev nD) (t : Nat) (b : BitVec 32) (g x k o : Nat) (ho : o = 256 * g) :
    fore 8 (fore 4 (fore 2 (fore 1 (shX m c t b g)))) x (o + k) = ahead 16 (fun i => share b (daN m c) (sN m c) (wN m c) g i k) (t * 512 + x) := by
  simp only [fore, ahead, Finset.sum_range_succ, Finset.sum_range_zero, zero_add, shX_at m c t b g _ k o ho, add_assoc, Nat.reduceAdd, add_zero]

/-- A quotient by the window's rows is a block of the shares. -/
theorem share_slab (c : Dev nD) (t : Nat) (b : BitVec 32) (g n r o : Nat) (ho : o = 256 * g) (X Y : Nat → Nat → EReal)
    (hX : ∀ i k, X i k = dpool (daN m c) (sN m c) (wN m c) g (t * 512 + (r + i)) k) (hY : ∀ i k, Y i k = cnt b (t * 512 + (r + i))) :
    (slab n 256 (fun i j => Ideal.div (X i j) (Y i j)) 0 0 : FVec Ideal ⟨2, ![n, 256]⟩ .f32) = slab n 256 (shX m c t b g) r o :=
  slab_eq _ _ _ _ _ _ _ _ fun i j _ _ => by
    rw [shX_at m c t b g _ _ _ ho, hX, hY, Nat.zero_add, Nat.zero_add]; rfl

/-! What is stored for the windows after a block: the shares of the block's own rows, and of the rows after it. -/

theorem own0 (c : Dev nD) (t : Nat) : (k0_pay29 (slab 544 1 (numX t) 0 0 : FVec Ideal S544x1 .f32) (slab 256 256 (wX m c 0) 0 0 : FVec Ideal S256x256 .bf16)
    (slab 512 256 (fun i j => dX m c t i j * sX m c 0 j) 0 0 : FVec Ideal S512x256 .bf16) : FVec Ideal S512x256 .f32) = slab 512 256 (shX m c t 0x40000000#32 0) 0 0 := by
  simp (decide := true) only [k0_pay29, k0_pay27, k0_pay28, plus_slab, min_slab, cut_slab, across_slab, unmix_slab, div_slab, same_slab, Nat.zero_add, Nat.add_zero]
  exact share_slab m c t 0x40000000#32 0 512 0 0 rfl _ _ (fun i k => by rw [Nat.zero_add]; simp only [dpool, dmix, Nat.mul_zero, Nat.zero_add]; rfl) (fun i k => by rw [Nat.zero_add]; rfl)
theorem after0 (c : Dev nD) (t : Nat) : (k0_pay30 (slab 32 1024 (dX m c t) 512 0 : FVec Ideal S32x1024 .f32) (slab 544 1 (numX t) 0 0 : FVec Ideal S544x1 .f32) (slab 256 256 (wX m c 0) 0 0 : FVec Ideal S256x256 .bf16)
    (slab 1 256 (sX m c) 0 0 : FVec Ideal S1x256 .f32) : FVec Ideal S32x256 .f32) = slab 32 256 (shX m c t 0x40000000#32 0) 512 0 := by
  simp (decide := true) only [k0_pay30, k0_pay28, trunc_slab, mul_slab, down_slab, plus_slab, min_slab, cut_slab, across_slab, unmix_slab', div_slab, same_slab, Nat.zero_add, Nat.add_zero]
  exact share_slab m c t 0x40000000#32 0 32 512 0 rfl _ _ (fun i k => by simp only [dpool, dmix, Nat.mul_zero, Nat.zero_add]; rfl) (fun i k => rfl)
theorem own1 (c : Dev nD) (t : Nat) : (k0_pay41 (slab 544 1 (numX t) 0 0 : FVec Ideal S544x1 .f32) (slab 256 256 (wX m c 1) 0 0 : FVec Ideal S256x256 .bf16)
    (slab 512 256 (fun i j => dX m c t i (256 + j) * sX m c 0 (256 + j)) 0 0 : FVec Ideal S512x256 .bf16) : FVec Ideal S512x256 .f32) = slab 512 256 (shX m c t 0x40800000#32 1) 0 256 := by
  simp (decide := true) only [k0_pay41, k0_pay39, k0_pay40, plus_slab, min_slab, cut_slab, across_slab, unmix_slab, div_slab, same_slab, Nat.zero_add, Nat.add_zero]
  exact share_slab m c t 0x40800000#32 1 512 0 256 rfl _ _ (fun i k => by rw [Nat.zero_add]; rfl) (fun i k => by rw [Nat.zero_add]; rfl)
theorem after1 (c : Dev nD) (t : Nat) : (k0_pay42 (slab 32 1024 (dX m c t) 512 0 : FVec Ideal S32x1024 .f32) (slab 544 1 (numX t) 0 0 : FVec Ideal S544x1 .f32) (slab 256 256 (wX m c 1) 0 0 : FVec Ideal S256x256 .bf16)
    (slab 1 256 (sX m c) 0 256 : FVec Ideal S1x256 .f32) : FVec Ideal S32x256 .f32) = slab 32 256 (shX m c t 0x40800000#32 1) 512 256 := by
  simp (decide := true) only [k0_pay42, k0_pay40, trunc_slab, mul_slab, down_slab, plus_slab, min_slab, cut_slab, across_slab, unmix_slab', div_slab, same_slab, Nat.zero_add, Nat.add_zero]
  exact share_slab m c t 0x40800000#32 1 32 512 256 rfl _ _ (fun i k => by rfl) (fun i k => rfl)
theorem own2 (c : Dev nD) (t : Nat) : (k0_pay54 (slab 544 1 (numX t) 0 0 : FVec Ideal S544x1 .f32) (slab 256 256 (wX m c 2) 0 0 : FVec Ideal S256x256 .bf16)
    (slab 512 256 (fun i j => dX m c t i (512 + j) * sX m c 0 (512 + j)) 0 0 : FVec Ideal S512x256 .bf16) : FVec Ideal S512x256 .f32) = slab 512 256 (shX m c t 0x41000000#32 2) 0 512 := by
  simp (decide := true) only [k0_pay54, k0_pay52, k0_pay53, plus_slab, min_slab, cut_slab, across_slab, unmix_slab, div_slab, same_slab, Nat.zero_add, Nat.add_zero]
  exact share_slab m c t 0x41000000#32 2 512 0 512 rfl _ _ (fun i k => by rw [Nat.zero_add]; rfl) (fun i k => by rw [Nat.zero_add]; rfl)
theorem after2 (c : Dev nD) (t : Nat) : (k0_pay55 (slab 32 1024 (dX m c t) 512 0 : FVec Ideal S32x1024 .f32) (slab 544 1 (numX t) 0 0 : FVec Ideal S544x1 .f32) (slab 256 256 (wX m c 2) 0 0 : FVec Ideal S256x256 .bf16)
    (slab 1 256 (sX m c) 0 512 : FVec Ideal S1x256 .f32) : FVec Ideal S32x256 .f32) = slab 32 256 (shX m c t 0x41000000#32 2) 512 512 := by
  simp (decide := true) only [k0_pay55, k0_pay53, trunc_slab, mul_slab, down_slab, plus_slab, min_slab, cut_slab, across_slab, unmix_slab', div_slab, same_slab, Nat.zero_add, Nat.add_zero]
  exact share_slab m c t 0x41000000#32 2 32 512 512 rfl _ _ (fun i k => by rfl) (fun i k => rfl)
theorem own3 (c : Dev nD) (t : Nat) : (k0_pay68 (slab 544 1 (numX t) 0 0 : FVec Ideal S544x1 .f32) (slab 256 256 (wX m c 3) 0 0 : FVec Ideal S256x256 .bf16)
    (slab 512 256 (fun i j => dX m c t i (768 + j) * sX m c 0 (768 + j)) 0 0 : FVec Ideal S512x256 .bf16) : FVec Ideal S512x256 .f32) = slab 512 256 (shX m c t 0x41800000#32 3) 0 768 := by
  simp (decide := true) only [k0_pay68, k0_pay66, k0_pay67, plus_slab, min_slab, cut_slab, across_slab, unmix_slab, div_slab, same_slab, Nat.zero_add, Nat.add_zero]
  exact share_slab m c t 0x41800000#32 3 512 0 768 rfl _ _ (fun i k => by rw [Nat.zero_add]; rfl) (fun i k => by rw [Nat.zero_add]; rfl)
theorem after3 (c : Dev nD) (t : Nat) : (k0_pay69 (slab 32 1024 (dX m c t) 512 0 : FVec Ideal S32x1024 .f32) (slab 544 1 (numX t) 0 0 : FVec Ideal S544x1 .f32) (slab 256 256 (wX m c 3) 0 0 : FVec Ideal S256x256 .bf16)
    (slab 1 256 (sX m c) 0 768 : FVec Ideal S1x256 .f32) : FVec Ideal S32x256 .f32) = slab 32 256 (shX m c t 0x41800000#32 3) 512 768 := by
  simp (decide := true) only [k0_pay69, k0_pay67, trunc_slab, mul_slab, down_slab, plus_slab, min_slab, cut_slab, across_slab, unmix_slab', div_slab, same_slab, Nat.zero_add, Nat.add_zero]
  exact share_slab m c t 0x41800000#32 3 32 512 768 rfl _ _ (fun i k => by rfl) (fun i k => rfl)

end Cert.Kernel2Ideal.Pool

end
-- ==== Proof.Pool.Tiles.lean ====
/- What a grid point of the pooling's gradient leaves: the block of the gradient that leaves the pooling, and what the block
   adds to the gradients of the mixing weight, of the scale and of the input weight. -/
module

public import proofs.«01_k».proof.Proof.Pool.Groups
public import Idealize.ShloMosaic.Lib.Pipeline.ReadBack

@[expose] public section

set_option maxRecDepth 16384

noncomputable section

namespace Cert.Kernel2Ideal.Pool

open Cert.Kernel2Ideal Cert.Kernel2Ideal.Gen Idealize.ShloMosaic Idealize.ShloMosaic.TcCoe Idealize.SL.Sem
open Cert.Proof.Slab Cert.Proof.PoolMath Cert.Proof.Running

variable (m : (ℓ : Loc nD τ sig) → Buf (Elt Ideal) ℓ)

theorem dX_at (c : Dev nD) (t r col : Nat) : dX m c t r col = daN m c (t * 512 + r) col := rfl
theorem hX_at (c : Dev nD) (t r col : Nat) : hX m c t r col = hN m c (t * 512 + r) col := rfl

/-! The gradient that leaves the pooling, group by group. -/

theorem dz0 (c : Dev nD) (t x k : Nat) (hk : k < 256) : fore 1 (shX m c t 0x40000000#32 0) x k - ∑ d : Fin 256, dX m c t x d.val * sX m c 0 d.val * wX m c 0 k d.val
    = dzuCol (daN m c) (sN m c) (wN m c) (t * 512 + x) k := by
  have e := fore2 m c t 0x40000000#32 0 x k 0 rfl
  rw [Nat.zero_add] at e
  rw [e, dzuCol, Nat.div_eq_of_lt hk, Nat.mod_eq_of_lt hk]
  refine congrArg (_ - ·) (Finset.sum_congr rfl fun d _ => ?_)
  rw [dmix, Nat.mul_zero, Nat.zero_add]; rfl
theorem dz1 (c : Dev nD) (t x k : Nat) (hk : k < 256) : fore 2 (fore 1 (shX m c t 0x40800000#32 1)) x (256 + k) - ∑ d : Fin 256, dX m c t x (256 + d.val) * sX m c 0 (256 + d.val) * wX m c 1 k d.val
    = dzuCol (daN m c) (sN m c) (wN m c) (t * 512 + x) (256 + k) := by
  rw [fore4 m c t 0x40800000#32 1 x k 256 rfl, dzuCol, show (256 + k) / 256 = 1 by omega, show (256 + k) % 256 = k by omega]
  rfl
theorem dz2 (c : Dev nD) (t x k : Nat) (hk : k < 256) : fore 4 (fore 2 (fore 1 (shX m c t 0x41000000#32 2))) x (512 + k) - ∑ d : Fin 256, dX m c t x (512 + d.val) * sX m c 0 (512 + d.val) * wX m c 2 k d.val
    = dzuCol (daN m c) (sN m c) (wN m c) (t * 512 + x) (512 + k) := by
  rw [fore8 m c t 0x41000000#32 2 x k 512 rfl, dzuCol, show (512 + k) / 256 = 2 by omega, show (512 + k) % 256 = k by omega]
  rfl
theorem dz3 (c : Dev nD) (t x k : Nat) (hk : k < 256) : fore 8 (fore 4 (fore 2 (fore 1 (shX m c t 0x41800000#32 3)))) x (768 + k) - ∑ d : Fin 256, dX m c t x (768 + d.val) * sX m c 0 (768 + d.val) * wX m c 3 k d.val
    = dzuCol (daN m c) (sN m c) (wN m c) (t * 512 + x) (768 + k) := by
  rw [fore16 m c t 0x41800000#32 3 x k 768 rfl, dzuCol, show (768 + k) / 256 = 3 by omega, show (768 + k) % 256 = k by omega]
  rfl

/-! The pooled entries, group by group. -/

theorem pool0 (c : Dev nD) (t x k : Nat) : Ideal.div (back 1 (uX m c t) (32 + x) k) (min (numX t x 0 + FloatOps.ofBits (F := Ideal) .f32 0x3F800000#32) (FloatOps.ofBits (F := Ideal) .f32 0x40000000#32))
    - uX m c t (32 + x) k = poolOf (uN m c) 0 (t * 512 + x) k := Cert.Proof.PoolMath.pool2 _ t x k
theorem pool1 (c : Dev nD) (t x k : Nat) : Ideal.div (back 2 (back 1 (uX m c t)) (32 + x) k) (min (numX t x 0 + FloatOps.ofBits (F := Ideal) .f32 0x3F800000#32) (FloatOps.ofBits (F := Ideal) .f32 0x40800000#32))
    - uX m c t (32 + x) k = poolOf (uN m c) 1 (t * 512 + x) k := Cert.Proof.PoolMath.pool4 _ t x k
theorem pool2 (c : Dev nD) (t x k : Nat) : Ideal.div (back 4 (back 2 (back 1 (uX m c t))) (32 + x) k) (min (numX t x 0 + FloatOps.ofBits (F := Ideal) .f32 0x3F800000#32) (FloatOps.ofBits (F := Ideal) .f32 0x41000000#32))
    - uX m c t (32 + x) k = poolOf (uN m c) 2 (t * 512 + x) k := Cert.Proof.PoolMath.pool8 _ t x k
theorem pool3 (c : Dev nD) (t x k : Nat) : Ideal.div (back 8 (back 4 (back 2 (back 1 (uX m c t)))) (32 + x) k) (min (numX t x 0 + FloatOps.ofBits (F := Ideal) .f32 0x3F800000#32) (FloatOps.ofBits (F := Ideal) .f32 0x41800000#32))
    - uX m c t (32 + x) k = poolOf (uN m c) 3 (t * 512 + x) k := Cert.Proof.PoolMath.pool16 _ t x k

/-! Four blocks side by side. -/

/-- Four blocks of 256 columns. -/
theorem cols_of {n : Nat} {e : EltTy} (G : (⟨2, ![n, 1024]⟩ : Shape).Idx → Elt Ideal e)
    (p0 p1 p2 p3 : (⟨2, ![n, 256]⟩ : Shape).Idx → Elt Ideal e) (L' : List (View.Piece (Elt Ideal) ⟨2, ![n, 1024]⟩ e))
    (i0 : ∀ x, (![0, 0] : Fin 2 → Nat) x + (![n, 256] : Fin 2 → Nat) x ≤ (![n, 1024] : Fin 2 → Nat) x)
    (i1 : ∀ x, (![0, 256] : Fin 2 → Nat) x + (![n, 256] : Fin 2 → Nat) x ≤ (![n, 1024] : Fin 2 → Nat) x)
    (i2 : ∀ x, (![0, 512] : Fin 2 → Nat) x + (![n, 256] : Fin 2 → Nat) x ≤ (![n, 1024] : Fin 2 → Nat) x)
    (i3 : ∀ x, (![0, 768] : Fin 2 → Nat) x + (![n, 256] : Fin 2 → Nat) x ≤ (![n, 1024] : Fin 2 → Nat) x)
    (h0 : ∀ x, p0 x = G ((Rect.unit (s := ⟨2, ![n, 1024]⟩) ![0, 0] ![n, 256] i0).emb x))
    (h1 : ∀ x, p1 x = G ((Rect.unit (s := ⟨2, ![n, 1024]⟩) ![0, 256] ![n, 256] i1).emb x))
    (h2 : ∀ x, p2 x = G ((Rect.unit (s := ⟨2, ![n, 1024]⟩) ![0, 512] ![n, 256] i2).emb x))
    (h3 : ∀ x, p3 x = G ((Rect.unit (s := ⟨2, ![n, 1024]⟩) ![0, 768] ![n, 256] i3).emb x))
    (y : (⟨2, ![n, 1024]⟩ : Shape).Idx) :
    View.canon (Val := Elt Ideal) ((⟨Rect.unit (s := ⟨2, ![n, 1024]⟩) ![0, 768] ![n, 256] i3, p3⟩ : View.Piece (Elt Ideal) ⟨2, ![n, 1024]⟩ e)
      :: ⟨Rect.unit (s := ⟨2, ![n, 1024]⟩) ![0, 512] ![n, 256] i2, p2⟩ :: ⟨Rect.unit (s := ⟨2, ![n, 1024]⟩) ![0, 256] ![n, 256] i1, p1⟩
      :: ⟨Rect.unit (s := ⟨2, ![n, 1024]⟩) ![0, 0] ![n, 256] i0, p0⟩ :: L') y = G y := by
  have hy0 : (y 0).val < n := (y 0).isLt
  have hy1 : (y 1).val < 1024 := (y 1).isLt
  refine View.canon_append_of_pieces G L' [_, _, _, _] (fun p hp => ?_) y ?_
  · simp only [List.mem_cons, List.not_mem_nil, or_false] at hp
    rcases hp with rfl | rfl | rfl | rfl
    exacts [h3, h2, h1, h0]
  · have hm : ∀ (o : Nat) (i : ∀ x, (![0, o] : Fin 2 → Nat) x + (![n, 256] : Fin 2 → Nat) x ≤ (![n, 1024] : Fin 2 → Nat) x),
        o ≤ (y 1).val → (y 1).val < o + 256 → y ∈ (Rect.unit (s := ⟨2, ![n, 1024]⟩) ![0, o] ![n, 256] i).set := fun o i ha hb => by
      rw [Rect.mem_set_unit]
      intro x
      fin_cases x
      · exact ⟨Nat.zero_le _, by show (y 0).val < 0 + n; omega⟩
      · exact ⟨ha, hb⟩
    by_cases g3 : 768 ≤ (y 1).val
    · exact ⟨_, List.mem_cons_self, hm 768 i3 g3 (by omega)⟩
    by_cases g2 : 512 ≤ (y 1).val
    · exact ⟨_, List.mem_cons_of_mem _ List.mem_cons_self, hm 512 i2 g2 (by omega)⟩
    by_cases g1 : 256 ≤ (y 1).val
    · exact ⟨_, List.mem_cons_of_mem _ (List.mem_cons_of_mem _ List.mem_cons_self), hm 256 i1 g1 (by omega)⟩
    · exact ⟨_, List.mem_cons_of_mem _ (List.mem_cons_of_mem _ (List.mem_cons_of_mem _ List.mem_cons_self)), hm 0 i0 (Nat.zero_le _) (by omega)⟩

/-- Four blocks of 256 rows. -/
theorem rows_of (A : Nat → Nat → EReal) (P : S1024x1024.Idx → EReal) (p0 p1 p2 p3 : FVec Ideal S256x1024 .f32) (L' : List (View.Piece (Elt Ideal) S1024x1024 .f32))
    (h0 : ∀ x, p0 x = P ((Rect.unit (s := S1024x1024) ![0, 0] ![256, 1024] inb_S1024x1024_S256x1024_0_0).emb x) + A (x 0).val (x 1).val)
    (h1 : ∀ x, p1 x = P ((Rect.unit (s := S1024x1024) ![256, 0] ![256, 1024] inb_S1024x1024_S256x1024_256_0).emb x) + A (256 + (x 0).val) (x 1).val)
    (h2 : ∀ x, p2 x = P ((Rect.unit (s := S1024x1024) ![512, 0] ![256, 1024] inb_S1024x1024_S256x1024_512_0).emb x) + A (512 + (x 0).val) (x 1).val)
    (h3 : ∀ x, p3 x = P ((Rect.unit (s := S1024x1024) ![768, 0] ![256, 1024] inb_S1024x1024_S256x1024_768_0).emb x) + A (768 + (x 0).val) (x 1).val)
    (y : S1024x1024.Idx) :
    View.canon (Val := Elt Ideal) ((⟨Rect.unit (s := S1024x1024) ![768, 0] ![256, 1024] inb_S1024x1024_S256x1024_768_0, p3⟩ : View.Piece (Elt Ideal) S1024x1024 .f32)
      :: ⟨Rect.unit (s := S1024x1024) ![512, 0] ![256, 1024] inb_S1024x1024_S256x1024_512_0, p2⟩
      :: ⟨Rect.unit (s := S1024x1024) ![256, 0] ![256, 1024] inb_S1024x1024_S256x1024_256_0, p1⟩
      :: ⟨Rect.unit (s := S1024x1024) ![0, 0] ![256, 1024] inb_S1024x1024_S256x1024_0_0, p0⟩ :: L') y = P y + A (y 0).val (y 1).val := by
  have hy0 : (y 0).val < 1024 := (y 0).isLt
  have hy1 : (y 1).val < 1024 := (y 1).isLt
  refine View.canon_append_of_pieces (Val := Elt Ideal) (e := .f32) (fun z => P z + A (z 0).val (z 1).val) L' [_, _, _, _] (fun p hp => ?_) y ?_
  · simp only [List.mem_cons, List.not_mem_nil, or_false] at hp
    rcases hp with rfl | rfl | rfl | rfl
    · intro x; refine (h3 x).trans ?_; congr 2
      · show 768 + (x 0).val = 768 + 1 * (x 0).val; omega
      · show (x 1).val = 0 + 1 * (x 1).val; omega
    · intro x; refine (h2 x).trans ?_; congr 2
      · show 512 + (x 0).val = 512 + 1 * (x 0).val; omega
      · show (x 1).val = 0 + 1 * (x 1).val; omega
    · intro x; refine (h1 x).trans ?_; congr 2
      · show 256 + (x 0).val = 256 + 1 * (x 0).val; omega
      · show (x 1).val = 0 + 1 * (x 1).val; omega
    · intro x; refine (h0 x).trans ?_; congr 2
      · show (x 0).val = 0 + 1 * (x 0).val; omega
      · show (x 1).val = 0 + 1 * (x 1).val; omega
  · have hm : ∀ (o : Nat) (i : ∀ x, (![o, 0] : Fin 2 → Nat) x + (![256, 1024] : Fin 2 → Nat) x ≤ S1024x1024.size x),
        o ≤ (y 0).val → (y 0).val < o + 256 → y ∈ (Rect.unit (s := S1024x1024) ![o, 0] ![256, 1024] i).set := fun o i ha hb => by
      rw [Rect.mem_set_unit]
      intro x
      fin_cases x
      · exact ⟨ha, hb⟩
      · exact ⟨Nat.zero_le _, by show (y 1).val < 0 + 1024; omega⟩
    by_cases g3 : 768 ≤ (y 0).val
    · exact ⟨_, List.mem_cons_self, hm 768 inb_S1024x1024_S256x1024_768_0 g3 (by omega)⟩
    by_cases g2 : 512 ≤ (y 0).val
    · exact ⟨_, List.mem_cons_of_mem _ List.mem_cons_self, hm 512 inb_S1024x1024_S256x1024_512_0 g2 (by omega)⟩
    by_cases g1 : 256 ≤ (y 0).val
    · exact ⟨_, List.mem_cons_of_mem _ (List.mem_cons_of_mem _ List.mem_cons_self), hm 256 inb_S1024x1024_S256x1024_256_0 g1 (by omega)⟩
    · exact ⟨_, List.mem_cons_of_mem _ (List.mem_cons_of_mem _ (List.mem_cons_of_mem _ List.mem_cons_self)), hm 0 inb_S1024x1024_S256x1024_0_0 (Nat.zero_le _) (by omega)⟩

/-- Four groups' blocks. -/
theorem groups_of (A : Nat → Nat → Nat → EReal) (P : S4x256x256.Idx → EReal) (p0 p1 p2 p3 : FVec Ideal S1x256x256 .f32) (L' : List (View.Piece (Elt Ideal) S4x256x256 .f32))
    (h0 : ∀ x, p0 x = P ((Rect.unit (s := S4x256x256) ![0, 0, 0] ![1, 256, 256] inb_S4x256x256_S1x256x256_0_0_0).emb x) + A 0 (x 1).val (x 2).val)
    (h1 : ∀ x, p1 x = P ((Rect.unit (s := S4x256x256) ![1, 0, 0] ![1, 256, 256] inb_S4x256x256_S1x256x256_1_0_0).emb x) + A 1 (x 1).val (x 2).val)
    (h2 : ∀ x, p2 x = P ((Rect.unit (s := S4x256x256) ![2, 0, 0] ![1, 256, 256] inb_S4x256x256_S1x256x256_2_0_0).emb x) + A 2 (x 1).val (x 2).val)
    (h3 : ∀ x, p3 x = P ((Rect.unit (s := S4x256x256) ![3, 0, 0] ![1, 256, 256] inb_S4x256x256_S1x256x256_3_0_0).emb x) + A 3 (x 1).val (x 2).val)
    (y : S4x256x256.Idx) :
    View.canon (Val := Elt Ideal) ((⟨Rect.unit (s := S4x256x256) ![3, 0, 0] ![1, 256, 256] inb_S4x256x256_S1x256x256_3_0_0, p3⟩ : View.Piece (Elt Ideal) S4x256x256 .f32)
      :: ⟨Rect.unit (s := S4x256x256) ![2, 0, 0] ![1, 256, 256] inb_S4x256x256_S1x256x256_2_0_0, p2⟩
      :: ⟨Rect.unit (s := S4x256x256) ![1, 0, 0] ![1, 256, 256] inb_S4x256x256_S1x256x256_1_0_0, p1⟩
      :: ⟨Rect.unit (s := S4x256x256) ![0, 0, 0] ![1, 256, 256] inb_S4x256x256_S1x256x256_0_0_0, p0⟩ :: L') y = P y + A (y 0).val (y 1).val (y 2).val := by
  have hy0 : (y 0).val < 4 := (y 0).isLt
  have hy1 : (y 1).val < 256 := (y 1).isLt
  have hy2 : (y 2).val < 256 := (y 2).isLt
  refine View.canon_append_of_pieces (Val := Elt Ideal) (e := .f32) (fun z => P z + A (z 0).val (z 1).val (z 2).val) L' [_, _, _, _] (fun p hp => ?_) y ?_
  · have hk : ∀ (g : Nat) (x : S1x256x256.Idx), A g (x 1).val (x 2).val = A (g + 1 * (x 0).val) (0 + 1 * (x 1).val) (0 + 1 * (x 2).val) := fun g x => by
      have h : (x 0).val < 1 := (x 0).isLt
      rw [show g + 1 * (x 0).val = g by omega, Nat.zero_add, Nat.zero_add, Nat.one_mul, Nat.one_mul]
    simp only [List.mem_cons, List.not_mem_nil, or_false] at hp
    rcases hp with rfl | rfl | rfl | rfl
    · exact fun x => (h3 x).trans (congrArg (P _ + ·) (hk 3 x))
    · exact fun x => (h2 x).trans (congrArg (P _ + ·) (hk 2 x))
    · exact fun x => (h1 x).trans (congrArg (P _ + ·) (hk 1 x))
    · exact fun x => (h0 x).trans (congrArg (P _ + ·) (hk 0 x))
  · have hm : ∀ (o : Nat) (i : ∀ x, (![o, 0, 0] : Fin 3 → Nat) x + (![1, 256, 256] : Fin 3 → Nat) x ≤ S4x256x256.size x),
        (y 0).val = o → y ∈ (Rect.unit (s := S4x256x256) ![o, 0, 0] ![1, 256, 256] i).set := fun o i ha => by
      rw [Rect.mem_set_unit]
      intro x
      fin_cases x
      · exact ⟨ha.ge, by show (y 0).val < o + 1; omega⟩
      · exact ⟨Nat.zero_le _, by show (y 1).val < 0 + 256; omega⟩
      · exact ⟨Nat.zero_le _, by show (y 2).val < 0 + 256; omega⟩
    by_cases g3 : (y 0).val = 3
    · exact ⟨_, List.mem_cons_self, hm 3 inb_S4x256x256_S1x256x256_3_0_0 g3⟩
    by_cases g2 : (y 0).val = 2
    · exact ⟨_, List.mem_cons_of_mem _ List.mem_cons_self, hm 2 inb_S4x256x256_S1x256x256_2_0_0 g2⟩
    by_cases g1 : (y 0).val = 1
    · exact ⟨_, List.mem_cons_of_mem _ (List.mem_cons_of_mem _ List.mem_cons_self), hm 1 inb_S4x256x256_S1x256x256_1_0_0 g1⟩
    · exact ⟨_, List.mem_cons_of_mem _ (List.mem_cons_of_mem _ (List.mem_cons_of_mem _ List.mem_cons_self)), hm 0 inb_S4x256x256_S1x256x256_0_0_0 (by omega)⟩

/-- A piece of the mixing weight's gradient: what stood there plus what is added. -/
theorem piece3 (L : FVec Ideal S1x256x256 .f32) (X : Nat → Nat → EReal) (x : S1x256x256.Idx) :
    shapeCast S1x256x256 (addf (shapeCast S256x256 L shapeCasts_S1x256x256_S256x256) (slab 256 256 X 0 0 : FVec Ideal S256x256 .f32)) shapeCasts_S256x256_S1x256x256 x
      = L x + X (x 1).val (x 2).val := by
  idx_vars x
  pointwise [slab]
  rw [Subsingleton.elim x0 0]

/-! What the point leaves. -/

/-- What block `t` adds to the gradient of the mixing weight, of the scale, of the input weight. -/
def addW (c : Dev nD) (t g k d : Nat) : EReal :=
  ∑ n : Fin 512, poolOf (uN m c) g (t * 512 + n.val) (256 * g + k) * dmix (daN m c) (sN m c) (t * 512 + n.val) (256 * g + d)
def addS (c : Dev nD) (t j : Nat) : EReal := ∑ n : Fin 512, daN m c (t * 512 + n.val) j * mixedCol (uN m c) (wN m c) (t * 512 + n.val) j
def addM (c : Dev nD) (t i j : Nat) : EReal := ∑ n : Fin 512, dzuCol (daN m c) (sN m c) (wN m c) (t * 512 + n.val) i * hN m c (t * 512 + n.val) j

theorem out7 (c : Dev nD) (t : Fin cfg0.N) (y : S512x1024.Idx) : ((outsAt0 m c t.val t.isLt).1 : FVec Ideal S512x1024 .bf16) y = dzuCol (daN m c) (sN m c) (wN m c) (t.val * 512 + (y 0).val) (y 1).val := by
  (by_cases h : t.val % 8 = 0) <;> [rw [outsAt0_A m c t h]; rw [outsAt0_B m c t h]]
  all_goals frame_out
  all_goals simp (decide := true) only [↓View.readCov_skip, View.readCov_fill, own0, own1, own2, own3, after0, after1, after2, after3, k0_pay1, k0_pay8, k0_pay9, k0_pay10, k0_pay11, k0_pay12, k0_pay13, k0_pay14, k0_pay15, k0_pay16, k0_pay17, k0_pay18, k0_pay22, k0_pay23, k0_pay24, k0_pay25, k0_pay26, k0_pay27, k0_pay28, k0_pay31, k0_pay32, k0_pay33, k0_pay34, k0_pay35, k0_pay36, k0_pay37, k0_pay38, k0_pay39, k0_pay40, k0_pay43, k0_pay44, k0_pay45, k0_pay46, k0_pay47, k0_pay48, k0_pay49, k0_pay50, k0_pay51, k0_pay52, k0_pay53, k0_pay56, k0_pay57, k0_pay58, k0_pay59, k0_pay60, k0_pay61, k0_pay62, k0_pay63, k0_pay64, k0_pay65, k0_pay66, k0_pay67, k0_pay70, k0_pay71, k0_pay72, k0_pay73, k0_pay74, k0_pay75, pay5_blk, pay6_blk, pay7_blk, pay19_blk, pay20_blk, pay21_blk, h_blk, w_blk, s_blk, read_below, add_back, add_fore, same_slab, read_moved, trunc_slab, mul_slab, sub_slab, div_slab, plus_slab, min_slab, cut_slab, across_slab, down_slab, mix_slab, unmix_slab, unmix_slab', outer_slab, outer_slab', Nat.reduceSub, Nat.reduceAdd, Nat.zero_add, Nat.add_zero, Nat.sub_self, shapeCast_self]
  all_goals
    refine cols_of (e := .bf16) (fun z => dzuCol (daN m c) (sN m c) (wN m c) (t.val * 512 + (z 0).val) (z 1).val) _ _ _ _ _ _ _ _ _ (fun x => ?_) (fun x => ?_) (fun x => ?_) (fun x => ?_) y
    · show _ = dzuCol (daN m c) (sN m c) (wN m c) (t.val * 512 + (0 + 1 * (x 0).val)) (0 + 1 * (x 1).val)
      simp only [slab, Nat.zero_add, Nat.one_mul, dz0 m c t.val _ _ (x 1).isLt]
    · show _ = dzuCol (daN m c) (sN m c) (wN m c) (t.val * 512 + (0 + 1 * (x 0).val)) (256 + 1 * (x 1).val)
      simp only [slab, Nat.zero_add, Nat.one_mul, dz1 m c t.val _ _ (x 1).isLt]
    · show _ = dzuCol (daN m c) (sN m c) (wN m c) (t.val * 512 + (0 + 1 * (x 0).val)) (512 + 1 * (x 1).val)
      simp only [slab, Nat.zero_add, Nat.one_mul, dz2 m c t.val _ _ (x 1).isLt]
    · show _ = dzuCol (daN m c) (sN m c) (wN m c) (t.val * 512 + (0 + 1 * (x 0).val)) (768 + 1 * (x 1).val)
      simp only [slab, Nat.zero_add, Nat.one_mul, dz3 m c t.val _ _ (x 1).isLt]
theorem out10 (c : Dev nD) (t : Fin cfg0.N) (P : FVec Ideal S1024x1024 .f32) (hA : t.val % 8 = 0 → P = k0_pay4) (hB : ¬ t.val % 8 = 0 → P = (outsAt0 m c (t.val - 1) (by omega)).2.2.2)
    (y : S1024x1024.Idx) : (outsAt0 m c t.val t.isLt).2.2.2 y = P y + addM m c t.val (y 0).val (y 1).val := by
  (by_cases h : t.val % 8 = 0) <;> [rw [outsAt0_A m c t h, hA h]; rw [outsAt0_B m c t h, hB h]]
  all_goals frame_out
  all_goals simp (decide := true) only [↓View.readCov_skip, View.readCov_fill, own0, own1, own2, own3, after0, after1, after2, after3, k0_pay1, k0_pay8, k0_pay9, k0_pay10, k0_pay11, k0_pay12, k0_pay13, k0_pay14, k0_pay15, k0_pay16, k0_pay17, k0_pay18, k0_pay22, k0_pay23, k0_pay24, k0_pay25, k0_pay26, k0_pay27, k0_pay28, k0_pay31, k0_pay32, k0_pay33, k0_pay34, k0_pay35, k0_pay36, k0_pay37, k0_pay38, k0_pay39, k0_pay40, k0_pay43, k0_pay44, k0_pay45, k0_pay46, k0_pay47, k0_pay48, k0_pay49, k0_pay50, k0_pay51, k0_pay52, k0_pay53, k0_pay56, k0_pay57, k0_pay58, k0_pay59, k0_pay60, k0_pay61, k0_pay62, k0_pay63, k0_pay64, k0_pay65, k0_pay66, k0_pay67, k0_pay70, k0_pay71, k0_pay72, k0_pay73, k0_pay74, k0_pay75, pay5_blk, pay6_blk, pay7_blk, pay19_blk, pay20_blk, pay21_blk, h_blk, w_blk, s_blk, read_below, add_back, add_fore, same_slab, read_moved, trunc_slab, mul_slab, sub_slab, div_slab, plus_slab, min_slab, cut_slab, across_slab, down_slab, mix_slab, unmix_slab, unmix_slab', outer_slab, outer_slab', Nat.reduceSub, Nat.reduceAdd, Nat.zero_add, Nat.add_zero, Nat.sub_self, shapeCast_self]
  all_goals
    refine rows_of (addM m c t.val) _ _ _ _ _ _ (fun x => ?_) (fun x => ?_) (fun x => ?_) (fun x => ?_) y
    · refine congrArg₂ (· + ·) rfl ?_
      simp only [slab, Nat.zero_add, addM, hX_at, dz0 m c t.val _ _ (x 0).isLt]
    · refine congrArg₂ (· + ·) rfl ?_
      simp only [slab, Nat.zero_add, addM, hX_at, dz1 m c t.val _ _ (x 0).isLt]
    · refine congrArg₂ (· + ·) rfl ?_
      simp only [slab, Nat.zero_add, addM, hX_at, dz2 m c t.val _ _ (x 0).isLt]
    · refine congrArg₂ (· + ·) rfl ?_
      simp only [slab, Nat.zero_add, addM, hX_at, dz3 m c t.val _ _ (x 0).isLt]
theorem out9 (c : Dev nD) (t : Fin cfg0.N) (P : FVec Ideal S1x1024 .f32) (hA : t.val % 8 = 0 → P = k0_pay3) (hB : ¬ t.val % 8 = 0 → P = (outsAt0 m c (t.val - 1) (by omega)).2.2.1)
    (y : S1x1024.Idx) : (outsAt0 m c t.val t.isLt).2.2.1 y = P y + addS m c t.val (y 1).val := by
  (by_cases h : t.val % 8 = 0) <;> [(rw [outsAt0_A m c t h]; have hP := hA h); (rw [outsAt0_B m c t h]; have hP := hB h)]
  all_goals frame_out
  all_goals simp (decide := true) only [↓View.readCov_skip, View.readCov_fill, own0, own1, own2, own3, after0, after1, after2, after3, k0_pay1, k0_pay8, k0_pay9, k0_pay10, k0_pay11, k0_pay12, k0_pay13, k0_pay14, k0_pay15, k0_pay16, k0_pay17, k0_pay18, k0_pay22, k0_pay23, k0_pay24, k0_pay25, k0_pay26, k0_pay27, k0_pay28, k0_pay31, k0_pay32, k0_pay33, k0_pay34, k0_pay35, k0_pay36, k0_pay37, k0_pay38, k0_pay39, k0_pay40, k0_pay43, k0_pay44, k0_pay45, k0_pay46, k0_pay47, k0_pay48, k0_pay49, k0_pay50, k0_pay51, k0_pay52, k0_pay53, k0_pay56, k0_pay57, k0_pay58, k0_pay59, k0_pay60, k0_pay61, k0_pay62, k0_pay63, k0_pay64, k0_pay65, k0_pay66, k0_pay67, k0_pay70, k0_pay71, k0_pay72, k0_pay73, k0_pay74, k0_pay75, pay5_blk, pay6_blk, pay7_blk, pay19_blk, pay20_blk, pay21_blk, h_blk, w_blk, s_blk, read_below, add_back, add_fore, same_slab, read_moved, trunc_slab, mul_slab, sub_slab, div_slab, plus_slab, min_slab, cut_slab, across_slab, down_slab, mix_slab, unmix_slab, unmix_slab', outer_slab, outer_slab', Nat.reduceSub, Nat.reduceAdd, Nat.zero_add, Nat.add_zero, Nat.sub_self, shapeCast_self]
  all_goals rw [← hP]
  all_goals
    refine cols_of (e := .f32) (fun z => P z + addS m c t.val (z 1).val) _ _ _ _ _ _ _ _ _ (fun x => ?_) (fun x => ?_) (fun x => ?_) (fun x => ?_) y
    · refine congrArg₂ (· + ·) rfl ((congrFun (sum_slab _ _ _) x).trans ?_)
      have hk : (x 1).val < 256 := (x 1).isLt
      show _ = addS m c t.val (0 + 1 * (x 1).val)
      simp only [slab, Nat.zero_add, Nat.one_mul, addS, mixedCol, dX_at, pool0, Nat.div_eq_of_lt hk, Nat.mod_eq_of_lt hk, mixedOf, mixed, Nat.mul_zero]
      rfl
    · refine congrArg₂ (· + ·) rfl ((congrFun (sum_slab _ _ _) x).trans ?_)
      have hk : (x 1).val < 256 := (x 1).isLt
      show _ = addS m c t.val (256 + 1 * (x 1).val)
      simp only [slab, Nat.zero_add, Nat.one_mul, addS, mixedCol, dX_at, pool1, show (256 + (x 1).val) / 256 = 1 by omega, show (256 + (x 1).val) % 256 = (x 1).val by omega]
      rfl
    · refine congrArg₂ (· + ·) rfl ((congrFun (sum_slab _ _ _) x).trans ?_)
      have hk : (x 1).val < 256 := (x 1).isLt
      show _ = addS m c t.val (512 + 1 * (x 1).val)
      simp only [slab, Nat.zero_add, Nat.one_mul, addS, mixedCol, dX_at, pool2, show (512 + (x 1).val) / 256 = 2 by omega, show (512 + (x 1).val) % 256 = (x 1).val by omega]
      rfl
    · refine congrArg₂ (· + ·) rfl ((congrFun (sum_slab _ _ _) x).trans ?_)
      have hk : (x 1).val < 256 := (x 1).isLt
      show _ = addS m c t.val (768 + 1 * (x 1).val)
      simp only [slab, Nat.zero_add, Nat.one_mul, addS, mixedCol, dX_at, pool3, show (768 + (x 1).val) / 256 = 3 by omega, show (768 + (x 1).val) % 256 = (x 1).val by omega]
      rfl
theorem out8 (c : Dev nD) (t : Fin cfg0.N) (P : FVec Ideal S4x256x256 .f32) (hA : t.val % 8 = 0 → P = k0_pay2) (hB : ¬ t.val % 8 = 0 → P = (outsAt0 m c (t.val - 1) (by omega)).2.1)
    (y : S4x256x256.Idx) : (outsAt0 m c t.val t.isLt).2.1 y = P y + addW m c t.val (y 0).val (y 1).val (y 2).val := by
  (by_cases h : t.val % 8 = 0) <;> [rw [outsAt0_A m c t h, hA h]; rw [outsAt0_B m c t h, hB h]]
  all_goals frame_out
  all_goals simp (decide := true) only [↓View.readCov_skip, View.readCov_fill, own0, own1, own2, own3, after0, after1, after2, after3, k0_pay1, k0_pay8, k0_pay9, k0_pay10, k0_pay11, k0_pay12, k0_pay13, k0_pay14, k0_pay15, k0_pay16, k0_pay17, k0_pay18, k0_pay22, k0_pay23, k0_pay24, k0_pay25, k0_pay26, k0_pay27, k0_pay28, k0_pay31, k0_pay32, k0_pay33, k0_pay34, k0_pay35, k0_pay36, k0_pay37, k0_pay38, k0_pay39, k0_pay40, k0_pay43, k0_pay44, k0_pay45, k0_pay46, k0_pay47, k0_pay48, k0_pay49, k0_pay50, k0_pay51, k0_pay52, k0_pay53, k0_pay56, k0_pay57, k0_pay58, k0_pay59, k0_pay60, k0_pay61, k0_pay62, k0_pay63, k0_pay64, k0_pay65, k0_pay66, k0_pay67, k0_pay70, k0_pay71, k0_pay72, k0_pay73, k0_pay74, k0_pay75, pay5_blk, pay6_blk, pay7_blk, pay19_blk, pay20_blk, pay21_blk, h_blk, w_blk, s_blk, read_below, add_back, add_fore, same_slab, read_moved, trunc_slab, mul_slab, sub_slab, div_slab, plus_slab, min_slab, cut_slab, across_slab, down_slab, mix_slab, unmix_slab, unmix_slab', outer_slab, outer_slab', Nat.reduceSub, Nat.reduceAdd, Nat.zero_add, Nat.add_zero, Nat.sub_self, shapeCast_self]
  all_goals
    refine groups_of (addW m c t.val) _ _ _ _ _ _ (fun x => ?_) (fun x => ?_) (fun x => ?_) (fun x => ?_) y
    · refine (piece3 _ _ x).trans (congrArg₂ (· + ·) rfl ?_)
      simp only [addW, pool0, dX_at, dmix, Nat.zero_add, Nat.mul_zero]
      rfl
    · refine (piece3 _ _ x).trans (congrArg₂ (· + ·) rfl ?_)
      simp only [addW, pool1, dX_at, dmix, Nat.zero_add, Nat.mul_zero]
      rfl
    · refine (piece3 _ _ x).trans (congrArg₂ (· + ·) rfl ?_)
      simp only [addW, pool2, dX_at, dmix, Nat.zero_add, Nat.mul_zero]
      rfl
    · refine (piece3 _ _ x).trans (congrArg₂ (· + ·) rfl ?_)
      simp only [addW, pool3, dX_at, dmix, Nat.zero_add, Nat.mul_zero]
      rfl

end Cert.Kernel2Ideal.Pool

end
-- ==== Proof.Pool.Ref.lean ====
module

public import proofs.«01_k».proof.Proof.Gen.Reference2Ideal.Read
public import proofs.«01_k».proof.Proof.PoolMath
public import proofs.«01_k».proof.Proof.Reals
public import proofs.«01_k».proof.Proof.UnitAxes
public import Idealize.ShloMosaic.Lib.Pointwise

@[expose] public section

set_option maxRecDepth 16384

noncomputable section

namespace Cert.Reference2Ideal.Pool

open Cert.Reference2Ideal Cert.Reference2Ideal.Gen Cert.Reference2Ideal.Read Idealize.ShloMosaic Idealize.ShloMosaic.TcCoe
open Cert.Proof Cert.Proof.PoolMath Cert.Proof.Running Cert.Proof.Reals

variable (h u da : FVec Ideal S1x4096x1024 .f32) (w : FVec Ideal S1x4x256x256 .f32) (s : FVec Ideal S1x1024 .f32)

theorem v0_at (a : Fin 1) (n : Fin 4096) (g : Fin 4) (k : Fin 256) : val_main_v0 (F := Ideal) u (ix4 a n g k) = rows u n.val (256 * g.val + k.val) := by
  obtain rfl : a = 0 := Subsingleton.elim _ _
  rw [val_main_v0_apply]
  refine Eq.trans ?_ (rows_eq u n ⟨256 * g.val + k.val, by omega⟩ _ _ rfl rfl)
  congr 1
  funext x
  fin_cases x
  · rfl
  · exact Fin.ext (by show (((0 * 4096 + n.val) * 4 + g.val) * 256 + k.val) / 1024 % 4096 = n.val; omega)
  · exact Fin.ext (by show (((0 * 4096 + n.val) * 4 + g.val) * 256 + k.val) % 1024 = 256 * g.val + k.val; omega)

theorem host_window {s t v : Shape} (p q lo hi : Fin s.rank → Nat) (x : FVec Ideal s .f32) (init : FVec Ideal v .f32) (h : s.ReduceWindows p q lo hi t) (hv : 0 < v.numel)
    (i : t.Idx) : Host.reduceWindowAdd p q lo hi x init h hv i = Ideal.hostReduceWindowAdd p q lo hi h x (init (Shape.Idx.first hv)) i := rfl

theorem zero_upto (i : S_.Idx) : val_main_call0_call0_v0 (F := Ideal) i = 0 := (Ideal.ofBits_zero .f32)
theorem zero_from (i : S_.Idx) : val_main_call1_call0_v0 (F := Ideal) i = 0 := (Ideal.ofBits_zero .f32)

theorem v1_at (a : Fin 1) (n : Fin 4096) (g : Fin 4) (k : Fin 256) : val_main_v1 (F := Ideal) u (ix4 a n g k) = ∑ i ∈ Finset.range (n.val + 1), rows u i (256 * g.val + k.val) := by
  rw [val_main_v1, host_window, zero_upto]
  refine (window_upto 4095 rfl (val_main_v0 (F := Ideal) u) _ a n g k).trans (Finset.sum_congr rfl fun i hi => ?_)
  have hi : i < 4096 := by have := Finset.mem_range.1 hi; omega
  exact (at0_lt _ _ hi).trans (v0_at u 0 ⟨i, hi⟩ g k)

theorem rows_real (hu : ∀ i, IsReal (u i)) (n c : Nat) : IsReal (rows u n c) := by
  unfold rows; split
  · exact hu _
  · exact isReal_zero

/-- The row number, as the program counts it. -/
theorem word_num (n : Fin 4096) : (FloatOps.sitofp .f32 (BitVec.ofNat 32 n.val) : Ideal .f32) = num n.val := by
  show (((BitVec.ofNat 32 n.val).toInt : ℝ) : EReal) = ((n.val : ℕ) : ℝ)
  have h : (BitVec.ofNat 32 n.val).toNat = n.val := by rw [BitVec.toNat_ofNat]; omega
  rw [BitVec.toInt_eq_toNat_of_lt (by rw [h]; omega), h]
  norm_cast

/-- One group: the running sum less the running sum `w` rows before is the sum over the window. -/
theorem pooled (hu : ∀ i, IsReal (u i)) (b : BitVec 32) (w : Nat) (hw : 0 < w) (a : Fin 1) (n : Fin 4096) (g : Fin 4) (k : Fin 256) :
    Ideal.div (val_main_v1 (F := Ideal) u (ix4 0 n g k) - (if h : n.val < w then 0 else val_main_v1 (F := Ideal) u (ix4 0 ⟨n.val - w, by omega⟩ g k)))
      (min (FloatOps.sitofp .f32 (BitVec.ofNat 32 n.val) + 1 : Ideal .f32) (Ideal.ofBits .f32 b)) - val_main_v0 (F := Ideal) u (ix4 a n g k)
      = pool b w (rows u) n.val (256 * g.val + k.val) := by
  rw [word_num, v0_at, PoolMath.pool, cnt, Ideal.ofBits_one_f32, ← behind_eq w _ (fun i => rows_real u hu i _) n.val, v1_at]
  congr 3
  by_cases h : n.val < w
  · rw [dif_pos h, if_neg (by omega)]
  · rw [dif_neg h, if_pos (by omega), v1_at]

theorem v64_0 (hu : ∀ i, IsReal (u i)) (a : Fin 1) (n : Fin 4096) (k : Fin 256) : val_main_v64 (F := Ideal) u (ix4 a n 0 k) = poolOf (rows u) 0 n.val (256 * 0 + k.val) := by
  pointwise [val_main_v64, val_main_v63, val_main_v59, val_main_v16, val_main_v15, val_main_v14, val_main_v13, val_main_v12, val_main_v11, val_main_v10, val_main_v9, val_main_v7, val_main_v6, val_main_v5, val_main_v4, val_main_v3, val_main_v2, val_main_cst_2, val_main_cst_1, val_main_cst]
  exact (pooled u hu 0x40000000#32 2 (by decide) a n 0 k).trans (congrArg (poolOf (rows u) 0 n.val) (Nat.zero_add _))
theorem v64_1 (hu : ∀ i, IsReal (u i)) (a : Fin 1) (n : Fin 4096) (k : Fin 256) : val_main_v64 (F := Ideal) u (ix4 a n 1 k) = poolOf (rows u) 1 n.val (256 * 1 + k.val) := by
  pointwise [val_main_v64, val_main_v63, val_main_v60, val_main_v30, val_main_v29, val_main_v28, val_main_v27, val_main_v26, val_main_v25, val_main_v24, val_main_v23, val_main_v21, val_main_v20, val_main_v19, val_main_v18, val_main_v17, val_main_v2, val_main_cst_6, val_main_cst_5, val_main_cst_3]
  exact pooled u hu _ 4 (by decide) a n 1 k
theorem v64_2 (hu : ∀ i, IsReal (u i)) (a : Fin 1) (n : Fin 4096) (k : Fin 256) : val_main_v64 (F := Ideal) u (ix4 a n 2 k) = poolOf (rows u) 2 n.val (256 * 2 + k.val) := by
  pointwise [val_main_v64, val_main_v63, val_main_v61, val_main_v44, val_main_v43, val_main_v42, val_main_v41, val_main_v40, val_main_v39, val_main_v38, val_main_v37, val_main_v35, val_main_v34, val_main_v33, val_main_v32, val_main_v31, val_main_v2, val_main_cst_10, val_main_cst_9, val_main_cst_7]
  exact pooled u hu _ 8 (by decide) a n 2 k
theorem v64_3 (hu : ∀ i, IsReal (u i)) (a : Fin 1) (n : Fin 4096) (k : Fin 256) : val_main_v64 (F := Ideal) u (ix4 a n 3 k) = poolOf (rows u) 3 n.val (256 * 3 + k.val) := by
  pointwise [val_main_v64, val_main_v63, val_main_v62, val_main_v58, val_main_v57, val_main_v56, val_main_v55, val_main_v54, val_main_v53, val_main_v52, val_main_v51, val_main_v49, val_main_v48, val_main_v47, val_main_v46, val_main_v45, val_main_v2, val_main_cst_14, val_main_cst_13, val_main_cst_11]
  exact pooled u hu _ 16 (by decide) a n 3 k

theorem v64_at (hu : ∀ i, IsReal (u i)) (a : Fin 1) (n : Fin 4096) (g : Fin 4) (k : Fin 256) :
    val_main_v64 (F := Ideal) u (ix4 a n g k) = poolOf (rows u) g.val n.val (256 * g.val + k.val) := by
  match g with
  | 0 => exact v64_0 u hu a n k
  | 1 => exact v64_1 u hu a n k
  | 2 => exact v64_2 u hu a n k
  | 3 => exact v64_3 u hu a n k

theorem v65_at (g : Fin 4) (k d : Fin 256) : val_main_v65 (F := Ideal) w (ix3 g k d) = weight w g.val k.val d.val := by
  rw [weight_at]; pointwise [val_main_v65]

theorem v67_at (hu : ∀ i, IsReal (u i)) (a : Fin 1) (n : Fin 4096) (g : Fin 4) (d : Fin 256) :
    val_main_v67 (F := Ideal) u w (ix4 a n g d) = mixedOf (rows u) (weight w) g.val n.val d.val := by
  pointwise [val_main_v67, val_main_v66]
  simp only [v65_at, v64_at u hu]
  exact Finset.sum_congr rfl fun x _ => mul_comm _ _

theorem v68_at (hu : ∀ i, IsReal (u i)) (a : Fin 1) (n : Fin 4096) (c : Fin 1024) :
    val_main_v68 (F := Ideal) u w (ix3 a n c) = mixedCol (rows u) (weight w) n.val c.val := by
  pointwise [val_main_v68]
  exact v67_at u w hu 0 n ⟨c.val / 256, by omega⟩ ⟨c.val % 256, by omega⟩
theorem v79_at (hu : ∀ i, IsReal (u i)) (a : Fin 1) (c : Fin 1024) :
    val_main_v79 (F := Ideal) u w da (ix2 a c) = ∑ n : Fin 4096, rows da n.val c.val * mixedCol (rows u) (weight w) n.val c.val := by
  rw [val_main_v79]
  have e : ∀ i, (val_main_v78 (F := Ideal) u w da : FVec Ideal S1024 .f32) (ix1 i) = ∑ n : Fin 4096, rows da n.val i.val * mixedCol (rows u) (weight w) n.val i.val := fun i => by
    refine (UnitAxes.sum_front reducesTo_S1x1x1024_S1024_d0_1 (val_main_v75 (F := Ideal) u w da) _ i).trans ?_
    refine (congrArg₂ (· + ·) (Ideal.ofBits_zero .f32) rfl).trans ((zero_add _).trans ?_)
    pointwise [val_main_v75, val_main_v74, val_main_v73, val_main_cst_15]
    simp only [v68_at u w hu, ← rows_at da]
    exact Finset.sum_congr rfl fun x _ => mul_comm _ _
  refine Eq.trans ?_ (e c)
  pointwise

theorem v81_at (a : Fin 1) (n : Fin 4096) (g : Fin 4) (d : Fin 256) : val_main_v81 (F := Ideal) s da (ix4 g d a n) = dmix (rows da) (line s) n.val (256 * g.val + d.val) := by
  pointwise [val_main_v81, val_main_v80, val_main_v77, val_main_v76, val_main_v70, val_main_v69]
  exact congrArg₂ (· * ·) (rows_eq _ _ _ _ _ rfl (by show _ = g.val * 256 + d.val; omega)) (line_eq _ _ _ (by show _ = g.val * 256 + d.val; omega))
theorem v83_at (a : Fin 1) (n : Fin 4096) (g : Fin 4) (k : Fin 256) : val_main_v83 (F := Ideal) w s da (ix4 a n g k) = dpool (rows da) (line s) (weight w) g.val n.val k.val := by
  pointwise [val_main_v83, val_main_v82]
  simp only [v81_at, v65_at]
  rfl
theorem v144_at (hu : ∀ i, IsReal (u i)) (g : Fin 4) (k d : Fin 256) : val_main_v144 (F := Ideal) u s da (ix3 g k d)
    = ∑ n : Fin 4096, poolOf (rows u) g.val n.val (256 * g.val + k.val) * dmix (rows da) (line s) n.val (256 * g.val + d.val) := by
  pointwise [val_main_v144, val_main_v86, val_main_v85, val_main_v84]
  rw [Fin.sum_univ_one]
  simp only [v81_at, v64_at u hu]
  exact Finset.sum_congr rfl fun x _ => mul_comm _ _
theorem line_real (hs : ∀ i, IsReal (s i)) (c : Nat) : IsReal (line s c) := by
  unfold line; split
  · exact hs _
  · exact isReal_zero
theorem weight_real (hw : ∀ i, IsReal (w i)) (g k d : Nat) : IsReal (weight w g k d) := by
  unfold weight; split
  · exact hw _
  · exact isReal_zero
theorem dpool_real (hda : ∀ i, IsReal (da i)) (hs : ∀ i, IsReal (s i)) (hw : ∀ i, IsReal (w i)) (g n k : Nat) :
    IsReal (dpool (rows da) (line s) (weight w) g n k) :=
  isReal_sum _ fun _ => ((rows_real _ hda _ _).mul (line_real _ hs _)).mul (weight_real _ hw _ _ _)
theorem dpool_past (g n k : Nat) (hn : 4096 ≤ n) : dpool (rows da) (line s) (weight w) g n k = 0 :=
  Finset.sum_eq_zero fun d _ => by rw [dmix, rows_past _ _ _ hn, zero_mul, zero_mul]

/-- The bits of a positive real number. -/
def Pos (b : BitVec 32) : Prop := ∃ r : ℝ, 0 < r ∧ Ideal.ofBits .f32 b = (r : EReal)

theorem pos_2 : Pos 0x40000000#32 := ⟨2, by norm_num, by simp [Ideal.ofBits, Ideal.ieee]; rw [← EReal.coe_mul]; norm_num⟩
theorem pos_4 : Pos 0x40800000#32 := ⟨4, by norm_num, by simp [Ideal.ofBits, Ideal.ieee]; rw [← EReal.coe_mul]; norm_num⟩
theorem pos_8 : Pos 0x41000000#32 := ⟨8, by norm_num, by simp [Ideal.ofBits, Ideal.ieee]; rw [← EReal.coe_mul]; norm_num⟩
theorem pos_16 : Pos 0x41800000#32 := ⟨16, by norm_num, by simp [Ideal.ofBits, Ideal.ieee]; rw [← EReal.coe_mul]; norm_num⟩

theorem cnt_pos (b : BitVec 32) (hb : Pos b) (n : Nat) : ∃ r : ℝ, r ≠ 0 ∧ cnt b n = (r : EReal) := by
  obtain ⟨r, hr, e⟩ := hb
  refine ⟨min ((n : ℝ) + 1) r, (lt_min (by positivity) hr).ne', ?_⟩
  rw [cnt, e, Ideal.ofBits_one_f32, num, EReal.coe_strictMono.monotone.map_min, EReal.coe_add, EReal.coe_one]

theorem div_real {x : EReal} (hx : IsReal x) (b : BitVec 32) (hb : Pos b) (n : Nat) : IsReal (Ideal.div x (cnt b n)) := by
  obtain ⟨r, hr, e⟩ := cnt_pos b hb n
  rw [e, Ideal.div_coe hr]
  exact hx.mul (isReal_coe _)
theorem div_zero (b : BitVec 32) (hb : Pos b) (n : Nat) : Ideal.div 0 (cnt b n) = 0 := by
  obtain ⟨r, hr, e⟩ := cnt_pos b hb n
  rw [e, Ideal.div_coe hr, zero_mul]

/-- One group: what each row of the window receives, less what the row `w` further on receives, summed from the row on. -/
theorem spread (hda : ∀ i, IsReal (da i)) (hs : ∀ i, IsReal (s i)) (hw : ∀ i, IsReal (w i)) (b : BitVec 32) (hb : Pos b) (v M : Nat) (hM : v + M = 4096)
    (g : Fin 4) (k : Fin 256)
    (e : ∀ n : Fin 4096, val_main_v134 (F := Ideal) w s da (ix4 0 n g k)
      = Ideal.div (val_main_v83 (F := Ideal) w s da (ix4 0 n g k)) (min (FloatOps.sitofp .f32 (BitVec.ofNat 32 n.val) + 1 : Ideal .f32) (Ideal.ofBits .f32 b))
        + (if h : n.val < M then -Ideal.div (val_main_v83 (F := Ideal) w s da (ix4 0 ⟨v + n.val, by omega⟩ g k))
            (min (FloatOps.sitofp .f32 (BitVec.ofNat 32 (v + n.val)) + 1 : Ideal .f32) (Ideal.ofBits .f32 b)) else 0))
    (a : Fin 1) (n : Fin 4096) : val_main_v135 (F := Ideal) w s da (ix4 a n g k) = ahead v (fun i => share b (rows da) (line s) (weight w) g.val i k.val) n.val := by
  rw [val_main_v135, host_window, zero_from]
  refine (window_from 4095 (val_main_v134 (F := Ideal) w s da) _ a n g k).trans ?_
  refine Eq.trans (Finset.sum_congr rfl fun i hi => ?_) (ahead_eq 4096 v (fun i => share b (rows da) (line s) (weight w) g.val i k.val)
    (fun i => div_real (dpool_real da w s hda hs hw _ _ _) b hb i) (fun i hi => by rw [share, dpool_past _ _ _ _ _ _ hi, div_zero b hb]) n.val n.isLt.le)
  have hi : n.val + i < 4096 := by have := Finset.mem_range.1 hi; omega
  refine (at0_lt _ _ hi).trans ((e ⟨n.val + i, hi⟩).trans ?_)
  have c : ∀ n : Fin 4096, min (FloatOps.sitofp .f32 (BitVec.ofNat 32 n.val) + 1 : Ideal .f32) (Ideal.ofBits .f32 b) = cnt b n.val := fun n => by
    rw [word_num, cnt, Ideal.ofBits_one_f32]
  have d : ∀ n : Fin 4096, Ideal.div (val_main_v83 (F := Ideal) w s da (ix4 0 n g k)) (min (FloatOps.sitofp .f32 (BitVec.ofNat 32 n.val) + 1 : Ideal .f32) (Ideal.ofBits .f32 b))
      = share b (rows da) (line s) (weight w) g.val n.val k.val := fun n => by rw [c, v83_at, share]
  refine congrArg₂ (· + ·) (d _) ?_
  by_cases h : n.val + i < M
  · rw [dif_pos h, d ⟨v + (n.val + i), by omega⟩, show n.val + i + v = v + (n.val + i) from Nat.add_comm _ _]
  · rw [dif_neg h, share, dpool_past _ _ _ _ _ _ (by omega), div_zero b hb, neg_zero]

theorem v134_0 (n : Fin 4096) (k : Fin 256) : val_main_v134 (F := Ideal) w s da (ix4 0 n 0 k)
    = Ideal.div (val_main_v83 (F := Ideal) w s da (ix4 0 n 0 k)) (min (FloatOps.sitofp .f32 (BitVec.ofNat 32 n.val) + 1 : Ideal .f32) (Ideal.ofBits .f32 0x40000000#32))
      + (if h : n.val < 4094 then -Ideal.div (val_main_v83 (F := Ideal) w s da (ix4 0 ⟨2 + n.val, by omega⟩ 0 k))
          (min (FloatOps.sitofp .f32 (BitVec.ofNat 32 (2 + n.val)) + 1 : Ideal .f32) (Ideal.ofBits .f32 0x40000000#32)) else 0) := by
  pointwise [val_main_v134, val_main_v133, val_main_v124, val_main_v123, val_main_v114, val_main_v113, val_main_v104, val_main_cst_18, val_main_cst_20, val_main_cst_22, val_main_cst_24, val_main_v132, val_main_v131, val_main_v130, val_main_v129, val_main_v127, val_main_v126, val_main_v125, val_main_v13, val_main_v12, val_main_v11, val_main_v10, val_main_v9, val_main_cst_2, val_main_cst_1, val_main_cst_23, val_main_v89, val_main_v88, val_main_v2]
theorem v134_1 (n : Fin 4096) (k : Fin 256) : val_main_v134 (F := Ideal) w s da (ix4 0 n 1 k)
    = Ideal.div (val_main_v83 (F := Ideal) w s da (ix4 0 n 1 k)) (min (FloatOps.sitofp .f32 (BitVec.ofNat 32 n.val) + 1 : Ideal .f32) (Ideal.ofBits .f32 0x40800000#32))
      + (if h : n.val < 4092 then -Ideal.div (val_main_v83 (F := Ideal) w s da (ix4 0 ⟨4 + n.val, by omega⟩ 1 k))
          (min (FloatOps.sitofp .f32 (BitVec.ofNat 32 (4 + n.val)) + 1 : Ideal .f32) (Ideal.ofBits .f32 0x40800000#32)) else 0) := by
  pointwise [val_main_v134, val_main_v133, val_main_v124, val_main_v123, val_main_v114, val_main_v113, val_main_v104, val_main_cst_18, val_main_cst_20, val_main_cst_22, val_main_cst_24, val_main_v122, val_main_v121, val_main_v120, val_main_v119, val_main_v117, val_main_v116, val_main_v115, val_main_v27, val_main_v26, val_main_v25, val_main_v24, val_main_v23, val_main_cst_6, val_main_cst_5, val_main_cst_21, val_main_v91, val_main_v90, val_main_v2]
theorem v134_2 (n : Fin 4096) (k : Fin 256) : val_main_v134 (F := Ideal) w s da (ix4 0 n 2 k)
    = Ideal.div (val_main_v83 (F := Ideal) w s da (ix4 0 n 2 k)) (min (FloatOps.sitofp .f32 (BitVec.ofNat 32 n.val) + 1 : Ideal .f32) (Ideal.ofBits .f32 0x41000000#32))
      + (if h : n.val < 4088 then -Ideal.div (val_main_v83 (F := Ideal) w s da (ix4 0 ⟨8 + n.val, by omega⟩ 2 k))
          (min (FloatOps.sitofp .f32 (BitVec.ofNat 32 (8 + n.val)) + 1 : Ideal .f32) (Ideal.ofBits .f32 0x41000000#32)) else 0) := by
  pointwise [val_main_v134, val_main_v133, val_main_v124, val_main_v123, val_main_v114, val_main_v113, val_main_v104, val_main_cst_18, val_main_cst_20, val_main_cst_22, val_main_cst_24, val_main_v112, val_main_v111, val_main_v110, val_main_v109, val_main_v107, val_main_v106, val_main_v105, val_main_v41, val_main_v40, val_main_v39, val_main_v38, val_main_v37, val_main_cst_10, val_main_cst_9, val_main_cst_19, val_main_v93, val_main_v92, val_main_v2]
theorem v134_3 (n : Fin 4096) (k : Fin 256) : val_main_v134 (F := Ideal) w s da (ix4 0 n 3 k)
    = Ideal.div (val_main_v83 (F := Ideal) w s da (ix4 0 n 3 k)) (min (FloatOps.sitofp .f32 (BitVec.ofNat 32 n.val) + 1 : Ideal .f32) (Ideal.ofBits .f32 0x41800000#32))
      + (if h : n.val < 4080 then -Ideal.div (val_main_v83 (F := Ideal) w s da (ix4 0 ⟨16 + n.val, by omega⟩ 3 k))
          (min (FloatOps.sitofp .f32 (BitVec.ofNat 32 (16 + n.val)) + 1 : Ideal .f32) (Ideal.ofBits .f32 0x41800000#32)) else 0) := by
  pointwise [val_main_v134, val_main_v133, val_main_v124, val_main_v123, val_main_v114, val_main_v113, val_main_v104, val_main_cst_18, val_main_cst_20, val_main_cst_22, val_main_cst_24, val_main_v103, val_main_v102, val_main_v101, val_main_v100, val_main_v98, val_main_v97, val_main_v96, val_main_v55, val_main_v54, val_main_v53, val_main_v52, val_main_v51, val_main_cst_14, val_main_cst_13, val_main_cst_17, val_main_v95, val_main_v94, val_main_v2]

theorem v135_at (hda : ∀ i, IsReal (da i)) (hs : ∀ i, IsReal (s i)) (hw : ∀ i, IsReal (w i)) (a : Fin 1) (n : Fin 4096) (g : Fin 4) (k : Fin 256) :
    val_main_v135 (F := Ideal) w s da (ix4 a n g k)
      = ahead (widthOf g.val) (fun i => share (bitsOf g.val) (rows da) (line s) (weight w) g.val i k.val) n.val := by
  match g with
  | 0 => exact spread da w s hda hs hw _ pos_2 2 4094 rfl 0 k (fun n => v134_0 da w s n k) a n
  | 1 => exact spread da w s hda hs hw _ pos_4 4 4092 rfl 1 k (fun n => v134_1 da w s n k) a n
  | 2 => exact spread da w s hda hs hw _ pos_8 8 4088 rfl 2 k (fun n => v134_2 da w s n k) a n
  | 3 => exact spread da w s hda hs hw _ pos_16 16 4080 rfl 3 k (fun n => v134_3 da w s n k) a n

theorem v137_at (hda : ∀ i, IsReal (da i)) (hs : ∀ i, IsReal (s i)) (hw : ∀ i, IsReal (w i)) (a : Fin 1) (n : Fin 4096) (c : Fin 1024) :
    val_main_v137 (F := Ideal) w s da (ix3 a n c) = dzuCol (rows da) (line s) (weight w) n.val c.val := by
  pointwise [val_main_v137, val_main_v136, val_main_v87]
  rw [v135_at da w s hda hs hw, v83_at, add_comm, ← sub_eq_add_neg]
  rfl

theorem v143_at (hda : ∀ i, IsReal (da i)) (hs : ∀ i, IsReal (s i)) (hw : ∀ i, IsReal (w i)) (i : Fin 4096) (j : Fin 1024) :
    val_main_v143 (F := Ideal) w s da (ix2 i j) = dzuCol (rows da) (line s) (weight w) i.val j.val := by
  pointwise [val_main_v143, val_main_v142]
  exact v137_at da w s hda hs hw _ _ _
theorem v145_at (hda : ∀ i, IsReal (da i)) (hs : ∀ i, IsReal (s i)) (hw : ∀ i, IsReal (w i)) (i j : Fin 1024) :
    val_main_v145 (F := Ideal) h w s da (ix2 i j) = ∑ n : Fin 4096, dzuCol (rows da) (line s) (weight w) n.val i.val * rows h n.val j.val := by
  pointwise [val_main_v145, val_main_v141, val_main_v140]
  rw [Fin.sum_univ_one]
  simp only [v137_at da w s hda hs hw, ← rows_at h]

end Cert.Reference2Ideal.Pool

end
-- ==== Proof.Pool.Final.lean ====
/- The four arrays after the last grid point: the blocks of the gradient that leaves the pooling lie side by side, and what the
   points add to the three other gradients sums over all rows. Both are what the reference computes. -/
module

public import proofs.«01_k».proof.Proof.Pool.Tiles
public import proofs.«01_k».proof.Proof.Pool.Ref
public import Idealize.ShloMosaic.Lib.Pipeline.ValueKit

@[expose] public section

set_option maxRecDepth 16384

noncomputable section

namespace Cert.Kernel2Ideal.Pool

open Cert.Kernel2Ideal Cert.Kernel2Ideal.Gen Idealize.ShloMosaic Idealize.ShloMosaic.TcCoe Idealize.SL.Sem
open Idealize.ShloMosaic.Pipeline (Dat)
open Cert.Proof.PoolMath Cert.Proof.Reals Cert.Reference2Ideal.Read

variable (m : (ℓ : Loc nD τ sig) → Buf (Elt Ideal) ℓ)

/-- The arguments other than the activations are real numbers. -/
structure Finite (c : Dev nD) : Prop where
  u : ∀ i, IsReal (aU m c i)
  w : ∀ i, IsReal (aWpool m c i)
  s : ∀ i, IsReal (aScale m c i)
  da : ∀ i, IsReal (aDa m c i)

abbrev refDu (c : Dev nD) : FVec Ideal S4096x1024 .bf16 := val_main_v143 (F := Ideal) (aWpool m c) (aScale m c) (aDa m c)
abbrev refDw (c : Dev nD) : FVec Ideal S4x256x256 .f32 := val_main_v144 (F := Ideal) (aU m c) (aScale m c) (aDa m c)
abbrev refDs (c : Dev nD) : FVec Ideal S1x1024 .f32 := val_main_v79 (F := Ideal) (aU m c) (aWpool m c) (aDa m c)
abbrev refDm (c : Dev nD) : FVec Ideal S1024x1024 .f32 := val_main_v145 (F := Ideal) (aH m c) (aWpool m c) (aScale m c) (aDa m c)

theorem final7 (c : Dev nD) (hf : Finite m c) : (dats m 0 c).arrAt 7 cfg0.N = refDu m c := by
  refine (dats m 0 c).arrAt_eq_of_covers 7 _ (by decide +kernel) fun t _ y => ?_
  blk_simp
  rw [after0_7]
  refine (out7 m c t y).trans ?_
  have key : ∀ y : S512x1024.Idx, dzuCol (daN m c) (sN m c) (wN m c) (t.val * 512 + (y 0).val) (y 1).val = refDu m c (((View.whole main_v6_0).slice (win0_7.rect t)).emb y) := by
    intro y
    idx_vars y
    refine (Cert.Reference2Ideal.Pool.v143_at (aDa m c) (aWpool m c) (aScale m c) hf.da hf.s hf.w (row t y0) y1).symm.trans ?_
    blk_ext [idx t]
  exact key y

theorem zero8 (y : S4x256x256.Idx) : k0_pay2 (F := Ideal) y = 0 := by idx_vars y; pointwise [k0_pay2]
theorem zero9 (y : S1x1024.Idx) : k0_pay3 (F := Ideal) y = 0 := by idx_vars y; pointwise [k0_pay3]
theorem zero10 (y : S1024x1024.Idx) : k0_pay4 (F := Ideal) y = 0 := by idx_vars y; pointwise [k0_pay4]

/-- A sum over the points and the rows of a block is the sum over all rows. -/
theorem sum_rows (f : Nat → EReal) : ∑ t : Fin cfg0.N, ∑ i : Fin 512, f (t.val * 512 + i.val) = ∑ r : Fin 4096, f r.val := by
  refine Fin.sum_mul_add_congr (S := cfg0.N) (n := 512) (L := 4096) fun t i h => rfl

theorem final8 (c : Dev nD) (hf : Finite m c) : (dats m 0 c).arrAt 8 cfg0.N = refDw m c := by
  refine (dats m 0 c).arrAt_eq_of_after_last 8 t0_7 (by decide +kernel) _ fun j => ?_
  blk_simp
  rw [after0_8, Pipeline.eq_sum_fin_of_reset_step_apply_last (fun n h => (outsAt0 m c n h).2.1) 8 (fun _ => 0) (fun t (y : S4x256x256.Idx) => addW m c t.val (y 0).val (y 1).val (y 2).val)
    (fun t h y => (out8 m c t k0_pay2 (fun _ => rfl) (fun h' => absurd h h') y).trans (congrArg (· + _) (zero8 y)))
    (fun t h y => out8 m c t _ (fun h' => absurd h' h) (fun _ => rfl) y) (le_of_eq N_0) t0_7 rfl j, zero_add]
  have key : ∀ j : S4x256x256.Idx, ∑ t : Fin cfg0.N, addW m c t.val (j 0).val (j 1).val (j 2).val = refDw m c j := by
    intro j
    idx_vars j
    exact (sum_rows (fun n => poolOf (uN m c) j0.val n (256 * j0.val + j1.val) * dmix (daN m c) (sN m c) n (256 * j0.val + j2.val))).trans
      (Cert.Reference2Ideal.Pool.v144_at (aU m c) (aDa m c) (aScale m c) hf.u j0 j1 j2).symm
  exact key j

theorem final9 (c : Dev nD) (hf : Finite m c) : (dats m 0 c).arrAt 9 cfg0.N = refDs m c := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => 0) (fun t (y : S1x1024.Idx) => addS m c t.val (y 1).val)
    (fun t h y => (out9 m c t k0_pay3 (fun _ => rfl) (fun h' => absurd h h') y).trans (congrArg (· + _) (zero9 y)))
    (fun t h y => out9 m c t _ (fun h' => absurd h' h) (fun _ => rfl) y) (le_of_eq N_0) t0_7 rfl j, zero_add]
  have key : ∀ j : S1x1024.Idx, ∑ t : Fin cfg0.N, addS m c t.val (j 1).val = refDs m c j := by
    intro j
    idx_vars j
    exact (sum_rows (fun n => daN m c n j1.val * mixedCol (uN m c) (wN m c) n j1.val)).trans
      (Cert.Reference2Ideal.Pool.v79_at (aU m c) (aDa m c) (aWpool m c) hf.u j0 j1).symm
  exact key j

theorem final10 (c : Dev nD) (hf : Finite m c) : (dats m 0 c).arrAt 10 cfg0.N = refDm m c := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => 0) (fun t (y : S1024x1024.Idx) => addM m c t.val (y 0).val (y 1).val)
    (fun t h y => (out10 m c t k0_pay4 (fun _ => rfl) (fun h' => absurd h h') y).trans (congrArg (· + _) (zero10 y)))
    (fun t h y => out10 m c t _ (fun h' => absurd h' h) (fun _ => rfl) y) (le_of_eq N_0) t0_7 rfl j, zero_add]
  have key : ∀ j : S1024x1024.Idx, ∑ t : Fin cfg0.N, addM m c t.val (j 0).val (j 1).val = refDm m c j := by
    intro j
    idx_vars j
    exact (sum_rows (fun n => dzuCol (daN m c) (sN m c) (wN m c) n j0.val * hN m c n j1.val)).trans
      (Cert.Reference2Ideal.Pool.v145_at (aH m c) (aDa m c) (aWpool m c) (aScale m c) hf.da hf.s hf.w j0 j1).symm
  exact key j

end Cert.Kernel2Ideal.Pool

end
-- ==== Proof.Pool.Claim.lean ====
/- The backward pass of the pooling: where the pooled activations, the mixing weight, the scale and the cotangent are real
   numbers, the kernel's four arrays are those of the reference's derivative. -/
module

public import proofs.«01_k».proof.Defs
public import proofs.«01_k».proof.Proof.Gen.Kernel2Ideal.Value
public import proofs.«01_k».proof.Proof.Gen.Reference2Ideal.Run
public import proofs.«01_k».proof.Proof.Pool.Final

@[expose] public section

set_option maxRecDepth 16384

open Idealize.ShloMosaic

namespace Cert.Proof.Pool

open Cert.Kernel2Ideal.Pool Cert.Proof.Reals

/-- What the precondition says of the arguments. -/
theorem finite [Cert.Pre_finite_pool.Facts] (m : (ℓ : Loc Cert.Kernel2Ideal.nD Cert.Kernel2Ideal.τ Cert.Kernel2Ideal.sig) → Buf (Elt Ideal) ℓ)
    (h : Cert.Pre_Kernel2Ideal_finite_pool m) (c : Dev Cert.Kernel2Ideal.nD) : Finite m c := by
  have e := congrFun (h c) ix0
  obtain ⟨e, e3⟩ := and_one (show IntOp.andi _ _ = 1#1 from e)
  obtain ⟨e, e2⟩ := and_one (show IntOp.andi _ _ = 1#1 from e)
  obtain ⟨e0, e1⟩ := and_one (show IntOp.andi _ _ = 1#1 from e)
  exact ⟨isReal_of_all _ _ _ _ _ _ _ e0, isReal_of_all _ _ _ _ _ _ _ e1, isReal_of_all _ _ _ _ _ _ _ e2, isReal_of_all _ _ _ _ _ _ _ e3⟩

theorem algebraic [Cert.Pre_finite_pool.Facts] : Cert.algebraic_Kernel2Ideal_Reference2Ideal_pre_finite_pool := by
  pair_intro
  · run_from Cert.Kernel2Ideal.Value.run_blocks m g
  · run_from Cert.Reference2Ideal.Value.run m' g'
    · obtain ⟨h0, h1, h2, h3, h4⟩ := hagree c
      rw [Cert.Reference2Ideal.Read.val_main_v143_eq, h2, h3, h4]
      exact (final7 m c (finite m hpre c)).symm
    · obtain ⟨h0, h1, h2, h3, h4⟩ := hagree c
      rw [Cert.Reference2Ideal.Read.val_main_v144_eq, h1, h3, h4]
      exact (final8 m c (finite m hpre c)).symm
    · obtain ⟨h0, h1, h2, h3, h4⟩ := hagree c
      rw [Cert.Reference2Ideal.Read.val_main_v79_eq, h1, h2, h4]
      exact (final9 m c (finite m hpre c)).symm
    · obtain ⟨h0, h1, h2, h3, h4⟩ := hagree c
      rw [Cert.Reference2Ideal.Read.val_main_v145_eq, h0, h2, h3, h4]
      exact (final10 m c (finite m hpre c)).symm

end Cert.Proof.Pool
-- ==== Proof.Order.lean ====
/- The two orders of a block of 256 rows: eight chunks of 32 consecutive time steps, side by side in a row of eight, against
   plain time; and a sum with the row of ones that picks one place. -/
module

public import Idealize.ShloMosaic.Lib.Pointwise

@[expose] public section

noncomputable section

namespace Cert.Proof.Order

open Idealize.ShloMosaic

/-- The time step that tile row `k` holds, and the tile row that holds time step `i`. -/
abbrev time (k : Fin 256) : Fin 256 := ⟨32 * (k.val % 8) + k.val / 8, by omega⟩
abbrev tile (i : Fin 256) : Fin 256 := ⟨8 * (i.val % 32) + i.val / 32, by omega⟩

theorem time_tile (i : Fin 256) : time (tile i) = i := Fin.ext (by dsimp only; omega)
theorem tile_time (k : Fin 256) : tile (time k) = k := Fin.ext (by dsimp only; omega)

/-- The order as one permutation. -/
def perm : Fin 256 ≃ Fin 256 := ⟨time, tile, tile_time, time_tile⟩

/-- Whether tile row `k` holds time step `i`, as a number. -/
def hit (i k : Fin 256) : EReal := if i = time k then 1 else 0

/-- The number as the host makes it of two words' comparison. -/
theorem hit_word (i k : Fin 256) :
    FloatOps.uitofp (F := Ideal) .bf16 (IntOp.cmpi .eq (BitVec.ofNat 32 i.val) (BitVec.ofNat 32 (32 * (k.val % 8) + k.val / 8))) = hit i k := by
  show (((IntOp.cmpi .eq (BitVec.ofNat 32 i.val) (BitVec.ofNat 32 (32 * (k.val % 8) + k.val / 8))).toNat : ℝ) : EReal) = hit i k
  by_cases h : i = time k
  · have e : i.val = 32 * (k.val % 8) + k.val / 8 := congrArg Fin.val h
    rw [hit, if_pos h, ← e]
    simp [IntOp.cmpi]
  · have e : BitVec.ofNat 32 i.val ≠ BitVec.ofNat 32 (32 * (k.val % 8) + k.val / 8) := fun q => h (Fin.ext (by
      have := congrArg BitVec.toNat q
      simp only [BitVec.toNat_ofNat] at this
      dsimp only
      omega))
    rw [hit, if_neg h]
    simp [IntOp.cmpi, e]

/-- The order in 32-bit words, with the signed remainder and the signed quotient rounded down that the host line takes. -/
theorem time_word (k : Fin 256) :
    IntOp.addi
        (IntOp.muli 32#32
          (Scalar.select
            (IntOp.andi
              (IntOp.cmpi .ne
                (IntOp.cmpi .slt (IntOp.remsi .host (BitVec.ofNat 32 k.val) (Scalar.select (IntOp.cmpi .eq 8#32 0#32) 1#32 8#32)) 0#32)
                (IntOp.cmpi .slt (Scalar.select (IntOp.cmpi .eq 8#32 0#32) 1#32 8#32) 0#32))
              (IntOp.cmpi .ne (IntOp.remsi .host (BitVec.ofNat 32 k.val) (Scalar.select (IntOp.cmpi .eq 8#32 0#32) 1#32 8#32)) 0#32))
            (IntOp.addi (IntOp.remsi .host (BitVec.ofNat 32 k.val) (Scalar.select (IntOp.cmpi .eq 8#32 0#32) 1#32 8#32))
              (Scalar.select (IntOp.cmpi .eq 8#32 0#32) 1#32 8#32))
            (IntOp.remsi .host (BitVec.ofNat 32 k.val) (Scalar.select (IntOp.cmpi .eq 8#32 0#32) 1#32 8#32))))
        (Scalar.select
          (IntOp.andi
            (IntOp.cmpi .ne (if BitVec.ofNat 32 k.val = 0 then 0 else if (BitVec.ofNat 32 k.val).msb = true then (-1 : BitVec 32) else 1)
              (if 8#32 = 0 then 0 else if (8#32).msb = true then (-1 : BitVec 32) else 1))
            (IntOp.cmpi .ne (IntOp.remsi .host (BitVec.ofNat 32 k.val) 8#32) 0#32))
          (IntOp.subi (IntOp.divsi .host (BitVec.ofNat 32 k.val) 8#32) 1#32)
          (IntOp.divsi .host (BitVec.ofNat 32 k.val) 8#32)) =
      BitVec.ofNat 32 (32 * (k.val % 8) + k.val / 8) := by
  revert k
  decide +kernel

theorem sum_time (i : Fin 256) (f : Fin 256 → EReal) : ∑ k, hit i k * f k = f (tile i) := by
  refine (Finset.sum_eq_single (tile i) (fun k _ h => ?_) (fun h => absurd (Finset.mem_univ _) h)).trans ?_
  · rw [hit, if_neg (fun e => h (by rw [e, tile_time])), zero_mul]
  · rw [hit, if_pos (time_tile i).symm, one_mul]

theorem sum_tile (k : Fin 256) (f : Fin 256 → EReal) : ∑ i, hit i k * f i = f (time k) := by
  refine (Finset.sum_eq_single (time k) (fun i _ h => ?_) (fun h => absurd (Finset.mem_univ _) h)).trans ?_
  · rw [hit, if_neg h, zero_mul]
  · rw [hit, if_pos rfl, one_mul]

end Cert.Proof.Order

end
-- ==== Proof.FfnA.Spec.lean ====
/- The gradient of the feed-forward convolution and gate, as sums over time steps and columns: the padded activations, the
   convolution, the gate's derivative, and the transposed convolution. All as functions of whole numbers, zero outside. -/
module

public import proofs.«01_k».proof.Proof.Reals
public import Idealize.ShloMosaic.Lib.Pointwise
public import Idealize.ShloMosaic.PureOps.Ideal.Laws

@[expose] public section

noncomputable section

open Idealize.ShloMosaic

namespace Cert.Proof.FfnSpec

/-- The arguments: activations before the convolution, the convolution's three taps and its bias, the weight that follows the
    gate, and the cotangent of the product. -/
structure Args where
  u : (⟨3, ![1, 4096, 5632]⟩ : Shape).Idx → EReal
  cw : (⟨3, ![1, 3, 5632]⟩ : Shape).Idx → EReal
  cb : (⟨2, ![1, 5632]⟩ : Shape).Idx → EReal
  wd : (⟨3, ![1, 2816, 1024]⟩ : Shape).Idx → EReal
  dy : (⟨3, ![1, 4096, 1024]⟩ : Shape).Idx → EReal

variable (a : Args)

/-- The activations at a time step, zero outside. -/
def Args.uN (n k : Nat) : EReal := if h : n < 4096 ∧ k < 5632 then a.u (ix3 0 ⟨n, h.1⟩ ⟨k, h.2⟩) else 0
/-- The activations with two rows of zeros before the first. -/
def Args.up (n k : Nat) : EReal := if n < 2 then 0 else a.uN (n - 2) k
def Args.w (j k : Nat) : EReal := if h : j < 3 ∧ k < 5632 then a.cw (ix3 0 ⟨j, h.1⟩ ⟨k, h.2⟩) else 0
def Args.b (k : Nat) : EReal := if h : k < 5632 then a.cb (ix2 0 ⟨k, h⟩) else 0
/-- The convolution. -/
def Args.uc (n k : Nat) : EReal := a.b k + a.w 0 k * a.up n k + a.w 1 k * a.up (n + 1) k + a.w 2 k * a.up (n + 2) k
def Args.dyN (n j : Nat) : EReal := if h : n < 4096 ∧ j < 1024 then a.dy (ix3 0 ⟨n, h.1⟩ ⟨j, h.2⟩) else 0
def Args.wdN (f j : Nat) : EReal := if h : f < 2816 ∧ j < 1024 then a.wd (ix3 0 ⟨f, h.1⟩ ⟨j, h.2⟩) else 0
/-- The cotangent of the gated activations. -/
def Args.da (n f : Nat) : EReal := ∑ j : Fin 1024, a.dyN n j.val * a.wdN f j.val
/-- The gate's logistic, and the gate times it. -/
def Args.sg (n f : Nat) : EReal := FloatOps.logistic (F := Ideal) (φ := .f32) (a.uc n f)
def Args.sl (n f : Nat) : EReal := a.uc n f * a.sg n f
def Args.act (n f : Nat) : EReal := a.sl n f * a.uc n (2816 + f)
/-- The cotangent of the convolution: of the gate's half, of the other half, and zero past the last time step. -/
def Args.dgate (n f : Nat) : EReal := a.da n f * a.uc n (2816 + f) * (a.sg n f + a.sl n f * (1 - a.sg n f))
def Args.dval (n f : Nat) : EReal := a.da n f * a.sl n f
def Args.dc (n k : Nat) : EReal := if n < 4096 then (if k < 2816 then a.dgate n k else a.dval n (k - 2816)) else 0
/-- The four gradients. -/
def Args.du (n k : Nat) : EReal := a.w 2 k * a.dc n k + a.w 1 k * a.dc (n + 1) k + a.w 0 k * a.dc (n + 2) k
def Args.dcw (j k : Nat) : EReal := ∑ n : Fin 4096, a.dc n.val k * a.up (n.val + j) k
def Args.dcb (k : Nat) : EReal := ∑ n : Fin 4096, a.dc n.val k

theorem uN_at (n : Fin 4096) (k : Fin 5632) : a.uN n.val k.val = a.u (ix3 0 n k) := dif_pos ⟨n.isLt, k.isLt⟩
theorem w_at (n : Fin 3) (k : Fin 5632) : a.w n.val k.val = a.cw (ix3 0 n k) := dif_pos ⟨n.isLt, k.isLt⟩
theorem b_at (k : Fin 5632) : a.b k.val = a.cb (ix2 0 k) := dif_pos k.isLt
theorem dyN_at (n : Fin 4096) (k : Fin 1024) : a.dyN n.val k.val = a.dy (ix3 0 n k) := dif_pos ⟨n.isLt, k.isLt⟩
theorem wdN_at (n : Fin 2816) (k : Fin 1024) : a.wdN n.val k.val = a.wd (ix3 0 n k) := dif_pos ⟨n.isLt, k.isLt⟩

/-- The padded activations as two arrays one after the other. -/
theorem up_host (s : Fin 4098) (k : Fin 5632) :
    a.up s.val k.val = if h : s.val < 2 then 0 else a.u (ix3 0 ⟨s.val - 2, by omega⟩ k) := by
  unfold Args.up
  split
  · rfl
  · exact uN_at a ⟨s.val - 2, by omega⟩ k

theorem uc_host (n : Fin 4096) (k : Fin 5632) :
    a.uc n.val k.val = a.cb (ix2 0 k) + a.cw (ix3 0 0 k) * a.up n.val k.val + a.cw (ix3 0 1 k) * a.up (1 + n.val) k.val + a.cw (ix3 0 2 k) * a.up (2 + n.val) k.val := by
  rw [← b_at, ← w_at, ← w_at, ← w_at, Nat.add_comm 1, Nat.add_comm 2]; rfl

end Cert.Proof.FfnSpec

end
-- ==== Proof.FfnA.Host.lean ====
/- What the call for the gradient of the feed-forward convolution and gate reads: the arrays its host lines prepare, all in tile
   order, and the blocks that a grid point sees. The grid runs through the blocks of 256 time steps from the last to the first. -/
module

public import proofs.«01_k».proof.Proof.Gen.Kernel3Ideal.Frame
public import proofs.«01_k».proof.Proof.Order
public import proofs.«01_k».proof.Proof.Pool.Slab
public import proofs.«01_k».proof.Proof.FfnA.Spec

@[expose] public section

set_option maxRecDepth 16384

noncomputable section

namespace Cert.Kernel3Ideal.FfnA

open Cert.Kernel3Ideal Cert.Kernel3Ideal.Gen Idealize.ShloMosaic Idealize.ShloMosaic.TcCoe Idealize.SL.Sem
open Cert.Proof.Order Cert.Proof.Slab Cert.Proof.FfnSpec

variable (m : (ℓ : Loc nD τ sig) → Buf (Elt Ideal) ℓ)

/-- The arguments, by name. -/
abbrev aU (c : Dev nD) : FVec Ideal S1x4096x5632 .f32 := m ((c : Thread nD τ).loc main_arg0)
abbrev aCw (c : Dev nD) : FVec Ideal S1x3x5632 .f32 := m ((c : Thread nD τ).loc main_arg1)
abbrev aCb (c : Dev nD) : FVec Ideal S1x5632 .f32 := m ((c : Thread nD τ).loc main_arg2)
abbrev aWd (c : Dev nD) : FVec Ideal S1x2816x1024 .f32 := m ((c : Thread nD τ).loc main_arg3)
abbrev aDy (c : Dev nD) : FVec Ideal S1x4096x1024 .f32 := m ((c : Thread nD τ).loc main_arg4)

/-- The arguments as functions of whole numbers. -/
abbrev args (c : Dev nD) : Args := ⟨aU m c, aCw m c, aCb m c, aWd m c, aDy m c⟩

/-- The block index of every window at every grid point. -/
theorem idx : ∀ t : Fin cfg0.N, win0_0.index t = ![15 - t.val, 0] ∧ win0_1.index t = ![15 - t.val, 0] ∧ win0_2.index t = ![(15 - t.val) * 16 - 1, 0]
    ∧ win0_3.index t = ![15 - t.val, 0] ∧ win0_4.index t = ![0, 0] ∧ win0_5.index t = ![0, 0] ∧ win0_6.index t = ![15 - t.val, 0]
    ∧ win0_7.index t = ![15 - t.val, 0] ∧ win0_8.index t = ![0, 0] ∧ win0_9.index t = ![0, 0] ∧ t.val < 16 :=
  (by decide +kernel : ∀ t : Fin grid0.N, _)

theorem lt16 (t : Fin cfg0.N) : t.val < 16 := (idx t).2.2.2.2.2.2.2.2.2.2

/-- The tile row `i` of the block a grid point sees, and the time step it holds. -/
abbrev trow (t : Fin cfg0.N) (i : Fin 256) : Fin 4096 := ⟨(15 - t.val) * 256 + i.val, by have := lt16 t; omega⟩

theorem V_dy (c : Dev nD) (t : Fin cfg0.N) (i : Fin 256) (k : Fin 1024) :
    (V m c main_v31 : FVec Ideal S4096x1024 .bf16) (ix2 (trow t i) k) = aDy m c (ix3 0 (trow t (time i)) k) := by
  have e : V m c main_v31 = truncf .bf16 (shapeCast S4096x1024 (transpose S16x32x8x1024 [0, 2, 1, 3]
      (shapeCast S16x8x32x1024 (shapeCast S4096x1024 (aDy m c) shapeCasts_S1x4096x1024_S4096x1024) shapeCasts_S4096x1024_S16x8x32x1024)
      transposes_S16x8x32x1024_S16x32x8x1024_0_2_1_3) shapeCasts_S16x32x8x1024_S4096x1024) bitsLt_bf16_f32 := by
    entry_read; rfl
  rw [e]; pointwise
  exact congrArg (fun r => aDy m c (ix3 0 r k)) (Fin.ext (by have := lt16 t; dsimp only; omega))

/-- An array in tile order, at a tile row of the given block. -/
theorem tiled (t : Fin cfg0.N) (x : FVec Ideal S1x4096x5632 .f32) (i : Fin 256) (k : Fin 5632) :
    (shapeCast S4096x5632 (transpose S16x32x8x5632 [0, 2, 1, 3]
      (shapeCast S16x8x32x5632 (shapeCast S4096x5632 x shapeCasts_S1x4096x5632_S4096x5632) shapeCasts_S4096x5632_S16x8x32x5632)
      transposes_S16x8x32x5632_S16x32x8x5632_0_2_1_3) shapeCasts_S16x32x8x5632_S4096x5632 : FVec Ideal S4096x5632 .f32) (ix2 (trow t i) k) = x (ix3 0 (trow t (time i)) k) := by
  pointwise
  exact congrArg (fun r => x (ix3 0 r k)) (Fin.ext (by have := lt16 t; dsimp only; omega))

theorem V_u (c : Dev nD) : V m c main_v35 = shapeCast S4096x5632 (transpose S16x32x8x5632 [0, 2, 1, 3]
      (shapeCast S16x8x32x5632 (shapeCast S4096x5632 (aU m c) shapeCasts_S1x4096x5632_S4096x5632) shapeCasts_S4096x5632_S16x8x32x5632)
      transposes_S16x8x32x5632_S16x32x8x5632_0_2_1_3) shapeCasts_S16x32x8x5632_S4096x5632 := by
  entry_read; rfl

/-- The padded activations, and the convolution of them, as the host computes them. -/
def padded (c : Dev nD) : FVec Ideal S1x4098x5632 .f32 :=
  concatenate S1x4098x5632 1 [⟨S1x2x5632, broadcastInDim S1x2x5632 ![] bcast_S_S1x2x5632 (constant (F := Ideal) S_ .f32 0x00000000#32)⟩, ⟨S1x4096x5632, aU m c⟩] concatenates_S1x2x5632_S1x4096x5632_S1x4098x5632_d1
/-- One tap along the channels, at every time step. -/
def channel (x : FVec Ideal S1x5632 .f32) : FVec Ideal S1x4096x5632 .f32 :=
  broadcastInDim S1x4096x5632 ![0, 1, 2] bcast_S1x1x5632_S1x4096x5632_0_1_2 (broadcastInDim S1x1x5632 ![2] bcast_S5632_S1x1x5632_2 (shapeCast S5632 x shapeCasts_S1x5632_S5632))
def convolved (c : Dev nD) : FVec Ideal S1x4096x5632 .f32 :=
  addf (addf (addf (channel (aCb m c))
    (mulf (channel (extractStridedSlice S1x5632 ![0, 0] (shapeCast S3x5632 (aCw m c) shapeCasts_S1x3x5632_S3x5632) slices_S3x5632_S1x5632_0_0)) (extractStridedSlice S1x4096x5632 ![0, 0, 0] (padded m c) slices_S1x4098x5632_S1x4096x5632_0_0_0)))
    (mulf (channel (extractStridedSlice S1x5632 ![1, 0] (shapeCast S3x5632 (aCw m c) shapeCasts_S1x3x5632_S3x5632) slices_S3x5632_S1x5632_1_0)) (extractStridedSlice S1x4096x5632 ![0, 1, 0] (padded m c) slices_S1x4098x5632_S1x4096x5632_0_1_0)))
    (mulf (channel (extractStridedSlice S1x5632 ![2, 0] (shapeCast S3x5632 (aCw m c) shapeCasts_S1x3x5632_S3x5632) slices_S3x5632_S1x5632_2_0)) (extractStridedSlice S1x4096x5632 ![0, 2, 0] (padded m c) slices_S1x4098x5632_S1x4096x5632_0_2_0))

theorem V_uc (c : Dev nD) : V m c main_v39 = shapeCast S4096x5632 (transpose S16x32x8x5632 [0, 2, 1, 3]
      (shapeCast S16x8x32x5632 (shapeCast S4096x5632 (convolved m c) shapeCasts_S1x4096x5632_S4096x5632) shapeCasts_S4096x5632_S16x8x32x5632)
      transposes_S16x8x32x5632_S16x32x8x5632_0_2_1_3) shapeCasts_S16x32x8x5632_S4096x5632 := by
  unfold convolved channel padded
  entry_read; rfl

theorem padded_at (c : Dev nD) (s : Fin 4098) (k : Fin 5632) : padded m c (ix3 0 s k) = (args m c).up s.val k.val := by
  unfold padded; pointwise
  exact (up_host (args m c) s k).symm

theorem channel_at (x : FVec Ideal S1x5632 .f32) (n : Fin 4096) (k : Fin 5632) : channel x (ix3 0 n k) = x (ix2 0 k) := by
  unfold channel; pointwise

theorem convolved_at (c : Dev nD) (n : Fin 4096) (k : Fin 5632) : convolved m c (ix3 0 n k) = (args m c).uc n.val k.val := by
  have e : convolved m c (ix3 0 n k)
      = aCb m c (ix2 0 k) + aCw m c (ix3 0 0 k) * padded m c (ix3 0 ⟨n.val, by omega⟩ k)
        + aCw m c (ix3 0 1 k) * padded m c (ix3 0 ⟨1 + n.val, by omega⟩ k) + aCw m c (ix3 0 2 k) * padded m c (ix3 0 ⟨2 + n.val, by omega⟩ k) := by
    unfold convolved; pointwise [channel_at]
  rw [e, padded_at, padded_at, padded_at]
  exact (uc_host (args m c) n k).symm

theorem V_cw (c : Dev nD) : V m c main_v40 = shapeCast S3x5632 (aCw m c) shapeCasts_S1x3x5632_S3x5632 := by
  entry_read; rfl
theorem V_wd (c : Dev nD) : V m c main_v42 = truncf .bf16 (shapeCast S2816x1024 (aWd m c) shapeCasts_S1x2816x1024_S2816x1024) bitsLt_bf16_f32 := by
  entry_read; rfl

end Cert.Kernel3Ideal.FfnA

end
-- ==== Proof.FfnA.Rows.lean ====
/- Blocks read out of a buffer whose rows were stored eight at a time above or below a larger block, and the turn of eight rows
   by one place that brings in a row from a neighbouring block. -/
module

public import proofs.«01_k».proof.Proof.Pool.Slab

@[expose] public section

noncomputable section

open Idealize.ShloMosaic

namespace Cert.Proof.Slab

variable {sig : RefSig} {κ : Kind} {sp : Space} {R C : Nat}

/-- What a buffer holds at a place that the block stored last does not cover is what it held before. -/
theorem canon_tail {a b n k : Nat} (i1 : ∀ x, (![a, b] : Fin 2 → Nat) x + (![n, k] : Fin 2 → Nat) x ≤ (![R, C] : Fin 2 → Nat) x)
    (f : (⟨2, ![n, k]⟩ : Shape).Idx → EReal) (L : List (View.Piece (Elt Ideal) ⟨2, ![R, C]⟩ .f32)) (y : (⟨2, ![R, C]⟩ : Shape).Idx)
    (hy : (y 0).val < a ∨ a + n ≤ (y 0).val) :
    View.canon ((⟨Rect.unit (s := ⟨2, ![R, C]⟩) ![a, b] ![n, k] i1, f⟩ : View.Piece (Elt Ideal) ⟨2, ![R, C]⟩ .f32) :: L) y = View.canon L y := by
  refine View.canon_cons_of_not_mem _ _ fun h => ?_
  rw [Rect.mem_set_unit] at h
  have h0 := h 0
  have h1 : a ≤ (y 0).val := h0.1
  have h2 : (y 0).val < a + n := h0.2
  omega

/-- Rows inside rows that are inside. -/
theorem inner {a r n q c k : Nat} (i2 : ∀ x, (![a, c] : Fin 2 → Nat) x + (![n, k] : Fin 2 → Nat) x ≤ (![R, C] : Fin 2 → Nat) x) (h : r + q ≤ a + n) :
    ∀ x, (![r, c] : Fin 2 → Nat) x + (![q, k] : Fin 2 → Nat) x ≤ (![R, C] : Fin 2 → Nat) x := fun x => by
  fin_cases x
  · have e : a + n ≤ R := i2 0
    show r + q ≤ R; omega
  · exact i2 1

/-- Rows whose first eight are the block stored last. -/
theorem read_top (a r n q : Nat) (hr : r = a + 8) (hn : n = q + 8) (v : View sig κ sp ⟨2, ![R, C]⟩ .f32) (G : Nat → Nat → EReal) (c k : Nat)
    (i1 : ∀ x, (![a, c] : Fin 2 → Nat) x + (![8, k] : Fin 2 → Nat) x ≤ (![R, C] : Fin 2 → Nat) x)
    (i2 : ∀ x, (![a, c] : Fin 2 → Nat) x + (![n, k] : Fin 2 → Nat) x ≤ (![R, C] : Fin 2 → Nat) x)
    (L : List (View.Piece (Elt Ideal) ⟨2, ![R, C]⟩ .f32))
    (h : ∀ i3 : ∀ x, (![r, c] : Fin 2 → Nat) x + (![q, k] : Fin 2 → Nat) x ≤ (![R, C] : Fin 2 → Nat) x,
      v.readCov L (Rect.unit (s := ⟨2, ![R, C]⟩) ![r, c] ![q, k] i3).toLoadRect = slab (φ := .f32) q k G r c) :
    v.readCov (⟨Rect.unit (s := ⟨2, ![R, C]⟩) ![a, c] ![8, k] i1, slab (φ := .f32) 8 k G a c⟩ :: L) (Rect.unit (s := ⟨2, ![R, C]⟩) ![a, c] ![n, k] i2).toLoadRect
      = slab (φ := .f32) n k G a c := by
  subst hr hn
  have i3 : ∀ x, (![a + 8, c] : Fin 2 → Nat) x + (![q, k] : Fin 2 → Nat) x ≤ (![R, C] : Fin 2 → Nat) x := fun x => by
    have := i2 x
    fin_cases x
    · have e : a + (q + 8) ≤ R := i2 0
      show a + 8 + q ≤ R; omega
    · exact i2 1
  have h := h i3
  rw [View.readCov_eq_canon'] at h ⊢
  funext j
  have h1 : (j 1).val < k := (j 1).isLt
  have h0 : (j 0).val < q + 8 := (j 0).isLt
  by_cases hj : (j 0).val < 8
  · refine (canon_slab G [_] L (fun p hp x => ?_) _ ⟨_, List.mem_singleton_self _, ?_⟩).trans ?_
    · obtain rfl := List.mem_singleton.mp hp
      exact piece_slab (φ := .f32) G a c 8 k i1 x
    · rw [Rect.mem_set_unit]
      intro x
      fin_cases x
      · show a ≤ a + 1 * (j 0).val ∧ a + 1 * (j 0).val < a + 8
        omega
      · show c ≤ c + 1 * (j 1).val ∧ c + 1 * (j 1).val < c + k
        omega
    · show G (a + 1 * (j 0).val) (c + 1 * (j 1).val) = G (a + (j 0).val) (c + (j 1).val)
      rw [Nat.one_mul, Nat.one_mul]
  · refine (canon_tail i1 _ L _ (Or.inr (by show a + 8 ≤ a + 1 * (j 0).val; omega))).trans ?_
    have e := congrFun h (ix2 (n0 := q) (n1 := k) ⟨(j 0).val - 8, by omega⟩ (j 1))
    refine Eq.trans (congrArg (View.canon L) (funext fun x => Fin.ext ?_)) (e.trans ?_)
    · fin_cases x
      · show a + 1 * (j 0).val = a + 8 + 1 * ((j 0).val - 8); omega
      · rfl
    · show G (a + 8 + ((j 0).val - 8)) (c + (j 1).val) = G (a + (j 0).val) (c + (j 1).val)
      congr 1; omega

/-- Rows whose last eight are the block stored last. -/
theorem read_end (a r n q : Nat) (hr : r + q = a) (hn : n = q + 8) (v : View sig κ sp ⟨2, ![R, C]⟩ .f32) (G : Nat → Nat → EReal) (c k : Nat)
    (i1 : ∀ x, (![a, c] : Fin 2 → Nat) x + (![8, k] : Fin 2 → Nat) x ≤ (![R, C] : Fin 2 → Nat) x)
    (i2 : ∀ x, (![r, c] : Fin 2 → Nat) x + (![n, k] : Fin 2 → Nat) x ≤ (![R, C] : Fin 2 → Nat) x)
    (L : List (View.Piece (Elt Ideal) ⟨2, ![R, C]⟩ .f32))
    (h : ∀ i3 : ∀ x, (![r, c] : Fin 2 → Nat) x + (![q, k] : Fin 2 → Nat) x ≤ (![R, C] : Fin 2 → Nat) x,
      v.readCov L (Rect.unit (s := ⟨2, ![R, C]⟩) ![r, c] ![q, k] i3).toLoadRect = slab (φ := .f32) q k G r c) :
    v.readCov (⟨Rect.unit (s := ⟨2, ![R, C]⟩) ![a, c] ![8, k] i1, slab (φ := .f32) 8 k G a c⟩ :: L) (Rect.unit (s := ⟨2, ![R, C]⟩) ![r, c] ![n, k] i2).toLoadRect
      = slab (φ := .f32) n k G r c := by
  subst hr hn
  have i3 : ∀ x, (![r, c] : Fin 2 → Nat) x + (![q, k] : Fin 2 → Nat) x ≤ (![R, C] : Fin 2 → Nat) x := fun x => by
    fin_cases x
    · have e : r + (q + 8) ≤ R := i2 0
      show r + q ≤ R; omega
    · exact i2 1
  have h := h i3
  rw [View.readCov_eq_canon'] at h ⊢
  funext j
  have h1 : (j 1).val < k := (j 1).isLt
  have h0 : (j 0).val < q + 8 := (j 0).isLt
  by_cases hj : q ≤ (j 0).val
  · refine (canon_slab G [_] L (fun p hp x => ?_) _ ⟨_, List.mem_singleton_self _, ?_⟩).trans ?_
    · obtain rfl := List.mem_singleton.mp hp
      exact piece_slab (φ := .f32) G (r + q) c 8 k i1 x
    · rw [Rect.mem_set_unit]
      intro x
      fin_cases x
      · show r + q ≤ r + 1 * (j 0).val ∧ r + 1 * (j 0).val < r + q + 8
        omega
      · show c ≤ c + 1 * (j 1).val ∧ c + 1 * (j 1).val < c + k
        omega
    · show G (r + 1 * (j 0).val) (c + 1 * (j 1).val) = G (r + (j 0).val) (c + (j 1).val)
      rw [Nat.one_mul, Nat.one_mul]
  · refine (canon_tail i1 _ L _ (Or.inl (by show r + 1 * (j 0).val < r + q; omega))).trans ?_
    have e := congrFun h (ix2 (n0 := q) (n1 := k) ⟨(j 0).val, by omega⟩ (j 1))
    refine Eq.trans (congrArg (View.canon L) (funext fun x => Fin.ext ?_)) e
    fin_cases x <;> rfl

/-! The cases that occur: 256 rows from row 0, 8 or 16, with two blocks of eight rows above or below the large one. -/

theorem top_0 (v : View sig κ sp ⟨2, ![R, C]⟩ .f32) (G : Nat → Nat → EReal) (c k : Nat)
    (i1 : ∀ x, (![0, c] : Fin 2 → Nat) x + (![8, k] : Fin 2 → Nat) x ≤ (![R, C] : Fin 2 → Nat) x)
    (i2 : ∀ x, (![0, c] : Fin 2 → Nat) x + (![256, k] : Fin 2 → Nat) x ≤ (![R, C] : Fin 2 → Nat) x)
    (L : List (View.Piece (Elt Ideal) ⟨2, ![R, C]⟩ .f32))
    (h : v.readCov L (Rect.unit (s := ⟨2, ![R, C]⟩) ![8, c] ![248, k] (inner i2 (by decide))).toLoadRect = slab (φ := .f32) 248 k G 8 c) :
    v.readCov (⟨Rect.unit (s := ⟨2, ![R, C]⟩) ![0, c] ![8, k] i1, slab (φ := .f32) 8 k G 0 c⟩ :: L) (Rect.unit (s := ⟨2, ![R, C]⟩) ![0, c] ![256, k] i2).toLoadRect
      = slab (φ := .f32) 256 k G 0 c := read_top 0 8 256 248 rfl rfl v G c k i1 i2 L fun _ => h
theorem top_8 (v : View sig κ sp ⟨2, ![R, C]⟩ .f32) (G : Nat → Nat → EReal) (c k : Nat)
    (i1 : ∀ x, (![8, c] : Fin 2 → Nat) x + (![8, k] : Fin 2 → Nat) x ≤ (![R, C] : Fin 2 → Nat) x)
    (i2 : ∀ x, (![8, c] : Fin 2 → Nat) x + (![248, k] : Fin 2 → Nat) x ≤ (![R, C] : Fin 2 → Nat) x)
    (L : List (View.Piece (Elt Ideal) ⟨2, ![R, C]⟩ .f32))
    (h : v.readCov L (Rect.unit (s := ⟨2, ![R, C]⟩) ![16, c] ![240, k] (inner i2 (by decide))).toLoadRect = slab (φ := .f32) 240 k G 16 c) :
    v.readCov (⟨Rect.unit (s := ⟨2, ![R, C]⟩) ![8, c] ![8, k] i1, slab (φ := .f32) 8 k G 8 c⟩ :: L) (Rect.unit (s := ⟨2, ![R, C]⟩) ![8, c] ![248, k] i2).toLoadRect
      = slab (φ := .f32) 248 k G 8 c := read_top 8 16 248 240 rfl rfl v G c k i1 i2 L fun _ => h
theorem top_8' (v : View sig κ sp ⟨2, ![R, C]⟩ .f32) (G : Nat → Nat → EReal) (c k : Nat)
    (i1 : ∀ x, (![8, c] : Fin 2 → Nat) x + (![8, k] : Fin 2 → Nat) x ≤ (![R, C] : Fin 2 → Nat) x)
    (i2 : ∀ x, (![8, c] : Fin 2 → Nat) x + (![256, k] : Fin 2 → Nat) x ≤ (![R, C] : Fin 2 → Nat) x)
    (L : List (View.Piece (Elt Ideal) ⟨2, ![R, C]⟩ .f32))
    (h : v.readCov L (Rect.unit (s := ⟨2, ![R, C]⟩) ![16, c] ![248, k] (inner i2 (by decide))).toLoadRect = slab (φ := .f32) 248 k G 16 c) :
    v.readCov (⟨Rect.unit (s := ⟨2, ![R, C]⟩) ![8, c] ![8, k] i1, slab (φ := .f32) 8 k G 8 c⟩ :: L) (Rect.unit (s := ⟨2, ![R, C]⟩) ![8, c] ![256, k] i2).toLoadRect
      = slab (φ := .f32) 256 k G 8 c := read_top 8 16 256 248 rfl rfl v G c k i1 i2 L fun _ => h
theorem end_8 (v : View sig κ sp ⟨2, ![R, C]⟩ .f32) (G : Nat → Nat → EReal) (c k : Nat)
    (i1 : ∀ x, (![256, c] : Fin 2 → Nat) x + (![8, k] : Fin 2 → Nat) x ≤ (![R, C] : Fin 2 → Nat) x)
    (i2 : ∀ x, (![8, c] : Fin 2 → Nat) x + (![256, k] : Fin 2 → Nat) x ≤ (![R, C] : Fin 2 → Nat) x)
    (L : List (View.Piece (Elt Ideal) ⟨2, ![R, C]⟩ .f32))
    (h : v.readCov L (Rect.unit (s := ⟨2, ![R, C]⟩) ![8, c] ![248, k] (inner i2 (by decide))).toLoadRect = slab (φ := .f32) 248 k G 8 c) :
    v.readCov (⟨Rect.unit (s := ⟨2, ![R, C]⟩) ![256, c] ![8, k] i1, slab (φ := .f32) 8 k G 256 c⟩ :: L) (Rect.unit (s := ⟨2, ![R, C]⟩) ![8, c] ![256, k] i2).toLoadRect
      = slab (φ := .f32) 256 k G 8 c := read_end 256 8 256 248 rfl rfl v G c k i1 i2 L fun _ => h
theorem end_16 (v : View sig κ sp ⟨2, ![R, C]⟩ .f32) (G : Nat → Nat → EReal) (c k : Nat)
    (i1 : ∀ x, (![264, c] : Fin 2 → Nat) x + (![8, k] : Fin 2 → Nat) x ≤ (![R, C] : Fin 2 → Nat) x)
    (i2 : ∀ x, (![16, c] : Fin 2 → Nat) x + (![256, k] : Fin 2 → Nat) x ≤ (![R, C] : Fin 2 → Nat) x)
    (L : List (View.Piece (Elt Ideal) ⟨2, ![R, C]⟩ .f32))
    (h : v.readCov L (Rect.unit (s := ⟨2, ![R, C]⟩) ![16, c] ![248, k] (inner i2 (by decide))).toLoadRect = slab (φ := .f32) 248 k G 16 c) :
    v.readCov (⟨Rect.unit (s := ⟨2, ![R, C]⟩) ![264, c] ![8, k] i1, slab (φ := .f32) 8 k G 264 c⟩ :: L) (Rect.unit (s := ⟨2, ![R, C]⟩) ![16, c] ![256, k] i2).toLoadRect
      = slab (φ := .f32) 256 k G 16 c := read_end 264 16 256 248 rfl rfl v G c k i1 i2 L fun _ => h
theorem end_16' (v : View sig κ sp ⟨2, ![R, C]⟩ .f32) (G : Nat → Nat → EReal) (c k : Nat)
    (i1 : ∀ x, (![256, c] : Fin 2 → Nat) x + (![8, k] : Fin 2 → Nat) x ≤ (![R, C] : Fin 2 → Nat) x)
    (i2 : ∀ x, (![16, c] : Fin 2 → Nat) x + (![248, k] : Fin 2 → Nat) x ≤ (![R, C] : Fin 2 → Nat) x)
    (L : List (View.Piece (Elt Ideal) ⟨2, ![R, C]⟩ .f32))
    (h : v.readCov L (Rect.unit (s := ⟨2, ![R, C]⟩) ![16, c] ![240, k] (inner i2 (by decide))).toLoadRect = slab (φ := .f32) 240 k G 16 c) :
    v.readCov (⟨Rect.unit (s := ⟨2, ![R, C]⟩) ![256, c] ![8, k] i1, slab (φ := .f32) 8 k G 256 c⟩ :: L) (Rect.unit (s := ⟨2, ![R, C]⟩) ![16, c] ![248, k] i2).toLoadRect
      = slab (φ := .f32) 248 k G 16 c := read_end 256 16 248 240 rfl rfl v G c k i1 i2 L fun _ => h

end Cert.Proof.Slab

end
-- ==== Proof.FfnA.Blocks.lean ====
/- The blocks of one grid point as blocks of functions of the time step: tile row `r` of block `T` holds time step
   `256 T + 32 (r mod 8) + r / 8`, so eight tile rows are one time step for all eight stretches of a block at once. -/
module

public import proofs.«01_k».proof.Proof.FfnA.Host
public import proofs.«01_k».proof.Proof.FfnA.Rows

@[expose] public section

set_option maxRecDepth 16384

noncomputable section

namespace Cert.Kernel3Ideal.FfnA

open Cert.Kernel3Ideal Cert.Kernel3Ideal.Gen Idealize.ShloMosaic Idealize.ShloMosaic.TcCoe Idealize.SL.Sem
open Cert.Proof.Order Cert.Proof.Slab Cert.Proof.FfnSpec

/-- The time step of a tile row. -/
def at_ (T r : Nat) : Nat := T * 256 + 32 * (r % 8) + r / 8

section
variable (a : Args)
/-- The padded activations, the cotangent of the convolution, the cotangent of the product, the convolution, the taps and the
    weight, by tile row and column. -/
def uX (T r k : Nat) : EReal := a.up (at_ T r) k
def dX (T r k : Nat) : EReal := a.dc (at_ T r) k
def yX (T r j : Nat) : EReal := a.dyN (at_ T r) j
def cX (T r k : Nat) : EReal := a.uc (at_ T r) k
def aX (T r k : Nat) : EReal := a.act (at_ T r) k
def gX (T r k : Nat) : EReal := a.du (at_ T r) k
/-- The sixteen tile rows before a block. -/
def bX (T r k : Nat) : EReal := if T = 0 then 0 else a.uN (at_ (T - 1) (240 + r)) k
end

variable (m : (ℓ : Loc nD τ sig) → Buf (Elt Ideal) ℓ)

theorem coord (t : Fin cfg0.N) : ((grid0.coords t) 0).val = t.val := (by decide +kernel : ∀ t : Fin grid0.N, ((grid0.coords t) 0).val = t.val) t
theorem first_word : ∀ n : Fin 16, (Scalar.cmpi .eq (BitVec.ofNat 32 n.val) 15#32 : BitVec 1) = if n.val = 15 then 1#1 else 0#1 := by decide

/-! Where a window's block stands in its array, whatever the array holds. -/

theorem rd0 (c : Dev nD) (W : (b : Ref sig .tc) → Buf (Elt Ideal) ((c : Thread nD τ).loc b)) (t : Fin cfg0.N) (x : Fin 256) (y : Fin 1024) :
    (((cfg0.win 0).blk t).view.read (Elt Ideal) (W (Pipeline.arrRef spec0 0)) : FVec Ideal S256x1024 .bf16) (ix2 x y) = (W main_v31 : FVec Ideal S4096x1024 .bf16) (ix2 (trow t x) y) := by
  blk_ext [idx t]
theorem rd1 (c : Dev nD) (W : (b : Ref sig .tc) → Buf (Elt Ideal) ((c : Thread nD τ).loc b)) (t : Fin cfg0.N) (x : Fin 256) (y : Fin 5632) :
    (((cfg0.win 1).blk t).view.read (Elt Ideal) (W (Pipeline.arrRef spec0 1)) : FVec Ideal S256x5632 .f32) (ix2 x y) = (W main_v35 : FVec Ideal S4096x5632 .f32) (ix2 (trow t x) y) := by
  blk_ext [idx t]
theorem rd3 (c : Dev nD) (W : (b : Ref sig .tc) → Buf (Elt Ideal) ((c : Thread nD τ).loc b)) (t : Fin cfg0.N) (x : Fin 256) (y : Fin 5632) :
    (((cfg0.win 3).blk t).view.read (Elt Ideal) (W (Pipeline.arrRef spec0 3)) : FVec Ideal S256x5632 .f32) (ix2 x y) = (W main_v39 : FVec Ideal S4096x5632 .f32) (ix2 (trow t x) y) := by
  blk_ext [idx t]
theorem rd4 (c : Dev nD) (W : (b : Ref sig .tc) → Buf (Elt Ideal) ((c : Thread nD τ).loc b)) (t : Fin cfg0.N) (x : Fin 3) (y : Fin 5632) :
    (((cfg0.win 4).blk t).view.read (Elt Ideal) (W (Pipeline.arrRef spec0 4)) : FVec Ideal S3x5632 .f32) (ix2 x y) = (W main_v40 : FVec Ideal S3x5632 .f32) (ix2 x y) := by
  blk_ext [idx t]
theorem rd5 (c : Dev nD) (W : (b : Ref sig .tc) → Buf (Elt Ideal) ((c : Thread nD τ).loc b)) (t : Fin cfg0.N) (x : Fin 2816) (y : Fin 1024) :
    (((cfg0.win 5).blk t).view.read (Elt Ideal) (W (Pipeline.arrRef spec0 5)) : FVec Ideal S2816x1024 .bf16) (ix2 x y) = (W main_v42 : FVec Ideal S2816x1024 .bf16) (ix2 x y) := by
  blk_ext [idx t]
theorem rd2 (c : Dev nD) (W : (b : Ref sig .tc) → Buf (Elt Ideal) ((c : Thread nD τ).loc b)) (t : Fin cfg0.N) (h : t.val < 15) (x : Fin 16) (y : Fin 5632) :
    (((cfg0.win 2).blk t).view.read (Elt Ideal) (W (Pipeline.arrRef spec0 2)) : FVec Ideal S16x5632 .f32) (ix2 x y)
      = (W main_v35 : FVec Ideal S4096x5632 .f32) (ix2 (trow ⟨t.val + 1, by show t.val + 1 < grid0.N; rw [N_0]; omega⟩ ⟨240 + x.val, by omega⟩) y) := by
  blk_ext [idx t]

/-! What the windows hold. -/

theorem blk_u (c : Dev nD) (t : Fin cfg0.N) : (k0_pay5 (iblk m c 1 t) : FVec Ideal S256x5632 .f32) = slab 256 5632 (uX (args m c) (15 - t.val)) 16 0 := by
  funext y
  idx_vars y
  have e : (k0_pay5 (iblk m c 1 t) : FVec Ideal S256x5632 .f32) (ix2 y0 y1) = (iblk m c 1 t : FVec Ideal S256x5632 .f32) (ix2 y0 y1) := by pointwise [k0_pay5]
  have e2 : (iblk m c 1 t : FVec Ideal S256x5632 .f32) (ix2 y0 y1) = (V m c main_v35 : FVec Ideal S4096x5632 .f32) (ix2 (trow t y0) y1) := rd1 c (V m c) t y0 y1
  have ht := lt16 t
  rw [e, e2, V_u, tiled, slab_at, uX, Args.up, at_, if_neg (by omega)]
  refine (uN_at (args m c) _ _).symm.trans ?_
  refine congrArg₂ (args m c).uN ?_ ?_
  · dsimp only; omega
  · omega
theorem blk_y (c : Dev nD) (t : Fin cfg0.N) : (k0_pay21 (iblk m c 0 t) : FVec Ideal S256x1024 .bf16) = slab 256 1024 (yX (args m c) (15 - t.val)) 0 0 := by
  funext y
  idx_vars y
  have e : (k0_pay21 (iblk m c 0 t) : FVec Ideal S256x1024 .bf16) (ix2 y0 y1) = (iblk m c 0 t : FVec Ideal S256x1024 .bf16) (ix2 y0 y1) := by pointwise [k0_pay21]
  have e2 : (iblk m c 0 t : FVec Ideal S256x1024 .bf16) (ix2 y0 y1) = (V m c main_v31 : FVec Ideal S4096x1024 .bf16) (ix2 (trow t y0) y1) := rd0 c (V m c) t y0 y1
  rw [e, e2, V_dy, slab_at, yX, at_]
  refine (dyN_at (args m c) _ _).symm.trans ?_
  refine congrArg₂ (args m c).dyN ?_ ?_
  · dsimp only; omega
  · omega

theorem ld_c (B : FVec Ideal S256x5632 .f32) (o : Nat) (ho : o + 1408 ≤ 5632)
    (i : ∀ x, (![0, o] : Fin 2 → Nat) x + (![256, 1408] : Fin 2 → Nat) x ≤ S256x5632.size x) (r : Fin 256) (d : Fin 1408) :
    (View.ld (Val := Elt Ideal) (e' := .f32) B (Rect.unit (s := S256x5632) ![0, o] ![256, 1408] i) : FVec Ideal S256x1408 .f32) (ix2 r d) = B (ix2 r ⟨o + d.val, by omega⟩) := by
  pointwise
theorem ld_b (B : FVec Ideal S16x5632 .f32) (o : Nat) (ho : o + 1408 ≤ 5632)
    (i : ∀ x, (![0, o] : Fin 2 → Nat) x + (![16, 1408] : Fin 2 → Nat) x ≤ S16x5632.size x) (r : Fin 16) (d : Fin 1408) :
    (View.ld (Val := Elt Ideal) (e' := .f32) B (Rect.unit (s := S16x5632) ![0, o] ![16, 1408] i) : FVec Ideal S16x1408 .f32) (ix2 r d) = B (ix2 r ⟨o + d.val, by omega⟩) := by
  pointwise
theorem ld_w (B : FVec Ideal S3x5632 .f32) (j o : Nat) (hj : j < 3) (ho : o + 1408 ≤ 5632)
    (i : ∀ x, (![j, o] : Fin 2 → Nat) x + (![1, 1408] : Fin 2 → Nat) x ≤ S3x5632.size x) (z : Fin 1) (d : Fin 1408) :
    (View.ld (Val := Elt Ideal) (e' := .f32) B (Rect.unit (s := S3x5632) ![j, o] ![1, 1408] i) : FVec Ideal S1x1408 .f32) (ix2 z d) = B (ix2 ⟨j, hj⟩ ⟨o + d.val, by omega⟩) := by
  pointwise
theorem ld_f (B : FVec Ideal S2816x1024 .bf16) (o : Nat) (ho : o + 1408 ≤ 2816)
    (i : ∀ x, (![o, 0] : Fin 2 → Nat) x + (![1408, 1024] : Fin 2 → Nat) x ≤ S2816x1024.size x) (f : Fin 1408) (j : Fin 1024) :
    (View.ld (Val := Elt Ideal) (e' := .bf16) B (Rect.unit (s := S2816x1024) ![o, 0] ![1408, 1024] i) : FVec Ideal S1408x1024 .bf16) (ix2 f j) = B (ix2 ⟨o + f.val, by omega⟩ j) := by
  pointwise

theorem blk_c (c : Dev nD) (t : Fin cfg0.N) (o : Nat)
    (i : ∀ x, (![0, o] : Fin 2 → Nat) x + (![256, 1408] : Fin 2 → Nat) x ≤ S256x5632.size x) :
    (View.ld (iblk m c 3 t) (Rect.unit (s := S256x5632) ![0, o] ![256, 1408] i) : FVec Ideal S256x1408 .f32) = slab (φ := .f32) 256 1408 (cX (args m c) (15 - t.val)) 0 o := by
  have ho : o + 1408 ≤ 5632 := i 1
  funext y
  idx_vars y
  refine (ld_c _ o ho i y0 y1).trans ?_
  have e2 : (iblk m c 3 t : FVec Ideal S256x5632 .f32) (ix2 y0 ⟨o + y1.val, by omega⟩) = (V m c main_v39 : FVec Ideal S4096x5632 .f32) (ix2 (trow t y0) ⟨o + y1.val, by omega⟩) := rd3 c (V m c) t _ _
  rw [e2, V_uc, tiled, convolved_at, slab_at, cX, at_]
  refine congrArg (fun n => (args m c).uc n _) ?_
  dsimp only; omega
theorem blk_w (c : Dev nD) (t : Fin cfg0.N) (j o : Nat)
    (i : ∀ x, (![j, o] : Fin 2 → Nat) x + (![1, 1408] : Fin 2 → Nat) x ≤ S3x5632.size x) :
    (View.ld (iblk m c 4 t) (Rect.unit (s := S3x5632) ![j, o] ![1, 1408] i) : FVec Ideal S1x1408 .f32) = slab (φ := .f32) 1 1408 (args m c).w j o := by
  have hj : j + 1 ≤ 3 := i 0
  have ho : o + 1408 ≤ 5632 := i 1
  funext y
  idx_vars y
  refine (ld_w _ j o (by omega) ho i y0 y1).trans ?_
  have e2 : (iblk m c 4 t : FVec Ideal S3x5632 .f32) (ix2 ⟨j, by omega⟩ ⟨o + y1.val, by omega⟩) = (V m c main_v40 : FVec Ideal S3x5632 .f32) (ix2 ⟨j, by omega⟩ ⟨o + y1.val, by omega⟩) := rd4 c (V m c) t _ _
  have e3 : (V m c main_v40 : FVec Ideal S3x5632 .f32) (ix2 ⟨j, by omega⟩ ⟨o + y1.val, by omega⟩) = aCw m c (ix3 0 ⟨j, by omega⟩ ⟨o + y1.val, by omega⟩) := by
    rw [V_cw]; pointwise
  rw [e2, e3, slab_at]
  refine (w_at (args m c) _ _).symm.trans ?_
  refine congrArg₂ (args m c).w ?_ ?_
  · dsimp only; omega
  · rfl
theorem blk_f (c : Dev nD) (t : Fin cfg0.N) (o : Nat)
    (i : ∀ x, (![o, 0] : Fin 2 → Nat) x + (![1408, 1024] : Fin 2 → Nat) x ≤ S2816x1024.size x) :
    (View.ld (iblk m c 5 t) (Rect.unit (s := S2816x1024) ![o, 0] ![1408, 1024] i) : FVec Ideal S1408x1024 .bf16) = slab (φ := .bf16) 1408 1024 (args m c).wdN o 0 := by
  have ho : o + 1408 ≤ 2816 := i 0
  funext y
  idx_vars y
  refine (ld_f _ o ho i y0 y1).trans ?_
  have e2 : (iblk m c 5 t : FVec Ideal S2816x1024 .bf16) (ix2 ⟨o + y0.val, by omega⟩ y1) = (V m c main_v42 : FVec Ideal S2816x1024 .bf16) (ix2 ⟨o + y0.val, by omega⟩ y1) := rd5 c (V m c) t _ _
  have e3 : (V m c main_v42 : FVec Ideal S2816x1024 .bf16) (ix2 ⟨o + y0.val, by omega⟩ y1) = aWd m c (ix3 0 ⟨o + y0.val, by omega⟩ y1) := by
    rw [V_wd]; pointwise
  rw [e2, e3, slab_at]
  refine (wdN_at (args m c) _ _).symm.trans ?_
  refine congrArg₂ (args m c).wdN ?_ ?_
  · rfl
  · omega
theorem blk_b (c : Dev nD) (t : Fin cfg0.N) (o : Nat)
    (i : ∀ x, (![0, o] : Fin 2 → Nat) x + (![16, 1408] : Fin 2 → Nat) x ≤ S16x5632.size x) :
    (Scalar.select (Scalar.cmpi .eq (BitVec.ofNat 32 ((grid0.coords t) 0).val) 15#32) (broadcast S16x1408 (Scalar.ofBits (F := Ideal) .f32 0x00000000#32))
      (View.ld (iblk m c 2 t) (Rect.unit (s := S16x5632) ![0, o] ![16, 1408] i) : FVec Ideal S16x1408 .f32) : FVec Ideal S16x1408 .f32)
      = slab 16 1408 (bX (args m c) (15 - t.val)) 0 o := by
  have ho : o + 1408 ≤ 5632 := i 1
  have ht := lt16 t
  rw [coord, first_word ⟨t.val, ht⟩]
  funext y
  idx_vars y
  by_cases h : t.val = 15
  · rw [if_pos h, slab_at, bX, if_pos (by omega)]
    unfold Scalar.select
    rw [if_pos (by decide)]
    exact Ideal.ofBits_zero .f32
  · rw [if_neg h, slab_at, bX, if_neg (by omega)]
    unfold Scalar.select
    rw [if_neg (by decide)]
    refine (ld_b _ o ho i y0 y1).trans ?_
    have e2 : (iblk m c 2 t : FVec Ideal S16x5632 .f32) (ix2 y0 ⟨o + y1.val, by omega⟩)
        = (V m c main_v35 : FVec Ideal S4096x5632 .f32) (ix2 (trow ⟨t.val + 1, by show t.val + 1 < grid0.N; rw [N_0]; omega⟩ ⟨240 + y0.val, by omega⟩) ⟨o + y1.val, by omega⟩) := rd2 c (V m c) t (by omega) _ _
    rw [e2, V_u, tiled]
    refine (uN_at (args m c) _ _).symm.trans ?_
    refine congrArg₂ (args m c).uN ?_ ?_
    · dsimp only [at_]; omega
    · rfl

end Cert.Kernel3Ideal.FfnA

end
-- ==== Proof.FfnA.Ops.lean ====
/- What the body computes of its blocks: the rows turned by one place, the gate's derivative, the transposed convolution and the
   sums over a block, each as a block of a function of the time step. -/
module

public import proofs.«01_k».proof.Proof.FfnA.Blocks
public import Idealize.ShloMosaic.Lib.KernelVsHost

@[expose] public section

set_option maxRecDepth 16384

noncomputable section

namespace Cert.Kernel3Ideal.FfnA

open Cert.Kernel3Ideal Cert.Kernel3Ideal.Gen Idealize.ShloMosaic Idealize.ShloMosaic.TcCoe Idealize.SL.Sem
open Cert.Proof.Slab Cert.Proof.FfnSpec

/-! Eight rows turned by one place. -/

theorem turn_back (x z : FVec Ideal S8x1408 .f32) (i : Fin 8) (j : Fin 1408) :
    select (cmpi .eq (iota .tc S8x1408 32 [0] iota_S8x1408_d0_w32) (broadcast S8x1408 0#32)) x
      (dynamicRotate 0 1#32 none z rotates_S8x1408_d0) (ix2 i j) = if i.val = 0 then x (ix2 i j) else z (ix2 ⟨i.val - 1, by omega⟩ j) := by
  have e : dynamicRotate 0 1#32 none z rotates_S8x1408_d0 (ix2 i j) = z (ix2 ⟨(i.val + 7) % 8, Nat.mod_lt _ (by decide)⟩ j) :=
    dynamicRotate_apply 0 1#32 z _ _ _ fun b => by
      fin_cases b
      · show (i.val + 7) % 8 = (i.val + 8 - 1 % 8) % 8
        omega
      · rfl
  have hc : (cmpi .eq (iota .tc S8x1408 32 [0] iota_S8x1408_d0_w32) (broadcast S8x1408 0#32) : IVec S8x1408 1) (ix2 i j) = if i.val = 0 then 1#1 else 0#1 := by
    have : ∀ i : Fin 8, (Scalar.cmpi .eq (BitVec.ofNat 32 i.val) 0#32 : BitVec 1) = if i.val = 0 then 1#1 else 0#1 := by decide
    show Scalar.cmpi .eq (iota .tc S8x1408 32 [0] iota_S8x1408_d0_w32 (ix2 i j)) 0#32 = _
    rw [iota_single_apply]
    exact this i
  show Scalar.select _ _ _ = _
  rw [hc, e]
  by_cases h : i.val = 0
  · rw [if_pos h, if_pos h]; exact if_pos (by decide)
  · rw [if_neg h, if_neg h]
    refine (if_neg (by decide)).trans (congrArg z (congrArg (ix2 · j) (Fin.ext ?_)))
    show (i.val + 7) % 8 = i.val - 1
    omega

theorem turn_ahead (x z : FVec Ideal S8x1408 .f32) (i : Fin 8) (j : Fin 1408) :
    select (cmpi .eq (iota .tc S8x1408 32 [0] iota_S8x1408_d0_w32) (broadcast S8x1408 7#32)) x
      (dynamicRotate 0 7#32 none z rotates_S8x1408_d0) (ix2 i j) = if h : i.val < 7 then z (ix2 ⟨i.val + 1, by omega⟩ j) else x (ix2 i j) := by
  have e : dynamicRotate 0 7#32 none z rotates_S8x1408_d0 (ix2 i j) = z (ix2 ⟨(i.val + 1) % 8, Nat.mod_lt _ (by decide)⟩ j) :=
    dynamicRotate_apply 0 7#32 z _ _ _ fun b => by
      fin_cases b
      · show (i.val + 1) % 8 = (i.val + 8 - 7 % 8) % 8
        omega
      · rfl
  have hc : (cmpi .eq (iota .tc S8x1408 32 [0] iota_S8x1408_d0_w32) (broadcast S8x1408 7#32) : IVec S8x1408 1) (ix2 i j) = if i.val < 7 then 0#1 else 1#1 := by
    have : ∀ i : Fin 8, (Scalar.cmpi .eq (BitVec.ofNat 32 i.val) 7#32 : BitVec 1) = if i.val < 7 then 0#1 else 1#1 := by decide
    show Scalar.cmpi .eq (iota .tc S8x1408 32 [0] iota_S8x1408_d0_w32 (ix2 i j)) 7#32 = _
    rw [iota_single_apply]
    exact this i
  show Scalar.select _ _ _ = _
  rw [hc, e]
  by_cases h : i.val < 7
  · rw [if_pos h, dif_pos h]
    refine (if_neg (by decide)).trans (congrArg z (congrArg (ix2 · j) (Fin.ext ?_)))
    show (i.val + 1) % 8 = i.val + 1
    omega
  · rw [if_neg h, dif_neg h]; exact if_pos (by decide)

variable (a : Args) (T : Nat)

/-- The last row of the block before is the time step before the first. -/
theorem bX_row (r k : Nat) (hr : r < 16) (h7 : r % 8 = 7) (hT : T < 16) : bX a T r k = uX a T (r - 7) k := by
  unfold bX uX Args.up at_
  by_cases h : T = 0
  · rw [if_pos h, if_pos (by omega)]
  · rw [if_neg h, if_neg (by omega)]
    exact congrArg (a.uN · k) (by omega)
theorem uX_row (r k : Nat) (i : Nat) (hi : i < 7) (hr : r % 8 = 0) (h : 256 ≤ r): uX a T (r + i) k = uX a T (r + i + 1 - 256) k :=
  congrArg (a.up · k) (by unfold at_; omega)

theorem back_8 (hT : T < 16) (c : Nat) :
    select (cmpi .eq (iota .tc S8x1408 32 [0] iota_S8x1408_d0_w32) (broadcast S8x1408 0#32)) (slab 8 1408 (fun _ j => bX a T 15 j) 0 c : FVec Ideal S8x1408 .f32)
      (dynamicRotate 0 1#32 none (slab 8 1408 (uX a T) 264 c : FVec Ideal S8x1408 .f32) rotates_S8x1408_d0) = (slab 8 1408 (uX a T) 8 c : FVec Ideal S8x1408 .f32) := by
  funext y
  idx_vars y
  rw [turn_back]
  by_cases h : y0.val = 0
  · rw [if_pos h, slab_at, slab_at, h]
    exact bX_row a T 15 _ (by decide) rfl hT
  · rw [if_neg h, slab_at, slab_at]
    refine (uX_row a T 264 _ (y0.val - 1) (by omega) rfl (by decide)).trans (congrArg (uX a T · _) ?_)
    omega
theorem back_0 (hT : T < 16) (c : Nat) :
    select (cmpi .eq (iota .tc S8x1408 32 [0] iota_S8x1408_d0_w32) (broadcast S8x1408 0#32)) (slab 8 1408 (fun _ j => bX a T 7 j) 0 c : FVec Ideal S8x1408 .f32)
      (dynamicRotate 0 1#32 none (slab 8 1408 (uX a T) 256 c : FVec Ideal S8x1408 .f32) rotates_S8x1408_d0) = (slab 8 1408 (uX a T) 0 c : FVec Ideal S8x1408 .f32) := by
  funext y
  idx_vars y
  rw [turn_back]
  by_cases h : y0.val = 0
  · rw [if_pos h, slab_at, slab_at, h]
    exact bX_row a T 7 _ (by decide) rfl hT
  · rw [if_neg h, slab_at, slab_at]
    refine (uX_row a T 256 _ (y0.val - 1) (by omega) rfl (by decide)).trans (congrArg (uX a T · _) ?_)
    omega

/-- Eight rows of the block after, and of the block itself, in the place they have past the block's end. -/
theorem ahead_slab (q r c : Nat) (hq : q = 256 + r) (hr : r % 8 = 0) :
    select (cmpi .eq (iota .tc S8x1408 32 [0] iota_S8x1408_d0_w32) (broadcast S8x1408 7#32)) (slab 8 1408 (fun _ j => dX a (T + 1) r j) 0 c : FVec Ideal S8x1408 .f32)
      (dynamicRotate 0 7#32 none (slab 8 1408 (dX a T) r c : FVec Ideal S8x1408 .f32) rotates_S8x1408_d0) = (slab 8 1408 (dX a T) q c : FVec Ideal S8x1408 .f32) := by
  subst hq
  funext y
  idx_vars y
  rw [turn_ahead]
  by_cases h : y0.val < 7
  · rw [dif_pos h, slab_at, slab_at]
    exact congrArg (a.dc · _) (by unfold at_; show _ + 32 * ((r + (y0.val + 1)) % 8) + (r + (y0.val + 1)) / 8 = _; omega)
  · rw [dif_neg h, slab_at, slab_at]
    exact congrArg (a.dc · _) (by unfold at_; omega)
theorem ahead_256 (c : Nat) :
    select (cmpi .eq (iota .tc S8x1408 32 [0] iota_S8x1408_d0_w32) (broadcast S8x1408 7#32)) (slab 8 1408 (fun _ j => dX a (T + 1) 0 j) 0 c : FVec Ideal S8x1408 .f32)
      (dynamicRotate 0 7#32 none (slab 8 1408 (dX a T) 0 c : FVec Ideal S8x1408 .f32) rotates_S8x1408_d0) = (slab 8 1408 (dX a T) 256 c : FVec Ideal S8x1408 .f32) :=
  ahead_slab a T 256 0 c rfl rfl
theorem ahead_264 (c : Nat) :
    select (cmpi .eq (iota .tc S8x1408 32 [0] iota_S8x1408_d0_w32) (broadcast S8x1408 7#32)) (slab 8 1408 (fun _ j => dX a (T + 1) 8 j) 0 c : FVec Ideal S8x1408 .f32)
      (dynamicRotate 0 7#32 none (slab 8 1408 (dX a T) 8 c : FVec Ideal S8x1408 .f32) rotates_S8x1408_d0) = (slab 8 1408 (dX a T) 264 c : FVec Ideal S8x1408 .f32) :=
  ahead_slab a T 264 8 c rfl rfl

/-! The gate. -/

theorem at_lt (r : Nat) (hT : T < 16) (hr : r < 256) : at_ T r < 4096 := by unfold at_; omega

/-- The product with the transposed weight. -/
theorem da_slab (o : Nat) : matmul dot_S256x1024_S1408x1024_S256x1408_1_1_0_0_n_n none (slab 256 1024 (yX a T) 0 0 : FVec Ideal S256x1024 .bf16) (slab 1408 1024 a.wdN o 0 : FVec Ideal S1408x1024 .bf16)
    (constant S256x1408 .f32 0x00000000#32) = (slab 256 1408 (fun r f => a.da (at_ T r) f) 0 o : FVec Ideal S256x1408 .f32) := by
  funext y
  idx_vars y
  pointwise [slab]
  rfl
theorem act_slab (o p : Nat) (hp : p = 2816 + o) (h : FTy.bits .bf16 < FTy.bits .f32) :
    truncf .bf16 (mulf (mulf (slab 256 1408 (cX a T) 0 o : FVec Ideal S256x1408 .f32) (logistic (slab 256 1408 (cX a T) 0 o : FVec Ideal S256x1408 .f32))) (slab 256 1408 (cX a T) 0 p)) h
      = (slab 256 1408 (aX a T) 0 o : FVec Ideal S256x1408 .bf16) := by
  subst hp
  funext y
  idx_vars y
  show a.uc _ _ * FloatOps.logistic (F := Ideal) (φ := .f32) (a.uc _ _) * a.uc _ _ = a.uc _ _ * FloatOps.logistic (F := Ideal) (φ := .f32) (a.uc _ _) * a.uc _ _
  rw [Nat.add_assoc]
theorem gate_slab (hT : T < 16) (o p : Nat) (hp : p = 2816 + o) (ho : o + 1408 ≤ 2816) :
    mulf (mulf (slab 256 1408 (fun r f => a.da (at_ T r) f) 0 o : FVec Ideal S256x1408 .f32) (slab 256 1408 (cX a T) 0 p))
      (addf (logistic (slab 256 1408 (cX a T) 0 o : FVec Ideal S256x1408 .f32)) (mulf (mulf (slab 256 1408 (cX a T) 0 o : FVec Ideal S256x1408 .f32) (logistic (slab 256 1408 (cX a T) 0 o : FVec Ideal S256x1408 .f32)))
        (subf (broadcast S256x1408 (Scalar.ofBits (F := Ideal) .f32 0x3F800000#32)) (logistic (slab 256 1408 (cX a T) 0 o : FVec Ideal S256x1408 .f32)))))
      = (slab 256 1408 (dX a T) 0 o : FVec Ideal S256x1408 .f32) := by
  subst hp
  funext y
  idx_vars y
  rw [slab_at, dX, Args.dc, if_pos (at_lt T _ hT (by omega)), if_pos (by omega), Args.dgate, ← Ideal.ofBits_one_f32, ← Nat.add_assoc]
  rfl
theorem val_slab (hT : T < 16) (o p : Nat) (hp : p = 2816 + o) (ho : o + 1408 ≤ 2816) :
    mulf (slab 256 1408 (fun r f => a.da (at_ T r) f) 0 o : FVec Ideal S256x1408 .f32) (mulf (slab 256 1408 (cX a T) 0 o : FVec Ideal S256x1408 .f32) (logistic (slab 256 1408 (cX a T) 0 o : FVec Ideal S256x1408 .f32)))
      = (slab 256 1408 (dX a T) 0 p : FVec Ideal S256x1408 .f32) := by
  subst hp
  funext y
  idx_vars y
  rw [slab_at, dX, Args.dc, if_pos (at_lt T _ hT (by omega)), if_neg (by omega), show 2816 + o + y1.val - 2816 = o + y1.val by omega, Args.dval]
  rfl

/-! The transposed convolution and the sums. -/

theorem du_slab (o : Nat) (h : FTy.bits .bf16 < FTy.bits .f32) :
    truncf .bf16 (addf (addf (mulf (slab 256 1408 (fun _ j => a.w 2 j) 0 o : FVec Ideal S256x1408 .f32) (slab 256 1408 (dX a T) 0 o)) (mulf (slab 256 1408 (fun _ j => a.w 1 j) 0 o : FVec Ideal S256x1408 .f32) (slab 256 1408 (dX a T) 8 o)))
      (mulf (slab 256 1408 (fun _ j => a.w 0 j) 0 o : FVec Ideal S256x1408 .f32) (slab 256 1408 (dX a T) 16 o))) h = (slab 256 1408 (gX a T) 0 o : FVec Ideal S256x1408 .bf16) := by
  funext y
  idx_vars y
  show a.w 2 _ * dX a T _ _ + a.w 1 _ * dX a T _ _ + a.w 0 _ * dX a T _ _ = _
  rw [slab_at, gX, Args.du]
  refine congrArg₂ (· + ·) (congrArg₂ (· + ·) rfl ?_) ?_ <;> refine congrArg (_ * ·) (congrArg (a.dc · _) ?_)
  · show T * 256 + 32 * ((8 + y0.val) % 8) + (8 + y0.val) / 8 = T * 256 + 32 * ((0 + y0.val) % 8) + (0 + y0.val) / 8 + 1
    omega
  · show T * 256 + 32 * ((16 + y0.val) % 8) + (16 + y0.val) / 8 = T * 256 + 32 * ((0 + y0.val) % 8) + (0 + y0.val) / 8 + 2
    omega

/-- What a block adds to the gradient of the bias and of a tap. -/
def addB (k : Nat) : EReal := ∑ n : Fin 256, dX a T n.val k
def addT (r k : Nat) : EReal := ∑ n : Fin 256, dX a T n.val k * uX a T (r + n.val) k

theorem bias_slab (o : Nat) : shapeCast S1x1408 (multiReduction .add [0] S1408 (slab 256 1408 (dX a T) 0 o : FVec Ideal S256x1408 .f32) 0x00000000#32 reduces_S256x1408_S1408 (.inl rfl) rfl) shapeCasts_S1408_S1x1408
    = (slab 1 1408 (fun _ k => addB a T k) 0 o : FVec Ideal S1x1408 .f32) := by
  funext y
  idx_vars y
  pointwise [slab]
  rfl
theorem tap_slab (r o : Nat) : shapeCast S1x1408 (multiReduction .add [0] S1408 (mulf (slab 256 1408 (dX a T) 0 o : FVec Ideal S256x1408 .f32) (slab 256 1408 (uX a T) r o)) 0x00000000#32 reduces_S256x1408_S1408 (.inl rfl) rfl) shapeCasts_S1408_S1x1408
    = (slab 1 1408 (fun _ k => addT a T r k) 0 o : FVec Ideal S1x1408 .f32) := by
  funext y
  idx_vars y
  pointwise [slab]
  rfl

end Cert.Kernel3Ideal.FfnA

end
-- ==== Proof.FfnA.Tiles.lean ====
/- What a grid point of the feed-forward gradient leaves: the block of the gradient of the activations, the block of gated
   activations, what the block adds to the gradients of the taps and of the bias, and the rows carried to the next block. -/
module

public import proofs.«01_k».proof.Proof.FfnA.Ops
public import Idealize.ShloMosaic.Lib.Pipeline.ReadBack

@[expose] public section

set_option maxRecDepth 16384

noncomputable section

namespace Cert.Kernel3Ideal.FfnA

open Cert.Kernel3Ideal Cert.Kernel3Ideal.Gen Idealize.ShloMosaic Idealize.ShloMosaic.TcCoe Idealize.SL.Sem
open Cert.Proof.Slab Cert.Proof.FfnSpec

variable (m : (ℓ : Loc nD τ sig) → Buf (Elt Ideal) ℓ)

/-- A part of a block of a function. -/
theorem ld_slab {R C : Nat} (G : Nat → Nat → EReal) (r c a b n k : Nat) (i : ∀ x, (![a, b] : Fin 2 → Nat) x + (![n, k] : Fin 2 → Nat) x ≤ (![R, C] : Fin 2 → Nat) x) :
    View.ld (Val := Elt Ideal) (e' := .f32) (slab (φ := .f32) R C G r c) (Rect.unit (s := ⟨2, ![R, C]⟩) ![a, b] ![n, k] i) = slab (φ := .f32) n k G (r + a) (c + b) := by
  funext j
  show G (r + (a + 1 * (j 0).val)) (c + (b + 1 * (j 1).val)) = G (r + a + (j 0).val) (c + b + (j 1).val)
  rw [Nat.one_mul, Nat.one_mul, Nat.add_assoc, Nat.add_assoc]

theorem zero_ahead (a : Args) : (k0_pay2 : FVec Ideal S16x5632 .f32) = slab 16 5632 (dX a (15 + 1)) 0 0 := by
  funext y
  idx_vars y
  have e : (k0_pay2 : FVec Ideal S16x5632 .f32) (ix2 y0 y1) = 0 := by pointwise [k0_pay2]
  rw [e, slab_at, dX, Args.dc, if_neg (by unfold at_; omega)]

/-- At the first grid point nothing is carried, and the block stands at the end. -/
theorem no_ahead (a : Args) (n : Nat) (h : n = 0) : (k0_pay2 : FVec Ideal S16x5632 .f32) = slab 16 5632 (dX a (15 - n + 1)) 0 0 := by
  subst h
  exact zero_ahead a

/-! Blocks side by side. -/

theorem canon_of {R C : Nat} {e : EltTy} (G : (⟨2, ![R, C]⟩ : Shape).Idx → Elt Ideal e) (L L' : List (View.Piece (Elt Ideal) ⟨2, ![R, C]⟩ e))
    (h : ∀ p ∈ L, ∀ x, p.2 x = G (p.1.emb x)) (y : (⟨2, ![R, C]⟩ : Shape).Idx) (hy : ∃ p ∈ L, y ∈ p.1.set) : View.canon (Val := Elt Ideal) (L ++ L') y = G y :=
  View.canon_append_of_pieces G L' L h y hy
theorem mem_part {R C : Nat} (j o n k : Nat) (i : ∀ x, (![j, o] : Fin 2 → Nat) x + (![n, k] : Fin 2 → Nat) x ≤ (![R, C] : Fin 2 → Nat) x) (y : (⟨2, ![R, C]⟩ : Shape).Idx)
    : y ∈ (Rect.unit (s := ⟨2, ![R, C]⟩) ![j, o] ![n, k] i).set ↔ (j ≤ (y 0).val ∧ (y 0).val < j + n) ∧ o ≤ (y 1).val ∧ (y 1).val < o + k := by
  rw [Rect.mem_set_unit]
  exact Fin.forall_fin_two
/-- Four blocks of 1408 columns. -/
theorem cols_of {n : Nat} {e : EltTy} (G : (⟨2, ![n, 5632]⟩ : Shape).Idx → Elt Ideal e) (p0 p1 p2 p3 : (⟨2, ![n, 1408]⟩ : Shape).Idx → Elt Ideal e)
    (i0 : ∀ x, (![0, 0] : Fin 2 → Nat) x + (![n, 1408] : Fin 2 → Nat) x ≤ (![n, 5632] : Fin 2 → Nat) x)
    (i1 : ∀ x, (![0, 1408] : Fin 2 → Nat) x + (![n, 1408] : Fin 2 → Nat) x ≤ (![n, 5632] : Fin 2 → Nat) x)
    (i2 : ∀ x, (![0, 2816] : Fin 2 → Nat) x + (![n, 1408] : Fin 2 → Nat) x ≤ (![n, 5632] : Fin 2 → Nat) x)
    (i3 : ∀ x, (![0, 4224] : Fin 2 → Nat) x + (![n, 1408] : Fin 2 → Nat) x ≤ (![n, 5632] : Fin 2 → Nat) x)
    (h0 : ∀ x, p0 x = G ((Rect.unit (s := ⟨2, ![n, 5632]⟩) ![0, 0] ![n, 1408] i0).emb x))
    (h1 : ∀ x, p1 x = G ((Rect.unit (s := ⟨2, ![n, 5632]⟩) ![0, 1408] ![n, 1408] i1).emb x))
    (h2 : ∀ x, p2 x = G ((Rect.unit (s := ⟨2, ![n, 5632]⟩) ![0, 2816] ![n, 1408] i2).emb x))
    (h3 : ∀ x, p3 x = G ((Rect.unit (s := ⟨2, ![n, 5632]⟩) ![0, 4224] ![n, 1408] i3).emb x))
    (L' : List (View.Piece (Elt Ideal) ⟨2, ![n, 5632]⟩ e)) (y : (⟨2, ![n, 5632]⟩ : Shape).Idx) :
    View.canon (Val := Elt Ideal) (([⟨Rect.unit (s := ⟨2, ![n, 5632]⟩) ![0, 4224] ![n, 1408] i3, p3⟩, ⟨Rect.unit (s := ⟨2, ![n, 5632]⟩) ![0, 2816] ![n, 1408] i2, p2⟩,
      ⟨Rect.unit (s := ⟨2, ![n, 5632]⟩) ![0, 1408] ![n, 1408] i1, p1⟩, ⟨Rect.unit (s := ⟨2, ![n, 5632]⟩) ![0, 0] ![n, 1408] i0, p0⟩] : List (View.Piece (Elt Ideal) ⟨2, ![n, 5632]⟩ e)) ++ L') y = G y := by
  have hy0 : (y 0).val < n := (y 0).isLt
  have hy1 : (y 1).val < 5632 := (y 1).isLt
  refine canon_of G [_, _, _, _] L' ?_ y ?_
  · intro p hp
    simp only [List.mem_cons, List.not_mem_nil, or_false] at hp
    rcases hp with rfl | rfl | rfl | rfl
    exacts [h3, h2, h1, h0]
  · simp only [List.mem_cons, List.not_mem_nil, or_false, exists_eq_or_imp, exists_eq_left, mem_part]
    omega
/-- Two blocks of 1408 columns. -/
theorem halves_of (G : Nat → Nat → EReal) (i0 : ∀ x, (![0, 0] : Fin 2 → Nat) x + (![256, 1408] : Fin 2 → Nat) x ≤ (![256, 2816] : Fin 2 → Nat) x)
    (i1 : ∀ x, (![0, 1408] : Fin 2 → Nat) x + (![256, 1408] : Fin 2 → Nat) x ≤ (![256, 2816] : Fin 2 → Nat) x) (y : (⟨2, ![256, 2816]⟩ : Shape).Idx) :
    View.canon (Val := Elt Ideal) ([⟨Rect.unit (s := ⟨2, ![256, 2816]⟩) ![0, 1408] ![256, 1408] i1, slab (φ := .bf16) 256 1408 G 0 1408⟩,
      ⟨Rect.unit (s := ⟨2, ![256, 2816]⟩) ![0, 0] ![256, 1408] i0, slab (φ := .bf16) 256 1408 G 0 0⟩] : List (View.Piece (Elt Ideal) ⟨2, ![256, 2816]⟩ .bf16)) y = G (y 0).val (y 1).val := by
  have hy0 : (y 0).val < 256 := (y 0).isLt
  have hy1 : (y 1).val < 2816 := (y 1).isLt
  refine canon_of (e := .bf16) (fun z => G (z 0).val (z 1).val) [_, _] [] ?_ y ?_
  · intro p hp
    simp only [List.mem_cons, List.not_mem_nil, or_false] at hp
    rcases hp with rfl | rfl
    exacts [piece_slab (φ := .bf16) G 0 1408 256 1408 i1, piece_slab (φ := .bf16) G 0 0 256 1408 i0]
  · simp only [List.mem_cons, List.not_mem_nil, or_false, exists_eq_or_imp, exists_eq_left, mem_part]
    omega

/-! Pieces that add to what stood there. -/

theorem bias_piece (a : Args) (T : Nat) (P : FVec Ideal S1x5632 .f32) (o : Nat) (i : ∀ x, (![0, o] : Fin 2 → Nat) x + (![1, 1408] : Fin 2 → Nat) x ≤ S1x5632.size x) (x : S1x1408.Idx) :
    addf (View.ld (Val := Elt Ideal) (e' := .f32) P (Rect.unit (s := S1x5632) ![0, o] ![1, 1408] i) : FVec Ideal S1x1408 .f32)
      (shapeCast S1x1408 (multiReduction .add [0] S1408 (slab 256 1408 (dX a T) 0 o : FVec Ideal S256x1408 .f32) 0x00000000#32 reduces_S256x1408_S1408 (.inl rfl) rfl) shapeCasts_S1408_S1x1408) x
      = P ((Rect.unit (s := S1x5632) ![0, o] ![1, 1408] i).emb x) + addB a T ((Rect.unit (s := S1x5632) ![0, o] ![1, 1408] i).emb x 1).val := by
  refine congrArg₂ (· + ·) rfl ((congrFun (bias_slab a T o) x).trans ?_)
  show addB a T (o + (x 1).val) = addB a T (o + 1 * (x 1).val)
  rw [Nat.one_mul]
theorem tap_piece (a : Args) (T : Nat) (P : FVec Ideal S3x5632 .f32) (r j o : Nat) (hr : r = 8 * j) (i : ∀ x, (![j, o] : Fin 2 → Nat) x + (![1, 1408] : Fin 2 → Nat) x ≤ S3x5632.size x) (x : S1x1408.Idx) :
    addf (View.ld (Val := Elt Ideal) (e' := .f32) P (Rect.unit (s := S3x5632) ![j, o] ![1, 1408] i) : FVec Ideal S1x1408 .f32)
      (shapeCast S1x1408 (multiReduction .add [0] S1408 (mulf (slab 256 1408 (dX a T) 0 o : FVec Ideal S256x1408 .f32) (slab 256 1408 (uX a T) r o)) 0x00000000#32 reduces_S256x1408_S1408 (.inl rfl) rfl) shapeCasts_S1408_S1x1408) x
      = P ((Rect.unit (s := S3x5632) ![j, o] ![1, 1408] i).emb x)
        + addT a T (8 * ((Rect.unit (s := S3x5632) ![j, o] ![1, 1408] i).emb x 0).val) ((Rect.unit (s := S3x5632) ![j, o] ![1, 1408] i).emb x 1).val := by
  subst hr
  refine congrArg₂ (· + ·) rfl ((congrFun (tap_slab a T (8 * j) o) x).trans ?_)
  have h0 : (x 0).val < 1 := (x 0).isLt
  show addT a T (8 * j) (o + (x 1).val) = addT a T (8 * (j + 1 * (x 0).val)) (o + 1 * (x 1).val)
  rw [Nat.one_mul, Nat.one_mul, show j + (x 0).val = j by omega]
/-- One of the twelve pieces of the taps' gradient. -/
abbrev tapPiece (a : Args) (T : Nat) (P : FVec Ideal S3x5632 .f32) (j o : Nat) (i : ∀ x, (![j, o] : Fin 2 → Nat) x + (![1, 1408] : Fin 2 → Nat) x ≤ S3x5632.size x) : View.Piece (Elt Ideal) S3x5632 .f32 :=
  ⟨Rect.unit (s := S3x5632) ![j, o] ![1, 1408] i, addf (View.ld (Val := Elt Ideal) (e' := .f32) P (Rect.unit (s := S3x5632) ![j, o] ![1, 1408] i) : FVec Ideal S1x1408 .f32)
      (shapeCast S1x1408 (multiReduction .add [0] S1408 (mulf (slab 256 1408 (dX a T) 0 o : FVec Ideal S256x1408 .f32) (slab 256 1408 (uX a T) (8 * j) o)) 0x00000000#32 reduces_S256x1408_S1408 (.inl rfl) rfl) shapeCasts_S1408_S1x1408)⟩
theorem taps_of (a : Args) (T : Nat) (P : FVec Ideal S3x5632 .f32) (L' : List (View.Piece (Elt Ideal) S3x5632 .f32)) (y : S3x5632.Idx) :
    View.canon (Val := Elt Ideal) ([tapPiece a T P 2 4224 inb_S3x5632_S1x1408_2_4224, tapPiece a T P 1 4224 inb_S3x5632_S1x1408_1_4224, tapPiece a T P 0 4224 inb_S3x5632_S1x1408_0_4224, tapPiece a T P 2 2816 inb_S3x5632_S1x1408_2_2816, tapPiece a T P 1 2816 inb_S3x5632_S1x1408_1_2816, tapPiece a T P 0 2816 inb_S3x5632_S1x1408_0_2816, tapPiece a T P 2 1408 inb_S3x5632_S1x1408_2_1408, tapPiece a T P 1 1408 inb_S3x5632_S1x1408_1_1408, tapPiece a T P 0 1408 inb_S3x5632_S1x1408_0_1408, tapPiece a T P 2 0 inb_S3x5632_S1x1408_2_0, tapPiece a T P 1 0 inb_S3x5632_S1x1408_1_0, tapPiece a T P 0 0 inb_S3x5632_S1x1408_0_0] ++ L') y
      = P y + addT a T (8 * (y 0).val) (y 1).val := by
  have hy0 : (y 0).val < 3 := (y 0).isLt
  have hy1 : (y 1).val < 5632 := (y 1).isLt
  refine canon_of (e := .f32) (fun z => P z + addT a T (8 * (z 0).val) (z 1).val) _ L' ?_ y ?_
  · intro p hp
    simp only [List.mem_cons, List.not_mem_nil, or_false] at hp
    rcases hp with rfl | rfl | rfl | rfl | rfl | rfl | rfl | rfl | rfl | rfl | rfl | rfl <;> exact tap_piece _ _ _ _ _ _ rfl _
  · simp only [List.mem_cons, List.not_mem_nil, or_false, exists_eq_or_imp, exists_eq_left, mem_part]
    rcases (by omega : (y 0).val = 0 ∨ (y 0).val = 1 ∨ (y 0).val = 2) with g | g | g <;> rw [g] <;> simp (decide := true) only [true_and, false_and, false_or, or_false] <;> omega

theorem leaves (c : Dev nD) (t : Fin cfg0.N) (PW : FVec Ideal S3x5632 .f32) (PB : FVec Ideal S1x5632 .f32)
    (hA : t.val % 16 = 0 → (k0_pay3 : FVec Ideal S3x5632 .f32) = PW ∧ (k0_pay4 : FVec Ideal S1x5632 .f32) = PB)
    (hB : ¬ t.val % 16 = 0 → (outsAt0 m c (t.val - 1) (by omega)).2.2.1 = PW ∧ (outsAt0 m c (t.val - 1) (by omega)).2.2.2.1 = PB
      ∧ (outsAt0 m c (t.val - 1) (by omega)).2.2.2.2 = (slab 16 5632 (dX (args m c) (15 - t.val + 1)) 0 0 : FVec Ideal S16x5632 .f32)) :
    (∀ y : S256x5632.Idx, ((outsAt0 m c t.val t.isLt).1 : FVec Ideal S256x5632 .bf16) y = gX (args m c) (15 - t.val) (y 0).val (y 1).val)
    ∧ (∀ y : S256x2816.Idx, ((outsAt0 m c t.val t.isLt).2.1 : FVec Ideal S256x2816 .bf16) y = aX (args m c) (15 - t.val) (y 0).val (y 1).val)
    ∧ (∀ y : S3x5632.Idx, ((outsAt0 m c t.val t.isLt).2.2.1 : FVec Ideal S3x5632 .f32) y = PW y + addT (args m c) (15 - t.val) (8 * (y 0).val) (y 1).val)
    ∧ (∀ y : S1x5632.Idx, ((outsAt0 m c t.val t.isLt).2.2.2.1 : FVec Ideal S1x5632 .f32) y = PB y + addB (args m c) (15 - t.val) (y 1).val)
    ∧ (∀ y : S16x5632.Idx, ((outsAt0 m c t.val t.isLt).2.2.2.2 : FVec Ideal S16x5632 .f32) y = dX (args m c) (15 - t.val) (y 0).val (y 1).val) := by
  have ht := lt16 t
  have hT : 15 - t.val < 16 := by omega
  (by_cases h : t.val % 16 = 0) <;> [(obtain ⟨hW, hB⟩ := hA h; have hP := no_ahead (args m c) t.val (by omega); rw [outsAt0_A m c t h]);
    (obtain ⟨hW, hB, hP⟩ := hB h; rw [outsAt0_B m c t h])]
  all_goals
    refine ⟨fun y => ?_, fun y => ?_, fun y => ?_, fun y => ?_, fun y => ?_⟩ <;> frame_out
      <;> simp (maxDischargeDepth := 6) (decide := true) only [↓View.readCov_skip, View.readCov_fill, hP, hW, hB, k0_pay1, k0_pay6, k0_pay7, k0_pay8, k0_pay9, k0_pay10, k0_pay11, k0_pay12, k0_pay13, k0_pay14, k0_pay15, k0_pay16, k0_pay17, k0_pay18, k0_pay19, k0_pay20, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, shapeCast_self, blk_u m c t, blk_y m c t, blk_c m c t, blk_w m c t, blk_f m c t, blk_b m c t, read_unread_whole, ld_slab, read_last, cut_slab, down_slab, top_0, top_8, top_8', end_8, end_16, end_16', back_8 (args m c) _ hT, back_0 (args m c) _ hT, ahead_256 (args m c) (15 - t.val), ahead_264 (args m c) (15 - t.val), da_slab, act_slab, gate_slab (args m c) _ hT, val_slab (args m c) _ hT, du_slab, bias_slab, tap_slab, Nat.reduceAdd, Nat.reduceSub, Nat.zero_add, Nat.add_zero]
    · exact cols_of (e := .bf16) (fun z => gX (args m c) (15 - t.val) (z 0).val (z 1).val) _ _ _ _ _ _ _ _ (piece_slab (φ := .bf16) _ 0 0 256 1408 _)
        (piece_slab (φ := .bf16) _ 0 1408 256 1408 _) (piece_slab (φ := .bf16) _ 0 2816 256 1408 _) (piece_slab (φ := .bf16) _ 0 4224 256 1408 _) [] y
    · exact halves_of _ _ _ y
    · exact taps_of (args m c) (15 - t.val) PW _ y
    · exact cols_of (e := .f32) (fun z => PB z + addB (args m c) (15 - t.val) (z 1).val) _ _ _ _ _ _ _ _ (bias_piece _ _ _ _ _) (bias_piece _ _ _ _ _) (bias_piece _ _ _ _ _) (bias_piece _ _ _ _ _) _ y
    · exact cols_of (e := .f32) (fun z => dX (args m c) (15 - t.val) (z 0).val (z 1).val) _ _ _ _ _ _ _ _ (piece_slab (φ := .f32) _ 0 0 16 1408 _)
        (piece_slab (φ := .f32) _ 0 1408 16 1408 _) (piece_slab (φ := .f32) _ 0 2816 16 1408 _) (piece_slab (φ := .f32) _ 0 4224 16 1408 _) _ y

end Cert.Kernel3Ideal.FfnA

end
-- ==== Proof.FfnA.Final.lean ====
/- The four arrays after the last grid point. The blocks of two of them lie below one another, each in tile order; what the
   points add to the other two sums over all time steps. -/
module

public import proofs.«01_k».proof.Proof.FfnA.Tiles
public import proofs.«01_k».proof.Proof.Order
public import Idealize.ShloMosaic.Lib.Pipeline.ValueKit

@[expose] public section

set_option maxRecDepth 16384

noncomputable section

namespace Cert.Kernel3Ideal.FfnA

open Cert.Kernel3Ideal Cert.Kernel3Ideal.Gen Idealize.ShloMosaic Idealize.ShloMosaic.TcCoe Idealize.SL.Sem
open Idealize.ShloMosaic.Pipeline (Dat)
open Cert.Proof.FfnSpec Cert.Proof.Slab Cert.Proof

variable (m : (ℓ : Loc nD τ sig) → Buf (Elt Ideal) ℓ)

/-- The rows that a grid point leaves for the next one. -/
theorem carried (c : Dev nD) : ∀ (n : Nat) (h : n < cfg0.N),
    (outsAt0 m c n h).2.2.2.2 = (slab 16 5632 (dX (args m c) (15 - n)) 0 0 : FVec Ideal S16x5632 .f32) := by
  intro n
  induction n with
  | zero =>
    intro h
    funext y
    idx_vars y
    exact ((leaves m c ⟨0, h⟩ _ _ (fun _ => ⟨rfl, rfl⟩) (fun q => absurd rfl q)).2.2.2.2 (ix2 y0 y1)).trans (by rw [slab_at, Nat.zero_add, Nat.zero_add]; rfl)
  | succ n ih =>
    intro h
    funext y
    idx_vars y
    have hn : n < cfg0.N := by omega
    refine ((leaves m c ⟨n + 1, h⟩ _ _ (fun q => ?_) (fun _ => ⟨rfl, rfl, ?_⟩)).2.2.2.2 (ix2 y0 y1)).trans (by rw [slab_at, Nat.zero_add, Nat.zero_add]; rfl)
    · have : n + 1 < 16 := lt16 ⟨n + 1, h⟩
      dsimp only at q
      omega
    · exact (ih hn).trans (by rw [show 15 - (n + 1) + 1 = 15 - n by have := lt16 ⟨n + 1, h⟩; dsimp only at this; omega])

/-- What a grid point leaves in the four windows, over what the two sums held before it. -/
def Left (c : Dev nD) (t : Fin cfg0.N) (PW : FVec Ideal S3x5632 .f32) (PB : FVec Ideal S1x5632 .f32) : Prop :=
  (∀ y, (outsAt0 m c t.val t.isLt).1 y = gX (args m c) (15 - t.val) (y 0).val (y 1).val)
  ∧ (∀ y, (outsAt0 m c t.val t.isLt).2.1 y = aX (args m c) (15 - t.val) (y 0).val (y 1).val)
  ∧ (∀ y, (outsAt0 m c t.val t.isLt).2.2.1 y = PW y + addT (args m c) (15 - t.val) (8 * (y 0).val) (y 1).val)
  ∧ (∀ y, (outsAt0 m c t.val t.isLt).2.2.2.1 y = PB y + addB (args m c) (15 - t.val) (y 1).val)
  ∧ (∀ y, (outsAt0 m c t.val t.isLt).2.2.2.2 y = dX (args m c) (15 - t.val) (y 0).val (y 1).val)

theorem first (c : Dev nD) (t : Fin cfg0.N) (h : t.val % 16 = 0) : Left m c t k0_pay3 k0_pay4 :=
  leaves m c t k0_pay3 k0_pay4 (fun _ => ⟨rfl, rfl⟩) (fun q => absurd h q)
theorem next (c : Dev nD) (t : Fin cfg0.N) (h : ¬ t.val % 16 = 0) :
    Left m c t (outsAt0 m c (t.val - 1) (by omega)).2.2.1 (outsAt0 m c (t.val - 1) (by omega)).2.2.2.1 :=
  leaves m c t _ _ (fun q => absurd q h) (fun _ => ⟨rfl, rfl, (carried m c (t.val - 1) (by omega)).trans
    (by rw [show 15 - t.val + 1 = 15 - (t.val - 1) by have := lt16 t; omega])⟩)

theorem out6 (c : Dev nD) (t : Fin cfg0.N) (y : S256x5632.Idx) : (outsAt0 m c t.val t.isLt).1 y = gX (args m c) (15 - t.val) (y 0).val (y 1).val := by
  by_cases h : t.val % 16 = 0
  · exact (first m c t h).1 y
  · exact (next m c t h).1 y
theorem out7 (c : Dev nD) (t : Fin cfg0.N) (y : S256x2816.Idx) : (outsAt0 m c t.val t.isLt).2.1 y = aX (args m c) (15 - t.val) (y 0).val (y 1).val := by
  by_cases h : t.val % 16 = 0
  · exact (first m c t h).2.1 y
  · exact (next m c t h).2.1 y

/-- The first two arrays, in tile order. -/
def duT (c : Dev nD) : FVec Ideal S4096x5632 .bf16 := fun y => gX (args m c) ((y 0).val / 256) ((y 0).val % 256) (y 1).val
def actT (c : Dev nD) : FVec Ideal S4096x2816 .bf16 := fun y => aX (args m c) ((y 0).val / 256) ((y 0).val % 256) (y 1).val

theorem final6 (c : Dev nD) : (dats m 0 c).arrAt 6 cfg0.N = duT m c := by
  refine (dats m 0 c).arrAt_eq_of_covers 6 _ (by decide +kernel) fun t _ y => ?_
  blk_simp
  rw [after0_6]
  refine (out6 m c t y).trans ?_
  have key : ∀ y : S256x5632.Idx, gX (args m c) (15 - t.val) (y 0).val (y 1).val = duT m c (((View.whole main_v43_0).slice (win0_6.rect t)).emb y) := by
    intro y
    idx_vars y
    refine Eq.trans ?_ (show duT m c (ix2 (trow t y0) y1) = _ from ?_)
    · show gX _ _ _ _ = gX _ (((15 - t.val) * 256 + y0.val) / 256) (((15 - t.val) * 256 + y0.val) % 256) y1.val
      rw [show ((15 - t.val) * 256 + y0.val) / 256 = 15 - t.val by omega, show ((15 - t.val) * 256 + y0.val) % 256 = y0.val by omega]
    · blk_ext [idx t]
  exact key y

theorem final7 (c : Dev nD) : (dats m 0 c).arrAt 7 cfg0.N = actT m c := by
  refine (dats m 0 c).arrAt_eq_of_covers 7 _ (by decide +kernel) fun t _ y => ?_
  blk_simp
  rw [after0_7]
  refine (out7 m c t y).trans ?_
  have key : ∀ y : S256x2816.Idx, aX (args m c) (15 - t.val) (y 0).val (y 1).val = actT m c (((View.whole main_v43_1).slice (win0_7.rect t)).emb y) := by
    intro y
    idx_vars y
    refine Eq.trans ?_ (show actT m c (ix2 (trow t y0) y1) = _ from ?_)
    · show aX _ _ _ _ = aX _ (((15 - t.val) * 256 + y0.val) / 256) (((15 - t.val) * 256 + y0.val) % 256) y1.val
      rw [show ((15 - t.val) * 256 + y0.val) / 256 = 15 - t.val by omega, show ((15 - t.val) * 256 + y0.val) % 256 = y0.val by omega]
    · blk_ext [idx t]
  exact key y

theorem zero8 (y : S3x5632.Idx) : k0_pay3 (F := Ideal) y = 0 := by idx_vars y; pointwise [k0_pay3]
theorem zero9 (y : S1x5632.Idx) : k0_pay4 (F := Ideal) y = 0 := by idx_vars y; pointwise [k0_pay4]

/-- A sum over the points from the last to the first and over the tile rows of a block is the sum over all time steps. -/
theorem sum_tiles (f : Nat → EReal) : ∑ t : Fin cfg0.N, ∑ i : Fin 256, f (at_ (15 - t.val) i.val) = ∑ n : Fin 4096, f n.val := by
  refine Eq.trans ?_ (Fin.sum_mul_add_congr (S := 16) (n := 256) (L := 4096) (f := fun n => f n.val) (F := fun t i => f (t.val * 256 + i.val)) fun t i h => rfl)
  refine Eq.trans ?_ (Equiv.sum_comp Fin.revPerm (fun t : Fin 16 => ∑ i : Fin 256, f (t.val * 256 + i.val)))
  refine Finset.sum_congr rfl fun t _ => ?_
  have e : (Fin.revPerm (show Fin 16 from t)).val = 15 - t.val := by
    rw [Fin.revPerm_apply, Fin.val_rev]
    show 16 - (t.val + 1) = 15 - t.val
    omega
  refine Eq.trans ?_ (Equiv.sum_comp Order.perm (fun i : Fin 256 => f ((Fin.revPerm (show Fin 16 from t)).val * 256 + i.val)))
  refine Finset.sum_congr rfl fun i _ => congrArg f ?_
  rw [e]
  exact Nat.add_assoc _ _ _

theorem final8 (c : Dev nD) : (dats m 0 c).arrAt 8 cfg0.N = (fun y : S3x5632.Idx => (args m c).dcw (y 0).val (y 1).val : FVec Ideal S3x5632 .f32) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0) (fun t (y : S3x5632.Idx) => addT (args m c) (15 - t.val) (8 * (y 0).val) (y 1).val)
    (fun t h y => ((first m c t h).2.2.1 y).trans (congrArg (· + _) (zero8 y)))
    (fun t h y => (next m c t h).2.2.1 y) (le_of_eq N_0) t0_15 rfl j, zero_add]
  have key : ∀ j : S3x5632.Idx, ∑ t : Fin cfg0.N, addT (args m c) (15 - t.val) (8 * (j 0).val) (j 1).val = (args m c).dcw (j 0).val (j 1).val := by
    intro j
    idx_vars j
    refine Eq.trans ?_ (sum_tiles (fun n => (args m c).dc n j1.val * (args m c).up (n + j0.val) j1.val))
    refine Finset.sum_congr rfl fun t _ => Finset.sum_congr rfl fun i _ => ?_
    refine congrArg (_ * ·) (congrArg ((args m c).up · j1.val) ?_)
    show at_ (15 - t.val) (8 * j0.val + i.val) = at_ (15 - t.val) i.val + j0.val
    unfold at_
    omega
  exact key j

theorem final9 (c : Dev nD) : (dats m 0 c).arrAt 9 cfg0.N = (fun y : S1x5632.Idx => (args m c).dcb (y 1).val : FVec Ideal S1x5632 .f32) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0) (fun t (y : S1x5632.Idx) => addB (args m c) (15 - t.val) (y 1).val)
    (fun t h y => ((first m c t h).2.2.2.1 y).trans (congrArg (· + _) (zero9 y)))
    (fun t h y => (next m c t h).2.2.2.1 y) (le_of_eq N_0) t0_15 rfl j, zero_add]
  exact sum_tiles (fun n => (args m c).dc n (j 1).val)

end Cert.Kernel3Ideal.FfnA

end
-- ==== Proof.FfnA.Tail.lean ====
/- The host lines after the grid: the two arrays in tile order are brought back into the order of time. -/
module

public import proofs.«01_k».proof.Proof.FfnA.Final
public import Idealize.ShloMosaic.Lib.Pipeline.ValueKit

@[expose] public section

set_option maxRecDepth 16384

noncomputable section

namespace Cert.Kernel3Ideal.FfnA

open Cert.Kernel3Ideal Cert.Kernel3Ideal.Gen Idealize.ShloMosaic Idealize.ShloMosaic.TcCoe Idealize.SL.Sem
open Idealize.ShloMosaic.Pipeline (Dat)
open Cert.Proof.FfnSpec

variable (m : (ℓ : Loc nD τ sig) → Buf (Elt Ideal) ℓ)

/-- An array of the region, as the lines after it read it. -/
theorem left (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Dat.withArrays_arrAt (dats m 0 c) sharedIn0 (V0 m c) (fun w => A_eq m c w) w

/-- An array in tile order, brought back. -/
theorem back_du (x : FVec Ideal S4096x5632 .bf16) (n : Fin 4096) (k : Fin 5632) :
    (shapeCast S4096x5632 (transpose S16x8x32x5632 [0, 2, 1, 3] (shapeCast S16x32x8x5632 x shapeCasts_S4096x5632_S16x32x8x5632)
      transposes_S16x32x8x5632_S16x8x32x5632_0_2_1_3) shapeCasts_S16x8x32x5632_S4096x5632 : FVec Ideal S4096x5632 .bf16) (ix2 n k)
      = x (ix2 ⟨256 * (n.val / 256) + 8 * (n.val % 32) + n.val % 256 / 32, by omega⟩ k) := by
  pointwise []
  exact congrArg (fun r => x (ix2 r k)) (Fin.ext (by dsimp only; omega))
theorem back_act (x : FVec Ideal S4096x2816 .bf16) (n : Fin 4096) (k : Fin 2816) :
    (shapeCast S4096x2816 (transpose S16x8x32x2816 [0, 2, 1, 3] (shapeCast S16x32x8x2816 x shapeCasts_S4096x2816_S16x32x8x2816)
      transposes_S16x32x8x2816_S16x8x32x2816_0_2_1_3) shapeCasts_S16x8x32x2816_S4096x2816 : FVec Ideal S4096x2816 .bf16) (ix2 n k)
      = x (ix2 ⟨256 * (n.val / 256) + 8 * (n.val % 32) + n.val % 256 / 32, by omega⟩ k) := by
  pointwise []
  exact congrArg (fun r => x (ix2 r k)) (Fin.ext (by dsimp only; omega))

/-- The tile row that holds a time step. -/
theorem at_tile (n : Nat) : at_ ((256 * (n / 256) + 8 * (n % 32) + n % 256 / 32) / 256) ((256 * (n / 256) + 8 * (n % 32) + n % 256 / 32) % 256) = n := by
  have e1 : (256 * (n / 256) + 8 * (n % 32) + n % 256 / 32) / 256 = n / 256 := by omega
  have e2 : (256 * (n / 256) + 8 * (n % 32) + n % 256 / 32) % 256 = 8 * (n % 32) + n % 256 / 32 := by omega
  have e3 : (8 * (n % 32) + n % 256 / 32) % 8 = n % 256 / 32 := by omega
  have e4 : (8 * (n % 32) + n % 256 / 32) / 8 = n % 32 := by omega
  rw [e1, e2, at_, e3, e4]
  omega

/-- The two results in the order of time. -/
theorem tail_du (c : Dev nD) (n : Fin 4096) (k : Fin 5632) :
    (Pipeline.afterTail₀ cfgs (dats m) 0 (V0 m) [hostOps1] c main_v46 : FVec Ideal S4096x5632 .bf16) (ix2 n k) = (args m c).du n.val k.val := by
  have e : Pipeline.afterTail₀ cfgs (dats m) 0 (V0 m) [hostOps1] c main_v46
      = shapeCast S4096x5632 (transpose S16x8x32x5632 [0, 2, 1, 3] (shapeCast S16x32x8x5632 (duT m c) shapeCasts_S4096x5632_S16x32x8x5632)
        transposes_S16x32x8x5632_S16x8x32x5632_0_2_1_3) shapeCasts_S16x8x32x5632_S4096x5632 := by
    unfold Pipeline.afterTail₀
    after_results
    rw [← final6 m c, ← left m c 6]
    rfl
  rw [e, back_du]
  exact congrArg ((args m c).du · k.val) (at_tile n.val)

theorem tail_act (c : Dev nD) (n : Fin 4096) (k : Fin 2816) :
    (Pipeline.afterTail₀ cfgs (dats m) 0 (V0 m) [hostOps1] c main_v49 : FVec Ideal S4096x2816 .bf16) (ix2 n k) = (args m c).act n.val k.val := by
  have e : Pipeline.afterTail₀ cfgs (dats m) 0 (V0 m) [hostOps1] c main_v49
      = shapeCast S4096x2816 (transpose S16x8x32x2816 [0, 2, 1, 3] (shapeCast S16x32x8x2816 (actT m c) shapeCasts_S4096x2816_S16x32x8x2816)
        transposes_S16x32x8x2816_S16x8x32x2816_0_2_1_3) shapeCasts_S16x8x32x2816_S4096x2816 := by
    unfold Pipeline.afterTail₀
    after_results
    rw [← final7 m c, ← left m c 7]
    rfl
  rw [e, back_act]
  exact congrArg ((args m c).act · k.val) (at_tile n.val)

/-- The program's four results, and its arguments, after a run. -/
theorem run (ρ : Dev nD → PrngReg) : θ_run defs (onTc (τ := τ) (main (F := Ideal))) ⟨m, fun _ => 0, ρ⟩ fun r => ∀ c : Dev nD,
    r.2.mem ((c : Thread nD τ).loc main_v46) = (fun y : S4096x5632.Idx => (args m c).du (y 0).val (y 1).val : FVec Ideal S4096x5632 .bf16)
    ∧ r.2.mem ((c : Thread nD τ).loc main_v49) = (fun y : S4096x2816.Idx => (args m c).act (y 0).val (y 1).val : FVec Ideal S4096x2816 .bf16)
    ∧ r.2.mem ((c : Thread nD τ).loc main_v43_2) = (fun y : S3x5632.Idx => (args m c).dcw (y 0).val (y 1).val : FVec Ideal S3x5632 .f32)
    ∧ r.2.mem ((c : Thread nD τ).loc main_v43_3) = (fun y : S1x5632.Idx => (args m c).dcb (y 1).val : FVec Ideal S1x5632 .f32) :=
  (θ_run defs _ _).mono (fun r h c => ⟨
    ((h c).2 main_v46 (Pipeline.mem_restRefs_of main_v46 (by decide) (by decide))).trans (funext fun y => by
      idx_vars y
      exact tail_du m c y0 y1),
    ((h c).2 main_v49 (Pipeline.mem_restRefs_of main_v49 (by decide) (by decide))).trans (funext fun y => by
      idx_vars y
      exact tail_act m c y0 y1),
    ((h c).1 8).trans (final8 m c),
    ((h c).1 9).trans (final9 m c)⟩)
    (run_main m ρ)

end Cert.Kernel3Ideal.FfnA

end
-- ==== Proof.FfnA.Ref.lean ====
/- What the reference computes for the convolution and the gate, through their derivative. -/
module

public import proofs.«01_k».proof.Proof.Gen.Reference3Ideal.Read
public import Idealize.ShloMosaic.Lib.Pointwise
public import proofs.«01_k».proof.Proof.UnitAxes
public import proofs.«01_k».proof.Proof.FfnA.Spec

@[expose] public section

set_option maxRecDepth 16384

noncomputable section

namespace Cert.Reference3Ideal.FfnA

open Cert.Reference3Ideal Cert.Reference3Ideal.Gen Cert.Reference3Ideal.Read Idealize.ShloMosaic Idealize.ShloMosaic.TcCoe Idealize.SL.Sem
open Cert.Proof.FfnSpec Cert.Proof.Reals Cert.Proof

variable (a : Args)

/-- The convolution. -/
theorem v3_at (s : Fin 4098) (k : Fin 5632) : val_main_v3 (F := Ideal) a.u (ix3 0 s k) = a.up s.val k.val := by
  rw [up_host]
  pointwise [val_main_v3, val_main_v2, val_main_cst]

theorem v27_at (n : Fin 4096) (k : Fin 5632) : val_main_v27 (F := Ideal) a.u a.cw a.cb (ix3 0 n k) = a.uc n.val k.val := by
  rw [uc_host]
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v1, val_main_v0]
  simp only [v3_at]

/-- The gate and its logistic. -/
theorem v28_at (n : Fin 4096) (f : Fin 2816) : val_main_v28 (F := Ideal) a.u a.cw a.cb (ix3 0 n f) = a.uc n.val f.val := by
  pointwise [val_main_v28]
  simp only [v27_at]
theorem v29_at (n : Fin 4096) (f : Fin 2816) : val_main_v29 (F := Ideal) a.u a.cw a.cb (ix3 0 n f) = a.uc n.val (2816 + f.val) := by
  pointwise [val_main_v29]
  simp only [v27_at]
theorem sg_at (n : Fin 4096) (f : Fin 2816) : val_main_v30_2 (F := Ideal) a.u a.cw a.cb (ix3 0 n f) = a.sg n.val f.val := by
  pointwise [val_main_v30_2, val_main_call0_v4, val_main_call0_v3, val_main_call0_v2, val_main_call0_v1, val_main_call0_v0, val_main_call0_cst, val_main_call0_cst_0]
  simp only [v28_at]
  rfl
theorem sl_at (n : Fin 4096) (f : Fin 2816) : val_main_v30_0 (F := Ideal) a.u a.cw a.cb (ix3 0 n f) = a.sl n.val f.val := by
  pointwise [val_main_v30_0]
  simp only [v28_at, sg_at]
  rfl
theorem act_at (n : Fin 4096) (f : Fin 2816) : val_main_v84 (F := Ideal) a.u a.cw a.cb (ix2 n f) = a.act n.val f.val := by
  pointwise [val_main_v84, val_main_v83, val_main_v31]
  simp only [sl_at, v29_at]
  rfl
/-- The cotangents of the gated activations and of the convolution. -/
theorem da_at (n : Fin 4096) (f : Fin 2816) : val_main_v36 (F := Ideal) a.wd a.dy (ix3 0 n f) = a.da n.val f.val := by
  pointwise [val_main_v36, val_main_v35, val_main_v34, val_main_v32, val_main_cst_1]
  refine Finset.sum_congr rfl fun j _ => ?_
  rw [← dyN_at, ← wdN_at]

/-- Every argument is finite. -/
structure Finite : Prop where
  u : ∀ i, IsReal (a.u i)
  cw : ∀ i, IsReal (a.cw i)
  cb : ∀ i, IsReal (a.cb i)
  wd : ∀ i, IsReal (a.wd i)
  dy : ∀ i, IsReal (a.dy i)

variable {a} in
theorem Finite.up (h : Finite a) (n k : Nat) : IsReal (a.up n k) := by
  unfold Args.up Args.uN
  split
  · exact isReal_zero
  · split
    · exact h.u _
    · exact isReal_zero
variable {a} in
theorem Finite.w (h : Finite a) (n k : Nat) : IsReal (a.w n k) := by
  unfold Args.w; split
  · exact h.cw _
  · exact isReal_zero
variable {a} in
theorem Finite.b (h : Finite a) (k : Nat) : IsReal (a.b k) := by
  unfold Args.b; split
  · exact h.cb _
  · exact isReal_zero
variable {a} in
theorem Finite.uc (h : Finite a) (n k : Nat) : IsReal (a.uc n k) :=
  (((h.b k).add ((h.w 0 k).mul (h.up n k))).add ((h.w 1 k).mul (h.up (n + 1) k))).add ((h.w 2 k).mul (h.up (n + 2) k))
variable {a} in
theorem Finite.da (h : Finite a) (n k : Nat) : IsReal (a.da n k) := isReal_sum _ fun j => by
  refine IsReal.mul ?_ ?_
  · unfold Args.dyN; split
    · exact h.dy _
    · exact isReal_zero
  · unfold Args.wdN; split
    · exact h.wd _
    · exact isReal_zero

theorem isReal_logistic {x : EReal} (h : IsReal x) : IsReal (FloatOps.logistic (F := Ideal) (φ := .f32) x) := by
  obtain ⟨r, rfl⟩ := h
  exact ⟨_, (Ideal.logistic_coe r).symm⟩

/-- The derivative of the gate in the reference's order and in one product. -/
theorem gate_grad {x d v : EReal} (hx : IsReal x) (hd : IsReal d) (hv : IsReal v) (s : EReal) (hs : IsReal s) :
    d * v * s + x * (d * v) * (s * (1 - s)) = d * v * (s + x * s * (1 - s)) := by
  obtain ⟨x, rfl⟩ := hx
  obtain ⟨d, rfl⟩ := hd
  obtain ⟨v, rfl⟩ := hv
  obtain ⟨s, rfl⟩ := hs
  rw [← EReal.coe_one]
  simp only [← EReal.coe_mul, ← EReal.coe_sub, ← EReal.coe_add]
  congr 1
  ring

variable {a} in
theorem v39_at (h : Finite a) (n : Fin 4096) (f : Fin 2816) :
    val_main_v39 (F := Ideal) a.u a.cw a.cb a.wd a.dy (ix3 0 n f) = a.dgate n.val f.val := by
  refine Eq.trans ?_ (gate_grad (h.uc n.val f.val) (h.da n.val f.val) (h.uc n.val (2816 + f.val)) (a.sg n.val f.val) (isReal_logistic (h.uc _ _)))
  pointwise [val_main_v39, val_main_call1_v0, val_main_call1_v1, val_main_call1_v2, val_main_v38, val_main_v30_1, val_main_call0_v7, val_main_call0_v6, val_main_call0_cst_1]
  simp only [v28_at, v29_at, sg_at, da_at]

variable {a} in
theorem dc_at (h : Finite a) (n : Fin 4096) (k : Fin 5632) :
    val_main_v42 (F := Ideal) a.u a.cw a.cb a.wd a.dy (ix3 0 n k) = a.dc n.val k.val := by
  unfold Args.dc
  rw [if_pos n.isLt]
  pointwise [val_main_v42, val_main_v41, val_main_v40, val_main_v37, val_main_cst_2, val_main_cst_3]
  by_cases hk : k.val < 2816
  · rw [dif_neg (by omega), dif_pos hk, if_pos hk, zero_add]
    exact v39_at h n ⟨k.val, hk⟩
  · rw [dif_pos (by omega), dif_neg hk, if_neg hk, add_zero, sl_at, da_at, mul_comm]
    rfl

theorem dc_past (n k : Nat) (h : ¬ n < 4096) : a.dc n k = 0 := if_neg h

variable {a} in
theorem du_at (h : Finite a) (n : Fin 4096) (k : Fin 5632) :
    val_main_v82 (F := Ideal) a.u a.cw a.cb a.wd a.dy (ix2 n k) = a.du n.val k.val := by
  unfold Args.du
  pointwise [val_main_v82, val_main_v81, val_main_v78, val_main_v73, val_main_v72, val_main_v67, val_main_v66, val_main_v59, val_main_v58, val_main_v53, val_main_v52, val_main_v49, val_main_v44, val_main_v43, val_main_cst_6, val_main_cst_10, val_main_cst_16, val_main_v8, val_main_v6, val_main_v5, val_main_v17, val_main_v15, val_main_v14, val_main_v24, val_main_v22, val_main_v21, val_main_v0]
  simp only [dc_at h]
  refine congrArg₂ (· + ·) (congrArg₂ (· + ·) ?_ ?_) ?_
  · exact congrArg (· * _) (w_at a 2 k).symm
  · split
    · next q => exact congrArg₂ (· * ·) (w_at a 1 k).symm (congrArg (a.dc · k.val) (show 2 + n.val - 1 = n.val + 1 by omega))
    · next q => rw [dc_past a (n.val + 1) _ (by omega), mul_zero]
  · split
    · next q => exact congrArg₂ (· * ·) (w_at a 0 k).symm (congrArg (a.dc · k.val) (show 2 + n.val = n.val + 2 by omega))
    · next q => rw [dc_past a (n.val + 2) _ (by omega), mul_zero]

/-- A sum over the time steps, as the two sums of the reference. -/
theorem sum_steps (v : FVec Ideal S1x4096x5632 .f32) (k : Fin 5632) :
    Ideal.hostReduceAdd reducesTo_S1x1x5632_S5632_d0_1
      (shapeCast S1x1x5632 (Host.reduceAdd v (constant S_ FTy.f32 0#32) reducesTo_S1x4096x5632_S1x5632_d1 h_S_ : FVec Ideal S1x5632 .f32) shapeCasts_S1x5632_S1x1x5632)
      0 (ix1 k) = ∑ n : Fin 4096, v (ix3 0 n k) := by
  rw [UnitAxes.sum_front, zero_add]
  pointwise []

variable {a} in
theorem dcb_at (h : Finite a) (k : Fin 5632) :
    val_main_v79 (F := Ideal) a.u a.cw a.cb a.wd a.dy (ix2 0 k) = a.dcb k.val := by
  pointwise [val_main_v79, val_main_v65, val_main_v64, val_main_v63, val_main_cst_12, val_main_cst_13]
  refine (sum_steps _ k).trans (Finset.sum_congr rfl fun n _ => dc_at h n k)

variable {a} in
theorem tap0_at (h : Finite a) (k : Fin 5632) : val_main_v71 (F := Ideal) a.u a.cw a.cb a.wd a.dy (ix1 k) = a.dcw 0 k.val := by
  pointwise [val_main_v71, val_main_v70, val_main_v69, val_main_cst_14, val_main_cst_15]
  refine (sum_steps _ k).trans (Finset.sum_congr rfl fun n _ => ?_)
  pointwise [val_main_v68, val_main_v7]
  simp only [dc_at h, v3_at]
variable {a} in
theorem tap1_at (h : Finite a) (k : Fin 5632) : val_main_v57 (F := Ideal) a.u a.cw a.cb a.wd a.dy (ix1 k) = a.dcw 1 k.val := by
  pointwise [val_main_v57, val_main_v56, val_main_v55, val_main_cst_8, val_main_cst_9]
  refine (sum_steps _ k).trans (Finset.sum_congr rfl fun n _ => ?_)
  pointwise [val_main_v54, val_main_v16]
  simp only [dc_at h, v3_at, Nat.add_comm 1]
variable {a} in
theorem tap2_at (h : Finite a) (k : Fin 5632) : val_main_v48 (F := Ideal) a.u a.cw a.cb a.wd a.dy (ix1 k) = a.dcw 2 k.val := by
  pointwise [val_main_v48, val_main_v47, val_main_v46, val_main_cst_4, val_main_cst_5]
  refine (sum_steps _ k).trans (Finset.sum_congr rfl fun n _ => ?_)
  pointwise [val_main_v45, val_main_v23]
  simp only [dc_at h, v3_at, Nat.add_comm 2]

variable {a} in
theorem dcw_at (h : Finite a) (j : Fin 3) (k : Fin 5632) :
    val_main_v85 (F := Ideal) a.u a.cw a.cb a.wd a.dy (ix2 j k) = a.dcw j.val k.val := by
  pointwise [val_main_v85, val_main_v80, val_main_v76, val_main_v75, val_main_v74, val_main_v62, val_main_v61, val_main_v60, val_main_v51, val_main_v50, val_main_cst_7, val_main_cst_11, val_main_cst_17]
  rw [tap0_at h, tap1_at h, tap2_at h]
  fin_cases j <;> simp

end Cert.Reference3Ideal.FfnA

end
-- ==== Proof.FfnA.Claim.lean ====
/- The backward pass of the feed-forward convolution and gate: where the arguments are real numbers, the kernel's four results are
   those of the reference's derivative. -/
module

public import proofs.«01_k».proof.Defs
public import proofs.«01_k».proof.Proof.Gen.Reference3Ideal.Run
public import proofs.«01_k».proof.Proof.FfnA.Tail
public import proofs.«01_k».proof.Proof.FfnA.Ref

@[expose] public section

set_option maxRecDepth 16384

open Idealize.ShloMosaic

namespace Cert.Proof.FfnA

open Cert.Kernel3Ideal.FfnA Cert.Proof.Reals Cert.Reference3Ideal.FfnA

/-- What the precondition says of the arguments. -/
theorem finite [Cert.Pre_finite_ffn_a.Facts] (m : (ℓ : Loc Cert.Kernel3Ideal.nD Cert.Kernel3Ideal.τ Cert.Kernel3Ideal.sig) → Buf (Elt Ideal) ℓ)
    (h : Cert.Pre_Kernel3Ideal_finite_ffn_a m) (c : Dev Cert.Kernel3Ideal.nD) : Finite (args m c) := by
  have e := congrFun (h c) ix0
  obtain ⟨e, e4⟩ := and_one (show IntOp.andi _ _ = 1#1 from e)
  obtain ⟨e, e3⟩ := and_one (show IntOp.andi _ _ = 1#1 from e)
  obtain ⟨e, e2⟩ := and_one (show IntOp.andi _ _ = 1#1 from e)
  obtain ⟨e0, e1⟩ := and_one (show IntOp.andi _ _ = 1#1 from e)
  exact ⟨isReal_of_all _ _ _ _ _ _ _ e0, isReal_of_all _ _ _ _ _ _ _ e1, isReal_of_all _ _ _ _ _ _ _ e2, isReal_of_all _ _ _ _ _ _ _ e3,
    isReal_of_all _ _ _ _ _ _ _ e4⟩

theorem algebraic [Cert.Pre_finite_ffn_a.Facts] : Cert.algebraic_Kernel3Ideal_Reference3Ideal_pre_finite_ffn_a := by
  pair_intro
  · run_from Cert.Kernel3Ideal.FfnA.run m g & Cert.Kernel3Ideal.Gen.unchanged m g
  · run_from Cert.Reference3Ideal.Value.run m' g'
    · obtain ⟨h0, h1, h2, h3, h4⟩ := hagree c
      rw [Cert.Reference3Ideal.Read.val_main_v82_eq, h0, h1, h2, h3, h4]
      funext y
      idx_vars y
      exact du_at (finite m hpre c) y0 y1
    · obtain ⟨h0, h1, h2, h3, h4⟩ := hagree c
      rw [Cert.Reference3Ideal.Read.val_main_v84_eq, h0, h1, h2]
      funext y
      idx_vars y
      exact act_at (args m c) y0 y1
    · obtain ⟨h0, h1, h2, h3, h4⟩ := hagree c
      rw [Cert.Reference3Ideal.Read.val_main_v85_eq, h0, h1, h2, h3, h4]
      funext y
      idx_vars y
      exact dcw_at (finite m hpre c) y0 y1
    · obtain ⟨h0, h1, h2, h3, h4⟩ := hagree c
      rw [Cert.Reference3Ideal.Read.val_main_v79_eq, h0, h1, h2, h3, h4]
      funext y
      idx_vars y
      obtain rfl : y0 = 0 := Subsingleton.elim _ _
      exact dcb_at (finite m hpre c) y1

end Cert.Proof.FfnA
-- ==== Proof.NormRef.lean ====
/- The norm's derivative as the two references that go through a norm write it, over any cotangent `d` of the normalized
   activations, and its elements. The stages that need no cotangent are the generated ones. -/
module

public import proofs.«01_k».proof.Proof.Gen.Reference4Ideal.Read
public import Idealize.ShloMosaic.Lib.Pointwise
public import proofs.«01_k».proof.Proof.Reals
public import proofs.«01_k».proof.Proof.UnitAxes

@[expose] public section

set_option maxRecDepth 16384

noncomputable section

namespace Cert.Proof.NormRef

open Cert.Reference4Ideal Cert.Reference4Ideal.Gen Cert.Reference4Ideal.Read Idealize.ShloMosaic Idealize.ShloMosaic.TcCoe Idealize.SL.Sem
open Cert.Proof.Reals (meanSq root IsReal norm_grad)

variable (x : FVec Ideal S1x4096x1024 .f32) (g : FVec Ideal S1x1024 .f32) (d e : FVec Ideal S1x4096x1024 .f32)

/-- The cotangent through the gain. -/
def dgT : FVec Ideal S1x4096x1024 .f32 := mulf d (val_main_v23 (F := Ideal) g)
/-- The cotangent of the mean of the squares, divided by the number of columns, in every column. -/
def dmeanT : FVec Ideal S1x4096x1024 .f32 :=
  broadcastInDim S1x4096x1024 ![0, 1] bcast_S1x4096_S1x4096x1024_0_1 (broadcastInDim S1x4096 ![1] bcast_S4096_S1x4096_1
    (Host.reduceAdd (Host.divf (mulf (shapeCast S1x4096x1 (Host.reduceAdd (mulf x (dgT g d)) (val_main_cst_5 (F := Ideal)) reducesTo_S1x4096x1024_S1x4096_d2 h_S_)
      shapeCasts_S1x4096_S1x4096x1) (val_main_v11 (F := Ideal) x)) (val_main_v33 (F := Ideal))) (val_main_cst_7 (F := Ideal)) reducesTo_S1x4096x1_S4096_d0_2 h_S_))
/-- The gradient of the activations, over what already reaches them (`e`). -/
def gxT : FVec Ideal S4096x1024 .f32 :=
  shapeCast S4096x1024 (addf (addf (addf e (mulf (dgT g d) (val_main_v29 (F := Ideal) x))) (mulf x (dmeanT x g d))) (mulf (dmeanT x g d) x))
    shapeCasts_S1x4096x1024_S4096x1024
/-- The gradient of the gain. -/
def dgnT : FVec Ideal S1x1024 .f32 :=
  broadcastInDim S1x1024 ![1] bcast_S1024_S1x1024_1 (Host.reduceAdd (shapeCast S1x1x1024 (Host.reduceAdd (mulf (val_main_v13 (F := Ideal) x) d) (val_main_cst_3 (F := Ideal))
    reducesTo_S1x4096x1024_S1x1024_d1 h_S_) shapeCasts_S1x1024_S1x1x1024) (val_main_cst_4 (F := Ideal)) reducesTo_S1x1x1024_S1024_d0_1 h_S_)

/-- A row of the activations, the gain, and a row of the cotangent. -/
def xrow (r : Fin 4096) (k : Fin 1024) : EReal := x (ix3 0 r k)
def gain (k : Fin 1024) : EReal := g (ix2 0 k)

theorem meanSq_eq (r : Fin 4096) (k : Fin 1) : val_main_v7 (F := Ideal) x (ix3 0 r k) = meanSq (xrow x r) := by
  unfold meanSq xrow
  pointwise [val_main_v7, val_main_v6, val_main_v5, val_main_v4, val_main_v3, val_main_v2, val_main_v1, val_main_cst, val_main_cst_0, val_main_cst_1]

theorem root_eq (r : Fin 4096) (k : Fin 1) : val_main_v8 (F := Ideal) x (ix3 0 r k) = root (xrow x r) := by
  unfold root
  rw [← meanSq_eq x r k]
  pointwise [val_main_v8]

/-- The cotangent of the mean of squares of a row, over the number of columns. -/
def dmean (r : Fin 4096) : EReal :=
  Ideal.div ((∑ k, xrow x r k * (xrow d r k * gain g k)) * (Ideal.ofBits .f32 0xBF000000#32 * Ideal.div (root (xrow x r)) (meanSq (xrow x r))))
    (Ideal.ofBits .f32 0x44800000#32)

theorem dmean_eq (r : Fin 4096) (j : Fin 1024) : dmeanT x g d (ix3 0 r j) = dmean x g d r := by
  have e : (Host.divf (mulf (shapeCast S1x4096x1 (Host.reduceAdd (mulf x (dgT g d)) (val_main_cst_5 (F := Ideal)) reducesTo_S1x4096x1024_S1x4096_d2 h_S_)
      shapeCasts_S1x4096_S1x4096x1) (val_main_v11 (F := Ideal) x)) (val_main_v33 (F := Ideal)) : FVec Ideal S1x4096x1 .f32) (ix3 0 r 0) = dmean x g d r := by
    unfold dmean gain
    simp only [← meanSq_eq x r 0, ← root_eq x r 0]
    unfold xrow
    pointwise [dgT, val_main_v33, val_main_v23, val_main_v14, val_main_v0, val_main_v11, val_main_v10, val_main_v9, val_main_cst_6, val_main_cst_5, val_main_cst_2]
  unfold dmeanT
  generalize (Host.divf (mulf (shapeCast S1x4096x1 (Host.reduceAdd (mulf x (dgT g d)) (val_main_cst_5 (F := Ideal)) reducesTo_S1x4096x1024_S1x4096_d2 h_S_)
      shapeCasts_S1x4096_S1x4096x1) (val_main_v11 (F := Ideal) x)) (val_main_v33 (F := Ideal)) : FVec Ideal S1x4096x1 .f32) = y at e
  pointwise
  refine (Cert.Proof.UnitAxes.sum_around _ _ _ r).trans ?_
  rw [e]
  pointwise [val_main_cst_7]

theorem gx_eq (r : Fin 4096) (j : Fin 1024) :
    gxT x g d e (ix2 r j)
      = e (ix3 0 r j) + xrow d r j * gain g j * root (xrow x r) + xrow x r j * dmean x g d r + dmean x g d r * xrow x r j := by
  rw [← dmean_eq _ _ _ r j, ← root_eq x r 0]
  unfold gain xrow
  pointwise [gxT, dgT, val_main_v29, val_main_v23, val_main_v14, val_main_v0]

/-- On real numbers the gradient of the activations is the norm's gradient in closed form. -/
theorem gx_real (r : Fin 4096) (j : Fin 1024) (hx : ∀ k, IsReal (xrow x r k)) (hg : ∀ k, IsReal (gain g k)) (hd : ∀ k, IsReal (xrow d r k)) :
    gxT x g d e (ix2 r j)
      = e (ix3 0 r j) + root (xrow x r) * (xrow d r j * gain g j - xrow x r j * root (xrow x r)
          * Ideal.div (∑ k, xrow d r k * gain g k * (xrow x r k * root (xrow x r))) (Ideal.ofBits .f32 0x44800000#32)) := by
  rw [gx_eq, add_assoc, add_assoc, ← add_assoc (xrow d r j * _ * _)]
  exact congrArg (_ + ·) (norm_grad (xrow x r) (gain g) (xrow d r) hx hg hd j).symm

theorem dgn_eq (j : Fin 1024) : dgnT x d (ix2 0 j) = ∑ r : Fin 4096, xrow d r j * (xrow x r j * root (xrow x r)) := by
  simp only [← root_eq x _ 0]
  unfold xrow
  pointwise [dgnT]
  refine (Cert.Proof.UnitAxes.sum_front _ _ _ j).trans ?_
  pointwise [val_main_v13, val_main_v12, val_main_cst_3, val_main_cst_4]
  exact Finset.sum_congr rfl fun r _ => mul_comm _ _

end Cert.Proof.NormRef

end
-- ==== Proof.Inproj.Ref.lean ====
/- What the reference computes for the input projection and its norm, one element at a time. -/
module

public import proofs.«01_k».proof.Proof.Gen.Reference4Ideal.Read
public import Idealize.ShloMosaic.Lib.Pointwise
public import proofs.«01_k».proof.Proof.NormRef

@[expose] public section

set_option maxRecDepth 16384

noncomputable section

namespace Cert.Reference4Ideal.Inproj

open Cert.Reference4Ideal Cert.Reference4Ideal.Gen Cert.Reference4Ideal.Read Idealize.ShloMosaic Idealize.ShloMosaic.TcCoe Idealize.SL.Sem
open Cert.Proof.NormRef (xrow gxT dgnT)

variable (x0 : FVec Ideal S1x4096x1024 .f32) (x1 : FVec Ideal S1x1024 .f32) (x2 : FVec Ideal S1x1024x4352 .f32)
  (x3 : FVec Ideal S1x4096x4352 .f32) (x4 : FVec Ideal S1x4096x1024 .f32)

/-- The cotangent of the normalized activations. -/
def dh (r : Fin 4096) (j : Fin 1024) : EReal := ∑ k : Fin 4352, x3 (ix3 0 r k) * x2 (ix3 0 j k)

theorem dh_eq (r : Fin 4096) (j : Fin 1024) : val_main_v19 (F := Ideal) x2 x3 (ix3 0 r j) = dh x2 x3 r j := by
  unfold dh
  pointwise [val_main_v19, val_main_v17]

theorem dh_row (r : Fin 4096) : xrow (val_main_v19 (F := Ideal) x2 x3) r = dh x2 x3 r := funext fun j => dh_eq x2 x3 r j

/-- The reference's results are the norm's derivative at this cotangent. -/
theorem gx_norm : val_main_v43 (F := Ideal) x0 x1 x2 x3 x4 = gxT x0 x1 (val_main_v19 (F := Ideal) x2 x3) x4 := rfl
theorem dgn_norm : val_main_v42 (F := Ideal) x0 x2 x3 = dgnT x0 (val_main_v19 (F := Ideal) x2 x3) := rfl

end Cert.Reference4Ideal.Inproj

end
-- ==== Proof.Inproj.Host.lean ====
/- What the input projection's gradient call reads: the arrays its host lines prepare (the four column ranges of the
   cotangent, the transposed weight), and the blocks of 512 rows that a grid point sees. -/
module

public import proofs.«01_k».proof.Proof.Gen.Kernel4Ideal.Frame
public import proofs.«01_k».proof.Proof.Inproj.Ref
public import Idealize.ShloMosaic.Lib.Pipeline.ValueKit
public import Idealize.ShloMosaic.Lib.Claim

@[expose] public section

set_option maxRecDepth 16384

noncomputable section

namespace Cert.Kernel4Ideal.Inproj

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The arguments, by name. -/
abbrev aX (c : Dev nD) : FVec Ideal S1x4096x1024 .f32 := m ((c : Thread nD τ).loc main_arg0)
abbrev aGain (c : Dev nD) : FVec Ideal S1x1024 .f32 := m ((c : Thread nD τ).loc main_arg1)
abbrev aWin (c : Dev nD) : FVec Ideal S1x1024x4352 .f32 := m ((c : Thread nD τ).loc main_arg2)
abbrev aDz (c : Dev nD) : FVec Ideal S1x4096x4352 .f32 := m ((c : Thread nD τ).loc main_arg3)
abbrev aDx (c : Dev nD) : FVec Ideal S1x4096x1024 .f32 := m ((c : Thread nD τ).loc main_arg4)

/-- A column of each of the four ranges. -/
abbrev colU (k : Fin 1024) : Fin 4352 := ⟨k.val, by omega⟩
abbrev colQ (k : Fin 1024) : Fin 4352 := ⟨1024 + k.val, by omega⟩
abbrev colKV (k : Fin 256) : Fin 4352 := ⟨2048 + k.val, by omega⟩
abbrev colG (k : Fin 2048) : Fin 4352 := ⟨2304 + k.val, by omega⟩

theorem V_u (c : Dev nD) (r : Fin 4096) (k : Fin 1024) : (V m c main_v2 : FVec Ideal S4096x1024 .bf16) (ix2 r k) = aDz m c (ix3 0 r (colU k)) := by
  have e : V m c main_v2 = truncf .bf16 (shapeCast S4096x1024 (extractStridedSlice S1x4096x1024 ![0, 0, 0] (aDz m c) slices_S1x4096x4352_S1x4096x1024_0_0_0) shapeCasts_S1x4096x1024_S4096x1024) bitsLt_bf16_f32 := by
    entry_read; rfl
  rw [e]; pointwise

theorem V_q (c : Dev nD) (r : Fin 4096) (k : Fin 1024) : (V m c main_v5 : FVec Ideal S4096x1024 .bf16) (ix2 r k) = aDz m c (ix3 0 r (colQ k)) := by
  have e : V m c main_v5 = truncf .bf16 (shapeCast S4096x1024 (extractStridedSlice S1x4096x1024 ![0, 0, 1024] (aDz m c) slices_S1x4096x4352_S1x4096x1024_0_0_1024) shapeCasts_S1x4096x1024_S4096x1024) bitsLt_bf16_f32 := by
    entry_read; rfl
  rw [e]; pointwise
theorem V_kv (c : Dev nD) (r : Fin 4096) (k : Fin 256) : (V m c main_v8 : FVec Ideal S4096x256 .bf16) (ix2 r k) = aDz m c (ix3 0 r (colKV k)) := by
  have e : V m c main_v8 = truncf .bf16 (shapeCast S4096x256 (extractStridedSlice S1x4096x256 ![0, 0, 2048] (aDz m c) slices_S1x4096x4352_S1x4096x256_0_0_2048) shapeCasts_S1x4096x256_S4096x256) bitsLt_bf16_f32 := by
    entry_read; rfl
  rw [e]; pointwise
theorem V_g (c : Dev nD) (r : Fin 4096) (k : Fin 2048) : (V m c main_v11 : FVec Ideal S4096x2048 .bf16) (ix2 r k) = aDz m c (ix3 0 r (colG k)) := by
  have e : V m c main_v11 = truncf .bf16 (shapeCast S4096x2048 (extractStridedSlice S1x4096x2048 ![0, 0, 2304] (aDz m c) slices_S1x4096x4352_S1x4096x2048_0_0_2304) shapeCasts_S1x4096x2048_S4096x2048) bitsLt_bf16_f32 := by
    entry_read; rfl
  rw [e]; pointwise
theorem V_w (c : Dev nD) (k : Fin 4352) (j : Fin 1024) : (V m c main_v14 : FVec Ideal S4352x1024 .bf16) (ix2 k j) = aWin m c (ix3 0 j k) := by
  have e : V m c main_v14 = truncf .bf16 (transpose S4352x1024 [1, 0] (shapeCast S1024x4352 (aWin m c) shapeCasts_S1x1024x4352_S1024x4352) transposes_S1024x4352_S4352x1024_1_0) bitsLt_bf16_f32 := by
    entry_read; rfl
  rw [e]; pointwise
theorem V_x (c : Dev nD) : V m c main_v15 = shapeCast S4096x1024 (aX m c) shapeCasts_S1x4096x1024_S4096x1024 := by
  entry_read; rfl
theorem V_gain (c : Dev nD) : V m c main_arg1 = aGain m c := by
  entry_read; rfl
theorem V_dx (c : Dev nD) : V m c main_v16 = shapeCast S4096x1024 (aDx m c) shapeCasts_S1x4096x1024_S4096x1024 := by
  entry_read; rfl

/-- The block index of every window at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0]
    ∧ win0_7.index t = ![t.val, 0] ∧ win0_8.index t = ![t.val, 0] ∧ t.val < 8 :=
  (by decide +kernel : ∀ t : Fin grid0.N, _)

/-- Row `i` of block `t` is row `512 t + i` of the array. -/
abbrev row (t : Fin cfg0.N) (i : Fin 512) : Fin 4096 := ⟨t.val * 512 + i.val, by have := (idx t).2.2.2.2.2.2.2.2.2; omega⟩

theorem blk_u (c : Dev nD) (t : Fin cfg0.N) (i : Fin 512) (k : Fin 1024) :
    (iblk m c 0 t : FVec Ideal S512x1024 .bf16) (ix2 i k) = aDz m c (ix3 0 (row t i) (colU k)) := by
  have e : (iblk m c 0 t : FVec Ideal S512x1024 .bf16) (ix2 i k) = V m c main_v2 (ix2 (row t i) k) := by blk_ext [iblk, idx t]
  exact e.trans (V_u m c _ _)
theorem blk_q (c : Dev nD) (t : Fin cfg0.N) (i : Fin 512) (k : Fin 1024) :
    (iblk m c 1 t : FVec Ideal S512x1024 .bf16) (ix2 i k) = aDz m c (ix3 0 (row t i) (colQ k)) := by
  have e : (iblk m c 1 t : FVec Ideal S512x1024 .bf16) (ix2 i k) = V m c main_v5 (ix2 (row t i) k) := by blk_ext [iblk, idx t]
  exact e.trans (V_q m c _ _)
theorem blk_kv (c : Dev nD) (t : Fin cfg0.N) (i : Fin 512) (k : Fin 256) :
    (iblk m c 2 t : FVec Ideal S512x256 .bf16) (ix2 i k) = aDz m c (ix3 0 (row t i) (colKV k)) := by
  have e : (iblk m c 2 t : FVec Ideal S512x256 .bf16) (ix2 i k) = V m c main_v8 (ix2 (row t i) k) := by blk_ext [iblk, idx t]
  exact e.trans (V_kv m c _ _)
theorem blk_g (c : Dev nD) (t : Fin cfg0.N) (i : Fin 512) (k : Fin 2048) :
    (iblk m c 3 t : FVec Ideal S512x2048 .bf16) (ix2 i k) = aDz m c (ix3 0 (row t i) (colG k)) := by
  have e : (iblk m c 3 t : FVec Ideal S512x2048 .bf16) (ix2 i k) = V m c main_v11 (ix2 (row t i) k) := by blk_ext [iblk, idx t]
  exact e.trans (V_g m c _ _)
theorem blk_w (c : Dev nD) (t : Fin cfg0.N) (k : Fin 4352) (j : Fin 1024) :
    (iblk m c 4 t : FVec Ideal S4352x1024 .bf16) (ix2 k j) = aWin m c (ix3 0 j k) := by
  have e : (iblk m c 4 t : FVec Ideal S4352x1024 .bf16) (ix2 k j) = V m c main_v14 (ix2 k j) := by blk_ext [iblk, idx t]
  exact e.trans (V_w m c _ _)
theorem blk_x (c : Dev nD) (t : Fin cfg0.N) (i : Fin 512) (j : Fin 1024) :
    (iblk m c 5 t : FVec Ideal S512x1024 .f32) (ix2 i j) = aX m c (ix3 0 (row t i) j) := by
  have e : (iblk m c 5 t : FVec Ideal S512x1024 .f32) (ix2 i j) = V m c main_v15 (ix2 (row t i) j) := by blk_ext [iblk, idx t]
  rw [e, V_x]; pointwise
theorem blk_gain (c : Dev nD) (t : Fin cfg0.N) (i : Fin 1) (j : Fin 1024) :
    (iblk m c 6 t : FVec Ideal S1x1024 .f32) (ix2 i j) = aGain m c (ix2 0 j) := by
  have e : (iblk m c 6 t : FVec Ideal S1x1024 .f32) (ix2 i j) = V m c main_arg1 (ix2 0 j) := by blk_ext [iblk, idx t]
  rw [e, V_gain]
theorem blk_dx (c : Dev nD) (t : Fin cfg0.N) (i : Fin 512) (j : Fin 1024) :
    (iblk m c 7 t : FVec Ideal S512x1024 .f32) (ix2 i j) = aDx m c (ix3 0 (row t i) j) := by
  have e : (iblk m c 7 t : FVec Ideal S512x1024 .f32) (ix2 i j) = V m c main_v16 (ix2 (row t i) j) := by blk_ext [iblk, idx t]
  rw [e, V_dx]; pointwise

end Cert.Kernel4Ideal.Inproj

end
-- ==== Proof.Inproj.Tiles.lean ====
/- The two arrays the input projection's gradient call writes: the activations' gradient, one block of 512 rows at a grid
   point, and the gain's gradient, added up over the points. The norm's gradient is written by hand in the call and by
   the chain rule in the reference; the two agree on real numbers. -/
module

public import proofs.«01_k».proof.Proof.Inproj.Host
public import Idealize.ShloMosaic.Lib.Pointwise
public import Idealize.ShloMosaic.Lib.Pipeline.ReadBack

@[expose] public section

set_option maxRecDepth 16384

noncomputable section

namespace Cert.Kernel4Ideal.Inproj

open Cert.Kernel4Ideal Cert.Kernel4Ideal.Gen Idealize.ShloMosaic Idealize.ShloMosaic.TcCoe Idealize.SL.Sem
open Idealize.ShloMosaic.Pipeline (Dat)
open Cert.Reference4Ideal.Read
open Cert.Reference4Ideal.Inproj (dh dh_row gx_norm dgn_norm)
open Cert.Proof.NormRef (xrow gain gx_real dgn_eq)
open Cert.Proof.Reals

variable (m : (ℓ : Loc nD τ sig) → Buf (Elt Ideal) ℓ)

/-! The payloads over any blocks. -/

theorem pay6_at (A1 A2 : FVec Ideal S512x1024 .bf16) (B1 B2 : FVec Ideal S1024x1024 .bf16) (A3 : FVec Ideal S512x256 .bf16) (B3 : FVec Ideal S256x1024 .bf16)
    (A4 : FVec Ideal S512x2048 .bf16) (B4 : FVec Ideal S2048x1024 .bf16) (i : Fin 512) (j : Fin 1024) :
    k0_pay6 (F := Ideal) A1 B1 A2 B2 A3 B3 A4 B4 (ix2 i j)
      = ∑ k : Fin 1024, A1 (ix2 i k) * B1 (ix2 k j) + ∑ k : Fin 1024, A2 (ix2 i k) * B2 (ix2 k j)
        + ∑ k : Fin 256, A3 (ix2 i k) * B3 (ix2 k j) + ∑ k : Fin 2048, A4 (ix2 i k) * B4 (ix2 k j) := by
  pointwise [k0_pay6]

theorem pay7_eq (X : FVec Ideal S512x1024 .f32) (i : Fin 512) (j : Fin 1024) : k0_pay7 (F := Ideal) X (ix2 i j) = X (ix2 i j) := by
  pointwise [k0_pay7]

theorem pay1_at (X : FVec Ideal S512x1024 .f32) (i : Fin 512) (j : Fin 1) :
    k0_pay1 (F := Ideal) (k0_pay8 X) k0_pay9 (ix2 i j) = root (fun k => X (ix2 i k)) := by
  unfold root meanSq
  pointwise [k0_pay1, k0_pay8, k0_pay9, k0_pay7]

theorem pay2_at (X : FVec Ideal S512x1024 .f32) (i : Fin 512) (j : Fin 1024) :
    k0_pay2 (F := Ideal) (k0_pay7 X) (k0_pay8 X) k0_pay9 (ix2 i j) = X (ix2 i j) * root (fun k => X (ix2 i k)) := by
  rw [← pay1_at X i 0]
  pointwise [k0_pay2, k0_pay7]

theorem pay4_at (D X : FVec Ideal S512x1024 .f32) (G : FVec Ideal S1x1024 .f32) (E : FVec Ideal S512x1024 .f32) (i : Fin 512) (j : Fin 1024) :
    k0_pay4 (F := Ideal) D (k0_pay7 X) (k0_pay8 X) k0_pay9 G E (ix2 i j)
      = E (ix2 i j) + root (fun k => X (ix2 i k)) * (D (ix2 i j) * G (ix2 0 j) - X (ix2 i j) * root (fun k => X (ix2 i k))
          * Ideal.div (∑ k, D (ix2 i k) * G (ix2 0 k) * (X (ix2 i k) * root (fun k => X (ix2 i k)))) (Ideal.ofBits .f32 0x44800000#32)) := by
  simp only [← pay2_at]
  rw [← pay1_at X i 0]
  pointwise [k0_pay4]

theorem pay3_at (D X : FVec Ideal S512x1024 .f32) (P : FVec Ideal S1x1024 .f32) (a : Fin 1) (j : Fin 1024) :
    k0_pay3 (F := Ideal) D (k0_pay7 X) (k0_pay8 X) k0_pay9 P (ix2 a j)
      = P (ix2 a j) + ∑ i : Fin 512, D (ix2 i j) * (X (ix2 i j) * root (fun k => X (ix2 i k))) := by
  simp only [← pay2_at]
  pointwise [k0_pay3]

/-- The sum over all columns is the sum of the sums over the four ranges. -/
theorem sum_ranges (f : Fin 4352 → EReal) :
    ∑ k, f k = ∑ k, f (colU k) + ∑ k, f (colQ k) + ∑ k, f (colKV k) + ∑ k, f (colG k) := by
  refine (Fin.sum_univ_add (a := 2304) (b := 2048) f).trans (congrArg₂ (· + ·) ?_ rfl)
  refine (Fin.sum_univ_add (a := 2048) (b := 256) fun k => f (Fin.castAdd 2048 k)).trans (congrArg₂ (· + ·) ?_ rfl)
  exact Fin.sum_univ_add (a := 1024) (b := 1024) fun k => f (Fin.castAdd 2048 (Fin.castAdd 256 k))

/-! The four row ranges of the weight's block. -/

theorem ld_u (B : Vec Ideal S4352x1024 .bf16) (k j : Fin 1024) :
    (View.ld B (Rect.unit ![0, 0] ![1024, 1024] inb_S4352x1024_S1024x1024_0_0) : FVec Ideal S1024x1024 .bf16) (ix2 k j) = B (ix2 (colU k) j) := by
  pointwise
theorem ld_q (B : Vec Ideal S4352x1024 .bf16) (k j : Fin 1024) :
    (View.ld B (Rect.unit ![1024, 0] ![1024, 1024] inb_S4352x1024_S1024x1024_1024_0) : FVec Ideal S1024x1024 .bf16) (ix2 k j) = B (ix2 (colQ k) j) := by
  pointwise
theorem ld_kv (B : Vec Ideal S4352x1024 .bf16) (k : Fin 256) (j : Fin 1024) :
    (View.ld B (Rect.unit ![2048, 0] ![256, 1024] inb_S4352x1024_S256x1024_2048_0) : FVec Ideal S256x1024 .bf16) (ix2 k j) = B (ix2 (colKV k) j) := by
  pointwise
theorem ld_g (B : Vec Ideal S4352x1024 .bf16) (k : Fin 2048) (j : Fin 1024) :
    (View.ld B (Rect.unit ![2304, 0] ![2048, 1024] inb_S4352x1024_S2048x1024_2304_0) : FVec Ideal S2048x1024 .bf16) (ix2 k j) = B (ix2 (colG k) j) := by
  pointwise

/-- The cotangent of the normalized activations on a block of rows. -/
abbrev dhBlk (c : Dev nD) (t : Fin cfg0.N) : FVec Ideal S512x1024 .f32 :=
  k0_pay6 (F := Ideal) (iblk m c 0 t) (View.ld (iblk m c 4 t) (Rect.unit ![0, 0] ![1024, 1024] inb_S4352x1024_S1024x1024_0_0))
    (iblk m c 1 t) (View.ld (iblk m c 4 t) (Rect.unit ![1024, 0] ![1024, 1024] inb_S4352x1024_S1024x1024_1024_0))
    (iblk m c 2 t) (View.ld (iblk m c 4 t) (Rect.unit ![2048, 0] ![256, 1024] inb_S4352x1024_S256x1024_2048_0))
    (iblk m c 3 t) (View.ld (iblk m c 4 t) (Rect.unit ![2304, 0] ![2048, 1024] inb_S4352x1024_S2048x1024_2304_0))

/-- Its reference, at the arguments. -/
abbrev dH (c : Dev nD) (r : Fin 4096) (j : Fin 1024) : EReal := dh (aWin m c) (aDz m c) r j
abbrev xRow (c : Dev nD) (r : Fin 4096) : Fin 1024 → EReal := xrow (aX m c) r

theorem dhBlk_at (c : Dev nD) (t : Fin cfg0.N) (i : Fin 512) (j : Fin 1024) : dhBlk m c t (ix2 i j) = dH m c (row t i) j := by
  refine (pay6_at _ _ _ _ _ _ _ _ i j).trans (Eq.trans ?_ (sum_ranges _).symm)
  refine congrArg₂ (· + ·) (congrArg₂ (· + ·) (congrArg₂ (· + ·) ?_ ?_) ?_) ?_
  · exact Finset.sum_congr rfl fun k _ => congrArg₂ (· * ·) (blk_u m c t i k) ((ld_u _ k j).trans (blk_w m c t _ j))
  · exact Finset.sum_congr rfl fun k _ => congrArg₂ (· * ·) (blk_q m c t i k) ((ld_q _ k j).trans (blk_w m c t _ j))
  · exact Finset.sum_congr rfl fun k _ => congrArg₂ (· * ·) (blk_kv m c t i k) ((ld_kv _ k j).trans (blk_w m c t _ j))
  · exact Finset.sum_congr rfl fun k _ => congrArg₂ (· * ·) (blk_g m c t i k) ((ld_g _ k j).trans (blk_w m c t _ j))

theorem xBlk_row (c : Dev nD) (t : Fin cfg0.N) (i : Fin 512) :
    (fun k => (iblk m c 5 t : FVec Ideal S512x1024 .f32) (ix2 i k)) = xRow m c (row t i) :=
  funext fun k => blk_x m c t i k

/-- The arguments the gradient needs to be real numbers. -/
structure Finite (c : Dev nD) : Prop where
  x : ∀ i, IsReal (aX m c i)
  gain : ∀ i, IsReal (aGain m c i)
  win : ∀ i, IsReal (aWin m c i)
  dz : ∀ i, IsReal (aDz m c i)

theorem Finite.dh {m : (ℓ : Loc nD τ sig) → Buf (Elt Ideal) ℓ} {c : Dev nD} (h : Finite m c) (r : Fin 4096) (j : Fin 1024) : IsReal (dH m c r j) :=
  isReal_sum _ fun k => (h.dz _).mul (h.win _)

abbrev refGx (c : Dev nD) : FVec Ideal S4096x1024 .f32 := val_main_v43 (F := Ideal) (aX m c) (aGain m c) (aWin m c) (aDz m c) (aDx m c)
abbrev refDgn (c : Dev nD) : FVec Ideal S1x1024 .f32 := val_main_v42 (F := Ideal) (aX m c) (aWin m c) (aDz m c)

theorem pay_gx (c : Dev nD) (h : Finite m c) (t : Fin cfg0.N) (i : Fin 512) (j : Fin 1024) :
    k0_pay4 (F := Ideal) (dhBlk m c t) (k0_pay7 (iblk m c 5 t)) (k0_pay8 (iblk m c 5 t)) k0_pay9 (iblk m c 6 t) (iblk m c 7 t) (ix2 i j)
      = refGx m c (ix2 (row t i) j) := by
  refine (pay4_at _ _ _ _ i j).trans ?_
  rw [xBlk_row]
  simp only [dhBlk_at, blk_x, blk_gain, blk_dx]
  rw [refGx, gx_norm, gx_real _ _ _ _ _ _ (fun k => h.x _) (fun k => h.gain _) (fun k => by rw [dh_row]; exact h.dh _ _), dh_row]
  rfl

theorem final8 (c : Dev nD) (hf : Finite m c) : (dats m 0 c).arrAt 8 cfg0.N = refGx m c := by
  refine (dats m 0 c).arrAt_eq_of_covers 8 _ (by decide +kernel) fun t _ y => ?_
  blk_simp
  rw [after0_8]
  have key : ∀ y : S512x1024.Idx, k0_pay4 (F := Ideal) (dhBlk m c t) (k0_pay7 (iblk m c 5 t)) (k0_pay8 (iblk m c 5 t)) k0_pay9 (iblk m c 6 t) (iblk m c 7 t) y
      = refGx m c (((View.whole main_v17_0).slice (win0_8.rect t)).emb y) := by
    intro y
    idx_vars y
    refine (pay_gx m c hf t _ _).trans ?_
    blk_ext [idx t]
  by_cases h : t.val % 8 = 0
  · rw [outsAt0_A m c t h]; frame_out; exact key y
  · rw [outsAt0_B m c t h]; frame_out; exact key y

/-- What a grid point adds to the gain's gradient. -/
def addGn (c : Dev nD) (t : Fin cfg0.N) (y : S1x1024.Idx) : EReal :=
  ∑ i : Fin 512, dH m c (row t i) (y 1) * (xRow m c (row t i) (y 1) * root (xRow m c (row t i)))

theorem addGn_at (c : Dev nD) (t : Fin cfg0.N) (a : Fin 1) (b : Fin 1024) :
    addGn m c t (ix2 a b) = ∑ i : Fin 512, dH m c (row t i) b * (xRow m c (row t i) b * root (xRow m c (row t i))) := rfl

theorem pay_gn (c : Dev nD) (t : Fin cfg0.N) (P : FVec Ideal S1x1024 .f32) (y : S1x1024.Idx) :
    k0_pay3 (F := Ideal) (dhBlk m c t) (k0_pay7 (iblk m c 5 t)) (k0_pay8 (iblk m c 5 t)) k0_pay9 P y = P y + addGn m c t y := by
  idx_vars y
  rw [addGn_at]
  refine (pay3_at _ _ P _ _).trans (congrArg (P _ + ·) (Finset.sum_congr rfl fun i _ => ?_))
  rw [xBlk_row]
  exact congrArg₂ (· * ·) (dhBlk_at m c t i _) (congrArg (· * _) (blk_x m c t i _))

theorem zero_gn (y : S1x1024.Idx) : k0_pay5 (F := Ideal) y = 0 := by idx_vars y; pointwise [k0_pay5]

/-- The gain's gradient the grid point before `t` left. -/
abbrev prev (c : Dev nD) (t : Fin cfg0.N) := (outsAt0 m c (t.val - 1) (Nat.lt_of_le_of_lt (Nat.sub_le _ _) t.isLt)).2

theorem gn_first (c : Dev nD) (t : Fin cfg0.N) (h : t.val % 8 = 0) (y : S1x1024.Idx) : (outsAt0 m c t.val t.isLt).2 y = 0 + addGn m c t y := by
  rw [outsAt0_A m c t h]; frame_out
  rw [← zero_gn y]
  exact pay_gn m c t _ y
theorem gn_next (c : Dev nD) (t : Fin cfg0.N) (h : ¬ t.val % 8 = 0) (y : S1x1024.Idx) :
    (outsAt0 m c t.val t.isLt).2 y = prev m c t y + addGn m c t y := by
  rw [outsAt0_B m c t h]; frame_out
  exact pay_gn m c t _ y

/-- A sum over the points and the rows of a block is the sum over all rows. -/
theorem sum_rows (f : Fin 4096 → EReal) : ∑ t : Fin cfg0.N, ∑ i : Fin 512, f (row t i) = ∑ r : Fin 4096, f r := by
  refine Fin.sum_mul_add_congr (S := cfg0.N) (n := 512) (L := 4096) fun t i h => rfl

theorem gn_sum (c : Dev nD) (j : S1x1024.Idx) : ∑ p, addGn m c p j = refDgn m c j := by
  idx_vars j
  obtain rfl : j0 = 0 := Subsingleton.elim _ _
  simp only [addGn_at]
  refine (sum_rows (fun r => dH m c r j1 * (xRow m c r j1 * root (xRow m c r)))).trans ?_
  rw [refDgn, dgn_norm, dgn_eq]
  simp only [dh_row]

theorem final9 (c : Dev nD) : (dats m 0 c).arrAt 9 cfg0.N = refDgn m c := by
  refine (dats m 0 c).arrAt_eq_of_after_last 9 t0_7 (by decide +kernel) _ fun j => ?_
  blk_simp
  rw [after0_9, Pipeline.eq_sum_fin_of_reset_step_apply_last (fun n h => (outsAt0 m c n h).2) 8 (fun _ => 0) (addGn m c)
    (gn_first m c) (gn_next m c) (le_of_eq N_0) t0_7 rfl j, zero_add]
  exact gn_sum m c j

end Cert.Kernel4Ideal.Inproj

end
-- ==== Proof.Inproj.Claim.lean ====
/- The backward pass of the input projection and its norm: where the activations, the gain, the weight and the cotangent
   are real numbers, the kernel's two arrays are those of the reference's derivative. -/
module

public import proofs.«01_k».proof.Defs
public import proofs.«01_k».proof.Proof.Gen.Kernel4Ideal.Value
public import proofs.«01_k».proof.Proof.Gen.Reference4Ideal.Run
public import proofs.«01_k».proof.Proof.Inproj.Tiles

@[expose] public section

set_option maxRecDepth 16384

open Idealize.ShloMosaic

namespace Cert.Proof.Inproj

open Cert.Kernel4Ideal.Inproj Cert.Proof.Reals

/-- What the precondition says of the arguments. -/
theorem finite [Cert.Pre_finite_inproj.Facts] (m : (ℓ : Loc Cert.Kernel4Ideal.nD Cert.Kernel4Ideal.τ Cert.Kernel4Ideal.sig) → Buf (Elt Ideal) ℓ)
    (h : Cert.Pre_Kernel4Ideal_finite_inproj m) (c : Dev Cert.Kernel4Ideal.nD) : Finite m c := by
  have e := congrFun (h c) ix0
  obtain ⟨e, e3⟩ := and_one (show IntOp.andi _ _ = 1#1 from e)
  obtain ⟨e, e2⟩ := and_one (show IntOp.andi _ _ = 1#1 from e)
  obtain ⟨e0, e1⟩ := and_one (show IntOp.andi _ _ = 1#1 from e)
  exact ⟨isReal_of_all _ _ _ _ _ _ _ e0, isReal_of_all _ _ _ _ _ _ _ e1, isReal_of_all _ _ _ _ _ _ _ e2, isReal_of_all _ _ _ _ _ _ _ e3⟩

theorem algebraic [Cert.Pre_finite_inproj.Facts] : Cert.algebraic_Kernel4Ideal_Reference4Ideal_pre_finite_inproj := by
  pair_intro
  · run_from Cert.Kernel4Ideal.Value.run_blocks m g
  · run_from Cert.Reference4Ideal.Value.run m' g'
    · obtain ⟨h0, h1, h2, h3, h4⟩ := hagree c
      rw [Cert.Reference4Ideal.Read.val_main_v43_eq, h0, h1, h2, h3, h4]
      exact (final8 m c (finite m hpre c)).symm
    · exact (final9 m c).symm

end Cert.Proof.Inproj
-- ==== Proof.FfnB.Host.lean ====
/- What the call for the gradient of the feed-forward norm reads: the arrays its host lines prepare (the cotangent in tile
   order, the transposed weight, the matrix of the row order), and the blocks of 256 rows that a grid point sees. -/
module

public import proofs.«01_k».proof.Proof.Gen.Kernel5Ideal.Frame
public import proofs.«01_k».proof.Proof.Order
public import Idealize.ShloMosaic.Lib.Pipeline.ValueKit
public import Idealize.ShloMosaic.Lib.Claim

@[expose] public section

set_option maxRecDepth 16384

noncomputable section

namespace Cert.Kernel5Ideal.FfnB

open Cert.Kernel5Ideal Cert.Kernel5Ideal.Gen Idealize.ShloMosaic Idealize.ShloMosaic.TcCoe Idealize.SL.Sem
open Idealize.ShloMosaic.Pipeline (Dat)
open Cert.Proof.Order

variable (m : (ℓ : Loc nD τ sig) → Buf (Elt Ideal) ℓ)

/-- The arguments, by name. -/
abbrev aX (c : Dev nD) : FVec Ideal S1x4096x1024 .f32 := m ((c : Thread nD τ).loc main_arg0)
abbrev aGain (c : Dev nD) : FVec Ideal S1x1024 .f32 := m ((c : Thread nD τ).loc main_arg1)
abbrev aWup (c : Dev nD) : FVec Ideal S1x1024x5632 .f32 := m ((c : Thread nD τ).loc main_arg2)
abbrev aDu (c : Dev nD) : FVec Ideal S1x4096x5632 .f32 := m ((c : Thread nD τ).loc main_arg3)
abbrev aDy (c : Dev nD) : FVec Ideal S1x4096x1024 .f32 := m ((c : Thread nD τ).loc main_arg4)

/-- The block index of every window at every grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] ∧ t.val < 16 :=
  (by decide +kernel : ∀ t : Fin grid0.N, _)

/-- Row `i` of block `t` is row `256 t + i` of the array. -/
abbrev row (t : Fin cfg0.N) (i : Fin 256) : Fin 4096 := ⟨t.val * 256 + i.val, by have := (idx t).2.2.2.2.2.2.2.2.2; omega⟩

theorem V_du (c : Dev nD) (t : Fin cfg0.N) (i : Fin 256) (k : Fin 5632) :
    (V m c main_v4 : FVec Ideal S4096x5632 .bf16) (ix2 (row t i) k) = aDu m c (ix3 0 (row t (time i)) k) := by
  have e : V m c main_v4 = truncf .bf16 (shapeCast S4096x5632 (transpose S16x32x8x5632 [0, 2, 1, 3]
      (shapeCast S16x8x32x5632 (shapeCast S4096x5632 (aDu m c) shapeCasts_S1x4096x5632_S4096x5632) shapeCasts_S4096x5632_S16x8x32x5632)
      transposes_S16x8x32x5632_S16x32x8x5632_0_2_1_3) shapeCasts_S16x32x8x5632_S4096x5632) bitsLt_bf16_f32 := by
    entry_read; rfl
  rw [e]; pointwise
  exact congrArg (fun r => aDu m c (ix3 0 r k)) (Fin.ext (by dsimp only; omega))

theorem V_w (c : Dev nD) (k : Fin 5632) (j : Fin 1024) : (V m c main_v7 : FVec Ideal S5632x1024 .bf16) (ix2 k j) = aWup m c (ix3 0 j k) := by
  have e : V m c main_v7 = truncf .bf16 (transpose S5632x1024 [1, 0] (shapeCast S1024x5632 (aWup m c) shapeCasts_S1x1024x5632_S1024x5632) transposes_S1024x5632_S5632x1024_1_0) bitsLt_bf16_f32 := by
    entry_read; rfl
  rw [e]; pointwise
theorem V_x (c : Dev nD) : V m c main_v8 = shapeCast S4096x1024 (aX m c) shapeCasts_S1x4096x1024_S4096x1024 := by
  entry_read; rfl
theorem V_gain (c : Dev nD) : V m c main_arg1 = aGain m c := by
  entry_read; rfl
theorem V_dy (c : Dev nD) : V m c main_v9 = shapeCast S4096x1024 (aDy m c) shapeCasts_S1x4096x1024_S4096x1024 := by
  entry_read; rfl

/-- The time step of each tile row, as the host computes it. -/
theorem V_time (c : Dev nD) (k : Fin 256) : (V m c main_v16 : IVec S256 32) (ix1 k) = BitVec.ofNat 32 (32 * (k.val % 8) + k.val / 8) := by
  unfold V
  simp only [List.flatten_cons, List.flatten_nil, List.append_nil, List.cons_append, List.nil_append, StableHlo.after_cons, StableHlo.after_nil]
  after_results_simp
  simp only [StableHlo.TRef.ofBuf_toBuf, StableHlo.TRef.ofBuf, StableHlo.TRef.toBuf, cast_eq, id]
  pointwise
  exact time_word k

theorem V_pmt (c : Dev nD) (i k : Fin 256) : (V m c main_v23 : FVec Ideal S256x256 .bf16) (ix2 i k) = hit i k := by
  have e : V m c main_v23 = (uitofp .bf16 (transpose S256x256 [1, 0] (cmpi .eq
      (broadcastInDim S256x256 ![0, 1] bcast_S1x256_S256x256_0_1 (broadcastInDim S1x256 ![1] bcast_S256_S1x256_1 (iotaInDim S256 32 0)))
      (broadcastInDim S256x256 ![0, 1] bcast_S256x1_S256x256_0_1 (broadcastInDim S256x1 ![0] bcast_S256_S256x1_0 (V m c main_v16 : IVec S256 32))))
      transposes_S256x256_S256x256_1_0) : FVec Ideal S256x256 .bf16) := by
    unfold V
    simp only [List.flatten_cons, List.flatten_nil, List.append_nil, List.cons_append, List.nil_append, StableHlo.after_cons, StableHlo.after_nil]
    after_results_simp
  rw [e]; pointwise
  rw [V_time]
  exact hit_word i k

theorem blk_du (c : Dev nD) (t : Fin cfg0.N) (i : Fin 256) (k : Fin 5632) :
    (iblk m c 0 t : FVec Ideal S256x5632 .bf16) (ix2 i k) = aDu m c (ix3 0 (row t (time i)) k) := by
  have e : (iblk m c 0 t : FVec Ideal S256x5632 .bf16) (ix2 i k) = V m c main_v4 (ix2 (row t i) k) := by blk_ext [iblk, idx t]
  exact e.trans (V_du m c _ _ _)
theorem blk_w (c : Dev nD) (t : Fin cfg0.N) (k : Fin 5632) (j : Fin 1024) :
    (iblk m c 1 t : FVec Ideal S5632x1024 .bf16) (ix2 k j) = aWup m c (ix3 0 j k) := by
  have e : (iblk m c 1 t : FVec Ideal S5632x1024 .bf16) (ix2 k j) = V m c main_v7 (ix2 k j) := by blk_ext [iblk, idx t]
  exact e.trans (V_w m c _ _)
theorem blk_x (c : Dev nD) (t : Fin cfg0.N) (i : Fin 256) (j : Fin 1024) :
    (iblk m c 2 t : FVec Ideal S256x1024 .f32) (ix2 i j) = aX m c (ix3 0 (row t i) j) := by
  have e : (iblk m c 2 t : FVec Ideal S256x1024 .f32) (ix2 i j) = V m c main_v8 (ix2 (row t i) j) := by blk_ext [iblk, idx t]
  rw [e, V_x]; pointwise
theorem blk_gain (c : Dev nD) (t : Fin cfg0.N) (i : Fin 1) (j : Fin 1024) :
    (iblk m c 3 t : FVec Ideal S1x1024 .f32) (ix2 i j) = aGain m c (ix2 0 j) := by
  have e : (iblk m c 3 t : FVec Ideal S1x1024 .f32) (ix2 i j) = V m c main_arg1 (ix2 0 j) := by blk_ext [iblk, idx t]
  rw [e, V_gain]
theorem blk_dy (c : Dev nD) (t : Fin cfg0.N) (i : Fin 256) (j : Fin 1024) :
    (iblk m c 4 t : FVec Ideal S256x1024 .f32) (ix2 i j) = aDy m c (ix3 0 (row t i) j) := by
  have e : (iblk m c 4 t : FVec Ideal S256x1024 .f32) (ix2 i j) = V m c main_v9 (ix2 (row t i) j) := by blk_ext [iblk, idx t]
  rw [e, V_dy]; pointwise
theorem blk_pmt (c : Dev nD) (t : Fin cfg0.N) (i k : Fin 256) :
    (iblk m c 5 t : FVec Ideal S256x256 .bf16) (ix2 i k) = hit i k := by
  have e : (iblk m c 5 t : FVec Ideal S256x256 .bf16) (ix2 i k) = V m c main_v23 (ix2 i k) := by blk_ext [iblk, idx t]
  exact e.trans (V_pmt m c _ _)

end Cert.Kernel5Ideal.FfnB

end
-- ==== Proof.FfnB.Ref.lean ====
/- What the reference computes for the feed-forward norm and the up projection, through the norm's derivative. -/
module

public import proofs.«01_k».proof.Proof.Gen.Reference5Ideal.Read
public import Idealize.ShloMosaic.Lib.Pointwise
public import proofs.«01_k».proof.Proof.NormRef

@[expose] public section

set_option maxRecDepth 16384

noncomputable section

namespace Cert.Reference5Ideal.FfnB

open Cert.Reference5Ideal Cert.Reference5Ideal.Gen Cert.Reference5Ideal.Read Idealize.ShloMosaic Idealize.ShloMosaic.TcCoe Idealize.SL.Sem
open Cert.Proof.NormRef (xrow gxT dgnT)

variable (x0 : FVec Ideal S1x4096x1024 .f32) (x1 : FVec Ideal S1x1024 .f32) (x2 : FVec Ideal S1x1024x5632 .f32)
  (x3 : FVec Ideal S1x4096x5632 .f32) (x4 : FVec Ideal S1x4096x1024 .f32)

/-- The cotangent of the normalized activations. -/
def dh (r : Fin 4096) (j : Fin 1024) : EReal := ∑ k : Fin 5632, x3 (ix3 0 r k) * x2 (ix3 0 j k)

theorem dh_row (r : Fin 4096) : xrow (val_main_v19 (F := Ideal) x2 x3) r = dh x2 x3 r := by
  funext j
  show val_main_v19 (F := Ideal) x2 x3 (ix3 0 r j) = dh x2 x3 r j
  unfold dh
  pointwise [val_main_v19, val_main_v17]

/-- The reference's results are the norm's derivative at this cotangent. -/
theorem gx_norm : val_main_v43 (F := Ideal) x0 x1 x2 x3 x4 = gxT x0 x1 (val_main_v19 (F := Ideal) x2 x3) x4 := rfl
theorem gxb_norm : val_main_v45 (F := Ideal) x0 x1 x2 x3 x4 = truncf .bf16 (gxT x0 x1 (val_main_v19 (F := Ideal) x2 x3) x4) bitsLt_bf16_f32 := rfl
theorem dgn_norm : val_main_v42 (F := Ideal) x0 x2 x3 = dgnT x0 (val_main_v19 (F := Ideal) x2 x3) := rfl

end Cert.Reference5Ideal.FfnB

end
-- ==== Proof.FfnB.Tiles.lean ====
/- The three arrays the call for the feed-forward norm's gradient writes: the activations' gradient in both formats, one
   block of 256 rows at a grid point, and the gain's gradient, added up over the points. The product with the weight
   comes in tile order and is brought back to time order by a product with the order's matrix, in three parts. -/
module

public import proofs.«01_k».proof.Proof.FfnB.Host
public import proofs.«01_k».proof.Proof.FfnB.Ref
public import Idealize.ShloMosaic.Lib.Pointwise
public import Idealize.ShloMosaic.Lib.Pipeline.ReadBack

@[expose] public section

set_option maxRecDepth 16384

noncomputable section

namespace Cert.Kernel5Ideal.FfnB

open Cert.Kernel5Ideal Cert.Kernel5Ideal.Gen Idealize.ShloMosaic Idealize.ShloMosaic.TcCoe Idealize.SL.Sem
open Idealize.ShloMosaic.Pipeline (Dat)
open Cert.Reference5Ideal.Read
open Cert.Reference5Ideal.FfnB (dh dh_row gx_norm gxb_norm dgn_norm)
open Cert.Proof.NormRef (xrow gain gx_real dgn_eq)
open Cert.Proof.Reals Cert.Proof.Order

variable (m : (ℓ : Loc nD τ sig) → Buf (Elt Ideal) ℓ)

/-! The payloads over any blocks. -/

/-- The product with the weight, in tile order. -/
def prod (D : FVec Ideal S256x5632 .bf16) (W : FVec Ideal S5632x1024 .bf16) (k : Fin 256) (j : Fin 1024) : EReal := ∑ l : Fin 5632, D (ix2 k l) * W (ix2 l j)

theorem pay5_at (P : FVec Ideal S256x256 .bf16) (D : FVec Ideal S256x5632 .bf16) (W : FVec Ideal S5632x1024 .bf16) (i : Fin 256) (j : Fin 1024) :
    k0_pay5 (F := Ideal) P D W (ix2 i j)
      = ∑ k : Fin 256, P (ix2 i k) * prod D W k j + ∑ k : Fin 256, P (ix2 i k) * (prod D W k j - prod D W k j)
        + ∑ k : Fin 256, P (ix2 i k) * (prod D W k j - prod D W k j - (prod D W k j - prod D W k j)) := by
  unfold prod
  pointwise [k0_pay5]

theorem pay7_at (X : FVec Ideal S256x1024 .f32) (i : Fin 256) (j : Fin 1) : k0_pay7 (F := Ideal) X (ix2 i j) = root (fun k => X (ix2 i k)) := by
  unfold root meanSq
  pointwise [k0_pay7, k0_pay6]

theorem pay8_at (X : FVec Ideal S256x1024 .f32) (i : Fin 256) (j : Fin 1024) :
    k0_pay8 (F := Ideal) X (ix2 i j) = X (ix2 i j) * root (fun k => X (ix2 i k)) := by
  rw [← pay7_at X i 0]
  pointwise [k0_pay8, k0_pay6]

theorem pay9_at (P : FVec Ideal S256x256 .bf16) (D : FVec Ideal S256x5632 .bf16) (W : FVec Ideal S5632x1024 .bf16) (G : FVec Ideal S1x1024 .f32)
    (i : Fin 256) (j : Fin 1024) : k0_pay9 (F := Ideal) P D W G (ix2 i j) = k0_pay5 (F := Ideal) P D W (ix2 i j) * G (ix2 0 j) := by
  pointwise [k0_pay9]

theorem pay2_at (P : FVec Ideal S256x256 .bf16) (D : FVec Ideal S256x5632 .bf16) (W : FVec Ideal S5632x1024 .bf16) (G : FVec Ideal S1x1024 .f32)
    (X E : FVec Ideal S256x1024 .f32) (i : Fin 256) (j : Fin 1024) :
    k0_pay2 (F := Ideal) (k0_pay7 X) (k0_pay8 X) (k0_pay9 P D W G) (k0_pay10 P D W X G) E (ix2 i j)
      = E (ix2 i j) + root (fun k => X (ix2 i k)) * (k0_pay5 (F := Ideal) P D W (ix2 i j) * G (ix2 0 j) - X (ix2 i j) * root (fun k => X (ix2 i k))
          * Ideal.div (∑ k, k0_pay5 (F := Ideal) P D W (ix2 i k) * G (ix2 0 k) * (X (ix2 i k) * root (fun k => X (ix2 i k)))) (Ideal.ofBits .f32 0x44800000#32)) := by
  simp only [← pay8_at, ← pay9_at]
  rw [← pay7_at X i 0]
  pointwise [k0_pay2, k0_pay10]

theorem pay1_at (D X : FVec Ideal S256x1024 .f32) (P : FVec Ideal S1x1024 .f32) (a : Fin 1) (j : Fin 1024) :
    k0_pay1 (F := Ideal) D (k0_pay8 X) P (ix2 a j) = P (ix2 a j) + ∑ i : Fin 256, D (ix2 i j) * (X (ix2 i j) * root (fun k => X (ix2 i k))) := by
  simp only [← pay8_at]
  pointwise [k0_pay1]

/-- The cotangent of the normalized activations on a block of rows. -/
abbrev dhBlk (c : Dev nD) (t : Fin cfg0.N) : FVec Ideal S256x1024 .f32 := k0_pay5 (F := Ideal) (iblk m c 5 t) (iblk m c 0 t) (iblk m c 1 t)

/-- Its reference, at the arguments. -/
abbrev dH (c : Dev nD) (r : Fin 4096) (j : Fin 1024) : EReal := dh (aWup m c) (aDu m c) r j
abbrev xRow (c : Dev nD) (r : Fin 4096) : Fin 1024 → EReal := xrow (aX m c) r

/-- The arguments the gradient needs to be real numbers. -/
structure Finite (c : Dev nD) : Prop where
  x : ∀ i, IsReal (aX m c i)
  gain : ∀ i, IsReal (aGain m c i)
  wup : ∀ i, IsReal (aWup m c i)
  du : ∀ i, IsReal (aDu m c i)

theorem Finite.dh {m : (ℓ : Loc nD τ sig) → Buf (Elt Ideal) ℓ} {c : Dev nD} (h : Finite m c) (r : Fin 4096) (j : Fin 1024) : IsReal (dH m c r j) :=
  isReal_sum _ fun k => (h.du _).mul (h.wup _)

theorem prod_blk (c : Dev nD) (t : Fin cfg0.N) (k : Fin 256) (j : Fin 1024) : prod (iblk m c 0 t) (iblk m c 1 t) k j = dH m c (row t (time k)) j :=
  Finset.sum_congr rfl fun l _ => congrArg₂ (· * ·) (blk_du m c t k l) (blk_w m c t l j)

theorem dhBlk_at (c : Dev nD) (hf : Finite m c) (t : Fin cfg0.N) (i : Fin 256) (j : Fin 1024) : dhBlk m c t (ix2 i j) = dH m c (row t i) j := by
  refine (pay5_at _ _ _ i j).trans ?_
  simp only [prod_blk, blk_pmt, sum_time]
  rw [time_tile, (hf.dh _ _).sub_self, sub_zero, add_zero, add_zero]

theorem xBlk_row (c : Dev nD) (t : Fin cfg0.N) (i : Fin 256) :
    (fun k => (iblk m c 2 t : FVec Ideal S256x1024 .f32) (ix2 i k)) = xRow m c (row t i) :=
  funext fun k => blk_x m c t i k

abbrev refGx (c : Dev nD) : FVec Ideal S4096x1024 .f32 := val_main_v43 (F := Ideal) (aX m c) (aGain m c) (aWup m c) (aDu m c) (aDy m c)
abbrev refGxb (c : Dev nD) : FVec Ideal S4096x1024 .bf16 := val_main_v45 (F := Ideal) (aX m c) (aGain m c) (aWup m c) (aDu m c) (aDy m c)
abbrev refDgn (c : Dev nD) : FVec Ideal S1x1024 .f32 := val_main_v42 (F := Ideal) (aX m c) (aWup m c) (aDu m c)

/-- The block of the gradient a grid point writes. -/
abbrev gxBlk (c : Dev nD) (t : Fin cfg0.N) : FVec Ideal S256x1024 .f32 :=
  k0_pay2 (F := Ideal) (k0_pay7 (iblk m c 2 t)) (k0_pay8 (iblk m c 2 t)) (k0_pay9 (iblk m c 5 t) (iblk m c 0 t) (iblk m c 1 t) (iblk m c 3 t))
    (k0_pay10 (iblk m c 5 t) (iblk m c 0 t) (iblk m c 1 t) (iblk m c 2 t) (iblk m c 3 t)) (iblk m c 4 t)

theorem pay_gx (c : Dev nD) (h : Finite m c) (t : Fin cfg0.N) (i : Fin 256) (j : Fin 1024) : gxBlk m c t (ix2 i j) = refGx m c (ix2 (row t i) j) := by
  refine (pay2_at _ _ _ _ _ _ i j).trans ?_
  rw [xBlk_row]
  simp only [dhBlk_at m c h, blk_x, blk_gain, blk_dy]
  rw [refGx, gx_norm, gx_real _ _ _ _ _ _ (fun k => h.x _) (fun k => h.gain _) (fun k => by rw [dh_row]; exact h.dh _ _), dh_row]
  rfl

theorem final6 (c : Dev nD) (hf : Finite m c) : (dats m 0 c).arrAt 6 cfg0.N = refGx m c := by
  refine (dats m 0 c).arrAt_eq_of_covers 6 _ (by decide +kernel) fun t _ y => ?_
  blk_simp
  rw [after0_6]
  have key : ∀ y : S256x1024.Idx, gxBlk m c t y = refGx m c (((View.whole main_v24_0).slice (win0_6.rect t)).emb y) := by
    intro y
    idx_vars y
    refine (pay_gx m c hf t _ _).trans ?_
    blk_ext [idx t]
  by_cases h : t.val % 16 = 0
  · rw [outsAt0_A m c t h]; frame_out; exact key y
  · rw [outsAt0_B m c t h]; frame_out; exact key y

theorem final7 (c : Dev nD) (hf : Finite m c) : (dats m 0 c).arrAt 7 cfg0.N = refGxb m c := by
  refine (dats m 0 c).arrAt_eq_of_covers 7 _ (by decide +kernel) fun t _ y => ?_
  blk_simp
  rw [after0_7]
  have key : ∀ y : S256x1024.Idx, gxBlk m c t y = refGxb m c (((View.whole main_v24_1).slice (win0_7.rect t)).emb y) := by
    intro y
    idx_vars y
    refine (pay_gx m c hf t _ _).trans ?_
    rw [refGxb, gxb_norm, refGx, gx_norm]
    blk_ext [idx t]
  by_cases h : t.val % 16 = 0
  · rw [outsAt0_A m c t h]; frame_out; exact key y
  · rw [outsAt0_B m c t h]; frame_out; exact key y

/-- What a grid point adds to the gain's gradient. -/
def addGn (c : Dev nD) (t : Fin cfg0.N) (y : S1x1024.Idx) : EReal :=
  ∑ i : Fin 256, dH m c (row t i) (y 1) * (xRow m c (row t i) (y 1) * root (xRow m c (row t i)))

theorem addGn_at (c : Dev nD) (t : Fin cfg0.N) (a : Fin 1) (b : Fin 1024) :
    addGn m c t (ix2 a b) = ∑ i : Fin 256, dH m c (row t i) b * (xRow m c (row t i) b * root (xRow m c (row t i))) := rfl

theorem pay_gn (c : Dev nD) (hf : Finite m c) (t : Fin cfg0.N) (P : FVec Ideal S1x1024 .f32) (y : S1x1024.Idx) :
    k0_pay1 (F := Ideal) (dhBlk m c t) (k0_pay8 (iblk m c 2 t)) P y = P y + addGn m c t y := by
  idx_vars y
  rw [addGn_at]
  refine (pay1_at _ _ P _ _).trans (congrArg (P _ + ·) (Finset.sum_congr rfl fun i _ => ?_))
  rw [xBlk_row]
  exact congrArg₂ (· * ·) (dhBlk_at m c hf t i _) (congrArg (· * _) (blk_x m c t i _))

theorem zero_gn (y : S1x1024.Idx) : k0_pay4 (F := Ideal) y = 0 := by idx_vars y; pointwise [k0_pay4]

/-- The gain's gradient the grid point before `t` left. -/
abbrev prev (c : Dev nD) (t : Fin cfg0.N) := (outsAt0 m c (t.val - 1) (Nat.lt_of_le_of_lt (Nat.sub_le _ _) t.isLt)).2.2

theorem gn_first (c : Dev nD) (hf : Finite m c) (t : Fin cfg0.N) (h : t.val % 16 = 0) (y : S1x1024.Idx) :
    (outsAt0 m c t.val t.isLt).2.2 y = 0 + addGn m c t y := by
  rw [outsAt0_A m c t h]; frame_out
  rw [← zero_gn y]
  exact pay_gn m c hf t _ y
theorem gn_next (c : Dev nD) (hf : Finite m c) (t : Fin cfg0.N) (h : ¬ t.val % 16 = 0) (y : S1x1024.Idx) :
    (outsAt0 m c t.val t.isLt).2.2 y = prev m c t y + addGn m c t y := by
  rw [outsAt0_B m c t h]; frame_out
  exact pay_gn m c hf t _ y

/-- A sum over the points and the rows of a block is the sum over all rows. -/
theorem sum_rows (f : Fin 4096 → EReal) : ∑ t : Fin cfg0.N, ∑ i : Fin 256, f (row t i) = ∑ r : Fin 4096, f r := by
  refine Fin.sum_mul_add_congr (S := cfg0.N) (n := 256) (L := 4096) fun t i h => rfl

theorem gn_sum (c : Dev nD) (j : S1x1024.Idx) : ∑ p, addGn m c p j = refDgn m c j := by
  idx_vars j
  obtain rfl : j0 = 0 := Subsingleton.elim _ _
  simp only [addGn_at]
  refine (sum_rows (fun r => dH m c r j1 * (xRow m c r j1 * root (xRow m c r)))).trans ?_
  rw [refDgn, dgn_norm, dgn_eq]
  simp only [dh_row]

theorem final8 (c : Dev nD) (hf : Finite m c) : (dats m 0 c).arrAt 8 cfg0.N = refDgn m c := by
  refine (dats m 0 c).arrAt_eq_of_after_last 8 t0_15 (by decide +kernel) _ fun j => ?_
  blk_simp
  rw [after0_8, Pipeline.eq_sum_fin_of_reset_step_apply_last (fun n h => (outsAt0 m c n h).2.2) 16 (fun _ => 0) (addGn m c)
    (gn_first m c hf) (gn_next m c hf) (le_of_eq N_0) t0_15 rfl j, zero_add]
  exact gn_sum m c j

end Cert.Kernel5Ideal.FfnB

end
-- ==== Proof.FfnB.Claim.lean ====
/- The backward pass of the feed-forward block's up projection and norm: where the activations, the gain, the weight and
   the cotangent are real numbers, the kernel's three arrays are those of the reference's derivative. -/
module

public import proofs.«01_k».proof.Defs
public import proofs.«01_k».proof.Proof.Gen.Kernel5Ideal.Value
public import proofs.«01_k».proof.Proof.Gen.Reference5Ideal.Run
public import proofs.«01_k».proof.Proof.FfnB.Tiles

@[expose] public section

set_option maxRecDepth 16384

open Idealize.ShloMosaic

namespace Cert.Proof.FfnB

open Cert.Kernel5Ideal.FfnB Cert.Proof.Reals

/-- What the precondition says of the arguments. -/
theorem finite [Cert.Pre_finite_ffn_b.Facts] (m : (ℓ : Loc Cert.Kernel5Ideal.nD Cert.Kernel5Ideal.τ Cert.Kernel5Ideal.sig) → Buf (Elt Ideal) ℓ)
    (h : Cert.Pre_Kernel5Ideal_finite_ffn_b m) (c : Dev Cert.Kernel5Ideal.nD) : Finite m c := by
  have e := congrFun (h c) ix0
  obtain ⟨e, e3⟩ := and_one (show IntOp.andi _ _ = 1#1 from e)
  obtain ⟨e, e2⟩ := and_one (show IntOp.andi _ _ = 1#1 from e)
  obtain ⟨e0, e1⟩ := and_one (show IntOp.andi _ _ = 1#1 from e)
  exact ⟨isReal_of_all _ _ _ _ _ _ _ e0, isReal_of_all _ _ _ _ _ _ _ e1, isReal_of_all _ _ _ _ _ _ _ e2, isReal_of_all _ _ _ _ _ _ _ e3⟩

theorem algebraic [Cert.Pre_finite_ffn_b.Facts] : Cert.algebraic_Kernel5Ideal_Reference5Ideal_pre_finite_ffn_b := by
  pair_intro
  · run_from Cert.Kernel5Ideal.Value.run_blocks m g
  · run_from Cert.Reference5Ideal.Value.run m' g'
    · obtain ⟨h0, h1, h2, h3, h4⟩ := hagree c
      rw [Cert.Reference5Ideal.Read.val_main_v43_eq, h0, h1, h2, h3, h4]
      exact (final6 m c (finite m hpre c)).symm
    · obtain ⟨h0, h1, h2, h3, h4⟩ := hagree c
      rw [Cert.Reference5Ideal.Read.val_main_v45_eq, h0, h1, h2, h3, h4]
      exact (final7 m c (finite m hpre c)).symm
    · exact (final8 m c (finite m hpre c)).symm

end Cert.Proof.FfnB
-- ==== Proof.FfnF.Spec.lean ====
/- The feed-forward forward call as sums over columns: the normalized activations, their product with the first weight, the
   convolution and the gate of the product, the second product, and the distance from the target. All as functions of whole numbers. -/
module

public import proofs.«01_k».proof.Proof.FfnA.Spec

@[expose] public section

noncomputable section

open Idealize.ShloMosaic
open Cert.Proof.Reals

namespace Cert.Proof.ForwardSpec

/-- The arguments: activations, the norm's gain, the first weight, the convolution's taps and bias, the second weight, the target. -/
structure Args where
  x : (⟨3, ![1, 4096, 1024]⟩ : Shape).Idx → EReal
  g : (⟨2, ![1, 1024]⟩ : Shape).Idx → EReal
  wu : (⟨3, ![1, 1024, 5632]⟩ : Shape).Idx → EReal
  cw : (⟨3, ![1, 3, 5632]⟩ : Shape).Idx → EReal
  cb : (⟨2, ![1, 5632]⟩ : Shape).Idx → EReal
  wd : (⟨3, ![1, 2816, 1024]⟩ : Shape).Idx → EReal
  tg : (⟨3, ![1, 4096, 1024]⟩ : Shape).Idx → EReal

variable (a : Args)

/-- One time step of the activations, and its normalized form. -/
def Args.row (n : Fin 4096) : Fin 1024 → EReal := fun j => a.x (ix3 0 n j)
def Args.hAt (n : Fin 4096) (j : Fin 1024) : EReal := a.x (ix3 0 n j) * root (a.row n) * a.g (ix2 0 j)
def Args.hN (n j : Nat) : EReal := if h : n < 4096 ∧ j < 1024 then a.hAt ⟨n, h.1⟩ ⟨j, h.2⟩ else 0
/-- The first weight, by column and row. -/
def Args.wuN (k j : Nat) : EReal := if h : k < 5632 ∧ j < 1024 then a.wu (ix3 0 ⟨j, h.2⟩ ⟨k, h.1⟩) else 0
/-- The product. -/
def Args.uAt (n : Fin 4096) (k : Fin 5632) : EReal := ∑ j : Fin 1024, a.hAt n j * a.wu (ix3 0 j k)
/-- What the convolution and the gate read. -/
abbrev Args.base : FfnSpec.Args := ⟨fun y => a.uAt (y 1) (y 2), a.cw, a.cb, a.wd, fun _ => 0⟩
/-- The second product, and the distance from the target. -/
def Args.dN (n : Nat) (j : Nat) : EReal := ∑ f : Fin 2816, a.base.act n f.val * a.base.wdN f.val j
def Args.err (n : Fin 4096) (j : Fin 1024) : EReal := a.x (ix3 0 n j) + a.dN n.val j.val - a.tg (ix3 0 n j)

theorem hN_at (n : Fin 4096) (j : Fin 1024) : a.hN n.val j.val = a.hAt n j := dif_pos ⟨n.isLt, j.isLt⟩
theorem wuN_at (k : Fin 5632) (j : Fin 1024) : a.wuN k.val j.val = a.wu (ix3 0 j k) := dif_pos ⟨k.isLt, j.isLt⟩
theorem base_uN (n : Fin 4096) (k : Fin 5632) : a.base.uN n.val k.val = a.uAt n k := FfnSpec.uN_at a.base n k

/-! A row's normalized form is real even where the row isn't: an infinity among the squares makes the factor zero. -/

theorem square_nonneg (x : EReal) : 0 ≤ x * x := by
  rcases le_total 0 x with h | h
  · exact EReal.mul_nonneg_iff.2 (.inl ⟨h, h⟩)
  · exact EReal.mul_nonneg_iff.2 (.inr ⟨h, h⟩)
theorem square_top {x : EReal} (h : ¬ IsReal x) : x * x = ⊤ := by
  induction x with
  | bot => exact EReal.bot_mul_bot
  | top => exact EReal.top_mul_top
  | coe r => exact absurd ⟨r, rfl⟩ h
theorem root_top (x : Fin 1024 → EReal) (k : Fin 1024) (h : ¬ IsReal (x k)) : root x = 0 := by
  have n : (∑ l ∈ Finset.univ.erase k, x l * x l) ≠ ⊥ :=
    fun e => absurd (Finset.sum_nonneg fun l (_ : l ∈ Finset.univ.erase k) => square_nonneg (x l)) (by rw [e]; simp)
  have s : ∑ l, x l * x l = ⊤ := by
    rw [← Finset.add_sum_erase _ _ (Finset.mem_univ k), square_top h, EReal.top_add_of_ne_bot n]
  have e : meanSq x = ⊤ := by
    unfold meanSq
    rw [s, ofBits_1024, ofBits_eps, Ideal.div_coe (by norm_num : (1024 : ℝ) ≠ 0), EReal.top_mul_coe_of_pos (by norm_num), EReal.top_add_coe]
  rw [root, e]; rfl
theorem isReal_norm (x : Fin 1024 → EReal) (k : Fin 1024) : IsReal (x k * root x) := by
  by_cases h : ∀ l, IsReal (x l)
  · exact (h k).mul (isReal_root x h)
  · obtain ⟨l, hl⟩ := not_forall.1 h
    rw [root_top x l hl, mul_zero]
    exact isReal_zero

/-- The arguments the call needs to be real numbers: all but the activations and the target. -/
structure Finite : Prop where
  g : ∀ i, IsReal (a.g i)
  wu : ∀ i, IsReal (a.wu i)
  cw : ∀ i, IsReal (a.cw i)
  cb : ∀ i, IsReal (a.cb i)
  wd : ∀ i, IsReal (a.wd i)

theorem Finite.hAt {a : Args} (h : Finite a) (n : Fin 4096) (j : Fin 1024) : IsReal (a.hAt n j) := (isReal_norm (a.row n) j).mul (h.g _)
theorem Finite.uAt {a : Args} (h : Finite a) (n : Fin 4096) (k : Fin 5632) : IsReal (a.uAt n k) := isReal_sum _ fun j => (h.hAt n j).mul (h.wu _)

end Cert.Proof.ForwardSpec

end
-- ==== Proof.FfnF.Host.lean ====
/- What the feed-forward forward call reads: the arrays its host lines prepare, and the blocks that a grid point sees. The grid runs
   through the blocks of 256 time steps from the first to the last. -/
module

public import proofs.«01_k».proof.Proof.Gen.Kernel6Ideal.Frame
public import proofs.«01_k».proof.Proof.Order
public import proofs.«01_k».proof.Proof.Pool.Slab
public import proofs.«01_k».proof.Proof.FfnF.Spec
public import Idealize.ShloMosaic.Lib.Pipeline.ValueKit
public import Idealize.ShloMosaic.Lib.Claim

@[expose] public section

set_option maxRecDepth 16384

noncomputable section

namespace Cert.Kernel6Ideal.FfnF

open Cert.Kernel6Ideal Cert.Kernel6Ideal.Gen Idealize.ShloMosaic Idealize.ShloMosaic.TcCoe Idealize.SL.Sem
open Cert.Proof.Order Cert.Proof.Slab Cert.Proof.ForwardSpec

variable (m : (ℓ : Loc nD τ sig) → Buf (Elt Ideal) ℓ)

/-- The arguments, by name. -/
abbrev gX (c : Dev nD) : FVec Ideal S1x4096x1024 .f32 := m ((c : Thread nD τ).loc main_arg0)
abbrev gGain (c : Dev nD) : FVec Ideal S1x1024 .f32 := m ((c : Thread nD τ).loc main_arg1)
abbrev gWu (c : Dev nD) : FVec Ideal S1x1024x5632 .f32 := m ((c : Thread nD τ).loc main_arg2)
abbrev gCw (c : Dev nD) : FVec Ideal S1x3x5632 .f32 := m ((c : Thread nD τ).loc main_arg3)
abbrev gCb (c : Dev nD) : FVec Ideal S1x5632 .f32 := m ((c : Thread nD τ).loc main_arg4)
abbrev gWd (c : Dev nD) : FVec Ideal S1x2816x1024 .f32 := m ((c : Thread nD τ).loc main_arg5)
abbrev gTg (c : Dev nD) : FVec Ideal S1x4096x1024 .f32 := m ((c : Thread nD τ).loc main_arg6)

/-- The arguments as functions of whole numbers. -/
abbrev args (c : Dev nD) : Args := ⟨gX m c, gGain m c, gWu m c, gCw m c, gCb m c, gWd m c, gTg m c⟩

/-- The block index of every window at every grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0]
    ∧ win0_13.index t = ![t.val, 0] ∧ win0_14.index t = ![0, 0] ∧ t.val < 16 :=
  (by decide +kernel : ∀ t : Fin grid0.N, _)

theorem lt16 (t : Fin cfg0.N) : t.val < 16 := (idx t).2.2.2.2.2.2.2.2.2.2.2.2.2.2.2

/-- Row `i` of block `t` is row `256 t + i` of the array. -/
abbrev row (t : Fin cfg0.N) (i : Fin 256) : Fin 4096 := ⟨t.val * 256 + i.val, by have := lt16 t; omega⟩

theorem V_x (c : Dev nD) : V m c main_v0 = shapeCast S4096x1024 (gX m c) shapeCasts_S1x4096x1024_S4096x1024 := by
  entry_read; rfl
theorem V_gain (c : Dev nD) : V m c main_arg1 = gGain m c := by
  entry_read; rfl
theorem V_wu (c : Dev nD) : V m c main_v3 = truncf .bf16 (transpose S5632x1024 [1, 0] (shapeCast S1024x5632 (gWu m c) shapeCasts_S1x1024x5632_S1024x5632) transposes_S1024x5632_S5632x1024_1_0) bitsLt_bf16_f32 := by
  entry_read; rfl
theorem V_cw (c : Dev nD) : V m c main_v4 = shapeCast S3x5632 (gCw m c) shapeCasts_S1x3x5632_S3x5632 := by
  entry_read; rfl
theorem V_cb (c : Dev nD) : V m c main_arg4 = gCb m c := by
  entry_read; rfl
theorem V_wd (c : Dev nD) : V m c main_v6 = truncf .bf16 (shapeCast S2816x1024 (gWd m c) shapeCasts_S1x2816x1024_S2816x1024) bitsLt_bf16_f32 := by
  entry_read; rfl
theorem V_tg (c : Dev nD) : V m c main_v7 = shapeCast S4096x1024 (gTg m c) shapeCasts_S1x4096x1024_S4096x1024 := by
  entry_read; rfl

/-- The time step of each tile row, as the host computes it. -/
theorem V_time (c : Dev nD) (k : Fin 256) : (V m c main_v14 : IVec S256 32) (ix1 k) = BitVec.ofNat 32 (32 * (k.val % 8) + k.val / 8) := by
  unfold V V0
  simp only [List.flatten_cons, List.flatten_nil, List.append_nil, List.cons_append, List.nil_append, StableHlo.after_cons, StableHlo.after_nil]
  after_results_simp
  simp only [StableHlo.TRef.ofBuf_toBuf, StableHlo.TRef.ofBuf, StableHlo.TRef.toBuf, cast_eq, id]
  pointwise
  exact time_word k

/-- The comparison of the tile rows' time steps with all time steps. -/
def meets (c : Dev nD) : IVec S256x256 1 := cmpi .eq
      (broadcastInDim S256x256 ![0, 1] bcast_S1x256_S256x256_0_1 (broadcastInDim S1x256 ![1] bcast_S256_S1x256_1 (iotaInDim S256 32 0)))
      (broadcastInDim S256x256 ![0, 1] bcast_S256x1_S256x256_0_1 (broadcastInDim S256x1 ![0] bcast_S256_S256x1_0 (V m c main_v14 : IVec S256 32)))

theorem V_pm (c : Dev nD) (k i : Fin 256) : (V m c main_v19 : FVec Ideal S256x256 .bf16) (ix2 k i) = hit i k := by
  have e : V m c main_v19 = (uitofp .bf16 (meets m c) : FVec Ideal S256x256 .bf16) := by
    unfold meets V V0
    simp only [List.flatten_cons, List.flatten_nil, List.append_nil, List.cons_append, List.nil_append, StableHlo.after_cons, StableHlo.after_nil]
    after_results_simp
  rw [e]; pointwise [meets]
  rw [V_time]
  exact hit_word i k

theorem V_pmt (c : Dev nD) (i k : Fin 256) : (V m c main_v21 : FVec Ideal S256x256 .bf16) (ix2 i k) = hit i k := by
  have e : V m c main_v21 = (uitofp .bf16 (transpose S256x256 [1, 0] (meets m c) transposes_S256x256_S256x256_1_0) : FVec Ideal S256x256 .bf16) := by
    unfold meets V V0
    simp only [List.flatten_cons, List.flatten_nil, List.append_nil, List.cons_append, List.nil_append, StableHlo.after_cons, StableHlo.after_nil]
    after_results_simp
  rw [e]; pointwise [meets]
  rw [V_time]
  exact hit_word i k

end Cert.Kernel6Ideal.FfnF

end
-- ==== Proof.FfnF.Blocks.lean ====
/- The blocks of one grid point of the feed-forward forward call, as blocks of functions of the time step and the column. -/
module

public import proofs.«01_k».proof.Proof.FfnF.Host
public import proofs.«01_k».proof.Proof.FfnA.Tiles

@[expose] public section

set_option maxRecDepth 16384

noncomputable section

namespace Cert.Kernel6Ideal.FfnF

open Cert.Kernel6Ideal Cert.Kernel6Ideal.Gen Idealize.ShloMosaic Idealize.ShloMosaic.TcCoe Idealize.SL.Sem
open Cert.Proof.Order Cert.Proof.Slab Cert.Proof.ForwardSpec
open Cert.Kernel3Ideal.FfnA (at_ uX cX aX bX ld_w ld_f)

variable (m : (ℓ : Loc nD τ sig) → Buf (Elt Ideal) ℓ)

/-! Where a window's block stands in its array, whatever the array holds. -/

section
variable (c : Dev nD) (W : (b : Ref sig .tc) → Buf (Elt Ideal) ((c : Thread nD τ).loc b)) (t : Fin cfg0.N)
theorem rd0 (x : Fin 256) (y : Fin 1024) :
    (((cfg0.win 0).blk t).view.read (Elt Ideal) (W (Pipeline.arrRef spec0 0)) : FVec Ideal S256x1024 .f32) (ix2 x y) = (W main_v0 : FVec Ideal S4096x1024 .f32) (ix2 (row t x) y) := by
  blk_ext [idx t]
theorem rd1 (x : Fin 1) (y : Fin 1024) :
    (((cfg0.win 1).blk t).view.read (Elt Ideal) (W (Pipeline.arrRef spec0 1)) : FVec Ideal S1x1024 .f32) (ix2 x y) = (W main_arg1 : FVec Ideal S1x1024 .f32) (ix2 0 y) := by
  blk_ext [idx t]
theorem rd2 (x : Fin 5632) (y : Fin 1024) :
    (((cfg0.win 2).blk t).view.read (Elt Ideal) (W (Pipeline.arrRef spec0 2)) : FVec Ideal S5632x1024 .bf16) (ix2 x y) = (W main_v3 : FVec Ideal S5632x1024 .bf16) (ix2 x y) := by
  blk_ext [idx t]
theorem rd3 (x : Fin 3) (y : Fin 5632) :
    (((cfg0.win 3).blk t).view.read (Elt Ideal) (W (Pipeline.arrRef spec0 3)) : FVec Ideal S3x5632 .f32) (ix2 x y) = (W main_v4 : FVec Ideal S3x5632 .f32) (ix2 x y) := by
  blk_ext [idx t]
theorem rd4 (x : Fin 1) (y : Fin 5632) :
    (((cfg0.win 4).blk t).view.read (Elt Ideal) (W (Pipeline.arrRef spec0 4)) : FVec Ideal S1x5632 .f32) (ix2 x y) = (W main_arg4 : FVec Ideal S1x5632 .f32) (ix2 0 y) := by
  blk_ext [idx t]
theorem rd5 (x : Fin 2816) (y : Fin 1024) :
    (((cfg0.win 5).blk t).view.read (Elt Ideal) (W (Pipeline.arrRef spec0 5)) : FVec Ideal S2816x1024 .bf16) (ix2 x y) = (W main_v6 : FVec Ideal S2816x1024 .bf16) (ix2 x y) := by
  blk_ext [idx t]
theorem rd6 (x : Fin 256) (y : Fin 1024) :
    (((cfg0.win 6).blk t).view.read (Elt Ideal) (W (Pipeline.arrRef spec0 6)) : FVec Ideal S256x1024 .f32) (ix2 x y) = (W main_v7 : FVec Ideal S4096x1024 .f32) (ix2 (row t x) y) := by
  blk_ext [idx t]
theorem rd7 (x y : Fin 256) :
    (((cfg0.win 7).blk t).view.read (Elt Ideal) (W (Pipeline.arrRef spec0 7)) : FVec Ideal S256x256 .bf16) (ix2 x y) = (W main_v19 : FVec Ideal S256x256 .bf16) (ix2 x y) := by
  blk_ext [idx t]
theorem rd8 (x y : Fin 256) :
    (((cfg0.win 8).blk t).view.read (Elt Ideal) (W (Pipeline.arrRef spec0 8)) : FVec Ideal S256x256 .bf16) (ix2 x y) = (W main_v21 : FVec Ideal S256x256 .bf16) (ix2 x y) := by
  blk_ext [idx t]
end

/-! What the windows hold. -/

theorem blk_x (c : Dev nD) (t : Fin cfg0.N) (i : Fin 256) (j : Fin 1024) : (iblk m c 0 t : FVec Ideal S256x1024 .f32) (ix2 i j) = gX m c (ix3 0 (row t i) j) := by
  refine (rd0 c (V m c) t i j).trans ?_
  rw [V_x]; pointwise
theorem blk_gain (c : Dev nD) (t : Fin cfg0.N) (i : Fin 1) (j : Fin 1024) : (iblk m c 1 t : FVec Ideal S1x1024 .f32) (ix2 i j) = gGain m c (ix2 0 j) := by
  refine (rd1 c (V m c) t i j).trans ?_
  rw [V_gain]
theorem blk_tg (c : Dev nD) (t : Fin cfg0.N) (i : Fin 256) (j : Fin 1024) : (iblk m c 6 t : FVec Ideal S256x1024 .f32) (ix2 i j) = gTg m c (ix3 0 (row t i) j) := by
  refine (rd6 c (V m c) t i j).trans ?_
  rw [V_tg]; pointwise
theorem blk_pm (c : Dev nD) (t : Fin cfg0.N) (k i : Fin 256) : (iblk m c 7 t : FVec Ideal S256x256 .bf16) (ix2 k i) = hit i k :=
  (rd7 c (V m c) t k i).trans (V_pm m c k i)
theorem blk_pmt (c : Dev nD) (t : Fin cfg0.N) (i k : Fin 256) : (iblk m c 8 t : FVec Ideal S256x256 .bf16) (ix2 i k) = hit i k :=
  (rd8 c (V m c) t i k).trans (V_pmt m c i k)

theorem ld_t (B : FVec Ideal S3x5632 .f32) (o : Nat) (ho : o + 1408 ≤ 5632)
    (i : ∀ x, (![0, o] : Fin 2 → Nat) x + (![3, 1408] : Fin 2 → Nat) x ≤ S3x5632.size x) (r : Fin 3) (d : Fin 1408) :
    (View.ld (Val := Elt Ideal) (e' := .f32) B (Rect.unit (s := S3x5632) ![0, o] ![3, 1408] i) : FVec Ideal S3x1408 .f32) (ix2 r d) = B (ix2 r ⟨o + d.val, by omega⟩) := by
  pointwise
theorem ld_b (B : FVec Ideal S1x5632 .f32) (o : Nat) (ho : o + 1408 ≤ 5632)
    (i : ∀ x, (![0, o] : Fin 2 → Nat) x + (![1, 1408] : Fin 2 → Nat) x ≤ S1x5632.size x) (r : Fin 1) (d : Fin 1408) :
    (View.ld (Val := Elt Ideal) (e' := .f32) B (Rect.unit (s := S1x5632) ![0, o] ![1, 1408] i) : FVec Ideal S1x1408 .f32) (ix2 r d) = B (ix2 r ⟨o + d.val, by omega⟩) := by
  obtain rfl : r = 0 := Subsingleton.elim _ _
  pointwise
theorem ld_u (B : FVec Ideal S5632x1024 .bf16) (o : Nat) (ho : o + 1408 ≤ 5632)
    (i : ∀ x, (![o, 0] : Fin 2 → Nat) x + (![1408, 1024] : Fin 2 → Nat) x ≤ S5632x1024.size x) (f : Fin 1408) (j : Fin 1024) :
    (View.ld (Val := Elt Ideal) (e' := .bf16) B (Rect.unit (s := S5632x1024) ![o, 0] ![1408, 1024] i) : FVec Ideal S1408x1024 .bf16) (ix2 f j) = B (ix2 ⟨o + f.val, by omega⟩ j) := by
  pointwise

theorem blk_u (c : Dev nD) (t : Fin cfg0.N) (o : Nat)
    (i : ∀ x, (![o, 0] : Fin 2 → Nat) x + (![1408, 1024] : Fin 2 → Nat) x ≤ S5632x1024.size x) :
    (View.ld (iblk m c 2 t) (Rect.unit (s := S5632x1024) ![o, 0] ![1408, 1024] i) : FVec Ideal S1408x1024 .bf16) = slab (φ := .bf16) 1408 1024 (args m c).wuN o 0 := by
  have ho : o + 1408 ≤ 5632 := i 0
  funext y
  idx_vars y
  refine (ld_u _ o ho i y0 y1).trans ?_
  have e2 : (iblk m c 2 t : FVec Ideal S5632x1024 .bf16) (ix2 ⟨o + y0.val, by omega⟩ y1) = (V m c main_v3 : FVec Ideal S5632x1024 .bf16) (ix2 ⟨o + y0.val, by omega⟩ y1) := rd2 c (V m c) t _ _
  have e3 : (V m c main_v3 : FVec Ideal S5632x1024 .bf16) (ix2 ⟨o + y0.val, by omega⟩ y1) = gWu m c (ix3 0 y1 ⟨o + y0.val, by omega⟩) := by
    rw [V_wu]; pointwise
  rw [e2, e3, slab_at]
  refine (wuN_at (args m c) _ _).symm.trans ?_
  refine congrArg₂ (args m c).wuN rfl ?_
  omega
theorem blk_w (c : Dev nD) (t : Fin cfg0.N) (o : Nat)
    (i : ∀ x, (![0, o] : Fin 2 → Nat) x + (![3, 1408] : Fin 2 → Nat) x ≤ S3x5632.size x) :
    (View.ld (iblk m c 3 t) (Rect.unit (s := S3x5632) ![0, o] ![3, 1408] i) : FVec Ideal S3x1408 .f32) = slab (φ := .f32) 3 1408 (args m c).base.w 0 o := by
  have ho : o + 1408 ≤ 5632 := i 1
  funext y
  idx_vars y
  refine (ld_t _ o ho i y0 y1).trans ?_
  have e2 : (iblk m c 3 t : FVec Ideal S3x5632 .f32) (ix2 y0 ⟨o + y1.val, by omega⟩) = (V m c main_v4 : FVec Ideal S3x5632 .f32) (ix2 y0 ⟨o + y1.val, by omega⟩) := rd3 c (V m c) t _ _
  have e3 : (V m c main_v4 : FVec Ideal S3x5632 .f32) (ix2 y0 ⟨o + y1.val, by omega⟩) = gCw m c (ix3 0 y0 ⟨o + y1.val, by omega⟩) := by
    rw [V_cw]; pointwise
  rw [e2, e3, slab_at, Nat.zero_add]
  exact (Cert.Proof.FfnSpec.w_at (args m c).base y0 ⟨o + y1.val, by omega⟩).symm
theorem blk_b (c : Dev nD) (t : Fin cfg0.N) (o : Nat)
    (i : ∀ x, (![0, o] : Fin 2 → Nat) x + (![1, 1408] : Fin 2 → Nat) x ≤ S1x5632.size x) :
    (View.ld (iblk m c 4 t) (Rect.unit (s := S1x5632) ![0, o] ![1, 1408] i) : FVec Ideal S1x1408 .f32) = slab (φ := .f32) 1 1408 (fun _ k => (args m c).base.b k) 0 o := by
  have ho : o + 1408 ≤ 5632 := i 1
  funext y
  idx_vars y
  refine (ld_b _ o ho i y0 y1).trans ?_
  have e2 : (iblk m c 4 t : FVec Ideal S1x5632 .f32) (ix2 y0 ⟨o + y1.val, by omega⟩) = (V m c main_arg4 : FVec Ideal S1x5632 .f32) (ix2 0 ⟨o + y1.val, by omega⟩) := rd4 c (V m c) t _ _
  rw [e2, V_cb, slab_at]
  exact (Cert.Proof.FfnSpec.b_at (args m c).base ⟨o + y1.val, by omega⟩).symm
theorem blk_f (c : Dev nD) (t : Fin cfg0.N) (o : Nat)
    (i : ∀ x, (![o, 0] : Fin 2 → Nat) x + (![1408, 1024] : Fin 2 → Nat) x ≤ S2816x1024.size x) :
    (View.ld (iblk m c 5 t) (Rect.unit (s := S2816x1024) ![o, 0] ![1408, 1024] i) : FVec Ideal S1408x1024 .bf16) = slab (φ := .bf16) 1408 1024 (args m c).base.wdN o 0 := by
  have ho : o + 1408 ≤ 2816 := i 0
  funext y
  idx_vars y
  refine (ld_f _ o ho i y0 y1).trans ?_
  have e2 : (iblk m c 5 t : FVec Ideal S2816x1024 .bf16) (ix2 ⟨o + y0.val, by omega⟩ y1) = (V m c main_v6 : FVec Ideal S2816x1024 .bf16) (ix2 ⟨o + y0.val, by omega⟩ y1) := rd5 c (V m c) t _ _
  have e3 : (V m c main_v6 : FVec Ideal S2816x1024 .bf16) (ix2 ⟨o + y0.val, by omega⟩ y1) = gWd m c (ix3 0 ⟨o + y0.val, by omega⟩ y1) := by
    rw [V_wd]; pointwise
  rw [e2, e3, slab_at]
  refine (Cert.Proof.FfnSpec.wdN_at (args m c).base ⟨o + y0.val, by omega⟩ y1).symm.trans ?_
  refine congrArg₂ (args m c).base.wdN rfl ?_
  omega

end Cert.Kernel6Ideal.FfnF

end
-- ==== Proof.FfnF.Ops.lean ====
/- The operations of a grid point of the feed-forward forward call on blocks of functions: the normalized block in tile order, a
   product of 1408 columns, the convolution of them, the gate, and the second product brought back to the order of time. -/
module

public import proofs.«01_k».proof.Proof.FfnF.Blocks
public import proofs.«01_k».proof.Proof.FfnA.Ref

@[expose] public section

set_option maxRecDepth 16384

noncomputable section

namespace Cert.Kernel6Ideal.FfnF

open Cert.Kernel6Ideal Cert.Kernel6Ideal.Gen Idealize.ShloMosaic Idealize.ShloMosaic.TcCoe Idealize.SL.Sem
open Cert.Proof.Order Cert.Proof.Slab Cert.Proof.ForwardSpec Cert.Proof.Reals
open Cert.Kernel3Ideal.FfnA (at_ uX cX aX bX)

/-! Three blocks of rows, one above the other. -/

theorem cat_slab (G : Nat → Nat → EReal) (c : Nat) :
    concatenate S256x1408 0 [⟨S8x1408, (slab 8 1408 G 0 c : FVec Ideal S8x1408 .f32)⟩, ⟨S8x1408, (slab 8 1408 G 8 c : FVec Ideal S8x1408 .f32)⟩, ⟨S240x1408, (slab 240 1408 G 16 c : FVec Ideal S240x1408 .f32)⟩]
      concatenates_S8x1408_S8x1408_S240x1408_S256x1408_d0 = (slab 256 1408 G 0 c : FVec Ideal S256x1408 .f32) := by
  funext y
  idx_vars y
  pointwise
  by_cases h : y0.val < 8
  · simp only [h, dite_true]
    rfl
  · simp only [h, dite_false]
    by_cases h' : y0.val - 8 < 8
    · refine (dif_pos h').trans ?_
      rw [slab_at, slab_at]; congr 1; dsimp only; omega
    · refine (dif_neg h').trans ?_
      rw [slab_at, slab_at]; congr 1; dsimp only; omega

/-- The convolution of rows and the eight and sixteen rows before them. -/
theorem conv_slab (a : Cert.Proof.FfnSpec.Args) (T n q q1 q2 o : Nat) (h1 : q1 = q + 8) (h2 : q2 = q + 16) :
    addf (addf (addf (slab n 1408 (fun _ j => a.b j) 0 o : FVec Ideal ⟨2, ![n, 1408]⟩ .f32)
      (mulf (slab n 1408 (fun _ j => a.w 0 j) 0 o) (slab n 1408 (uX a T) q o)))
      (mulf (slab n 1408 (fun _ j => a.w 1 j) 0 o) (slab n 1408 (uX a T) q1 o)))
      (mulf (slab n 1408 (fun _ j => a.w 2 j) 0 o) (slab n 1408 (uX a T) q2 o)) = slab n 1408 (cX a T) q o := by
  subst h1 h2
  funext y
  show a.b _ + a.w 0 _ * a.up (at_ T (q + (y 0).val)) _ + a.w 1 _ * a.up (at_ T (q + 8 + (y 0).val)) _ + a.w 2 _ * a.up (at_ T (q + 16 + (y 0).val)) _
    = a.b _ + a.w 0 _ * a.up (at_ T (q + (y 0).val)) _ + a.w 1 _ * a.up (at_ T (q + (y 0).val) + 1) _ + a.w 2 _ * a.up (at_ T (q + (y 0).val) + 2) _
  rw [show at_ T (q + 8 + (y 0).val) = at_ T (q + (y 0).val) + 1 by unfold at_; omega, show at_ T (q + 16 + (y 0).val) = at_ T (q + (y 0).val) + 2 by unfold at_; omega]

variable (a : Args) (T : Nat)

/-- The normalized activations, by tile row. -/
def hX (r j : Nat) : EReal := a.hN (at_ T r) j

/-- A product of 1408 columns. -/
theorem u_slab (hT : T < 16) (o : Nat) (ho : o + 1408 ≤ 5632) :
    matmul dot_S256x1024_S1408x1024_S256x1408_1_1_0_0_n_n none (slab 256 1024 (hX a T) 0 0 : FVec Ideal S256x1024 .bf16)
      (slab 1408 1024 a.wuN o 0 : FVec Ideal S1408x1024 .bf16) (constant (F := Ideal) S256x1408 .f32 0x00000000#32) = (slab 256 1408 (uX a.base T) 16 o : FVec Ideal S256x1408 .f32) := by
  funext y
  idx_vars y
  pointwise
  have e : at_ T (16 + y0.val) = at_ T y0.val + 2 := by unfold at_; omega
  have hn : at_ T y0.val < 4096 := by unfold at_; omega
  rw [slab_at, uX, e, Cert.Proof.FfnSpec.Args.up, if_neg (by omega), Nat.add_sub_cancel]
  refine Eq.trans ?_ (base_uN a ⟨at_ T y0.val, hn⟩ ⟨o + y1.val, by omega⟩).symm
  refine Finset.sum_congr rfl fun j _ => ?_
  rw [slab_at, slab_at, hX, Nat.zero_add, Nat.zero_add]
  exact congrArg₂ (· * ·) (hN_at a ⟨at_ T y0.val, hn⟩ j) (wuN_at a ⟨o + y1.val, by omega⟩ j)

/-- The sixteen rows kept for the next block. -/
theorem keep_slab (o : Nat) : (slab 16 1408 (uX a.base T) 256 o : FVec Ideal S16x1408 .f32) = slab 16 1408 (bX a.base (T + 1)) 0 o := by
  refine slab_eq _ _ _ _ _ _ _ _ fun i j hi hj => ?_
  unfold uX bX Cert.Proof.FfnSpec.Args.up
  rw [if_neg (by unfold at_; omega), if_neg (by omega)]
  exact congrArg (a.base.uN · _) (by unfold at_; omega)

/-- The second product on a block, in tile order. -/
def down (C0 V0 C1 V1 : FVec Ideal S256x1408 .f32) (D0 D1 : FVec Ideal S1408x1024 .bf16) (k : Fin 256) (j : Fin 1024) : EReal :=
  0 + ∑ f : Fin 1408, C0 (ix2 k f) * FloatOps.logistic (F := Ideal) (φ := .f32) (C0 (ix2 k f)) * V0 (ix2 k f) * D0 (ix2 f j)
    + ∑ f : Fin 1408, C1 (ix2 k f) * FloatOps.logistic (F := Ideal) (φ := .f32) (C1 (ix2 k f)) * V1 (ix2 k f) * D1 (ix2 f j)

theorem pay44_at (C0 V0 C1 V1 : FVec Ideal S256x1408 .f32) (D0 D1 : FVec Ideal S1408x1024 .bf16) (P : FVec Ideal S256x256 .bf16) (i : Fin 256) (j : Fin 1024) :
    k0_pay44 (F := Ideal) C0 V0 D0 C1 V1 D1 P (ix2 i j)
      = ∑ k : Fin 256, P (ix2 i k) * down C0 V0 C1 V1 D0 D1 k j + ∑ k : Fin 256, P (ix2 i k) * (down C0 V0 C1 V1 D0 D1 k j - down C0 V0 C1 V1 D0 D1 k j)
        + ∑ k : Fin 256, P (ix2 i k) * (down C0 V0 C1 V1 D0 D1 k j - down C0 V0 C1 V1 D0 D1 k j - (down C0 V0 C1 V1 D0 D1 k j - down C0 V0 C1 V1 D0 D1 k j)) := by
  unfold down
  pointwise [k0_pay44]

theorem down_at (k : Fin 256) (j : Fin 1024) :
    down (slab (φ := .f32) 256 1408 (cX a.base T) 0 0) (slab (φ := .f32) 256 1408 (cX a.base T) 0 2816) (slab (φ := .f32) 256 1408 (cX a.base T) 0 1408) (slab (φ := .f32) 256 1408 (cX a.base T) 0 4224)
      (slab (φ := .bf16) 1408 1024 a.base.wdN 0 0) (slab (φ := .bf16) 1408 1024 a.base.wdN 1408 0) k j = a.dN (at_ T k.val) j.val := by
  unfold down Args.dN
  rw [zero_add]
  refine Eq.trans ?_ (Fin.sum_univ_add (a := 1408) (b := 1408) (fun f : Fin (1408 + 1408) => a.base.act (at_ T k.val) f.val * a.base.wdN f.val j.val)).symm
  refine congrArg₂ (· + ·) (Finset.sum_congr rfl fun f _ => ?_) (Finset.sum_congr rfl fun f _ => ?_)
  · simp only [slab_at, Nat.zero_add]
    rfl
  · simp only [slab_at, Nat.zero_add]
    rw [show 4224 + f.val = 2816 + (1408 + f.val) by omega]
    rfl

section
variable {a}
theorem real_base (h : Finite a) : Cert.Reference3Ideal.FfnA.Finite a.base := ⟨fun _ => h.uAt _ _, h.cw, h.cb, h.wd, fun _ => isReal_zero⟩
theorem real_dN (h : Finite a) (n j : Nat) : IsReal (a.dN n j) := by
  refine isReal_sum _ fun f => IsReal.mul ?_ ?_
  · exact (((real_base h).uc n f.val).mul (Cert.Reference3Ideal.FfnA.isReal_logistic ((real_base h).uc n f.val))).mul ((real_base h).uc n (2816 + f.val))
  · unfold Cert.Proof.FfnSpec.Args.wdN; split
    · exact h.wd _
    · exact isReal_zero
end

/-- The second product, in the order of time. -/
theorem pay44_slab (hf : Finite a) (P : FVec Ideal S256x256 .bf16) (hP : ∀ i k : Fin 256, P (ix2 i k) = hit i k) :
    k0_pay44 (F := Ideal) (slab (φ := .f32) 256 1408 (cX a.base T) 0 0) (slab (φ := .f32) 256 1408 (cX a.base T) 0 2816) (slab (φ := .bf16) 1408 1024 a.base.wdN 0 0)
      (slab (φ := .f32) 256 1408 (cX a.base T) 0 1408) (slab (φ := .f32) 256 1408 (cX a.base T) 0 4224) (slab (φ := .bf16) 1408 1024 a.base.wdN 1408 0) P
      = (slab 256 1024 a.dN (T * 256) 0 : FVec Ideal S256x1024 .f32) := by
  funext y
  idx_vars y
  rw [pay44_at, slab_at, Nat.zero_add]
  simp only [down_at, hP, sum_time]
  rw [(real_dN hf _ _).sub_self, sub_zero, add_zero, add_zero]
  exact congrArg (a.dN · _) (by unfold at_; omega)

end Cert.Kernel6Ideal.FfnF

end
-- ==== Proof.FfnF.Points.lean ====
/- What the stores of a grid point of the feed-forward forward call hold, entry by entry: the normalized block, the gradient of the
   loss in both orders, and the loss. -/
module

public import proofs.«01_k».proof.Proof.FfnF.Ops

@[expose] public section

set_option maxRecDepth 16384

noncomputable section

namespace Cert.Kernel6Ideal.FfnF

open Cert.Kernel6Ideal Cert.Kernel6Ideal.Gen Idealize.ShloMosaic Idealize.ShloMosaic.TcCoe Idealize.SL.Sem
open Cert.Proof.Order Cert.Proof.Slab Cert.Proof.ForwardSpec Cert.Proof.Reals
open Cert.Kernel3Ideal.FfnA (at_ uX cX aX bX)

variable (m : (ℓ : Loc nD τ sig) → Buf (Elt Ideal) ℓ)

theorem pay8_at (X : FVec Ideal S256x1024 .f32) (G : FVec Ideal S1x1024 .f32) (P : FVec Ideal S256x256 .bf16) (i : Fin 256) (j : Fin 1024) :
    k0_pay8 (F := Ideal) X G P (ix2 i j) = ∑ k : Fin 256, P (ix2 i k) * (X (ix2 k j) * root (fun l => X (ix2 k l)) * G (ix2 0 j)) := by
  unfold root meanSq
  pointwise [k0_pay8, k0_pay7]

/-- The normalized block, in tile order. -/
theorem blk_h (c : Dev nD) (t : Fin cfg0.N) : k0_pay8 (F := Ideal) (iblk m c 0 t) (iblk m c 1 t) (iblk m c 7 t) = (slab 256 1024 (hX (args m c) t.val) 0 0 : FVec Ideal S256x1024 .bf16) := by
  funext y
  idx_vars y
  rw [pay8_at]
  simp only [blk_pm, blk_x, blk_gain]
  refine (sum_tile y0 (fun k => (args m c).hAt (row t k) y1)).trans ?_
  rw [slab_at, hX, Nat.zero_add, Nat.zero_add]
  have ht := lt16 t
  refine (hN_at (args m c) (row t (time y0)) y1).symm.trans ?_
  exact congrArg ((args m c).hN · _) (by unfold at_; dsimp only; omega)

/-- The distance from the target, at any whole numbers. -/
def eN (a : Args) (n j : Nat) : EReal := if h : n < 4096 ∧ j < 1024 then a.err ⟨n, h.1⟩ ⟨j, h.2⟩ else 0
theorem eN_at (a : Args) (n : Fin 4096) (j : Fin 1024) : eN a n.val j.val = a.err n j := dif_pos ⟨n.isLt, j.isLt⟩

/-- The constants: the gradient's factor and the loss's. -/
def kDy : EReal := Ideal.ofBits .f32 0x3A800000#32
def kLoss : EReal := Ideal.ofBits .f32 0x3A000000#32

theorem pay1_at (X D E : FVec Ideal S256x1024 .f32) (i : Fin 256) (j : Fin 1024) : k0_pay1 (F := Ideal) X D E (ix2 i j) = X (ix2 i j) + D (ix2 i j) - E (ix2 i j) := by
  pointwise [k0_pay1]

theorem err_at (c : Dev nD) (t : Fin cfg0.N) (i : Fin 256) (j : Fin 1024) :
    k0_pay1 (F := Ideal) (k0_pay7 (iblk m c 0 t)) (slab (φ := .f32) 256 1024 (args m c).dN (t.val * 256) 0) (iblk m c 6 t) (ix2 i j) = eN (args m c) (t.val * 256 + i.val) j.val := by
  have e : (k0_pay7 (iblk m c 0 t) : FVec Ideal S256x1024 .f32) (ix2 i j) = (iblk m c 0 t : FVec Ideal S256x1024 .f32) (ix2 i j) := by pointwise [k0_pay7]
  rw [pay1_at, e, blk_x, blk_tg, slab_at, Nat.zero_add]
  exact (eN_at (args m c) (row t i) j).symm

theorem pay3_at (X D E : FVec Ideal S256x1024 .f32) (i : Fin 256) (j : Fin 1024) : k0_pay3 (F := Ideal) X D E (ix2 i j) = k0_pay1 (F := Ideal) X D E (ix2 i j) * kDy := by
  unfold kDy
  pointwise [k0_pay3]
theorem pay4_at (X D E : FVec Ideal S256x1024 .f32) (P : FVec Ideal S256x256 .bf16) (i : Fin 256) (j : Fin 1024) :
    k0_pay4 (F := Ideal) X D E P (ix2 i j) = ∑ k : Fin 256, P (ix2 i k) * (k0_pay1 (F := Ideal) X D E (ix2 k j) * kDy) := by
  simp only [← pay3_at]
  pointwise [k0_pay4]
theorem pay2_at (X D E : FVec Ideal S256x1024 .f32) (L : FVec Ideal S8x128 .f32) (i : Fin 8) (j : Fin 128) :
    k0_pay2 (F := Ideal) X D E L (ix2 i j) = L (ix2 i j) + kLoss * ∑ k : Fin 256, ∑ l : Fin 1024, k0_pay1 (F := Ideal) X D E (ix2 k l) * k0_pay1 (F := Ideal) X D E (ix2 k l) := by
  unfold kLoss
  pointwise [k0_pay2]

/-- The stores of a grid point. -/
theorem blk_dy (c : Dev nD) (t : Fin cfg0.N) (y : S256x1024.Idx) :
    k0_pay3 (F := Ideal) (k0_pay7 (iblk m c 0 t)) (slab (φ := .f32) 256 1024 (args m c).dN (t.val * 256) 0) (iblk m c 6 t) y = eN (args m c) (t.val * 256 + (y 0).val) (y 1).val * kDy := by
  idx_vars y
  rw [pay3_at, err_at]
theorem blk_dyb (c : Dev nD) (t : Fin cfg0.N) (y : S256x1024.Idx) :
    k0_pay4 (F := Ideal) (k0_pay7 (iblk m c 0 t)) (slab (φ := .f32) 256 1024 (args m c).dN (t.val * 256) 0) (iblk m c 6 t) (iblk m c 7 t) y = eN (args m c) (at_ t.val (y 0).val) (y 1).val * kDy := by
  idx_vars y
  rw [pay4_at]
  simp only [blk_pm, err_at]
  refine (sum_tile y0 (fun k => eN (args m c) (t.val * 256 + k.val) y1.val * kDy)).trans ?_
  refine congrArg (eN (args m c) · y1.val * kDy) ?_
  show t.val * 256 + (32 * (y0.val % 8) + y0.val / 8) = at_ t.val y0.val
  unfold at_; omega
/-- What a grid point adds to the loss. -/
def addL (a : Args) (T : Nat) : EReal := kLoss * ∑ k : Fin 256, ∑ l : Fin 1024, eN a (T * 256 + k.val) l.val * eN a (T * 256 + k.val) l.val
theorem blk_loss (c : Dev nD) (t : Fin cfg0.N) (L : FVec Ideal S8x128 .f32) (y : S8x128.Idx) :
    k0_pay2 (F := Ideal) (k0_pay7 (iblk m c 0 t)) (slab (φ := .f32) 256 1024 (args m c).dN (t.val * 256) 0) (iblk m c 6 t) L y = L y + addL (args m c) t.val := by
  idx_vars y
  rw [pay2_at]
  simp only [err_at]
  rfl

end Cert.Kernel6Ideal.FfnF

end
-- ==== Proof.FfnF.Tiles.lean ====
/- What a grid point of the feed-forward forward call leaves: the normalized block, the widened activations before and after the
   convolution, the gradient of the loss in both orders, what the block adds to the loss, and the rows carried to the next block. -/
module

public import proofs.«01_k».proof.Proof.FfnF.Points
public import Idealize.ShloMosaic.Lib.Pipeline.ReadBack

@[expose] public section

set_option maxRecDepth 16384
set_option maxHeartbeats 4000000

noncomputable section

namespace Cert.Kernel6Ideal.FfnF

open Cert.Kernel6Ideal Cert.Kernel6Ideal.Gen Idealize.ShloMosaic Idealize.ShloMosaic.TcCoe Idealize.SL.Sem
open Cert.Proof.Slab Cert.Proof.ForwardSpec
open Cert.Kernel3Ideal.FfnA (at_ uX cX aX bX ld_slab cols_of back_8 back_0)

variable (m : (ℓ : Loc nD τ sig) → Buf (Elt Ideal) ℓ)

/-- At the first grid point nothing is carried. -/
theorem none_before (a : Args) (n : Nat) (h : n = 0) : (k0_pay5 : FVec Ideal S16x5632 .f32) = slab 16 5632 (bX a.base n) 0 0 := by
  subst h
  funext y
  idx_vars y
  have e : (k0_pay5 : FVec Ideal S16x5632 .f32) (ix2 y0 y1) = 0 := by pointwise [k0_pay5]
  rw [e, slab_at, bX, if_pos (by omega)]

/-- A block of rows that stand sixteen rows further down in the padded activations. -/
theorem piece_u (a : Cert.Proof.FfnSpec.Args) (T o : Nat) (i : ∀ x, (![0, o] : Fin 2 → Nat) x + (![256, 1408] : Fin 2 → Nat) x ≤ (![256, 5632] : Fin 2 → Nat) x) (x : S256x1408.Idx) :
    slab (φ := .f32) 256 1408 (uX a T) 16 o x = uX a T (16 + ((Rect.unit (s := ⟨2, ![256, 5632]⟩) ![0, o] ![256, 1408] i).emb x 0).val) ((Rect.unit (s := ⟨2, ![256, 5632]⟩) ![0, o] ![256, 1408] i).emb x 1).val := by
  show uX a T (16 + (x 0).val) (o + (x 1).val) = uX a T (16 + (0 + 1 * (x 0).val)) (o + 1 * (x 1).val)
  rw [Nat.one_mul, Nat.one_mul, Nat.zero_add]

/-- Three blocks of rows, one above the other. -/
def stack (A B : FVec Ideal S8x1408 .f32) (D : FVec Ideal S240x1408 .f32) : FVec Ideal S256x1408 .f32 :=
  concatenate S256x1408 0 [⟨S8x1408, A⟩, ⟨S8x1408, B⟩, ⟨S240x1408, D⟩] concatenates_S8x1408_S8x1408_S240x1408_S256x1408_d0
theorem stack_def (A B : FVec Ideal S8x1408 .f32) (D : FVec Ideal S240x1408 .f32) :
    concatenate S256x1408 0 [⟨S8x1408, A⟩, ⟨S8x1408, B⟩, ⟨S240x1408, D⟩] concatenates_S8x1408_S8x1408_S240x1408_S256x1408_d0 = stack A B D := rfl
theorem stack_slab (G : Nat → Nat → EReal) (c : Nat) : stack (slab 8 1408 G 0 c) (slab 8 1408 G 8 c) (slab 240 1408 G 16 c) = slab 256 1408 G 0 c := cat_slab G c

theorem leaves (c : Dev nD) (hf : Finite (args m c)) (t : Fin cfg0.N) (PW : FVec Ideal S8x128 .f32)
    (hA : t.val % 16 = 0 → (k0_pay6 : FVec Ideal S8x128 .f32) = PW)
    (hB : ¬ t.val % 16 = 0 → (outsAt0 m c (t.val - 1) (by omega)).2.2.2.2.2.1 = PW
      ∧ (outsAt0 m c (t.val - 1) (by omega)).2.2.2.2.2.2 = (slab 16 5632 (bX (args m c).base t.val) 0 0 : FVec Ideal S16x5632 .f32)) :
    (∀ y : S256x1024.Idx, ((outsAt0 m c t.val t.isLt).1 : FVec Ideal S256x1024 .bf16) y = hX (args m c) t.val (y 0).val (y 1).val)
    ∧ (∀ y : S256x5632.Idx, ((outsAt0 m c t.val t.isLt).2.1 : FVec Ideal S256x5632 .f32) y = uX (args m c).base t.val (16 + (y 0).val) (y 1).val)
    ∧ (∀ y : S256x5632.Idx, ((outsAt0 m c t.val t.isLt).2.2.1 : FVec Ideal S256x5632 .f32) y = cX (args m c).base t.val (y 0).val (y 1).val)
    ∧ (∀ y : S256x1024.Idx, ((outsAt0 m c t.val t.isLt).2.2.2.1 : FVec Ideal S256x1024 .f32) y = eN (args m c) (t.val * 256 + (y 0).val) (y 1).val * kDy)
    ∧ (∀ y : S256x1024.Idx, ((outsAt0 m c t.val t.isLt).2.2.2.2.1 : FVec Ideal S256x1024 .bf16) y = eN (args m c) (at_ t.val (y 0).val) (y 1).val * kDy)
    ∧ (∀ y : S8x128.Idx, ((outsAt0 m c t.val t.isLt).2.2.2.2.2.1 : FVec Ideal S8x128 .f32) y = PW y + addL (args m c) t.val)
    ∧ (∀ y : S16x5632.Idx, ((outsAt0 m c t.val t.isLt).2.2.2.2.2.2 : FVec Ideal S16x5632 .f32) y = bX (args m c).base (t.val + 1) (y 0).val (y 1).val) := by
  have hT := lt16 t
  (by_cases h : t.val % 16 = 0) <;> [(have hW := hA h; have hP := none_before (args m c) t.val (by omega); rw [outsAt0_A m c t h]);
    (obtain ⟨hW, hP⟩ := hB h; rw [outsAt0_B m c t h])]
  all_goals
    refine ⟨fun y => ?_, fun y => ?_, fun y => ?_, fun y => ?_, fun y => ?_, fun y => ?_, fun y => ?_⟩ <;> frame_out
      <;> simp (maxDischargeDepth := 6) (decide := true) only [↓View.readCov_skip, View.readCov_fill, hP, hW, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, shapeCast_self, blk_h m c t, blk_u m c t, blk_w m c t, blk_f m c t, blk_b m c t, read_unread_whole, ld_slab, read_last, cut_slab, down_slab, u_slab (args m c) _ hT, back_8 (args m c).base _ hT, back_0 (args m c).base _ hT, stack_def, stack_slab, conv_slab, keep_slab, pay44_slab (args m c) t.val hf (iblk m c 8 t) (blk_pmt m c t), Nat.reduceAdd, Nat.reduceSub, Nat.reduceLeDiff, Nat.zero_add, Nat.add_zero]
    · idx_vars y
      rw [slab_at, Nat.zero_add, Nat.zero_add]
    · exact cols_of (e := .f32) (fun z => uX (args m c).base t.val (16 + (z 0).val) (z 1).val) _ _ _ _ _ _ _ _ (piece_u _ _ 0 _) (piece_u _ _ 1408 _) (piece_u _ _ 2816 _) (piece_u _ _ 4224 _) _ y
    · exact cols_of (e := .f32) (fun z => cX (args m c).base t.val (z 0).val (z 1).val) _ _ _ _ _ _ _ _ (piece_slab (φ := .f32) _ 0 0 256 1408 _)
        (piece_slab (φ := .f32) _ 0 1408 256 1408 _) (piece_slab (φ := .f32) _ 0 2816 256 1408 _) (piece_slab (φ := .f32) _ 0 4224 256 1408 _) _ y
    · exact blk_dy m c t y
    · exact blk_dyb m c t y
    · exact blk_loss m c t PW y
    · exact cols_of (e := .f32) (fun z => bX (args m c).base (t.val + 1) (z 0).val (z 1).val) _ _ _ _ _ _ _ _ (piece_slab (φ := .f32) _ 0 0 16 1408 _)
        (piece_slab (φ := .f32) _ 0 1408 16 1408 _) (piece_slab (φ := .f32) _ 0 2816 16 1408 _) (piece_slab (φ := .f32) _ 0 4224 16 1408 _) _ y

end Cert.Kernel6Ideal.FfnF

end
-- ==== Proof.FfnF.Final.lean ====
/- The six arrays after the last grid point. The blocks of four of them lie below one another, each in tile order; those of the
   gradient of the loss lie in the order of time; what the points add to the loss sums. -/
module

public import proofs.«01_k».proof.Proof.FfnF.Tiles
public import Idealize.ShloMosaic.Lib.Pipeline.ValueKit

@[expose] public section

set_option maxRecDepth 16384
set_option maxHeartbeats 4000000

noncomputable section

namespace Cert.Kernel6Ideal.FfnF

open Cert.Kernel6Ideal Cert.Kernel6Ideal.Gen Idealize.ShloMosaic Idealize.ShloMosaic.TcCoe Idealize.SL.Sem
open Idealize.ShloMosaic.Pipeline (Dat)
open Cert.Proof.ForwardSpec Cert.Proof.Slab
open Cert.Kernel3Ideal.FfnA (at_ uX cX aX bX)

variable (m : (ℓ : Loc nD τ sig) → Buf (Elt Ideal) ℓ)

/-- The rows that a grid point leaves for the next one. -/
theorem carried (c : Dev nD) (hf : Finite (args m c)) : ∀ (n : Nat) (h : n < cfg0.N),
    (outsAt0 m c n h).2.2.2.2.2.2 = (slab 16 5632 (bX (args m c).base (n + 1)) 0 0 : FVec Ideal S16x5632 .f32) := by
  intro n
  induction n with
  | zero =>
    intro h
    funext y
    idx_vars y
    exact ((leaves m c hf ⟨0, h⟩ _ (fun _ => rfl) (fun q => absurd rfl q)).2.2.2.2.2.2 (ix2 y0 y1)).trans (by rw [slab_at]; simp only [Nat.zero_add]; rfl)
  | succ n ih =>
    intro h
    funext y
    idx_vars y
    have hn : n < cfg0.N := by omega
    refine ((leaves m c hf ⟨n + 1, h⟩ _ (fun q => ?_) (fun _ => ⟨rfl, ?_⟩)).2.2.2.2.2.2 (ix2 y0 y1)).trans (by rw [slab_at]; simp only [Nat.zero_add]; rfl)
    · have : n + 1 < 16 := lt16 ⟨n + 1, h⟩
      dsimp only at q
      omega
    · exact ih hn

/-- What a grid point leaves in the six windows, over what the loss held before it. -/
def Left (c : Dev nD) (t : Fin cfg0.N) (PW : FVec Ideal S8x128 .f32) : Prop :=
  (∀ y, (outsAt0 m c t.val t.isLt).1 y = hX (args m c) t.val (y 0).val (y 1).val)
  ∧ (∀ y, (outsAt0 m c t.val t.isLt).2.1 y = uX (args m c).base t.val (16 + (y 0).val) (y 1).val)
  ∧ (∀ y, (outsAt0 m c t.val t.isLt).2.2.1 y = cX (args m c).base t.val (y 0).val (y 1).val)
  ∧ (∀ y, (outsAt0 m c t.val t.isLt).2.2.2.1 y = eN (args m c) (t.val * 256 + (y 0).val) (y 1).val * kDy)
  ∧ (∀ y, (outsAt0 m c t.val t.isLt).2.2.2.2.1 y = eN (args m c) (at_ t.val (y 0).val) (y 1).val * kDy)
  ∧ (∀ y, (outsAt0 m c t.val t.isLt).2.2.2.2.2.1 y = PW y + addL (args m c) t.val)
  ∧ (∀ y, (outsAt0 m c t.val t.isLt).2.2.2.2.2.2 y = bX (args m c).base (t.val + 1) (y 0).val (y 1).val)

theorem first (c : Dev nD) (hf : Finite (args m c)) (t : Fin cfg0.N) (h : t.val % 16 = 0) : Left m c t k0_pay6 :=
  leaves m c hf t k0_pay6 (fun _ => rfl) (fun q => absurd h q)
theorem next (c : Dev nD) (hf : Finite (args m c)) (t : Fin cfg0.N) (h : ¬ t.val % 16 = 0) :
    Left m c t (outsAt0 m c (t.val - 1) (by omega)).2.2.2.2.2.1 :=
  leaves m c hf t _ (fun q => absurd q h) (fun _ => ⟨rfl, (carried m c hf (t.val - 1) (by omega)).trans
    (by rw [show t.val - 1 + 1 = t.val by omega])⟩)
theorem each (c : Dev nD) (hf : Finite (args m c)) (t : Fin cfg0.N) : ∃ PW, Left m c t PW := by
  by_cases h : t.val % 16 = 0
  · exact ⟨_, first m c hf t h⟩
  · exact ⟨_, next m c hf t h⟩

/-- The gradient of the loss, and its array. -/
def gN (a : Args) (n j : Nat) : EReal := eN a n j * kDy
def dyA (a : Args) : FVec Ideal S4096x1024 .f32 := fun y => gN a (y 0).val (y 1).val

/-- A function of time and column as an array whose blocks of 256 rows are in tile order. -/
def tiled (φ : FTy) (C : Nat) (G : Nat → Nat → EReal) : FVec Ideal ⟨2, ![4096, C]⟩ φ := fun y => G (at_ ((y 0).val / 256) ((y 0).val % 256)) (y 1).val
theorem tiled_row (φ : FTy) (C : Nat) (G : Nat → Nat → EReal) (t : Fin cfg0.N) (i : Fin 256) (j : Fin C) : tiled φ C G (ix2 (row t i) j) = G (at_ t.val i.val) j.val := by
  have ht := lt16 t
  show G (at_ ((t.val * 256 + i.val) / 256) ((t.val * 256 + i.val) % 256)) j.val = _
  rw [show (t.val * 256 + i.val) / 256 = t.val by omega, show (t.val * 256 + i.val) % 256 = i.val by omega]
/-- The rows of the product stand two rows further down in the padded one. -/
theorem uX_row (a : Cert.Proof.FfnSpec.Args) (T r k : Nat) : uX a T (16 + r) k = a.uN (at_ T r) k := by
  have e : at_ T (16 + r) = at_ T r + 2 := by unfold at_; omega
  rw [uX, e, Cert.Proof.FfnSpec.Args.up, if_neg (by omega), Nat.add_sub_cancel]

theorem final9 (c : Dev nD) (hf : Finite (args m c)) : (dats m 0 c).arrAt 9 cfg0.N = tiled .bf16 1024 (args m c).hN := by
  refine (dats m 0 c).arrAt_eq_of_covers 9 _ (by decide +kernel) fun t _ y => ?_
  blk_simp
  rw [after0_9]
  obtain ⟨PW, h⟩ := each m c hf t
  refine (h.1 y).trans ?_
  have key : ∀ y : S256x1024.Idx, (args m c).hN (at_ t.val (y 0).val) (y 1).val = tiled .bf16 1024 (args m c).hN (((View.whole main_v22_0).slice (win0_9.rect t)).emb y) := by
    intro y
    idx_vars y
    refine (tiled_row .bf16 1024 _ t y0 y1).symm.trans ?_
    blk_ext [idx t]
  exact Eq.trans rfl (key y)

theorem final10 (c : Dev nD) (hf : Finite (args m c)) : (dats m 0 c).arrAt 10 cfg0.N = tiled .f32 5632 (args m c).base.uN := by
  refine (dats m 0 c).arrAt_eq_of_covers 10 _ (by decide +kernel) fun t _ y => ?_
  blk_simp
  rw [after0_10]
  obtain ⟨PW, h⟩ := each m c hf t
  refine (h.2.1 y).trans ?_
  have key : ∀ y : S256x5632.Idx, (args m c).base.uN (at_ t.val (y 0).val) (y 1).val = tiled .f32 5632 (args m c).base.uN (((View.whole main_v22_1).slice (win0_10.rect t)).emb y) := by
    intro y
    idx_vars y
    refine (tiled_row .f32 5632 _ t y0 y1).symm.trans ?_
    blk_ext [idx t]
  exact Eq.trans (uX_row _ _ _ _) (key y)

theorem final11 (c : Dev nD) (hf : Finite (args m c)) : (dats m 0 c).arrAt 11 cfg0.N = tiled .f32 5632 (args m c).base.uc := by
  refine (dats m 0 c).arrAt_eq_of_covers 11 _ (by decide +kernel) fun t _ y => ?_
  blk_simp
  rw [after0_11]
  obtain ⟨PW, h⟩ := each m c hf t
  refine (h.2.2.1 y).trans ?_
  have key : ∀ y : S256x5632.Idx, (args m c).base.uc (at_ t.val (y 0).val) (y 1).val = tiled .f32 5632 (args m c).base.uc (((View.whole main_v22_2).slice (win0_11.rect t)).emb y) := by
    intro y
    idx_vars y
    refine (tiled_row .f32 5632 _ t y0 y1).symm.trans ?_
    blk_ext [idx t]
  exact Eq.trans rfl (key y)

theorem final13 (c : Dev nD) (hf : Finite (args m c)) : (dats m 0 c).arrAt 13 cfg0.N = tiled .bf16 1024 (gN (args m c)) := by
  refine (dats m 0 c).arrAt_eq_of_covers 13 _ (by decide +kernel) fun t _ y => ?_
  blk_simp
  rw [after0_13]
  obtain ⟨PW, h⟩ := each m c hf t
  refine (h.2.2.2.2.1 y).trans ?_
  have key : ∀ y : S256x1024.Idx, (gN (args m c)) (at_ t.val (y 0).val) (y 1).val = tiled .bf16 1024 (gN (args m c)) (((View.whole main_v22_4).slice (win0_13.rect t)).emb y) := by
    intro y
    idx_vars y
    refine (tiled_row .bf16 1024 _ t y0 y1).symm.trans ?_
    blk_ext [idx t]
  exact Eq.trans rfl (key y)

theorem final12 (c : Dev nD) (hf : Finite (args m c)) : (dats m 0 c).arrAt 12 cfg0.N = dyA (args m c) := by
  refine (dats m 0 c).arrAt_eq_of_covers 12 _ (by decide +kernel) fun t _ y => ?_
  blk_simp
  rw [after0_12]
  obtain ⟨PW, h⟩ := each m c hf t
  refine (h.2.2.2.1 y).trans ?_
  have key : ∀ y : S256x1024.Idx, gN (args m c) (t.val * 256 + (y 0).val) (y 1).val = dyA (args m c) (((View.whole main_v22_3).slice (win0_12.rect t)).emb y) := by
    intro y
    idx_vars y
    refine Eq.trans (show _ = dyA (args m c) (ix2 (row t y0) y1) from rfl) ?_
    blk_ext [idx t]
  exact key y

theorem zero14 (y : S8x128.Idx) : k0_pay6 (F := Ideal) y = 0 := by idx_vars y; pointwise [k0_pay6]

theorem final14 (c : Dev nD) (hf : Finite (args m c)) : (dats m 0 c).arrAt 14 cfg0.N = (fun _ => ∑ t : Fin cfg0.N, addL (args m c) t.val : FVec Ideal S8x128 .f32) := by
  refine (dats m 0 c).arrAt_eq_of_after_last 14 t0_15 (by decide +kernel) _ fun j => ?_
  blk_simp
  rw [after0_14, Pipeline.eq_sum_fin_of_reset_step_apply_last (fun n h => (outsAt0 m c n h).2.2.2.2.2.1) 16 (fun _ => 0) (fun t (y : S8x128.Idx) => addL (args m c) t.val)
    (fun t h y => ((first m c hf t h).2.2.2.2.2.1 y).trans (congrArg (· + _) (zero14 y)))
    (fun t h y => (next m c hf t h).2.2.2.2.2.1 y) (le_of_eq N_0) t0_15 rfl j, zero_add]

end Cert.Kernel6Ideal.FfnF

end
-- ==== Proof.FfnF.Tail.lean ====
/- The host lines after the grid: four arrays in tile order are brought back into the order of time, and the loss is read off. -/
module

public import proofs.«01_k».proof.Proof.FfnF.Final
public import proofs.«01_k».proof.Proof.FfnA.Tail
public import Idealize.ShloMosaic.Lib.Pipeline.ValueKit

@[expose] public section

set_option maxRecDepth 16384
set_option maxHeartbeats 4000000

noncomputable section

namespace Cert.Kernel6Ideal.FfnF

open Cert.Kernel6Ideal Cert.Kernel6Ideal.Gen Idealize.ShloMosaic Idealize.ShloMosaic.TcCoe Idealize.SL.Sem
open Idealize.ShloMosaic.Pipeline (Dat)
open Cert.Proof.ForwardSpec
open Cert.Kernel3Ideal.FfnA (at_ at_tile)

variable (m : (ℓ : Loc nD τ sig) → Buf (Elt Ideal) ℓ)

/-- An array of the region, as the lines after it read it. -/
theorem left (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 winFacts0.arr_inj c (V0 m c) _ w

/-- An array in tile order, brought back. -/
theorem back_wide (G : Nat → Nat → EReal) (n : Fin 4096) (k : Fin 5632) :
    (shapeCast S4096x5632 (transpose S16x8x32x5632 [0, 2, 1, 3] (shapeCast S16x32x8x5632 (tiled .f32 5632 G) shapeCasts_S4096x5632_S16x32x8x5632)
      transposes_S16x32x8x5632_S16x8x32x5632_0_2_1_3) shapeCasts_S16x8x32x5632_S4096x5632 : FVec Ideal S4096x5632 .f32) (ix2 n k) = G n.val k.val := by
  refine Eq.trans (b := (tiled .f32 5632 G : FVec Ideal S4096x5632 .f32) (ix2 ⟨256 * (n.val / 256) + 8 * (n.val % 32) + n.val % 256 / 32, by omega⟩ k)) ?_ (congrArg (G · k.val) (at_tile n.val))
  generalize tiled .f32 5632 G = x
  pointwise []
  exact congrArg (fun r => x (ix2 r k)) (Fin.ext (by dsimp only; omega))
theorem back_narrow (G : Nat → Nat → EReal) (n : Fin 4096) (k : Fin 1024) :
    (shapeCast S4096x1024 (transpose S16x8x32x1024 [0, 2, 1, 3] (shapeCast S16x32x8x1024 (tiled .bf16 1024 G) shapeCasts_S4096x1024_S16x32x8x1024)
      transposes_S16x32x8x1024_S16x8x32x1024_0_2_1_3) shapeCasts_S16x8x32x1024_S4096x1024 : FVec Ideal S4096x1024 .bf16) (ix2 n k) = G n.val k.val := by
  refine Eq.trans (b := (tiled .bf16 1024 G : FVec Ideal S4096x1024 .bf16) (ix2 ⟨256 * (n.val / 256) + 8 * (n.val % 32) + n.val % 256 / 32, by omega⟩ k)) ?_ (congrArg (G · k.val) (at_tile n.val))
  generalize tiled .bf16 1024 G = x
  pointwise []
  exact congrArg (fun r => x (ix2 r k)) (Fin.ext (by dsimp only; omega))

theorem tail_h (c : Dev nD) (hf : Finite (args m c)) (n : Fin 4096) (k : Fin 1024) :
    (Pipeline.afterTail₀ cfgs (dats m) 0 (V0 m) [hostOps1] c main_v25 : FVec Ideal S4096x1024 .bf16) (ix2 n k) = (args m c).hN n.val k.val := by
  have e : Pipeline.afterTail₀ cfgs (dats m) 0 (V0 m) [hostOps1] c main_v25
      = shapeCast S4096x1024 (transpose S16x8x32x1024 [0, 2, 1, 3] (shapeCast S16x32x8x1024 (tiled .bf16 1024 (args m c).hN) shapeCasts_S4096x1024_S16x32x8x1024)
        transposes_S16x32x8x1024_S16x8x32x1024_0_2_1_3) shapeCasts_S16x8x32x1024_S4096x1024 := by
    unfold Pipeline.afterTail₀
    after_results
    rw [← final9 m c hf, ← left m c 9]
    rfl
  rw [e, back_narrow]

theorem tail_u (c : Dev nD) (hf : Finite (args m c)) (n : Fin 4096) (k : Fin 5632) :
    (Pipeline.afterTail₀ cfgs (dats m) 0 (V0 m) [hostOps1] c main_v28 : FVec Ideal S4096x5632 .f32) (ix2 n k) = (args m c).base.uN n.val k.val := by
  have e : Pipeline.afterTail₀ cfgs (dats m) 0 (V0 m) [hostOps1] c main_v28
      = shapeCast S4096x5632 (transpose S16x8x32x5632 [0, 2, 1, 3] (shapeCast S16x32x8x5632 (tiled .f32 5632 (args m c).base.uN) shapeCasts_S4096x5632_S16x32x8x5632)
        transposes_S16x32x8x5632_S16x8x32x5632_0_2_1_3) shapeCasts_S16x8x32x5632_S4096x5632 := by
    unfold Pipeline.afterTail₀
    after_results
    rw [← final10 m c hf, ← left m c 10]
    rfl
  rw [e, back_wide]

theorem tail_uc (c : Dev nD) (hf : Finite (args m c)) (n : Fin 4096) (k : Fin 5632) :
    (Pipeline.afterTail₀ cfgs (dats m) 0 (V0 m) [hostOps1] c main_v31 : FVec Ideal S4096x5632 .f32) (ix2 n k) = (args m c).base.uc n.val k.val := by
  have e : Pipeline.afterTail₀ cfgs (dats m) 0 (V0 m) [hostOps1] c main_v31
      = shapeCast S4096x5632 (transpose S16x8x32x5632 [0, 2, 1, 3] (shapeCast S16x32x8x5632 (tiled .f32 5632 (args m c).base.uc) shapeCasts_S4096x5632_S16x32x8x5632)
        transposes_S16x32x8x5632_S16x8x32x5632_0_2_1_3) shapeCasts_S16x8x32x5632_S4096x5632 := by
    unfold Pipeline.afterTail₀
    after_results
    rw [← final11 m c hf, ← left m c 11]
    rfl
  rw [e, back_wide]

theorem tail_dyb (c : Dev nD) (hf : Finite (args m c)) (n : Fin 4096) (k : Fin 1024) :
    (Pipeline.afterTail₀ cfgs (dats m) 0 (V0 m) [hostOps1] c main_v34 : FVec Ideal S4096x1024 .bf16) (ix2 n k) = (gN (args m c)) n.val k.val := by
  have e : Pipeline.afterTail₀ cfgs (dats m) 0 (V0 m) [hostOps1] c main_v34
      = shapeCast S4096x1024 (transpose S16x8x32x1024 [0, 2, 1, 3] (shapeCast S16x32x8x1024 (tiled .bf16 1024 (gN (args m c))) shapeCasts_S4096x1024_S16x32x8x1024)
        transposes_S16x32x8x1024_S16x8x32x1024_0_2_1_3) shapeCasts_S16x8x32x1024_S4096x1024 := by
    unfold Pipeline.afterTail₀
    after_results
    rw [← final13 m c hf, ← left m c 13]
    rfl
  rw [e, back_narrow]

theorem tail_loss (c : Dev nD) (hf : Finite (args m c)) :
    (Pipeline.afterTail₀ cfgs (dats m) 0 (V0 m) [hostOps1] c main_v36 : FVec Ideal S_ .f32) ix0 = ∑ t : Fin cfg0.N, addL (args m c) t.val := by
  have e : Pipeline.afterTail₀ cfgs (dats m) 0 (V0 m) [hostOps1] c main_v36
      = shapeCast S_ (extractStridedSlice S1x1 ![0, 0] (fun _ => ∑ t : Fin cfg0.N, addL (args m c) t.val : FVec Ideal S8x128 .f32) slices_S8x128_S1x1_0_0) shapeCasts_S1x1_S_ := by
    unfold Pipeline.afterTail₀
    after_results
    rw [← final14 m c hf, ← left m c 14]
    rfl
  rw [e]
  rfl

/-- The program's six results after a run. -/
theorem run (hf : ∀ c, Finite (args m c)) (ρ : Dev nD → PrngReg) : θ_run defs (onTc (τ := τ) (main (F := Ideal))) ⟨m, fun _ => 0, ρ⟩ fun r => ∀ c : Dev nD,
    r.2.mem ((c : Thread nD τ).loc main_v25) = (fun y : S4096x1024.Idx => (args m c).hN (y 0).val (y 1).val : FVec Ideal S4096x1024 .bf16)
    ∧ r.2.mem ((c : Thread nD τ).loc main_v28) = (fun y : S4096x5632.Idx => (args m c).base.uN (y 0).val (y 1).val : FVec Ideal S4096x5632 .f32)
    ∧ r.2.mem ((c : Thread nD τ).loc main_v31) = (fun y : S4096x5632.Idx => (args m c).base.uc (y 0).val (y 1).val : FVec Ideal S4096x5632 .f32)
    ∧ r.2.mem ((c : Thread nD τ).loc main_v22_3) = dyA (args m c)
    ∧ r.2.mem ((c : Thread nD τ).loc main_v34) = (fun y : S4096x1024.Idx => gN (args m c) (y 0).val (y 1).val : FVec Ideal S4096x1024 .bf16)
    ∧ r.2.mem ((c : Thread nD τ).loc main_v36) = (fun _ => ∑ t : Fin cfg0.N, addL (args m c) t.val : FVec Ideal S_ .f32) :=
  (θ_run defs _ _).mono (fun r h c => ⟨
    ((h c).2 main_v25 (Pipeline.mem_restRefs_of main_v25 (by decide) (by decide))).trans (funext fun y => by
      idx_vars y
      exact tail_h m c (hf c) y0 y1),
    ((h c).2 main_v28 (Pipeline.mem_restRefs_of main_v28 (by decide) (by decide))).trans (funext fun y => by
      idx_vars y
      exact tail_u m c (hf c) y0 y1),
    ((h c).2 main_v31 (Pipeline.mem_restRefs_of main_v31 (by decide) (by decide))).trans (funext fun y => by
      idx_vars y
      exact tail_uc m c (hf c) y0 y1),
    ((h c).1 12).trans (final12 m c (hf c)),
    ((h c).2 main_v34 (Pipeline.mem_restRefs_of main_v34 (by decide) (by decide))).trans (funext fun y => by
      idx_vars y
      exact tail_dyb m c (hf c) y0 y1),
    ((h c).2 main_v36 (Pipeline.mem_restRefs_of main_v36 (by decide) (by decide))).trans (funext fun y => by
      rw [← ix0_eta y]
      exact tail_loss m c (hf c))⟩)
    (run_main m ρ)

end Cert.Kernel6Ideal.FfnF

end
-- ==== Proof.FfnF.Ref.lean ====
/- What the reference computes for the feed-forward forward call: the normalized activations, their product with the first weight,
   the convolution, the loss and its gradient. -/
module

public import proofs.«01_k».proof.Proof.Gen.Reference6Ideal.Read
public import Idealize.ShloMosaic.Lib.Pointwise
public import proofs.«01_k».proof.Proof.UnitAxes
public import proofs.«01_k».proof.Proof.FfnF.Spec

@[expose] public section

set_option maxRecDepth 16384

noncomputable section

namespace Cert.Reference6Ideal.FfnF

open Cert.Reference6Ideal Cert.Reference6Ideal.Gen Cert.Reference6Ideal.Read Idealize.ShloMosaic Idealize.ShloMosaic.TcCoe Idealize.SL.Sem
open Cert.Proof.ForwardSpec Cert.Proof.Reals Cert.Proof

variable (a : Args)

theorem v13_at (n : Fin 4096) (j : Fin 1024) : val_main_v13 (F := Ideal) a.x a.g (ix3 0 n j) = a.hAt n j := by
  unfold Args.hAt root meanSq Args.row
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
theorem v15_at (n : Fin 4096) (k : Fin 5632) : val_main_v15 (F := Ideal) a.x a.g a.wu (ix3 0 n k) = a.uAt n k := by
  pointwise [val_main_v15, val_main_v14]
  simp only [v13_at]
  rfl
theorem v19_at (s : Fin 4098) (k : Fin 5632) : val_main_v19 (F := Ideal) a.x a.g a.wu (ix3 0 s k) = a.base.up s.val k.val := by
  rw [FfnSpec.up_host]
  pointwise [val_main_v19, val_main_v18, val_main_cst_2]
  simp only [v15_at]
theorem v42_at (n : Fin 4096) (k : Fin 5632) : val_main_v42 (F := Ideal) a.x a.g a.wu a.cw a.cb (ix3 0 n k) = a.base.uc n.val k.val := by
  rw [FfnSpec.uc_host]
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v17, val_main_v16]
  simp only [v19_at]
theorem v43_at (n : Fin 4096) (f : Fin 2816) : val_main_v43 (F := Ideal) a.x a.g a.wu a.cw a.cb (ix3 0 n f) = a.base.uc n.val f.val := by
  pointwise [val_main_v43]
  simp only [v42_at]
theorem v44_at (n : Fin 4096) (f : Fin 2816) : val_main_v44 (F := Ideal) a.x a.g a.wu a.cw a.cb (ix3 0 n f) = a.base.uc n.val (2816 + f.val) := by
  pointwise [val_main_v44]
  simp only [v42_at]
theorem v46_at (n : Fin 4096) (f : Fin 2816) : val_main_v46 (F := Ideal) a.x a.g a.wu a.cw a.cb (ix3 0 n f) = a.base.act n.val f.val := by
  pointwise [val_main_v46, val_main_v45, val_main_call0_v5, val_main_call0_v4, val_main_call0_v3, val_main_call0_v2, val_main_call0_v1, val_main_call0_v0, val_main_call0_cst, val_main_call0_cst_0]
  simp only [v43_at, v44_at]
  rfl
theorem v50_at (n : Fin 4096) (j : Fin 1024) : val_main_v50 (F := Ideal) a.x a.g a.wu a.cw a.cb a.wd a.tg (ix3 0 n j) = a.err n j := by
  unfold Args.err Args.dN
  pointwise [val_main_v50, val_main_v49, val_main_v48, val_main_v47]
  simp only [v46_at, FfnSpec.wdN_at]

/-! The gradient of the loss. -/

theorem half_eq : Ideal.ofBits .f32 0x3F000000#32 = ((1 / 2 : ℝ) : EReal) := by
  simp [Ideal.ofBits, Ideal.ieee]; rw [← EReal.coe_mul]; norm_num
theorem two_eq : Ideal.ofBits .f32 0x40000000#32 = ((2 : ℝ) : EReal) := by
  simp [Ideal.ofBits, Ideal.ieee]; rw [← EReal.coe_mul]; norm_num
theorem dy_eq : Ideal.ofBits .f32 0x3A800000#32 = ((1 / 1024 : ℝ) : EReal) := by
  simp [Ideal.ofBits, Ideal.ieee]; rw [← EReal.coe_mul]; norm_num
theorem loss_eq : Ideal.ofBits .f32 0x3A000000#32 = ((1 / 2048 : ℝ) : EReal) := by
  simp [Ideal.ofBits, Ideal.ieee]; rw [← EReal.coe_mul]; norm_num

theorem v64_at (n : Fin 4096) (j : Fin 1024) :
    val_main_v64 (F := Ideal) a.x a.g a.wu a.cw a.cb a.wd a.tg (ix3 0 n j) = a.err n j * Ideal.ofBits .f32 0x3A800000#32 := by
  pointwise [val_main_v64, val_main_v63, val_main_v62, val_main_v61, val_main_v60, val_main_v59, val_main_v53, val_main_v52, val_main_cst_3, val_main_cst_8, val_main_cst_9, val_main_cst_10]
  simp only [v50_at]
  rw [half_eq, two_eq, ofBits_1024, dy_eq, div_1024, ← mul_assoc, ← EReal.coe_mul, mul_comm]
  congr 2
  norm_num

/-! The loss: a sum of squares, so that a factor may be taken out of it even where the target isn't finite. -/

theorem mul_sum {ι : Type} [Fintype ι] (c : EReal) (f : ι → EReal) (h : ∀ i, 0 ≤ f i) : c * ∑ i, f i = ∑ i, c * f i := by
  classical
  refine Finset.induction_on (Finset.univ : Finset ι) ?_ fun i s hi ih => ?_
  · rw [Finset.sum_empty, Finset.sum_empty, mul_zero]
  · rw [Finset.sum_insert hi, Finset.sum_insert hi, EReal.left_distrib_of_nonneg (h i) (Finset.sum_nonneg fun j _ => h j), ih]

theorem v58_at :
    val_main_v58 (F := Ideal) a.x a.g a.wu a.cw a.cb a.wd a.tg ix0 = Ideal.ofBits .f32 0x3A000000#32 * ∑ n : Fin 4096, ∑ j : Fin 1024, a.err n j * a.err n j := by
  pointwise [val_main_v58, val_main_v57, val_main_v56, val_main_v55, val_main_v54, val_main_v51, val_main_cst_4, val_main_cst_5, val_main_cst_6, val_main_cst_7]
  simp only [v50_at, half_eq, loss_eq, ofBits_1024, Ideal.div_coe (by norm_num : (1024 : ℝ) ≠ 0), Finset.univ_unique, Finset.sum_singleton]
  rw [Finset.sum_congr rfl fun n _ => mul_comm (∑ j : Fin 1024, a.err n j * a.err n j) _,
    ← mul_sum _ _ fun n => Finset.sum_nonneg fun j _ => square_nonneg _, ← mul_assoc, ← EReal.coe_mul]
  congr 2
  norm_num

/-! The results. -/

theorem h2_at (n : Fin 4096) (j : Fin 1024) : val_main_v66 (F := Ideal) a.x a.g (ix2 n j) = a.hAt n j := by
  pointwise [val_main_v66, val_main_v65]
  exact v13_at a n j
theorem u_at (n : Fin 4096) (k : Fin 5632) : val_main_v67 (F := Ideal) a.x a.g a.wu (ix2 n k) = a.uAt n k := by
  pointwise [val_main_v67]
  exact v15_at a n k
theorem uc_at (n : Fin 4096) (k : Fin 5632) : val_main_v68 (F := Ideal) a.x a.g a.wu a.cw a.cb (ix2 n k) = a.base.uc n.val k.val := by
  pointwise [val_main_v68]
  exact v42_at a n k
theorem dy_at (n : Fin 4096) (j : Fin 1024) : val_main_v69 (F := Ideal) a.x a.g a.wu a.cw a.cb a.wd a.tg (ix2 n j) = a.err n j * Ideal.ofBits .f32 0x3A800000#32 := by
  pointwise [val_main_v69]
  exact v64_at a n j
theorem dyb_at (n : Fin 4096) (j : Fin 1024) : val_main_v71 (F := Ideal) a.x a.g a.wu a.cw a.cb a.wd a.tg (ix2 n j) = a.err n j * Ideal.ofBits .f32 0x3A800000#32 := by
  pointwise [val_main_v71, val_main_v70]
  exact v64_at a n j

end Cert.Reference6Ideal.FfnF

end
-- ==== Proof.FfnF.Claim.lean ====
/- The feed-forward forward call: where the norm's gain, the weights, the taps and the bias are real numbers, the kernel's six results are
   those of the reference. -/
module

public import proofs.«01_k».proof.Defs
public import proofs.«01_k».proof.Proof.Gen.Reference6Ideal.Run
public import proofs.«01_k».proof.Proof.FfnF.Tail
public import proofs.«01_k».proof.Proof.FfnF.Ref

@[expose] public section

set_option maxRecDepth 16384

open Idealize.ShloMosaic

namespace Cert.Proof.FfnF

open Cert.Kernel6Ideal.FfnF Cert.Proof.Reals Cert.Proof.ForwardSpec Cert.Reference6Ideal.FfnF

/-- What the precondition says of the arguments. -/
theorem finite [Cert.Pre_finite_ffn_fwd.Facts] (m : (ℓ : Loc Cert.Kernel6Ideal.nD Cert.Kernel6Ideal.τ Cert.Kernel6Ideal.sig) → Buf (Elt Ideal) ℓ)
    (h : Cert.Pre_Kernel6Ideal_finite_ffn_fwd m) (c : Dev Cert.Kernel6Ideal.nD) : Finite (args m c) := by
  have e := congrFun (h c) ix0
  obtain ⟨e, e4⟩ := and_one (show IntOp.andi _ _ = 1#1 from e)
  obtain ⟨e, e3⟩ := and_one (show IntOp.andi _ _ = 1#1 from e)
  obtain ⟨e, e2⟩ := and_one (show IntOp.andi _ _ = 1#1 from e)
  obtain ⟨e0, e1⟩ := and_one (show IntOp.andi _ _ = 1#1 from e)
  exact ⟨isReal_of_all _ _ _ _ _ _ _ e0, isReal_of_all _ _ _ _ _ _ _ e1, isReal_of_all _ _ _ _ _ _ _ e2, isReal_of_all _ _ _ _ _ _ _ e3,
    isReal_of_all _ _ _ _ _ _ _ e4⟩

/-- What the grid points add to the loss is the loss of all time steps. -/
theorem loss_all (a : Args) : ∑ t : Fin Cert.Kernel6Ideal.cfg0.N, addL a t.val = kLoss * ∑ n : Fin 4096, ∑ j : Fin 1024, a.err n j * a.err n j := by
  refine (mul_sum kLoss _ fun t => Finset.sum_nonneg fun i _ => Finset.sum_nonneg fun j _ => square_nonneg _).symm.trans (congrArg (kLoss * ·) ?_)
  refine (Fin.sum_mul_add_congr (S := 16) (n := 256) (L := 4096) (f := fun n => ∑ j : Fin 1024, eN a n.val j.val * eN a n.val j.val)
    (F := fun t i => ∑ j : Fin 1024, eN a (t.val * 256 + i.val) j.val * eN a (t.val * 256 + i.val) j.val) fun t i h => rfl).trans ?_
  simp only [eN_at]

theorem algebraic [Cert.Pre_finite_ffn_fwd.Facts] : Cert.algebraic_Kernel6Ideal_Reference6Ideal_pre_finite_ffn_fwd := by
  pair_intro
  · run_from Cert.Kernel6Ideal.FfnF.run m (fun c => finite m hpre c) g & Cert.Kernel6Ideal.Gen.unchanged m g
  · run_from Cert.Reference6Ideal.Value.run m' g'
    · obtain ⟨h0, h1, h2, h3, h4, h5, h6⟩ := hagree c
      rw [Cert.Reference6Ideal.Read.val_main_v66_eq]
      funext y
      idx_vars y
      exact (h2_at (args m c) y0 y1).trans (hN_at (args m c) y0 y1).symm
    · obtain ⟨h0, h1, h2, h3, h4, h5, h6⟩ := hagree c
      rw [Cert.Reference6Ideal.Read.val_main_v67_eq]
      funext y
      idx_vars y
      exact (u_at (args m c) y0 y1).trans (base_uN (args m c) y0 y1).symm
    · obtain ⟨h0, h1, h2, h3, h4, h5, h6⟩ := hagree c
      rw [Cert.Reference6Ideal.Read.val_main_v68_eq, h0, h1, h2, h3, h4]
      funext y
      idx_vars y
      exact uc_at (args m c) y0 y1
    · obtain ⟨h0, h1, h2, h3, h4, h5, h6⟩ := hagree c
      rw [Cert.Reference6Ideal.Read.val_main_v69_eq, h0, h1, h2, h3, h4, h5, h6]
      funext y
      idx_vars y
      exact (dy_at (args m c) y0 y1).trans (congrArg (· * kDy) (eN_at (args m c) y0 y1).symm)
    · obtain ⟨h0, h1, h2, h3, h4, h5, h6⟩ := hagree c
      rw [Cert.Reference6Ideal.Read.val_main_v71_eq, h0, h1, h2, h3, h4, h5, h6]
      funext y
      idx_vars y
      exact (dyb_at (args m c) y0 y1).trans (congrArg (· * kDy) (eN_at (args m c) y0 y1).symm)
    · obtain ⟨h0, h1, h2, h3, h4, h5, h6⟩ := hagree c
      rw [Cert.Reference6Ideal.Read.val_main_v58_eq, h0, h1, h2, h3, h4, h5, h6]
      funext y
      rw [← ix0_eta y]
      exact (v58_at (args m c)).trans (loss_all (args m c)).symm

end Cert.Proof.FfnF
-- ==== Proof.MixF.Host.lean ====
/- What the gated mix's forward call reads: the arrays its host lines prepare, and the blocks of 512 rows that a grid point
   sees, as functions of the arguments. -/
module

public import proofs.«01_k».proof.Proof.Gen.Kernel7Ideal.Frame
public import proofs.«01_k».proof.Proof.Gen.Reference7Ideal.Read
public import Idealize.ShloMosaic.Lib.Pipeline.ValueKit
public import Idealize.ShloMosaic.Lib.Claim

@[expose] public section

set_option maxRecDepth 16384

noncomputable section

namespace Cert.Kernel7Ideal.MixF

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The arguments, by name. -/
abbrev aX (c : Dev nD) : FVec Ideal S1x4096x1024 .f32 := m ((c : Thread nD τ).loc main_arg0)
abbrev aGates (c : Dev nD) : FVec Ideal S1x4096x2048 .f32 := m ((c : Thread nD τ).loc main_arg1)
abbrev aPool (c : Dev nD) : FVec Ideal S1x4096x1024 .f32 := m ((c : Thread nD τ).loc main_arg2)
abbrev aAttn (c : Dev nD) : FVec Ideal S1x4096x1024 .f32 := m ((c : Thread nD τ).loc main_arg3)
abbrev aWout (c : Dev nD) : FVec Ideal S1x1024x1024 .f32 := m ((c : Thread nD τ).loc main_arg4)

theorem V_x (c : Dev nD) : V m c main_v0 = shapeCast S4096x1024 (aX m c) shapeCasts_S1x4096x1024_S4096x1024 := by
  entry_read; rfl
theorem V_gates (c : Dev nD) : V m c main_v1 = shapeCast S4096x2048 (aGates m c) shapeCasts_S1x4096x2048_S4096x2048 := by
  entry_read; rfl
theorem V_pool (c : Dev nD) : V m c main_v3 = truncf .bf16 (shapeCast S4096x1024 (aPool m c) shapeCasts_S1x4096x1024_S4096x1024) bitsLt_bf16_f32 := by
  entry_read; rfl
theorem V_attn (c : Dev nD) : V m c main_v5 = truncf .bf16 (shapeCast S4096x1024 (aAttn m c) shapeCasts_S1x4096x1024_S4096x1024) bitsLt_bf16_f32 := by
  entry_read; rfl
theorem V_wout (c : Dev nD) : V m c main_v7 = truncf .bf16 (shapeCast S1024x1024 (aWout m c) shapeCasts_S1x1024x1024_S1024x1024) bitsLt_bf16_f32 := by
  entry_read; rfl

/-- The block index of every window at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ t.val < 8 :=
  (by decide +kernel : ∀ t : Fin grid0.N, _)

/-- Row `i` of block `t` is row `512 t + i` of the array. -/
abbrev row (t : Fin cfg0.N) (i : Fin 512) : Fin 4096 := ⟨t.val * 512 + i.val, by have := (idx t).2.2.2.2.2.2.2; omega⟩

theorem blk_x (c : Dev nD) (t : Fin cfg0.N) (i : Fin 512) (j : Fin 1024) :
    (iblk m c 0 t : FVec Ideal S512x1024 .f32) (ix2 i j) = aX m c (ix3 0 (row t i) j) := by
  have e : (iblk m c 0 t : FVec Ideal S512x1024 .f32) (ix2 i j) = V m c main_v0 (ix2 (row t i) j) := by blk_ext [iblk, idx t]
  rw [e, V_x]; pointwise
theorem blk_gates (c : Dev nD) (t : Fin cfg0.N) (i : Fin 512) (j : Fin 2048) :
    (iblk m c 1 t : FVec Ideal S512x2048 .f32) (ix2 i j) = aGates m c (ix3 0 (row t i) j) := by
  have e : (iblk m c 1 t : FVec Ideal S512x2048 .f32) (ix2 i j) = V m c main_v1 (ix2 (row t i) j) := by blk_ext [iblk, idx t]
  rw [e, V_gates]; pointwise
theorem blk_pool (c : Dev nD) (t : Fin cfg0.N) (i : Fin 512) (j : Fin 1024) :
    (iblk m c 2 t : FVec Ideal S512x1024 .bf16) (ix2 i j) = aPool m c (ix3 0 (row t i) j) := by
  have e : (iblk m c 2 t : FVec Ideal S512x1024 .bf16) (ix2 i j) = V m c main_v3 (ix2 (row t i) j) := by blk_ext [iblk, idx t]
  rw [e, V_pool]; pointwise
theorem blk_attn (c : Dev nD) (t : Fin cfg0.N) (i : Fin 512) (j : Fin 1024) :
    (iblk m c 3 t : FVec Ideal S512x1024 .bf16) (ix2 i j) = aAttn m c (ix3 0 (row t i) j) := by
  have e : (iblk m c 3 t : FVec Ideal S512x1024 .bf16) (ix2 i j) = V m c main_v5 (ix2 (row t i) j) := by blk_ext [iblk, idx t]
  rw [e, V_attn]; pointwise
theorem blk_wout (c : Dev nD) (t : Fin cfg0.N) (i j : Fin 1024) :
    (iblk m c 4 t : FVec Ideal S1024x1024 .bf16) (ix2 i j) = aWout m c (ix3 0 i j) := by
  have e : (iblk m c 4 t : FVec Ideal S1024x1024 .bf16) (ix2 i j) = V m c main_v7 (ix2 i j) := by blk_ext [iblk, idx t]
  rw [e, V_wout]; pointwise

end Cert.Kernel7Ideal.MixF

end
-- ==== Proof.MixF.Tiles.lean ====
/- The gated mix forward, block by block: the mixed activations, the residual sum with the output product, and the arrays
   they fill. -/
module

public import proofs.«01_k».proof.Proof.MixF.Host
public import Idealize.ShloMosaic.Lib.Pointwise

@[expose] public section

set_option maxRecDepth 16384

noncomputable section

namespace Cert.Kernel7Ideal.MixF

open Cert.Kernel7Ideal Cert.Kernel7Ideal.Gen Idealize.ShloMosaic Idealize.ShloMosaic.TcCoe Idealize.SL.Sem
open Idealize.ShloMosaic.Pipeline (Dat)
open Cert.Reference7Ideal.Read

variable (m : (ℓ : Loc nD τ sig) → Buf (Elt Ideal) ℓ)

abbrev refX (c : Dev nD) : FVec Ideal S4096x1024 .f32 := val_main_v8 (F := Ideal) (aX m c) (aGates m c) (aPool m c) (aAttn m c) (aWout m c)
abbrev refMix (c : Dev nD) : FVec Ideal S4096x1024 .bf16 := val_main_v10 (F := Ideal) (aGates m c) (aPool m c) (aAttn m c)

/-- A column of the pooled half, and of the attended half, of the gates. -/
abbrev lo (j : Fin 1024) : Fin 2048 := ⟨j.val, by omega⟩
abbrev hi (j : Fin 1024) : Fin 2048 := ⟨1024 + j.val, by omega⟩

/-- The mixed activations, at a row and a column. -/
def mix (c : Dev nD) (r : Fin 4096) (j : Fin 1024) : EReal :=
  aGates m c (ix3 0 r (lo j)) * aPool m c (ix3 0 r j) + aGates m c (ix3 0 r (hi j)) * aAttn m c (ix3 0 r j)

theorem refMix_at (c : Dev nD) (r : Fin 4096) (j : Fin 1024) : refMix m c (ix2 r j) = mix m c r j := by
  unfold mix
  pointwise [refMix, val_main_v10, val_main_v9, val_main_v4, val_main_v3, val_main_v2, val_main_v1, val_main_v0]

theorem refX_at (c : Dev nD) (r : Fin 4096) (j : Fin 1024) :
    refX m c (ix2 r j) = aX m c (ix3 0 r j) + ∑ k : Fin 1024, mix m c r k * aWout m c (ix3 0 k j) := by
  unfold mix
  pointwise [refX, val_main_v8, val_main_v7, val_main_v6, val_main_v5, val_main_v4, val_main_v3, val_main_v2, val_main_v1, val_main_v0]

/-! One block over any contents. -/

theorem ld_lo (B : Vec Ideal S512x2048 .f32) (i : Fin 512) (j : Fin 1024) :
    (View.ld B (Rect.unit ![0, 0] ![512, 1024] inb_S512x2048_S512x1024_0_0) : FVec Ideal S512x1024 .f32) (ix2 i j) = B (ix2 i (lo j)) := by
  pointwise
theorem ld_hi (B : Vec Ideal S512x2048 .f32) (i : Fin 512) (j : Fin 1024) :
    (View.ld B (Rect.unit ![0, 1024] ![512, 1024] inb_S512x2048_S512x1024_0_1024) : FVec Ideal S512x1024 .f32) (ix2 i j) = B (ix2 i (hi j)) := by
  pointwise

theorem pay1_at (G H : FVec Ideal S512x1024 .f32) (A B : FVec Ideal S512x1024 .bf16) (i : Fin 512) (j : Fin 1024) :
    k0_pay1 (F := Ideal) G A H B (ix2 i j) = G (ix2 i j) * A (ix2 i j) + H (ix2 i j) * B (ix2 i j) := by
  pointwise [k0_pay1]
theorem pay2_at (G H : FVec Ideal S512x1024 .f32) (A B : FVec Ideal S512x1024 .bf16) (X : FVec Ideal S512x1024 .f32) (W : FVec Ideal S1024x1024 .bf16)
    (i : Fin 512) (j : Fin 1024) :
    k0_pay2 (F := Ideal) G A H B X W (ix2 i j)
      = X (ix2 i j) + ∑ k : Fin 1024, k0_pay1 (F := Ideal) G A H B (ix2 i k) * W (ix2 k j) := by
  pointwise [k0_pay2]

/-! The two halves of a block of the gates, and the payloads at the blocks. -/

abbrev gLo (c : Dev nD) (t : Fin cfg0.N) : FVec Ideal S512x1024 .f32 :=
  View.ld (iblk m c 1 t) (Rect.unit ![0, 0] ![512, 1024] inb_S512x2048_S512x1024_0_0)
abbrev gHi (c : Dev nD) (t : Fin cfg0.N) : FVec Ideal S512x1024 .f32 :=
  View.ld (iblk m c 1 t) (Rect.unit ![0, 1024] ![512, 1024] inb_S512x2048_S512x1024_0_1024)

theorem pay_mix (c : Dev nD) (t : Fin cfg0.N) (i : Fin 512) (j : Fin 1024) :
    k0_pay1 (F := Ideal) (gLo m c t) (iblk m c 2 t) (gHi m c t) (iblk m c 3 t) (ix2 i j) = mix m c (row t i) j := by
  refine (pay1_at _ _ _ _ i j).trans ?_
  exact congrArg₂ (· + ·) (congrArg₂ (· * ·) ((ld_lo _ i j).trans (blk_gates m c t i _)) (blk_pool m c t i j))
    (congrArg₂ (· * ·) ((ld_hi _ i j).trans (blk_gates m c t i _)) (blk_attn m c t i j))

theorem pay_x (c : Dev nD) (t : Fin cfg0.N) (i : Fin 512) (j : Fin 1024) :
    k0_pay2 (F := Ideal) (gLo m c t) (iblk m c 2 t) (gHi m c t) (iblk m c 3 t) (iblk m c 0 t) (iblk m c 4 t) (ix2 i j) = refX m c (ix2 (row t i) j) := by
  refine (pay2_at _ _ _ _ _ _ i j).trans (Eq.trans ?_ (refX_at m c _ j).symm)
  refine congrArg₂ (· + ·) (blk_x m c t i j) (Finset.sum_congr rfl fun k _ => ?_)
  exact congrArg₂ (· * ·) (pay_mix m c t i k) (blk_wout m c t k j)

theorem final5 (c : Dev nD) : (dats m 0 c).arrAt 5 cfg0.N = refX m c := by
  refine (dats m 0 c).arrAt_eq_of_covers 5 _ (by decide +kernel) fun t _ y => ?_
  blk_simp
  rw [after0_5]
  have key : ∀ y : S512x1024.Idx, k0_pay2 (F := Ideal) (gLo m c t) (iblk m c 2 t) (gHi m c t) (iblk m c 3 t) (iblk m c 0 t) (iblk m c 4 t) y
      = refX m c (((View.whole main_v8_0).slice (win0_5.rect t)).emb y) := by
    intro y
    idx_vars y
    refine (pay_x m c t _ _).trans ?_
    blk_ext [idx t]
  unfold out0_5
  frame_out
  exact key y

theorem final6 (c : Dev nD) : (dats m 0 c).arrAt 6 cfg0.N = refMix m c := by
  refine (dats m 0 c).arrAt_eq_of_covers 6 _ (by decide +kernel) fun t _ y => ?_
  blk_simp
  rw [after0_6]
  have key : ∀ y : S512x1024.Idx, k0_pay1 (F := Ideal) (gLo m c t) (iblk m c 2 t) (gHi m c t) (iblk m c 3 t) y
      = refMix m c (((View.whole main_v8_1).slice (win0_6.rect t)).emb y) := by
    intro y
    idx_vars y
    refine (pay_mix m c t _ _).trans ((refMix_at m c _ _).symm.trans ?_)
    blk_ext [idx t]
  unfold out0_6
  frame_out
  exact key y

end Cert.Kernel7Ideal.MixF

end
-- ==== Proof.MixF.Claim.lean ====
/- The forward pass of the gated mix with the output product: the kernel's two arrays are the reference's. -/
module

public import proofs.«01_k».proof.Defs
public import proofs.«01_k».proof.Proof.Gen.Kernel7Ideal.Value
public import proofs.«01_k».proof.Proof.Gen.Reference7Ideal.Run
public import proofs.«01_k».proof.Proof.MixF.Tiles

@[expose] public section

set_option maxRecDepth 16384

open Idealize.ShloMosaic

namespace Cert.Proof.MixF

open Cert.Kernel7Ideal.MixF

theorem algebraic : Cert.algebraic_Kernel7Ideal_Reference7Ideal := by
  pair_intro
  · run_from Cert.Kernel7Ideal.Value.run_blocks m g
  · run_from Cert.Reference7Ideal.Value.run m' g'
    · exact (final5 m c).symm
    · exact (final6 m c).symm

end Cert.Proof.MixF
-- ==== Proof.InprojF.Host.lean ====
/- What the input projection's forward call reads: the arrays its host lines prepare, the blocks of 512 rows that a grid
   point sees, and the normalized activations and their products as functions of the arguments. -/
module

public import proofs.«01_k».proof.Proof.Gen.Kernel8Ideal.Frame
public import proofs.«01_k».proof.Proof.Gen.Reference8Ideal.Read
public import Idealize.ShloMosaic.Lib.Pipeline.ValueKit
public import Idealize.ShloMosaic.Lib.Pointwise
public import Idealize.ShloMosaic.Lib.Claim
public import proofs.«01_k».proof.Proof.Reals

@[expose] public section

set_option maxRecDepth 16384

noncomputable section

namespace Cert.Kernel8Ideal.InprojF

open Cert.Kernel8Ideal Cert.Kernel8Ideal.Gen Idealize.ShloMosaic Idealize.ShloMosaic.TcCoe Idealize.SL.Sem
open Idealize.ShloMosaic.Pipeline (Dat)
open Cert.Proof.Reals

variable (m : (ℓ : Loc nD τ sig) → Buf (Elt Ideal) ℓ)

/-- The arguments, by name. -/
abbrev aX (c : Dev nD) : FVec Ideal S1x4096x1024 .f32 := m ((c : Thread nD τ).loc main_arg0)
abbrev aGain (c : Dev nD) : FVec Ideal S1x1024 .f32 := m ((c : Thread nD τ).loc main_arg1)
abbrev aWin (c : Dev nD) : FVec Ideal S1x1024x4352 .f32 := m ((c : Thread nD τ).loc main_arg2)
abbrev aBias (c : Dev nD) : FVec Ideal S1x2048 .f32 := m ((c : Thread nD τ).loc main_arg3)

/-- The normalized activations, and their product with the weight. -/
def hAt (c : Dev nD) (r : Fin 4096) (j : Fin 1024) : EReal :=
  aX m c (ix3 0 r j) * root (fun k => aX m c (ix3 0 r k)) * aGain m c (ix2 0 j)
def zAt (c : Dev nD) (r : Fin 4096) (l : Fin 4352) : EReal := ∑ j : Fin 1024, hAt m c r j * aWin m c (ix3 0 j l)

/-- A column of each of the four ranges: pooling, queries, keys with values, gates. -/
abbrev colU (k : Fin 1024) : Fin 4352 := ⟨k.val, by omega⟩
abbrev colQ (k : Fin 1024) : Fin 4352 := ⟨1024 + k.val, by omega⟩
abbrev colKV (k : Fin 256) : Fin 4352 := ⟨2048 + k.val, by omega⟩
abbrev colG (k : Fin 2048) : Fin 4352 := ⟨2304 + k.val, by omega⟩

theorem V_x (c : Dev nD) : V m c main_v0 = shapeCast S4096x1024 (aX m c) shapeCasts_S1x4096x1024_S4096x1024 := by
  entry_read; rfl
theorem V_w (c : Dev nD) (k : Fin 4352) (j : Fin 1024) : (V m c main_v3 : FVec Ideal S4352x1024 .bf16) (ix2 k j) = aWin m c (ix3 0 j k) := by
  have e : V m c main_v3 = truncf .bf16 (transpose S4352x1024 [1, 0] (shapeCast S1024x4352 (aWin m c) shapeCasts_S1x1024x4352_S1024x4352) transposes_S1024x4352_S4352x1024_1_0) bitsLt_bf16_f32 := by
    entry_read; rfl
  rw [e]; pointwise

/-- The block index of every window at every grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ t.val < 8 :=
  (by decide +kernel : ∀ t : Fin grid0.N, _)

/-- Row `i` of block `t` is row `512 t + i` of the array. -/
abbrev row (t : Fin cfg0.N) (i : Fin 512) : Fin 4096 := ⟨t.val * 512 + i.val, by have := (idx t).2.2.2.2.2.2.2.2.2; omega⟩

theorem blk_x (c : Dev nD) (t : Fin cfg0.N) (i : Fin 512) (j : Fin 1024) :
    (iblk m c 0 t : FVec Ideal S512x1024 .f32) (ix2 i j) = aX m c (ix3 0 (row t i) j) := by
  have e : (iblk m c 0 t : FVec Ideal S512x1024 .f32) (ix2 i j) = V m c main_v0 (ix2 (row t i) j) := by blk_ext [iblk, idx t]
  rw [e, V_x]; pointwise
theorem blk_gain (c : Dev nD) (t : Fin cfg0.N) (j : Fin 1024) :
    (iblk m c 1 t : FVec Ideal S1x1024 .f32) (ix2 0 j) = aGain m c (ix2 0 j) := by
  have e : (iblk m c 1 t : FVec Ideal S1x1024 .f32) (ix2 0 j) = V m c main_arg1 (ix2 0 j) := by blk_ext [iblk, idx t]
  rw [e, V_main_arg1]
theorem blk_w (c : Dev nD) (t : Fin cfg0.N) (k : Fin 4352) (j : Fin 1024) :
    (iblk m c 2 t : FVec Ideal S4352x1024 .bf16) (ix2 k j) = aWin m c (ix3 0 j k) := by
  have e : (iblk m c 2 t : FVec Ideal S4352x1024 .bf16) (ix2 k j) = V m c main_v3 (ix2 k j) := by blk_ext [iblk, idx t]
  exact e.trans (V_w m c _ _)
theorem blk_bias (c : Dev nD) (t : Fin cfg0.N) (j : Fin 2048) :
    (iblk m c 3 t : FVec Ideal S1x2048 .f32) (ix2 0 j) = aBias m c (ix2 0 j) := by
  have e : (iblk m c 3 t : FVec Ideal S1x2048 .f32) (ix2 0 j) = V m c main_arg3 (ix2 0 j) := by blk_ext [iblk, idx t]
  rw [e, V_main_arg3]

end Cert.Kernel8Ideal.InprojF

end
-- ==== Proof.InprojF.Ref.lean ====
/- The reference's five arrays of the input projection's forward call, one element at a time: the normalized activations, the
   three ranges of their product, and the gates. -/
module

public import proofs.«01_k».proof.Proof.InprojF.Host

@[expose] public section

set_option maxRecDepth 16384

noncomputable section

namespace Cert.Kernel8Ideal.InprojF

open Cert.Kernel8Ideal Cert.Kernel8Ideal.Gen Idealize.ShloMosaic Idealize.ShloMosaic.TcCoe Idealize.SL.Sem
open Cert.Reference8Ideal.Read
open Cert.Proof.Reals

variable (m : (ℓ : Loc nD τ sig) → Buf (Elt Ideal) ℓ) (c : Dev nD)

abbrev refH : FVec Ideal S4096x1024 .bf16 := val_main_v28 (F := Ideal) (aX m c) (aGain m c)
abbrev refU : FVec Ideal S4096x1024 .f32 := val_main_v30 (F := Ideal) (aX m c) (aGain m c) (aWin m c)
abbrev refQ : FVec Ideal S4096x1024 .f32 := val_main_v32 (F := Ideal) (aX m c) (aGain m c) (aWin m c)
abbrev refKV : FVec Ideal S4096x256 .f32 := val_main_v34 (F := Ideal) (aX m c) (aGain m c) (aWin m c)
abbrev refG : FVec Ideal S4096x2048 .f32 := val_main_v35 (F := Ideal) (aX m c) (aGain m c) (aWin m c) (aBias m c)

theorem v13_at (r : Fin 4096) (j : Fin 1024) : val_main_v13 (F := Ideal) (aX m c) (aGain m c) (ix3 0 r j) = hAt m c r j := by
  unfold hAt root meanSq
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
theorem v15_at (r : Fin 4096) (l : Fin 4352) : val_main_v15 (F := Ideal) (aX m c) (aGain m c) (aWin m c) (ix3 0 r l) = zAt m c r l := by
  unfold zAt
  pointwise [val_main_v15, val_main_v14]
  simp only [v13_at]
theorem refH_at (r : Fin 4096) (j : Fin 1024) : refH m c (ix2 r j) = hAt m c r j := by
  rw [← v13_at]
  pointwise [refH, val_main_v28, val_main_v27]
theorem refU_at (r : Fin 4096) (j : Fin 1024) : refU m c (ix2 r j) = zAt m c r (colU j) := by
  rw [← v15_at]
  pointwise [refU, val_main_v30, val_main_v29]
theorem refQ_at (r : Fin 4096) (j : Fin 1024) : refQ m c (ix2 r j) = zAt m c r (colQ j) := by
  rw [← v15_at]
  pointwise [refQ, val_main_v32, val_main_v31]
theorem refKV_at (r : Fin 4096) (j : Fin 256) : refKV m c (ix2 r j) = zAt m c r (colKV j) := by
  rw [← v15_at]
  pointwise [refKV, val_main_v34, val_main_v33]
theorem refG_at (r : Fin 4096) (j : Fin 2048) :
    refG m c (ix2 r j) = FloatOps.logistic (F := Ideal) (φ := .f32) (zAt m c r (colG j) + aBias m c (ix2 0 j)) := by
  rw [← v15_at]
  pointwise [refG, val_main_v35, val_main_v26, val_main_v25, val_main_v24, val_main_v23, val_main_v22, val_main_v21, val_main_v20, val_main_v19, val_main_v18, val_main_v17, val_main_v16, val_main_cst_2, val_main_cst_3]
  rfl

end Cert.Kernel8Ideal.InprojF

end
-- ==== Proof.InprojF.Tiles.lean ====
/- The forward pass of the input projection, block by block: the normalized activations, the three ranges of their product with
   the weight, the gates, and the arrays they fill. -/
module

public import proofs.«01_k».proof.Proof.InprojF.Ref

@[expose] public section

set_option maxRecDepth 16384

noncomputable section

namespace Cert.Kernel8Ideal.InprojF

open Cert.Kernel8Ideal Cert.Kernel8Ideal.Gen Idealize.ShloMosaic Idealize.ShloMosaic.TcCoe Idealize.SL.Sem
open Idealize.ShloMosaic.Pipeline (Dat)
open Cert.Proof.Reals

variable (m : (ℓ : Loc nD τ sig) → Buf (Elt Ideal) ℓ)

/-! The payloads over any blocks. -/

theorem pay2_at (X : FVec Ideal S512x1024 .f32) (G : FVec Ideal S1x1024 .f32) (i : Fin 512) (j : Fin 1024) :
    k0_pay2 (F := Ideal) X G (ix2 i j) = X (ix2 i j) * root (fun k => X (ix2 i k)) * G (ix2 0 j) := by
  unfold root meanSq
  pointwise [k0_pay2]
theorem pay3_at (X : FVec Ideal S512x1024 .f32) (G : FVec Ideal S1x1024 .f32) (W : FVec Ideal S1024x1024 .bf16) (i : Fin 512) (j : Fin 1024) :
    k0_pay3 (F := Ideal) X G W (ix2 i j) = ∑ k : Fin 1024, k0_pay2 (F := Ideal) X G (ix2 i k) * W (ix2 j k) := by
  pointwise [k0_pay3]
theorem pay4_at (X : FVec Ideal S512x1024 .f32) (G : FVec Ideal S1x1024 .f32) (W : FVec Ideal S1024x1024 .bf16) (i : Fin 512) (j : Fin 1024) :
    k0_pay4 (F := Ideal) X G W (ix2 i j) = ∑ k : Fin 1024, k0_pay2 (F := Ideal) X G (ix2 i k) * W (ix2 j k) := by
  pointwise [k0_pay4]
theorem pay5_at (X : FVec Ideal S512x1024 .f32) (G : FVec Ideal S1x1024 .f32) (W : FVec Ideal S256x1024 .bf16) (i : Fin 512) (j : Fin 256) :
    k0_pay5 (F := Ideal) X G W (ix2 i j) = ∑ k : Fin 1024, k0_pay2 (F := Ideal) X G (ix2 i k) * W (ix2 j k) := by
  pointwise [k0_pay5]
theorem pay1_at (D : FVec Ideal S512x1024 .bf16) (W : FVec Ideal S2048x1024 .bf16) (B : FVec Ideal S1x2048 .f32) (i : Fin 512) (j : Fin 2048) :
    k0_pay1 (F := Ideal) D W B (ix2 i j)
      = FloatOps.logistic (F := Ideal) (φ := .f32) ((∑ k : Fin 1024, D (ix2 i k) * W (ix2 j k)) + B (ix2 0 j)) := by
  pointwise [k0_pay1]

/-! The four row ranges of the weight's block. -/

abbrev wU (B : Vec Ideal S4352x1024 .bf16) : FVec Ideal S1024x1024 .bf16 := View.ld B (Rect.unit ![0, 0] ![1024, 1024] inb_S4352x1024_S1024x1024_0_0)
abbrev wQ (B : Vec Ideal S4352x1024 .bf16) : FVec Ideal S1024x1024 .bf16 := View.ld B (Rect.unit ![1024, 0] ![1024, 1024] inb_S4352x1024_S1024x1024_1024_0)
abbrev wKV (B : Vec Ideal S4352x1024 .bf16) : FVec Ideal S256x1024 .bf16 := View.ld B (Rect.unit ![2048, 0] ![256, 1024] inb_S4352x1024_S256x1024_2048_0)
abbrev wG (B : Vec Ideal S4352x1024 .bf16) : FVec Ideal S2048x1024 .bf16 := View.ld B (Rect.unit ![2304, 0] ![2048, 1024] inb_S4352x1024_S2048x1024_2304_0)

theorem wU_at (B : Vec Ideal S4352x1024 .bf16) (k j : Fin 1024) : wU B (ix2 k j) = B (ix2 (colU k) j) := by pointwise [wU]
theorem wQ_at (B : Vec Ideal S4352x1024 .bf16) (k j : Fin 1024) : wQ B (ix2 k j) = B (ix2 (colQ k) j) := by pointwise [wQ]
theorem wKV_at (B : Vec Ideal S4352x1024 .bf16) (k : Fin 256) (j : Fin 1024) : wKV B (ix2 k j) = B (ix2 (colKV k) j) := by pointwise [wKV]
theorem wG_at (B : Vec Ideal S4352x1024 .bf16) (k : Fin 2048) (j : Fin 1024) : wG B (ix2 k j) = B (ix2 (colG k) j) := by pointwise [wG]

/-! The payloads at the blocks. -/

theorem pay_h (c : Dev nD) (t : Fin cfg0.N) (i : Fin 512) (j : Fin 1024) :
    k0_pay2 (F := Ideal) (iblk m c 0 t) (iblk m c 1 t) (ix2 i j) = hAt m c (row t i) j := by
  refine (pay2_at _ _ i j).trans ?_
  refine congrArg₂ (· * ·) (congrArg₂ (· * ·) (blk_x m c t i j) (congrArg root (funext fun k => blk_x m c t i k))) (blk_gain m c t j)
theorem pay_u (c : Dev nD) (t : Fin cfg0.N) (i : Fin 512) (j : Fin 1024) :
    k0_pay3 (F := Ideal) (iblk m c 0 t) (iblk m c 1 t) (wU (iblk m c 2 t)) (ix2 i j) = zAt m c (row t i) (colU j) := by
  refine (pay3_at _ _ _ i j).trans (Finset.sum_congr rfl fun k _ => ?_)
  exact congrArg₂ (· * ·) (pay_h m c t i k) ((wU_at _ j k).trans (blk_w m c t _ k))
theorem pay_q (c : Dev nD) (t : Fin cfg0.N) (i : Fin 512) (j : Fin 1024) :
    k0_pay4 (F := Ideal) (iblk m c 0 t) (iblk m c 1 t) (wQ (iblk m c 2 t)) (ix2 i j) = zAt m c (row t i) (colQ j) := by
  refine (pay4_at _ _ _ i j).trans (Finset.sum_congr rfl fun k _ => ?_)
  exact congrArg₂ (· * ·) (pay_h m c t i k) ((wQ_at _ j k).trans (blk_w m c t _ k))
theorem pay_kv (c : Dev nD) (t : Fin cfg0.N) (i : Fin 512) (j : Fin 256) :
    k0_pay5 (F := Ideal) (iblk m c 0 t) (iblk m c 1 t) (wKV (iblk m c 2 t)) (ix2 i j) = zAt m c (row t i) (colKV j) := by
  refine (pay5_at _ _ _ i j).trans (Finset.sum_congr rfl fun k _ => ?_)
  exact congrArg₂ (· * ·) (pay_h m c t i k) ((wKV_at _ j k).trans (blk_w m c t _ k))
theorem pay_g (c : Dev nD) (t : Fin cfg0.N) (i : Fin 512) (j : Fin 2048) :
    k0_pay1 (F := Ideal) (k0_pay2 (iblk m c 0 t) (iblk m c 1 t)) (wG (iblk m c 2 t)) (iblk m c 3 t) (ix2 i j) = refG m c (ix2 (row t i) j) := by
  refine (pay1_at _ _ _ i j).trans (Eq.trans ?_ (refG_at m c _ j).symm)
  refine congrArg _ (congrArg₂ (· + ·) (Finset.sum_congr rfl fun k _ => ?_) (blk_bias m c t j))
  exact congrArg₂ (· * ·) (pay_h m c t i k) ((wG_at _ j k).trans (blk_w m c t _ k))

theorem final4 (c : Dev nD) : (dats m 0 c).arrAt 4 cfg0.N = refH m c := by
  refine (dats m 0 c).arrAt_eq_of_covers 4 _ (by decide +kernel) fun t _ y => ?_
  blk_simp
  rw [after0_4]
  have key : ∀ y : S512x1024.Idx, k0_pay2 (F := Ideal) (iblk m c 0 t) (iblk m c 1 t) y
      = refH m c (((View.whole main_v4_0).slice (win0_4.rect t)).emb y) := by
    intro y
    idx_vars y
    refine (pay_h m c t _ _).trans ((refH_at m c _ _).symm.trans ?_)
    blk_ext [idx t]
  unfold out0_4
  frame_out
  exact key y

theorem final5 (c : Dev nD) : (dats m 0 c).arrAt 5 cfg0.N = refU m c := by
  refine (dats m 0 c).arrAt_eq_of_covers 5 _ (by decide +kernel) fun t _ y => ?_
  blk_simp
  rw [after0_5]
  have key : ∀ y : S512x1024.Idx, k0_pay3 (F := Ideal) (iblk m c 0 t) (iblk m c 1 t) (wU (iblk m c 2 t)) y
      = refU m c (((View.whole main_v4_1).slice (win0_5.rect t)).emb y) := by
    intro y
    idx_vars y
    refine (pay_u m c t _ _).trans ((refU_at m c _ _).symm.trans ?_)
    blk_ext [idx t]
  unfold out0_5
  frame_out
  exact key y

theorem final6 (c : Dev nD) : (dats m 0 c).arrAt 6 cfg0.N = refQ m c := by
  refine (dats m 0 c).arrAt_eq_of_covers 6 _ (by decide +kernel) fun t _ y => ?_
  blk_simp
  rw [after0_6]
  have key : ∀ y : S512x1024.Idx, k0_pay4 (F := Ideal) (iblk m c 0 t) (iblk m c 1 t) (wQ (iblk m c 2 t)) y
      = refQ m c (((View.whole main_v4_2).slice (win0_6.rect t)).emb y) := by
    intro y
    idx_vars y
    refine (pay_q m c t _ _).trans ((refQ_at m c _ _).symm.trans ?_)
    blk_ext [idx t]
  unfold out0_6
  frame_out
  exact key y

theorem final7 (c : Dev nD) : (dats m 0 c).arrAt 7 cfg0.N = refKV m c := by
  refine (dats m 0 c).arrAt_eq_of_covers 7 _ (by decide +kernel) fun t _ y => ?_
  blk_simp
  rw [after0_7]
  have key : ∀ y : S512x256.Idx, k0_pay5 (F := Ideal) (iblk m c 0 t) (iblk m c 1 t) (wKV (iblk m c 2 t)) y
      = refKV m c (((View.whole main_v4_3).slice (win0_7.rect t)).emb y) := by
    intro y
    idx_vars y
    refine (pay_kv m c t _ _).trans ((refKV_at m c _ _).symm.trans ?_)
    blk_ext [idx t]
  unfold out0_7
  frame_out
  exact key y

theorem final8 (c : Dev nD) : (dats m 0 c).arrAt 8 cfg0.N = refG m c := by
  refine (dats m 0 c).arrAt_eq_of_covers 8 _ (by decide +kernel) fun t _ y => ?_
  blk_simp
  rw [after0_8]
  have key : ∀ y : S512x2048.Idx, k0_pay1 (F := Ideal) (k0_pay2 (iblk m c 0 t) (iblk m c 1 t)) (wG (iblk m c 2 t)) (iblk m c 3 t) y
      = refG m c (((View.whole main_v4_4).slice (win0_8.rect t)).emb y) := by
    intro y
    idx_vars y
    refine (pay_g m c t _ _).trans ?_
    blk_ext [idx t]
  unfold out0_8
  frame_out
  exact key y

end Cert.Kernel8Ideal.InprojF

end
-- ==== Proof.InprojF.Claim.lean ====
/- The forward pass of the input projection, its norm and its gates: the kernel's five arrays are the reference's. -/
module

public import proofs.«01_k».proof.Defs
public import proofs.«01_k».proof.Proof.Gen.Kernel8Ideal.Value
public import proofs.«01_k».proof.Proof.Gen.Reference8Ideal.Run
public import proofs.«01_k».proof.Proof.InprojF.Tiles

@[expose] public section

set_option maxRecDepth 16384

open Idealize.ShloMosaic

namespace Cert.Proof.InprojF

open Cert.Kernel8Ideal.InprojF

theorem algebraic : Cert.algebraic_Kernel8Ideal_Reference8Ideal := by
  pair_intro
  · run_from Cert.Kernel8Ideal.Value.run_blocks m g
  · run_from Cert.Reference8Ideal.Value.run m' g'
    · exact (final4 m c).symm
    · exact (final5 m c).symm
    · exact (final6 m c).symm
    · exact (final7 m c).symm
    · exact (final8 m c).symm

end Cert.Proof.InprojF
-- ==== Proof.PoolF.Host.lean ====
/- What the pooling's forward call reads: the arrays its host lines prepare, and the blocks that a grid point sees as blocks of
   functions of the row and column number. -/
module

public import proofs.«01_k».proof.Proof.Gen.Kernel9Ideal.Frame
public import proofs.«01_k».proof.Proof.Pool.Tiles
public import Idealize.ShloMosaic.Lib.Pipeline.ValueKit
public import Idealize.ShloMosaic.Lib.Claim

@[expose] public section

set_option maxRecDepth 16384

noncomputable section

namespace Cert.Kernel9Ideal.PoolF

open Cert.Kernel9Ideal Cert.Kernel9Ideal.Gen Idealize.ShloMosaic Idealize.ShloMosaic.TcCoe Idealize.SL.Sem
open Idealize.ShloMosaic.Pipeline (Dat)
open Cert.Proof.Slab Cert.Proof.PoolMath
open Cert.Kernel2Ideal.Pool (first_word word_num cast_w ld_w ld_s)

variable (m : (ℓ : Loc nD τ sig) → Buf (Elt Ideal) ℓ)

/-- The arguments, by name and by row and column number. -/
abbrev aU (c : Dev nD) : FVec Ideal S1x4096x1024 .f32 := m ((c : Thread nD τ).loc main_arg0)
abbrev aWpool (c : Dev nD) : FVec Ideal S1x4x256x256 .f32 := m ((c : Thread nD τ).loc main_arg1)
abbrev aScale (c : Dev nD) : FVec Ideal S1x1024 .f32 := m ((c : Thread nD τ).loc main_arg2)
abbrev uN (c : Dev nD) : Nat → Nat → EReal := rows (aU m c)
abbrev wN (c : Dev nD) : Nat → Nat → Nat → EReal := weight (aWpool m c)
abbrev sN (c : Dev nD) : Nat → EReal := line (aScale m c)

theorem V_u (c : Dev nD) : V m c main_v0 = shapeCast S4096x1024 (aU m c) shapeCasts_S1x4096x1024_S4096x1024 := by
  entry_read; rfl
theorem V_w (c : Dev nD) (g : Fin 4) (k j : Fin 256) : (V m c main_v2 : FVec Ideal S4x256x256 .bf16) (ix3 g k j) = aWpool m c (ix4 0 g k j) := by
  have e : V m c main_v2 = truncf .bf16 (shapeCast S4x256x256 (aWpool m c) shapeCasts_S1x4x256x256_S4x256x256) bitsLt_bf16_f32 := by
    entry_read; rfl
  rw [e]; pointwise
theorem V_scale (c : Dev nD) : V m c main_arg2 = aScale m c := by
  entry_read; rfl

/-- The block index of every window: the rows before a block are the 32 that end where it starts. -/
theorem idx : ∀ t : Fin cfg0.N, win0_0.index t = ![t.val, 0] ∧ win0_1.index t = ![t.val * 16 - 1, 0] ∧ win0_2.index t = ![0, 0, 0]
    ∧ win0_3.index t = ![0, 0] ∧ win0_4.index t = ![t.val, 0] ∧ t.val < 8 :=
  (by decide +kernel : ∀ t : Fin grid0.N, _)
theorem N8 (t : Fin cfg0.N) : t.val < 8 := (idx t).2.2.2.2.2
theorem coord (t : Fin cfg0.N) : ((grid0.coords t) 0).val = t.val := (by decide +kernel : ∀ t : Fin grid0.N, ((grid0.coords t) 0).val = t.val) t

/-- Row `i` of block `t` is row `512 t + i` of the array. -/
abbrev row (t : Fin cfg0.N) (i : Fin 512) : Fin 4096 := ⟨t.val * 512 + i.val, by have := N8 t; omega⟩

theorem blk_u (c : Dev nD) (t : Fin cfg0.N) (i : Fin 512) (j : Fin 1024) :
    (iblk m c 0 t : FVec Ideal S512x1024 .f32) (ix2 i j) = aU m c (ix3 0 (row t i) j) := by
  have e : (iblk m c 0 t : FVec Ideal S512x1024 .f32) (ix2 i j) = V m c main_v0 (ix2 (row t i) j) := by blk_ext [iblk, idx t]
  rw [e, V_u]; pointwise
theorem blk_before (c : Dev nD) (t : Fin cfg0.N) (i : Fin 32) (j : Fin 1024) (h : t.val ≠ 0) :
    (iblk m c 1 t : FVec Ideal S32x1024 .f32) (ix2 i j) = aU m c (ix3 0 ⟨t.val * 512 + i.val - 32, by have := N8 t; omega⟩ j) := by
  have e : (iblk m c 1 t : FVec Ideal S32x1024 .f32) (ix2 i j)
      = V m c main_v0 (ix2 ⟨t.val * 512 + i.val - 32, by have := N8 t; omega⟩ j) := by blk_ext [iblk, idx t]
  rw [e, V_u]; pointwise
theorem blk_w (c : Dev nD) (t : Fin cfg0.N) (g : Fin 4) (k j : Fin 256) :
    (iblk m c 2 t : FVec Ideal S4x256x256 .bf16) (ix3 g k j) = aWpool m c (ix4 0 g k j) := by
  have e : (iblk m c 2 t : FVec Ideal S4x256x256 .bf16) (ix3 g k j) = V m c main_v2 (ix3 g k j) := by blk_ext [iblk, idx t]
  exact e.trans (V_w m c _ _ _)
theorem blk_scale (c : Dev nD) (t : Fin cfg0.N) (i : Fin 1) (j : Fin 1024) :
    (iblk m c 3 t : FVec Ideal S1x1024 .f32) (ix2 i j) = aScale m c (ix2 0 j) := by
  have e : (iblk m c 3 t : FVec Ideal S1x1024 .f32) (ix2 i j) = V m c main_arg2 (ix2 0 j) := by blk_ext [iblk, idx t]
  rw [e, V_scale]

/-- The scale as a row, the weight of one group as a matrix. -/
def sX (c : Dev nD) (_r col : Nat) : EReal := sN m c col
def wX (c : Dev nD) (g k d : Nat) : EReal := wN m c g k d

theorem pay3_blk (c : Dev nD) (t : Fin cfg0.N) : (k0_pay3 (iblk m c 0 t) : FVec Ideal S512x1024 .f32) = slab 512 1024 (lead (uN m c) t.val) 32 0 := by
  funext y
  idx_vars y
  have e : (k0_pay3 (iblk m c 0 t) : FVec Ideal S512x1024 .f32) (ix2 y0 y1) = (iblk m c 0 t : FVec Ideal S512x1024 .f32) (ix2 y0 y1) := by
    pointwise [k0_pay3]
  rw [e, blk_u, slab_at, lead_zero, Nat.zero_add]
  exact (rows_at _ _ _).symm
theorem pay2_blk (c : Dev nD) (t : Fin cfg0.N) : (k0_pay2 (grid0.coords t) (iblk m c 1 t) : FVec Ideal S32x1024 .f32) = slab 32 1024 (lead (uN m c) t.val) 0 0 := by
  funext y
  idx_vars y
  have e : (k0_pay2 (grid0.coords t) (iblk m c 1 t) : FVec Ideal S32x1024 .f32) (ix2 y0 y1)
      = if Scalar.cmpi .sgt (BitVec.ofNat 32 ((grid0.coords t) 0).val) 0#32 = 1#1 then (iblk m c 1 t : FVec Ideal S32x1024 .f32) (ix2 y0 y1) else Ideal.ofBits .f32 0#32 := by
    pointwise [k0_pay2]
    rfl
  rw [e, coord, first_word ⟨t.val, N8 t⟩, slab_at, lead]
  by_cases h : t.val = 0
  · rw [if_pos h, if_neg (by decide), if_neg (by omega)]; exact Ideal.ofBits_zero .f32
  · rw [if_neg h, if_pos rfl, blk_before m c t y0 y1 h, if_pos (by omega)]
    exact rows_eq _ _ _ _ _ (by show _ = t.val * 512 + y0.val - 32; omega) (by omega)
theorem pay4_blk (t : Fin cfg0.N) : (k0_pay4 (grid0.coords t) : FVec Ideal S512x1 .f32) = slab 512 1 (nums t.val) 0 0 := by
  funext y
  idx_vars y
  pointwise [k0_pay4]
  rw [coord, word_num _ _ (N8 t) (by omega), slab_at, nums, Nat.zero_add]
theorem w_blk (c : Dev nD) (t : Fin cfg0.N) (g : Nat) (hg : g < 4)
    (i : ∀ x, (![g, 0, 0] : Fin 3 → Nat) x + (![1, 256, 256] : Fin 3 → Nat) x ≤ S4x256x256.size x) (h : S1x256x256.ShapeCasts S256x256) :
    (shapeCast S256x256 (View.ld (iblk m c 2 t) (Rect.unit (s := S4x256x256) ![g, 0, 0] ![1, 256, 256] i) : FVec Ideal S1x256x256 .bf16) h : FVec Ideal S256x256 .bf16)
      = slab 256 256 (wX m c g) 0 0 := by
  funext y
  idx_vars y
  refine (cast_w _ h y0 y1).trans ((ld_w _ g hg i y0 y1).trans ?_)
  refine (blk_w m c t ⟨g, hg⟩ y0 y1).trans ?_
  rw [slab_at, wX]
  exact weight_eq _ _ _ _ _ _ _ rfl (Nat.zero_add _) (Nat.zero_add _)
theorem s_blk (c : Dev nD) (t : Fin cfg0.N) (o : Nat)
    (i : ∀ x, (![0, o] : Fin 2 → Nat) x + (![1, 256] : Fin 2 → Nat) x ≤ S1x1024.size x) :
    (View.ld (iblk m c 3 t) (Rect.unit (s := S1x1024) ![0, o] ![1, 256] i) : FVec Ideal S1x256 .f32) = slab (φ := .f32) 1 256 (sX m c) 0 o := by
  have ho : o + 256 ≤ 1024 := i 1
  funext y
  idx_vars y
  refine (ld_s _ o ho i y0 y1).trans ?_
  refine (blk_scale m c t 0 ⟨o + y1.val, by omega⟩).trans ?_
  rw [slab_at, sX]
  exact line_eq _ _ _ rfl

end Cert.Kernel9Ideal.PoolF

end
-- ==== Proof.PoolF.Ref.lean ====
/- The reference's forward pass of the pooling, entry by entry: it is the forward part of the reference whose derivative the
   pooling's gradient is. -/
module

public import proofs.«01_k».proof.Proof.Gen.Reference9Ideal.Read
public import proofs.«01_k».proof.Proof.Pool.Ref

@[expose] public section

set_option maxRecDepth 16384

noncomputable section

namespace Cert.Reference9Ideal.PoolF

open Cert.Reference9Ideal Cert.Reference9Ideal.Gen Cert.Reference9Ideal.Read Idealize.ShloMosaic Idealize.ShloMosaic.TcCoe
open Cert.Proof.PoolMath Cert.Proof.Reals

variable (u : FVec Ideal S1x4096x1024 .f32) (w : FVec Ideal S1x4x256x256 .f32) (s : FVec Ideal S1x1024 .f32)

theorem mixed_same : val_main_v64 (F := Ideal) u w = Cert.Reference2Ideal.Read.val_main_v68 (F := Ideal) u w := rfl

theorem v70_at (hu : ∀ i, IsReal (u i)) (n : Fin 4096) (c : Fin 1024) :
    val_main_v70 (F := Ideal) u w s (ix2 n c) = mixedCol (rows u) (weight w) n.val c.val * line s c.val := by
  pointwise [val_main_v70, val_main_v69, val_main_v68, val_main_v67, val_main_v66, val_main_v65]
  rw [mixed_same, line_at s c]
  exact congrArg (· * _) (Cert.Reference2Ideal.Pool.v68_at u w hu 0 n c)

end Cert.Reference9Ideal.PoolF

end
-- ==== Proof.PoolF.Tiles.lean ====
/- What a grid point of the pooling's forward call leaves: each group's pooled rows, mixed and scaled; the blocks lie side by side
   and are what the reference computes. -/
module

public import proofs.«01_k».proof.Proof.PoolF.Host
public import proofs.«01_k».proof.Proof.PoolF.Ref
public import Idealize.ShloMosaic.Lib.Pipeline.ReadBack

@[expose] public section

set_option maxRecDepth 16384

noncomputable section

namespace Cert.Kernel9Ideal.PoolF

open Cert.Kernel9Ideal Cert.Kernel9Ideal.Gen Idealize.ShloMosaic Idealize.ShloMosaic.TcCoe Idealize.SL.Sem
open Idealize.ShloMosaic.Pipeline (Dat)
open Cert.Proof.Slab Cert.Proof.PoolMath Cert.Proof.Reals
open Cert.Kernel2Ideal.Pool (cols_of)

variable (m : (ℓ : Loc nD τ sig) → Buf (Elt Ideal) ℓ)

theorem mix_slab (F G : Nat → Nat → EReal) (r c r' c' : Nat) :
    matmul dot_S512x256_S256x256_S512x256_1_0_0_1_n_n none (slab 512 256 F r c : FVec Ideal S512x256 .bf16) (slab 256 256 G r' c' : FVec Ideal S256x256 .bf16)
    (constant S512x256 .f32 0x00000000#32) = (slab 512 256 (fun i j => ∑ d : Fin 256, F (r + i) (c + d.val) * G (r' + d.val) (c' + j)) 0 0 : FVec Ideal S512x256 .f32) :=
  Cert.Kernel2Ideal.Pool.mix_slab F G r c r' c'

/-- The result's entry at row `n`, column `c`. -/
def aCol (c : Dev nD) (n col : Nat) : EReal := mixedCol (uN m c) (wN m c) n col * sN m c col

theorem aCol_at (c : Dev nD) (n g k o : Nat) (ho : o = 256 * g) (hk : k < 256) :
    aCol m c n (o + k) = (∑ d : Fin 256, poolOf (uN m c) g n (o + d.val) * wN m c g d.val k) * sN m c (o + k) := by
  subst ho
  rw [aCol, mixedCol, show (256 * g + k) / 256 = g by omega, show (256 * g + k) % 256 = k by omega]
  rfl

theorem out4 (c : Dev nD) (t : Fin cfg0.N) (y : S512x1024.Idx) : (outsAt0 m c t : FVec Ideal S512x1024 .bf16) y = aCol m c (t.val * 512 + (y 0).val) (y 1).val := by
  unfold outsAt0 out0_A_4
  frame_out
  simp (decide := true) only [↓View.readCov_skip, View.readCov_fill, k0_pay1, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, pay2_blk, pay3_blk, pay4_blk, w_blk, s_blk, read_below, add_back, same_slab, read_moved, trunc_slab, mul_slab,
    sub_slab, div_slab, plus_slab, min_slab, cut_slab, across_slab, down_slab, mix_slab, Nat.reduceSub, Nat.reduceAdd, Nat.zero_add, Nat.add_zero, Nat.sub_self, shapeCast_self]
  refine cols_of (e := .bf16) (fun z => aCol m c (t.val * 512 + (z 0).val) (z 1).val) _ _ _ _ _ _ _ _ _ (fun x => ?_) (fun x => ?_) (fun x => ?_) (fun x => ?_) y
  · show _ = aCol m c (t.val * 512 + (0 + 1 * (x 0).val)) (0 + 1 * (x 1).val)
    rw [aCol_at m c _ 0 _ 0 rfl (by have : (x 1).val < 256 := (x 1).isLt; omega)]
    simp only [slab, Nat.zero_add, Nat.one_mul, pool2]
    rfl
  · show _ = aCol m c (t.val * 512 + (0 + 1 * (x 0).val)) (256 + 1 * (x 1).val)
    rw [aCol_at m c _ 1 _ 256 rfl (by have : (x 1).val < 256 := (x 1).isLt; omega)]
    simp only [slab, Nat.zero_add, Nat.one_mul, pool4]
    rfl
  · show _ = aCol m c (t.val * 512 + (0 + 1 * (x 0).val)) (512 + 1 * (x 1).val)
    rw [aCol_at m c _ 2 _ 512 rfl (by have : (x 1).val < 256 := (x 1).isLt; omega)]
    simp only [slab, Nat.zero_add, Nat.one_mul, pool8]
    rfl
  · show _ = aCol m c (t.val * 512 + (0 + 1 * (x 0).val)) (768 + 1 * (x 1).val)
    rw [aCol_at m c _ 3 _ 768 rfl (by have : (x 1).val < 256 := (x 1).isLt; omega)]
    simp only [slab, Nat.zero_add, Nat.one_mul, pool16]
    rfl

abbrev refA (c : Dev nD) : FVec Ideal S4096x1024 .bf16 := Cert.Reference9Ideal.Read.val_main_v70 (F := Ideal) (aU m c) (aWpool m c) (aScale m c)

theorem final4 (c : Dev nD) (hu : ∀ i, IsReal (aU m c i)) : (dats m 0 c).arrAt 4 cfg0.N = refA m c := by
  refine (dats m 0 c).arrAt_eq_of_covers 4 _ (by decide +kernel) fun t _ y => ?_
  blk_simp
  rw [after0_4]
  refine (out4 m c t y).trans ?_
  have key : ∀ y : S512x1024.Idx, aCol m c (t.val * 512 + (y 0).val) (y 1).val = refA m c (((View.whole main_v3).slice (win0_4.rect t)).emb y) := by
    intro y
    idx_vars y
    refine (Cert.Reference9Ideal.PoolF.v70_at (aU m c) (aWpool m c) (aScale m c) hu (row t y0) y1).symm.trans ?_
    blk_ext [idx t]
  exact key y

end Cert.Kernel9Ideal.PoolF

end
-- ==== Proof.PoolF.Claim.lean ====
/- The forward pass of the pooling: where the pooled activations are real numbers, the kernel's array is the reference's. -/
module

public import proofs.«01_k».proof.Defs
public import proofs.«01_k».proof.Proof.Gen.Kernel9Ideal.Value
public import proofs.«01_k».proof.Proof.Gen.Reference9Ideal.Run
public import proofs.«01_k».proof.Proof.PoolF.Tiles

@[expose] public section

set_option maxRecDepth 16384

open Idealize.ShloMosaic

namespace Cert.Proof.PoolF

open Cert.Kernel9Ideal.PoolF Cert.Proof.Reals

/-- What the precondition says of the argument. -/
theorem finite [Cert.Pre_finite_pool_fwd.Facts] (m : (ℓ : Loc Cert.Kernel9Ideal.nD Cert.Kernel9Ideal.τ Cert.Kernel9Ideal.sig) → Buf (Elt Ideal) ℓ)
    (h : Cert.Pre_Kernel9Ideal_finite_pool_fwd m) (c : Dev Cert.Kernel9Ideal.nD) : ∀ i, IsReal (aU m c i) := by
  have e := congrFun (h c) ix0
  unfold Cert.Pre_finite_pool_fwd.fn at e
  exact isReal_of_all _ _ _ _ _ _ _ e

theorem algebraic [Cert.Pre_finite_pool_fwd.Facts] : Cert.algebraic_Kernel9Ideal_Reference9Ideal_pre_finite_pool_fwd := by
  pair_intro
  · run_from Cert.Kernel9Ideal.Value.run_blocks m g
  · run_from Cert.Reference9Ideal.Value.run m' g'
    obtain ⟨h0, h1, h2⟩ := hagree c
    rw [Cert.Reference9Ideal.Read.val_main_v70_eq, h0, h1, h2]
    exact (final4 m c (finite m hpre c)).symm

end Cert.Proof.PoolF
-- ==== Proof.MatTn.Tiles.lean ====
/- The product of two arrays over their rows: a grid point adds half of the rows to a block of 1408 rows of the result, and
   two points fill a block. -/
module

public import proofs.«01_k».proof.Proof.Gen.Kernel11Ideal.Frame
public import proofs.«01_k».proof.Proof.Gen.Reference11Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel11Ideal.MatTn

open Cert.Kernel11Ideal Cert.Kernel11Ideal.Gen Idealize.ShloMosaic Idealize.ShloMosaic.TcCoe Idealize.SL.Sem
open Idealize.ShloMosaic.Pipeline (Dat)
open Cert.Reference11Ideal.Read

variable (m : (ℓ : Loc nD τ sig) → Buf (Elt Ideal) ℓ)

/-- The arguments, by name, and the reference's product of them. -/
abbrev aDu (c : Dev nD) : FVec Ideal S4096x5632 .bf16 := m ((c : Thread nD τ).loc main_arg0)
abbrev aH (c : Dev nD) : FVec Ideal S4096x1024 .bf16 := m ((c : Thread nD τ).loc main_arg1)
abbrev refW (c : Dev nD) : FVec Ideal S5632x1024 .f32 := val_main_v0 (F := Ideal) (aDu m c) (aH m c)

theorem V_du (c : Dev nD) : V m c main_arg0 = aDu m c := by entry_read; rfl
theorem V_h (c : Dev nD) : V m c main_arg1 = aH m c := by entry_read; rfl

theorem refW_at (c : Dev nD) (i : Fin 5632) (j : Fin 1024) :
    refW m c (ix2 i j) = ∑ r : Fin 4096, aDu m c (ix2 r i) * aH m c (ix2 r j) := by
  pointwise [refW, val_main_v0]

/-- The block index of every window at every grid point, and where the point reads the second array. -/
theorem idx : ∀ t : Fin cfg0.N, win0_0.index t = ![t.val % 2, t.val / 2] ∧ win0_1.index t = ![0, 0] ∧ win0_2.index t = ![t.val / 2, 0]
    ∧ t.val < 8 :=
  (by decide +kernel : ∀ t : Fin grid0.N, _)
theorem off : ∀ t : Fin cfg0.N, k0_off1 (grid0.coords t) = ![2048 * (t.val % 2), 0] :=
  (by decide +kernel : ∀ t : Fin grid0.N, _)

/-- Row `k` of the half of the rows that a point reads, and column `a` of the columns it reads. -/
abbrev row (t : Fin cfg0.N) (k : Fin 2048) : Fin 4096 := ⟨2048 * (t.val % 2) + k.val, by omega⟩
abbrev col (t : Fin cfg0.N) (a : Fin 1408) : Fin 5632 := ⟨1408 * (t.val / 2) + a.val, by have := (idx t).2.2.2; omega⟩

theorem blk_du (c : Dev nD) (t : Fin cfg0.N) (k : Fin 2048) (a : Fin 1408) :
    (iblk m c 0 t : FVec Ideal S2048x1408 .bf16) (ix2 k a) = aDu m c (ix2 (row t k) (col t a)) := by
  have e : (iblk m c 0 t : FVec Ideal S2048x1408 .bf16) (ix2 k a) = V m c main_arg0 (ix2 (row t k) (col t a)) := by
    blk_ext [iblk, idx t]
  rw [e, V_du]

/-- The half of the second array's rows that a point reads. -/
abbrev half (c : Dev nD) (t : Fin cfg0.N) : FVec Ideal S2048x1024 .bf16 :=
  View.ld (iblk m c 1 t) (Rect.unit (s := S4096x1024) (k0_off1 (grid0.coords t)) S2048x1024.size (k0_off1_inb (grid0.coords t)))

theorem blk_h (c : Dev nD) (t : Fin cfg0.N) (k : Fin 4096) (b : Fin 1024) :
    (iblk m c 1 t : FVec Ideal S4096x1024 .bf16) (ix2 k b) = aH m c (ix2 k b) := by
  have e : (iblk m c 1 t : FVec Ideal S4096x1024 .bf16) (ix2 k b) = V m c main_arg1 (ix2 k b) := by blk_ext [iblk, idx t]
  rw [e, V_h]

theorem emb_half (t : Fin cfg0.N) (k : Fin 2048) (b : Fin 1024) :
    (Rect.unit (s := S4096x1024) (k0_off1 (grid0.coords t)) S2048x1024.size (k0_off1_inb (grid0.coords t))).emb (ix2 k b)
      = ix2 (row t k) b := by
  blk_ext [off t]

theorem half_at (c : Dev nD) (t : Fin cfg0.N) (k : Fin 2048) (b : Fin 1024) :
    half m c t (ix2 k b) = aH m c (ix2 (row t k) b) :=
  (congrArg (iblk m c 1 t : FVec Ideal S4096x1024 .bf16) (emb_half t k b)).trans (blk_h m c t _ b)

theorem zero_at (y : S1408x1024.Idx) : k0_pay1 (F := Ideal) y = 0 := by idx_vars y; pointwise [k0_pay1]

theorem pay_at (P : FVec Ideal S1408x1024 .f32) (X : FVec Ideal S2048x1408 .bf16) (Y : FVec Ideal S2048x1024 .bf16)
    (a : Fin 1408) (b : Fin 1024) :
    k0_pay2 (F := Ideal) P X Y (ix2 a b) = P (ix2 a b) + ∑ k : Fin 2048, X (ix2 k a) * Y (ix2 k b) := by
  pointwise [k0_pay2]

/-- What a point adds. -/
def part (c : Dev nD) (t : Fin cfg0.N) (a : Fin 1408) (b : Fin 1024) : EReal :=
  ∑ k : Fin 2048, aDu m c (ix2 (row t k) (col t a)) * aH m c (ix2 (row t k) b)

theorem pay (c : Dev nD) (t : Fin cfg0.N) (P : FVec Ideal S1408x1024 .f32) (a : Fin 1408) (b : Fin 1024) :
    k0_pay2 (F := Ideal) P (iblk m c 0 t) (half m c t) (ix2 a b) = P (ix2 a b) + part m c t a b :=
  (pay_at P _ _ a b).trans (congrArg (P (ix2 a b) + ·) (Finset.sum_congr rfl fun k _ =>
    congrArg₂ (· * ·) (blk_du m c t k a) (half_at m c t k b)))

theorem first (c : Dev nD) (t : Fin cfg0.N) (h : t.val % 2 = 0) (a : Fin 1408) (b : Fin 1024) :
    outsAt0 m c t.val t.isLt (ix2 a b) = part m c t a b := by
  rw [outsAt0_A m c t h]; frame_out
  exact (pay m c t _ a b).trans ((congrArg (· + _) (zero_at _)).trans (zero_add _))

theorem next (c : Dev nD) (t : Fin cfg0.N) (h : ¬ t.val % 2 = 0) (a : Fin 1408) (b : Fin 1024) :
    outsAt0 m c t.val t.isLt (ix2 a b)
      = outsAt0 m c (t.val - 1) (Nat.lt_of_le_of_lt (Nat.sub_le _ _) t.isLt) (ix2 a b) + part m c t a b := by
  rw [outsAt0_B m c t h]; frame_out
  exact pay m c t _ a b

/-- The two halves of the rows make all of them. -/
theorem halves (f : Fin 4096 → EReal) :
    ∑ k : Fin 2048, f ⟨k.val, by omega⟩ + ∑ k : Fin 2048, f ⟨2048 + k.val, by omega⟩ = ∑ r : Fin 4096, f r :=
  (Fin.sum_univ_add (a := 2048) (b := 2048) f).symm

/-- After the second point of a block, the block holds the reference's. -/
theorem second (c : Dev nD) (t : Fin cfg0.N) (h : t.val % 2 = 1) (a : Fin 1408) (b : Fin 1024) :
    outsAt0 m c t.val t.isLt (ix2 a b) = refW m c (ix2 (col t a) b) := by
  have ht := (idx t).2.2.2
  let s : Fin cfg0.N := ⟨t.val - 1, Nat.lt_of_le_of_lt (Nat.sub_le _ _) t.isLt⟩
  have hs : s.val % 2 = 0 := by show (t.val - 1) % 2 = 0; omega
  have hc : col s a = col t a := Fin.ext (by show 1408 * ((t.val - 1) / 2) + a.val = 1408 * (t.val / 2) + a.val; omega)
  rw [next m c t (by omega), refW_at, ← halves]
  refine congrArg₂ (· + ·) ((first m c s hs a b).trans ?_) ?_
  · refine Finset.sum_congr rfl fun k _ => ?_
    rw [hc, show row s k = ⟨k.val, by omega⟩ from Fin.ext (by show 2048 * ((t.val - 1) % 2) + k.val = k.val; omega)]
  · refine Finset.sum_congr rfl fun k _ => ?_
    rw [show row t k = ⟨2048 + k.val, by omega⟩ from Fin.ext (by show 2048 * (t.val % 2) + k.val = 2048 + k.val; omega)]

theorem final2 (c : Dev nD) : (dats m 0 c).arrAt 2 cfg0.N = refW m c := by
  refine (dats m 0 c).arrAt_eq_of_covers 2 _ (by decide +kernel) fun t hf y => ?_
  blk_simp
  rw [after0_2]
  have key : ∀ y : S1408x1024.Idx, outsAt0 m c t.val t.isLt y = refW m c (((View.whole main_v0).slice (win0_2.rect t)).emb y) := by
    intro y
    idx_vars y
    refine (second m c t ((flush0_2 t).mp hf) _ _).trans ?_
    blk_ext [idx t]
  exact key y

end Cert.Kernel11Ideal.MatTn

end
-- ==== Proof.MatTn.Claim.lean ====
/- The plain product: the kernel's array is the reference's. -/
module

public import proofs.«01_k».proof.Defs
public import proofs.«01_k».proof.Proof.Gen.Kernel11Ideal.Value
public import proofs.«01_k».proof.Proof.Gen.Reference11Ideal.Run
public import proofs.«01_k».proof.Proof.MatTn.Tiles

@[expose] public section

set_option maxRecDepth 16384

open Idealize.ShloMosaic

namespace Cert.Proof.MatTn

open Cert.Kernel11Ideal.MatTn

theorem algebraic : Cert.algebraic_Kernel11Ideal_Reference11Ideal := by
  pair_intro
  · run_from Cert.Kernel11Ideal.Value.run_blocks m g
  · run_from Cert.Reference11Ideal.Value.run m' g'
    · exact (final2 m c).symm

end Cert.Proof.MatTn
-- ==== Proof.Adam.Tiles.lean ====
/- The optimiser's step on one weight: the gradient is a device's own part plus the three parts received, and the step is
   the same function of it at every element. -/
module

public import proofs.«01_k».proof.Proof.Gen.Kernel12Ideal.Frame
public import proofs.«01_k».proof.Proof.Gen.Reference12Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel12Ideal.Adam

open Cert.Kernel12Ideal Cert.Kernel12Ideal.Gen Idealize.ShloMosaic Idealize.ShloMosaic.TcCoe Idealize.SL.Sem
open Idealize.ShloMosaic.Pipeline (Dat)
open Cert.Reference12Ideal.Read

variable (m : (ℓ : Loc nD τ sig) → Buf (Elt Ideal) ℓ)

/-- The arguments, by name. -/
abbrev aOwn (c : Dev nD) : FVec Ideal S544x1024 .f32 := m ((c : Thread nD τ).loc main_arg0)
abbrev aRecv (c : Dev nD) : FVec Ideal S3x544x1024 .bf16 := m ((c : Thread nD τ).loc main_arg1)
abbrev aW (c : Dev nD) : FVec Ideal S544x1024 .f32 := m ((c : Thread nD τ).loc main_arg2)
abbrev aM (c : Dev nD) : FVec Ideal S544x1024 .f32 := m ((c : Thread nD τ).loc main_arg3)
abbrev aV (c : Dev nD) : FVec Ideal S544x1024 .f32 := m ((c : Thread nD τ).loc main_arg4)

/-- The reference's four arrays. -/
abbrev refG (c : Dev nD) : FVec Ideal S544x1024 .f32 := val_main_v2 (F := Ideal) (aOwn m c) (aRecv m c)
abbrev refD (c : Dev nD) : FVec Ideal S544x1024 .f32 := val_main_v26 (F := Ideal) (aOwn m c) (aRecv m c) (aW m c) (aM m c) (aV m c)
abbrev refM (c : Dev nD) : FVec Ideal S544x1024 .f32 := val_main_v7 (F := Ideal) (aOwn m c) (aRecv m c) (aM m c)
abbrev refV (c : Dev nD) : FVec Ideal S544x1024 .f32 := val_main_v13 (F := Ideal) (aOwn m c) (aRecv m c) (aV m c)

/-! The step at one element: the two moments and the change of the weight, from the gradient `g`. -/

def newM (x g : Ideal .f32) : Ideal .f32 :=
  FloatOps.addf (FloatOps.mulf (Scalar.ofBits .f32 0x3F666666#32) x) (FloatOps.mulf (Scalar.ofBits .f32 0x3DCCCCCD#32) g)
def newV (x g : Ideal .f32) : Ideal .f32 :=
  FloatOps.addf (FloatOps.mulf (Scalar.ofBits .f32 0x3F7FBE77#32) x)
    (FloatOps.mulf (Scalar.ofBits .f32 0x3A83126F#32) (FloatOps.mulf g g))
def delta (w x y g : Ideal .f32) : Ideal .f32 :=
  FloatOps.mulf (Scalar.ofBits .f32 0xBA83126F#32)
    (FloatOps.addf
      (FloatOps.hostDivf (FloatOps.hostDivf (newM x g) (Scalar.ofBits .f32 0x3F26BD02#32))
        (FloatOps.addf (FloatOps.hostUnary .sqrt (FloatOps.hostDivf (newV y g) (Scalar.ofBits .f32 0x3C231ACC#32)))
          (Scalar.ofBits .f32 0x322BCC77#32)))
      (FloatOps.mulf (Scalar.ofBits .f32 0x3C23D70A#32) w))

theorem refM_at (c : Dev nD) (y : S544x1024.Idx) : refM m c y = newM (aM m c y) (refG m c y) := rfl
theorem refV_at (c : Dev nD) (y : S544x1024.Idx) : refV m c y = newV (aV m c y) (refG m c y) := rfl
theorem refD_at (c : Dev nD) (y : S544x1024.Idx) : refD m c y = delta (aW m c y) (aM m c y) (aV m c y) (refG m c y) := rfl

theorem refG_at (c : Dev nD) (i : Fin 544) (j : Fin 1024) :
    refG m c (ix2 i j) = aOwn m c (ix2 i j) + ∑ k : Fin 3, aRecv m c (ix3 k i j) := by
  pointwise [refG, val_main_v2, val_main_v1, val_main_v0, val_main_cst]

/-! One block over any contents. -/

section
variable (O W X Y : FVec Ideal S272x1024 .f32) (A B C : FVec Ideal S1x272x1024 .bf16)

theorem grad_at (i : Fin 272) (j : Fin 1024) :
    k0_pay2 (F := Ideal) O A B C (ix2 i j) = O (ix2 i j) + A (ix3 0 i j) + B (ix3 0 i j) + C (ix3 0 i j) := by
  pointwise [k0_pay2]
theorem m_at (y : S272x1024.Idx) : k0_pay3 (F := Ideal) O A B C X y = newM (X y) (k0_pay2 (F := Ideal) O A B C y) := rfl
theorem v_at (y : S272x1024.Idx) : k0_pay4 (F := Ideal) O A B C Y y = newV (Y y) (k0_pay2 (F := Ideal) O A B C y) := rfl
theorem d_at (y : S272x1024.Idx) : k0_pay1 (F := Ideal) W (k0_pay5 (F := Ideal) O A B C X) (k0_pay6 (F := Ideal) O A B C Y) y
    = delta (W y) (X y) (Y y) (k0_pay2 (F := Ideal) O A B C y) := rfl
end

/-- The block index of every window at every grid point. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ t.val < 2 :=
  (by decide +kernel : ∀ t : Fin grid0.N, _)

/-- Row `i` of block `t` is row `272 t + i` of the array. -/
abbrev row (t : Fin cfg0.N) (i : Fin 272) : Fin 544 := ⟨t.val * 272 + i.val, by have := (idx t).2.2.2.2.2.2.2.2.2; omega⟩

theorem blk_own (c : Dev nD) (t : Fin cfg0.N) (i : Fin 272) (j : Fin 1024) :
    (iblk m c 0 t : FVec Ideal S272x1024 .f32) (ix2 i j) = aOwn m c (ix2 (row t i) j) := by
  have e : (iblk m c 0 t : FVec Ideal S272x1024 .f32) (ix2 i j) = V m c main_arg0 (ix2 (row t i) j) := by blk_ext [iblk, idx t]
  exact e
theorem blk_recv (c : Dev nD) (t : Fin cfg0.N) (k : Fin 3) (i : Fin 272) (j : Fin 1024) :
    (iblk m c 1 t : FVec Ideal S3x272x1024 .bf16) (ix3 k i j) = aRecv m c (ix3 k (row t i) j) := by
  have e : (iblk m c 1 t : FVec Ideal S3x272x1024 .bf16) (ix3 k i j) = V m c main_arg1 (ix3 k (row t i) j) := by blk_ext [iblk, idx t]
  exact e
theorem blk_w (c : Dev nD) (t : Fin cfg0.N) (i : Fin 272) (j : Fin 1024) :
    (iblk m c 2 t : FVec Ideal S272x1024 .f32) (ix2 i j) = aW m c (ix2 (row t i) j) := by
  have e : (iblk m c 2 t : FVec Ideal S272x1024 .f32) (ix2 i j) = V m c main_arg2 (ix2 (row t i) j) := by blk_ext [iblk, idx t]
  exact e
theorem blk_m (c : Dev nD) (t : Fin cfg0.N) (i : Fin 272) (j : Fin 1024) :
    (iblk m c 3 t : FVec Ideal S272x1024 .f32) (ix2 i j) = aM m c (ix2 (row t i) j) := by
  have e : (iblk m c 3 t : FVec Ideal S272x1024 .f32) (ix2 i j) = V m c main_arg3 (ix2 (row t i) j) := by blk_ext [iblk, idx t]
  exact e
theorem blk_v (c : Dev nD) (t : Fin cfg0.N) (i : Fin 272) (j : Fin 1024) :
    (iblk m c 4 t : FVec Ideal S272x1024 .f32) (ix2 i j) = aV m c (ix2 (row t i) j) := by
  have e : (iblk m c 4 t : FVec Ideal S272x1024 .f32) (ix2 i j) = V m c main_arg4 (ix2 (row t i) j) := by blk_ext [iblk, idx t]
  exact e

/-! The three parts received, as a block holds them. -/

abbrev part0 (c : Dev nD) (t : Fin cfg0.N) : FVec Ideal S1x272x1024 .bf16 :=
  View.ld (iblk m c 1 t) (Rect.unit ![0, 0, 0] ![1, 272, 1024] inb_S3x272x1024_S1x272x1024_0_0_0)
abbrev part1 (c : Dev nD) (t : Fin cfg0.N) : FVec Ideal S1x272x1024 .bf16 :=
  View.ld (iblk m c 1 t) (Rect.unit ![1, 0, 0] ![1, 272, 1024] inb_S3x272x1024_S1x272x1024_1_0_0)
abbrev part2 (c : Dev nD) (t : Fin cfg0.N) : FVec Ideal S1x272x1024 .bf16 :=
  View.ld (iblk m c 1 t) (Rect.unit ![2, 0, 0] ![1, 272, 1024] inb_S3x272x1024_S1x272x1024_2_0_0)

theorem emb0 (i : Fin 272) (j : Fin 1024) :
    (Rect.unit ![0, 0, 0] ![1, 272, 1024] inb_S3x272x1024_S1x272x1024_0_0_0).emb (ix3 0 i j) = ix3 0 i j := by blk_ext []
theorem emb1 (i : Fin 272) (j : Fin 1024) :
    (Rect.unit ![1, 0, 0] ![1, 272, 1024] inb_S3x272x1024_S1x272x1024_1_0_0).emb (ix3 0 i j) = ix3 1 i j := by blk_ext []
theorem emb2 (i : Fin 272) (j : Fin 1024) :
    (Rect.unit ![2, 0, 0] ![1, 272, 1024] inb_S3x272x1024_S1x272x1024_2_0_0).emb (ix3 0 i j) = ix3 2 i j := by blk_ext []

theorem part0_at (c : Dev nD) (t : Fin cfg0.N) (i : Fin 272) (j : Fin 1024) : part0 m c t (ix3 0 i j) = aRecv m c (ix3 0 (row t i) j) :=
  (congrArg (iblk m c 1 t : FVec Ideal S3x272x1024 .bf16) (emb0 i j)).trans (blk_recv m c t 0 i j)
theorem part1_at (c : Dev nD) (t : Fin cfg0.N) (i : Fin 272) (j : Fin 1024) : part1 m c t (ix3 0 i j) = aRecv m c (ix3 1 (row t i) j) :=
  (congrArg (iblk m c 1 t : FVec Ideal S3x272x1024 .bf16) (emb1 i j)).trans (blk_recv m c t 1 i j)
theorem part2_at (c : Dev nD) (t : Fin cfg0.N) (i : Fin 272) (j : Fin 1024) : part2 m c t (ix3 0 i j) = aRecv m c (ix3 2 (row t i) j) :=
  (congrArg (iblk m c 1 t : FVec Ideal S3x272x1024 .bf16) (emb2 i j)).trans (blk_recv m c t 2 i j)

/-- The gradient a point computes is the reference's. -/
theorem grad (c : Dev nD) (t : Fin cfg0.N) (i : Fin 272) (j : Fin 1024) :
    k0_pay2 (F := Ideal) (iblk m c 0 t) (part0 m c t) (part1 m c t) (part2 m c t) (ix2 i j) = refG m c (ix2 (row t i) j) := by
  rw [grad_at, refG_at, part0_at, part1_at, part2_at, Fin.sum_univ_three, ← add_assoc, ← add_assoc]
  exact congrArg (· + _ + _ + _) (blk_own m c t i j)

theorem final5 (c : Dev nD) : (dats m 0 c).arrAt 5 cfg0.N = refG m c := by
  refine (dats m 0 c).arrAt_eq_of_covers 5 _ (by decide +kernel) fun t _ y => ?_
  blk_simp
  rw [after0_5]
  have key : ∀ y : S272x1024.Idx, k0_pay2 (F := Ideal) (iblk m c 0 t) (part0 m c t) (part1 m c t) (part2 m c t) y
      = refG m c (((View.whole main_v0_0).slice (win0_5.rect t)).emb y) := by
    intro y
    idx_vars y
    refine (grad m c t _ _).trans ?_
    blk_ext [idx t]
  unfold out0_5
  frame_out
  exact key y

theorem final6 (c : Dev nD) : (dats m 0 c).arrAt 6 cfg0.N = refD m c := by
  refine (dats m 0 c).arrAt_eq_of_covers 6 _ (by decide +kernel) fun t _ y => ?_
  blk_simp
  rw [after0_6]
  have key : ∀ y : S272x1024.Idx, k0_pay1 (F := Ideal) (iblk m c 2 t)
      (k0_pay5 (F := Ideal) (iblk m c 0 t) (part0 m c t) (part1 m c t) (part2 m c t) (iblk m c 3 t))
      (k0_pay6 (F := Ideal) (iblk m c 0 t) (part0 m c t) (part1 m c t) (part2 m c t) (iblk m c 4 t)) y
      = refD m c (((View.whole main_v0_1).slice (win0_6.rect t)).emb y) := by
    intro y
    idx_vars y
    refine (d_at _ _ _ _ _ _ _ _).trans ?_
    rw [grad, blk_w, blk_m, blk_v, ← refD_at]
    blk_ext [idx t]
  unfold out0_6
  frame_out
  exact key y

theorem final7 (c : Dev nD) : (dats m 0 c).arrAt 7 cfg0.N = refM m c := by
  refine (dats m 0 c).arrAt_eq_of_covers 7 _ (by decide +kernel) fun t _ y => ?_
  blk_simp
  rw [after0_7]
  have key : ∀ y : S272x1024.Idx,
      k0_pay3 (F := Ideal) (iblk m c 0 t) (part0 m c t) (part1 m c t) (part2 m c t) (iblk m c 3 t) y
      = refM m c (((View.whole main_v0_2).slice (win0_7.rect t)).emb y) := by
    intro y
    idx_vars y
    refine (m_at _ _ _ _ _ _).trans ?_
    rw [grad, blk_m, ← refM_at]
    blk_ext [idx t]
  unfold out0_7
  frame_out
  exact key y

theorem final8 (c : Dev nD) : (dats m 0 c).arrAt 8 cfg0.N = refV m c := by
  refine (dats m 0 c).arrAt_eq_of_covers 8 _ (by decide +kernel) fun t _ y => ?_
  blk_simp
  rw [after0_8]
  have key : ∀ y : S272x1024.Idx,
      k0_pay4 (F := Ideal) (iblk m c 0 t) (part0 m c t) (part1 m c t) (part2 m c t) (iblk m c 4 t) y
      = refV m c (((View.whole main_v0_3).slice (win0_8.rect t)).emb y) := by
    intro y
    idx_vars y
    refine (v_at _ _ _ _ _ _).trans ?_
    rw [grad, blk_v, ← refV_at]
    blk_ext [idx t]
  unfold out0_8
  frame_out
  exact key y

end Cert.Kernel12Ideal.Adam

end
-- ==== Proof.Adam.Claim.lean ====
/- The optimiser's step: the kernel's four arrays are the reference's. -/
module

public import proofs.«01_k».proof.Defs
public import proofs.«01_k».proof.Proof.Gen.Kernel12Ideal.Value
public import proofs.«01_k».proof.Proof.Gen.Reference12Ideal.Run
public import proofs.«01_k».proof.Proof.Adam.Tiles

@[expose] public section

set_option maxRecDepth 16384

open Idealize.ShloMosaic

namespace Cert.Proof.Adam

open Cert.Kernel12Ideal.Adam

theorem algebraic : Cert.algebraic_Kernel12Ideal_Reference12Ideal := by
  pair_intro
  · run_from Cert.Kernel12Ideal.Value.run_blocks m g
  · run_from Cert.Reference12Ideal.Value.run m' g'
    · exact (final5 m c).symm
    · exact (final6 m c).symm
    · exact (final7 m c).symm
    · exact (final8 m c).symm

end Cert.Proof.Adam
-- ==== Proof.Rope.Tiles.lean ====
/- The tables of the rotation: at every position and lane the kernel and the reference have the same cosine and sine. -/
module

public import proofs.«01_k».proof.Proof.Gen.Kernel13Ideal.Frame
public import proofs.«01_k».proof.Proof.Gen.Reference13Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel13Ideal.Rope

open Cert.Kernel13Ideal Cert.Kernel13Ideal.Gen Idealize.ShloMosaic Idealize.ShloMosaic.TcCoe Idealize.SL.Sem
open Idealize.ShloMosaic.Pipeline (Dat)
open Cert.Reference13Ideal.Read

variable (m : (ℓ : Loc nD τ sig) → Buf (Elt Ideal) ℓ)

/-- The positions. -/
abbrev aPos (c : Dev nD) : IVec S1x4096 32 := m ((c : Thread nD τ).loc main_arg0)

/-- The reference's three tables. -/
abbrev refC (c : Dev nD) : FVec Ideal S4096x128 .f32 := val_main_v27 (F := Ideal) (aPos m c)
abbrev refS1 (c : Dev nD) : FVec Ideal S4096x128 .f32 := val_main_v28 (F := Ideal) (aPos m c)
abbrev refS2 (c : Dev nD) : FVec Ideal S4096x128 .f32 := val_main_v29 (F := Ideal) (aPos m c)

/-- A lane's place within its head, and the frequency it turns with. -/
abbrev place (j : Fin 128) : Fin 64 := ⟨j.val % 64, Nat.mod_lt _ (by decide)⟩
abbrev freq (k : Fin 8) : Ideal .f32 := val_main_v9 (F := Ideal) (ix1 k)
abbrev turn (j : Fin 128) : Ideal .f32 := freq ⟨j.val % 8, Nat.mod_lt _ (by decide)⟩

/-- The number of lane `j` within its head, as the kernel computes it. -/
theorem lane_word (i : Fin 1024) (j : Fin 128) : k0_pay3 (ix2 i j) = BitVec.ofNat 32 (j.val % 64) := by
  have h : ∀ j : Fin 128, k0_pay3 (ix2 0 j) = BitVec.ofNat 32 (j.val % 64) := by decide +kernel
  exact h j

/-- The frequencies of one head's places. -/
def headFreq : FVec Ideal S64 .f32 :=
  concatenate S64 0 [⟨S16, concatenate S16 0 [⟨S8, val_main_v9 (F := Ideal)⟩, ⟨S8, val_main_v9 (F := Ideal)⟩] concatenates_S8_S8_S16_d0⟩,
    ⟨S48, broadcastInDim S48 ![] bcast_S_S48 (constant (F := Ideal) S_ .f32 0x00000000#32)⟩] concatenates_S16_S48_S64_d0

/-- The frequencies that the host lays over the lanes. -/
theorem host_freq (c : Dev nD) (j : Fin 128) :
    V m c main_v14 (ix2 0 j) = if j.val % 64 < 16 then turn j else (0 : EReal) := by
  have e : V m c main_v14 = shapeCast S1x128 (concatenate S128 0 [⟨S64, headFreq⟩, ⟨S64, headFreq⟩] concatenates_S64_S64_S128_d0)
      shapeCasts_S128_S1x128 := by entry_read; rfl
  rw [e]
  pointwise [headFreq]
  have hj := j.isLt
  by_cases h : j.val % 64 < 16
  · rw [if_pos h]
    split_ifs <;> first | omega | exact congrArg freq (Fin.ext (by first | omega | (dsimp only; omega) | rfl))
  · rw [if_neg h]
    split_ifs <;> first | rfl | omega

theorem host_pos (c : Dev nD) (i : Fin 4096) : V m c main_v15 (ix2 i 0) = aPos m c (ix2 0 i) := by
  have e : V m c main_v15 = shapeCast S4096x1 (aPos m c) shapeCasts_S1x4096_S4096x1 := by entry_read; rfl
  rw [e]
  pointwise []

theorem stack3 (A B : FVec Ideal Cert.Reference13Ideal.S4096x8 .f32) (D : FVec Ideal Cert.Reference13Ideal.S4096x48 .f32) (h) (i : Fin 4096) (l : Fin 64) :
    concatenate Cert.Reference13Ideal.S4096x64 1 [⟨Cert.Reference13Ideal.S4096x8, A⟩, ⟨Cert.Reference13Ideal.S4096x8, B⟩, ⟨Cert.Reference13Ideal.S4096x48, D⟩] h (ix2 i l)
      = if h : l.val < 8 then A (ix2 i ⟨l.val, h⟩) else if h' : l.val < 16 then B (ix2 i ⟨l.val - 8, by omega⟩)
        else D (ix2 i ⟨l.val - 16, by omega⟩) := by
  pointwise []
  split
  · rfl
  · rename_i h
    by_cases h' : l.val < 16
    · rw [dif_pos (by omega), dif_pos h']
    · rw [dif_neg (by omega), dif_neg h']
      exact congrArg D (congrArg (ix2 i) (Fin.ext (by dsimp only; omega)))

theorem twice (T : FVec Ideal Cert.Reference13Ideal.S4096x64 .f32) (h) (i : Fin 4096) (j : Fin 128) :
    concatenate S4096x128 1 [⟨Cert.Reference13Ideal.S4096x64, T⟩, ⟨Cert.Reference13Ideal.S4096x64, T⟩] h (ix2 i j) = T (ix2 i (place j)) := by
  pointwise []
  split <;> exact congrArg T (congrArg (ix2 i) (Fin.ext (by dsimp only; omega)))

theorem angle_at (c : Dev nD) (i : Fin 4096) (k : Fin 8) :
    val_main_v15 (F := Ideal) (aPos m c) (ix3 0 i k) = FloatOps.sitofp (F := Ideal) .f32 (aPos m c (ix2 0 i)) * freq k := by
  pointwise [val_main_v15, val_main_v14, val_main_v13, val_main_v12, val_main_v11, val_main_v10]

theorem cos_at (P : Vec Ideal S1024x1 .i32) (f : FVec Ideal S1x128 .f32) (i : Fin 1024) (j : Fin 128) :
    k0_pay5 (F := Ideal) P f (ix2 i j) = Ideal.cos (FloatOps.sitofp (F := Ideal) .f32 (P (ix2 i 0)) * f (ix2 0 j)) := by
  pointwise [k0_pay5, k0_pay2]

theorem lt8 : ∀ j : Fin 128, IntOp.cmpi .slt (BitVec.ofNat 32 (j.val % 64)) 8#32 = if j.val % 64 < 8 then 1#1 else 0#1 := by decide +kernel

theorem in8 : ∀ j : Fin 128, IntOp.andi (IntOp.cmpi .sge (BitVec.ofNat 32 (j.val % 64)) 8#32)
    (IntOp.cmpi .slt (BitVec.ofNat 32 (j.val % 64)) 16#32) = if 8 ≤ j.val % 64 ∧ j.val % 64 < 16 then 1#1 else 0#1 := by decide +kernel

theorem s1_at (P : Vec Ideal S1024x1 .i32) (f : FVec Ideal S1x128 .f32) (i : Fin 1024) (j : Fin 128) :
    k0_pay6 (F := Ideal) P f (ix2 i j) = if j.val % 64 < 8 then - Ideal.sin (FloatOps.sitofp (F := Ideal) .f32 (P (ix2 i 0)) * f (ix2 0 j)) else (0 : EReal) := by
  pointwise [k0_pay6, k0_pay4, k0_pay2]
  rw [lane_word, lt8, zero_sub]
  split <;> rfl

theorem s2_at (P : Vec Ideal S1024x1 .i32) (f : FVec Ideal S1x128 .f32) (i : Fin 1024) (j : Fin 128) :
    k0_pay1 (F := Ideal) k0_pay3 (k0_pay4 (F := Ideal) P f) k0_pay7 k0_pay8 (ix2 i j)
      = if 8 ≤ j.val % 64 ∧ j.val % 64 < 16 then Ideal.sin (FloatOps.sitofp (F := Ideal) .f32 (P (ix2 i 0)) * f (ix2 0 j)) else (0 : EReal) := by
  pointwise [k0_pay1, k0_pay4, k0_pay2, k0_pay7, k0_pay8]
  rw [lane_word, in8]
  split <;> rfl

/-- The reference's tables at one position and lane. -/
theorem refC_at (c : Dev nD) (i : Fin 4096) (j : Fin 128) : refC m c (ix2 i j)
    = if j.val % 64 < 16 then Ideal.cos (FloatOps.sitofp (F := Ideal) .f32 (aPos m c (ix2 0 i)) * turn j) else (1 : EReal) := by
  unfold refC val_main_v27 val_main_v23
  rw [twice, stack3]
  pointwise [val_main_v17, val_main_v16, val_main_v20, val_main_cst_3]
  simp only [angle_at]
  split_ifs <;> first | rfl | omega | exact congrArg (fun k => Ideal.cos (_ * freq k)) (Fin.ext (by first | omega | (dsimp only; omega) | rfl))

theorem refS1_at (c : Dev nD) (i : Fin 4096) (j : Fin 128) : refS1 m c (ix2 i j)
    = if j.val % 64 < 8 then - Ideal.sin (FloatOps.sitofp (F := Ideal) .f32 (aPos m c (ix2 0 i)) * turn j) else (0 : EReal) := by
  unfold refS1 val_main_v28 val_main_v25
  rw [twice, stack3]
  pointwise [val_main_v24, val_main_v19, val_main_v18, val_main_v21, val_main_v22, val_main_cst_4, val_main_cst_5]
  simp only [angle_at]
  split_ifs <;> first | rfl | omega | exact congrArg (fun k => - Ideal.sin (_ * freq k)) (Fin.ext (by first | omega | (dsimp only; omega) | rfl))

theorem refS2_at (c : Dev nD) (i : Fin 4096) (j : Fin 128) : refS2 m c (ix2 i j)
    = if 8 ≤ j.val % 64 ∧ j.val % 64 < 16 then Ideal.sin (FloatOps.sitofp (F := Ideal) .f32 (aPos m c (ix2 0 i)) * turn j) else (0 : EReal) := by
  unfold refS2 val_main_v29 val_main_v26
  rw [twice, stack3]
  pointwise [val_main_v19, val_main_v18, val_main_v21, val_main_v22, val_main_cst_4, val_main_cst_5]
  simp only [angle_at]
  split_ifs <;> first | rfl | omega | exact congrArg (fun k => Ideal.sin (_ * freq k)) (Fin.ext (by first | omega | (dsimp only; omega) | rfl))

/-- The block index of every window at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ t.val < 4 :=
  (by decide +kernel : ∀ t : Fin grid0.N, _)

/-- Row `i` of block `t` is position `1024 t + i`. -/
abbrev row (t : Fin cfg0.N) (i : Fin 1024) : Fin 4096 := ⟨t.val * 1024 + i.val, by have := (idx t).2.2.2.2.2; omega⟩

theorem blk_pos (c : Dev nD) (t : Fin cfg0.N) (i : Fin 1024) :
    (iblk m c 0 t : Vec Ideal S1024x1 .i32) (ix2 i 0) = aPos m c (ix2 0 (row t i)) := by
  have e : (iblk m c 0 t : Vec Ideal S1024x1 .i32) (ix2 i 0) = V m c main_v15 (ix2 (row t i) 0) := by blk_ext [iblk, idx t]
  exact e.trans (host_pos m c _)
theorem blk_freq (c : Dev nD) (t : Fin cfg0.N) (j : Fin 128) :
    (iblk m c 1 t : FVec Ideal S1x128 .f32) (ix2 0 j) = if j.val % 64 < 16 then turn j else (0 : EReal) := by
  have e : (iblk m c 1 t : FVec Ideal S1x128 .f32) (ix2 0 j) = V m c main_v14 (ix2 0 j) := by blk_ext [iblk, idx t]
  exact e.trans (host_freq m c _)

theorem cos_zero : Ideal.cos (0 : EReal) = 1 := by
  rw [← EReal.coe_zero, Ideal.cos_coe, Real.cos_zero, EReal.coe_one]

theorem tile_cos (c : Dev nD) (t : Fin cfg0.N) (i : Fin 1024) (j : Fin 128) :
    k0_pay5 (F := Ideal) (iblk m c 0 t) (iblk m c 1 t) (ix2 i j) = refC m c (ix2 (row t i) j) := by
  rw [refC_at, cos_at, blk_pos, blk_freq]
  split
  · rfl
  · rw [mul_zero, cos_zero]

theorem final2 (c : Dev nD) : (dats m 0 c).arrAt 2 cfg0.N = refC m c := by
  refine (dats m 0 c).arrAt_eq_of_covers 2 _ (by decide +kernel) fun t _ y => ?_
  blk_simp
  rw [after0_2]
  have key : ∀ y : S1024x128.Idx, k0_pay5 (F := Ideal) (iblk m c 0 t) (iblk m c 1 t) y
      = refC m c (((View.whole main_v16_0).slice (win0_2.rect t)).emb y) := by
    intro y
    idx_vars y
    refine (tile_cos m c t _ _).trans ?_
    blk_ext [idx t]
  unfold out0_2
  frame_out
  exact key y

theorem tile_s1 (c : Dev nD) (t : Fin cfg0.N) (i : Fin 1024) (j : Fin 128) :
    k0_pay6 (F := Ideal) (iblk m c 0 t) (iblk m c 1 t) (ix2 i j) = refS1 m c (ix2 (row t i) j) := by
  rw [refS1_at, s1_at, blk_pos, blk_freq]
  split
  · rw [if_pos (by omega)]
  · rfl

theorem final3 (c : Dev nD) : (dats m 0 c).arrAt 3 cfg0.N = refS1 m c := by
  refine (dats m 0 c).arrAt_eq_of_covers 3 _ (by decide +kernel) fun t _ y => ?_
  blk_simp
  rw [after0_3]
  have key : ∀ y : S1024x128.Idx, k0_pay6 (F := Ideal) (iblk m c 0 t) (iblk m c 1 t) y
      = refS1 m c (((View.whole main_v16_1).slice (win0_3.rect t)).emb y) := by
    intro y
    idx_vars y
    refine (tile_s1 m c t _ _).trans ?_
    blk_ext [idx t]
  unfold out0_3
  frame_out
  exact key y

theorem tile_s2 (c : Dev nD) (t : Fin cfg0.N) (i : Fin 1024) (j : Fin 128) :
    k0_pay1 (F := Ideal) k0_pay3 (k0_pay4 (F := Ideal) (iblk m c 0 t) (iblk m c 1 t)) k0_pay7 k0_pay8 (ix2 i j) = refS2 m c (ix2 (row t i) j) := by
  rw [refS2_at, s2_at, blk_pos, blk_freq]
  split
  · rename_i h
    rw [if_pos h.2]
  · rfl

theorem final4 (c : Dev nD) : (dats m 0 c).arrAt 4 cfg0.N = refS2 m c := by
  refine (dats m 0 c).arrAt_eq_of_covers 4 _ (by decide +kernel) fun t _ y => ?_
  blk_simp
  rw [after0_4]
  have key : ∀ y : S1024x128.Idx, k0_pay1 (F := Ideal) k0_pay3 (k0_pay4 (F := Ideal) (iblk m c 0 t) (iblk m c 1 t)) k0_pay7 k0_pay8 y
      = refS2 m c (((View.whole main_v16_2).slice (win0_4.rect t)).emb y) := by
    intro y
    idx_vars y
    refine (tile_s2 m c t _ _).trans ?_
    blk_ext [idx t]
  unfold out0_4
  frame_out
  exact key y

/-- A run ends with the three windows' arrays and the positions as they were. -/
theorem run (ρ : Dev nD → PrngReg) : θ_run defs (onTc (τ := τ) (main (F := Ideal))) ⟨m, fun _ => 0, ρ⟩ fun r => ∀ c : Dev nD,
      r.2.mem ((c : Thread nD τ).loc main_v16_0) = (dats m 0 c).arrAt 2 cfg0.N
      ∧ r.2.mem ((c : Thread nD τ).loc main_v16_1) = (dats m 0 c).arrAt 3 cfg0.N
      ∧ r.2.mem ((c : Thread nD τ).loc main_v16_2) = (dats m 0 c).arrAt 4 cfg0.N
      ∧ r.2.mem ((c : Thread nD τ).loc main_arg0) = m ((c : Thread nD τ).loc main_arg0) :=
  (θ_run defs _ _).mono
    (fun r h c => ⟨(h c).1 2, (h c).1 3, (h c).1 4,
      ((h c).2 main_arg0 (Pipeline.mem_restRefs_of main_arg0 (by decide) (by decide))).trans (V_main_arg0 m c)⟩)
    (run_main m ρ)

end Cert.Kernel13Ideal.Rope

end
-- ==== Proof.Rope.Claim.lean ====
/- The tables of the rotation: the kernel's three tables are the reference's. -/
module

public import proofs.«01_k».proof.Defs
public import proofs.«01_k».proof.Proof.Gen.Reference13Ideal.Run
public import proofs.«01_k».proof.Proof.Rope.Tiles

@[expose] public section

set_option maxRecDepth 16384

open Idealize.ShloMosaic

namespace Cert.Proof.Rope

open Cert.Kernel13Ideal.Rope Cert.Reference13Ideal.Read

theorem algebraic : Cert.algebraic_Kernel13Ideal_Reference13Ideal := by
  pair_intro
  · run_from Cert.Kernel13Ideal.Rope.run m g
  · run_from Cert.Reference13Ideal.Value.run m' g'
    · exact (val_main_v27_eq _).trans ((congrArg (val_main_v27 (F := Ideal)) (hagree c)).trans (final2 m c).symm)
    · exact (val_main_v28_eq _).trans ((congrArg (val_main_v28 (F := Ideal)) (hagree c)).trans (final3 m c).symm)
    · exact (val_main_v29_eq _).trans ((congrArg (val_main_v29 (F := Ideal)) (hagree c)).trans (final4 m c).symm)

end Cert.Proof.Rope
-- ==== Proof.lean ====
/- The whole claim: every program's frame, the idealizations (one names a mask, the others rewrite nothing), and the value claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Pre_finite_pool
public import proofs.«01_k».proof.Proof.Gen.Pre_finite_ffn_a
public import proofs.«01_k».proof.Proof.Gen.Pre_finite_inproj
public import proofs.«01_k».proof.Proof.Gen.Pre_finite_ffn_b
public import proofs.«01_k».proof.Proof.Gen.Pre_finite_ffn_fwd
public import proofs.«01_k».proof.Proof.Gen.Pre_finite_pool_fwd
public import proofs.«01_k».proof.Proof.Frames
public import proofs.«01_k».proof.Proof.Mix.Claim
public import proofs.«01_k».proof.Proof.Pool.Claim
public import proofs.«01_k».proof.Proof.FfnA.Claim
public import proofs.«01_k».proof.Proof.Inproj.Claim
public import proofs.«01_k».proof.Proof.FfnB.Claim
public import proofs.«01_k».proof.Proof.FfnF.Claim
public import proofs.«01_k».proof.Proof.MixF.Claim
public import proofs.«01_k».proof.Proof.InprojF.Claim
public import proofs.«01_k».proof.Proof.PoolF.Claim
public import proofs.«01_k».proof.Proof.MatTn.Claim
public import proofs.«01_k».proof.Proof.Adam.Claim
public import proofs.«01_k».proof.Proof.Rope.Claim

@[expose] public section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Cert.Kernel9.Gen.facts,
    Cert.Kernel9Ideal.Gen.facts, Cert.Reference9Ideal.Gen.facts, Cert.Kernel10.Gen.facts,
    Cert.Kernel10Ideal.Gen.facts, Cert.Reference10Ideal.Gen.facts, Cert.Kernel11.Gen.facts,
    Cert.Kernel11Ideal.Gen.facts, Cert.Reference11Ideal.Gen.facts, Cert.Kernel12.Gen.facts,
    Cert.Kernel12Ideal.Gen.facts, Cert.Reference12Ideal.Gen.facts, Cert.Kernel13.Gen.facts,
    Cert.Kernel13Ideal.Gen.facts, Cert.Reference13Ideal.Gen.facts, Cert.Pre_finite_pool.Gen.facts,
    Cert.Pre_finite_ffn_a.Gen.facts, Cert.Pre_finite_inproj.Gen.facts, Cert.Pre_finite_ffn_b.Gen.facts,
    Cert.Pre_finite_ffn_fwd.Gen.facts, Cert.Pre_finite_pool_fwd.Gen.facts, Frames.kernel, Frames.kernelIdeal,
    Frames.reference, Frames.kernel2, Frames.kernelIdeal2, fun m g _ => Frames.kernelIdeal2 m g trivial,
    Frames.reference2, fun m g _ => Frames.reference2 m g trivial, Frames.kernel3, Frames.kernelIdeal3,
    fun m g _ => Frames.kernelIdeal3 m g trivial, Frames.reference3, fun m g _ => Frames.reference3 m g trivial,
    Frames.kernel4, Frames.kernelIdeal4, fun m g _ => Frames.kernelIdeal4 m g trivial, Frames.reference4,
    fun m g _ => Frames.reference4 m g trivial, Frames.kernel5, Frames.kernelIdeal5,
    fun m g _ => Frames.kernelIdeal5 m g trivial, Frames.reference5, fun m g _ => Frames.reference5 m g trivial,
    Frames.kernel6, Frames.kernelIdeal6, fun m g _ => Frames.kernelIdeal6 m g trivial, Frames.reference6,
    fun m g _ => Frames.reference6 m g trivial, Frames.kernel7, Frames.kernelIdeal7, Frames.reference7,
    Frames.kernel8, Frames.kernelIdeal8, Frames.reference8, Frames.kernel9, Frames.kernelIdeal9,
    fun m g _ => Frames.kernelIdeal9 m g trivial, Frames.reference9, fun m g _ => Frames.reference9 m g trivial,
    Frames.kernel10, Frames.kernelIdeal10, Frames.reference10, Frames.kernel11, Frames.kernelIdeal11,
    Frames.reference11, Frames.kernel12, Frames.kernelIdeal12, Frames.reference12, Frames.kernel13,
    Frames.kernelIdeal13, Frames.reference13, trivial, Mix.algebraic, trivial, Pool.algebraic, trivial,
    FfnA.algebraic, trivial, Inproj.algebraic, trivial, FfnB.algebraic, trivial, FfnF.algebraic, trivial,
    MixF.algebraic, trivial, InprojF.algebraic, trivial, PoolF.algebraic,
    Idealize.ShloMosaic.IdealRules.named_const.statement Cert.Kernel10Ideal.κ "mask" .f32 0xF149F2CA#32 ⊥ rfl,
    trivial, MatTn.algebraic, trivial, Adam.algebraic, trivial, Rope.algebraic⟩

end Cert.Proof
